-- ==== Defs.lean ====
def Pre_BAttn (m : (ℓ : Loc Cert.BAttn.nD Cert.BAttn.τ Cert.BAttn.sig) → Buf (Elt Bits) ℓ) : Prop :=
  True

def Pre_BAttnIdeal (m : (ℓ : Loc Cert.BAttnIdeal.nD Cert.BAttnIdeal.τ Cert.BAttnIdeal.sig) → Buf (Elt Ideal) ℓ) : Prop :=
  True

def Pre_BAttnIdeal_scores_finite [hPre_scores_finite : Cert.Pre_scores_finite.Facts] (m : (ℓ : Loc Cert.BAttnIdeal.nD Cert.BAttnIdeal.τ Cert.BAttnIdeal.sig) → Buf (Elt Ideal) ℓ) : Prop :=
  ∀ c : Dev Cert.BAttnIdeal.nD,
    (Cert.Pre_scores_finite.fn (F := Ideal) (m ((c.tc : Thread Cert.BAttnIdeal.nD Cert.BAttnIdeal.τ).loc Cert.BAttnIdeal.main_arg0)) (m ((c.tc : Thread Cert.BAttnIdeal.nD Cert.BAttnIdeal.τ).loc Cert.BAttnIdeal.main_arg1)) (m ((c.tc : Thread Cert.BAttnIdeal.nD Cert.BAttnIdeal.τ).loc Cert.BAttnIdeal.main_arg2)) (m ((c.tc : Thread Cert.BAttnIdeal.nD Cert.BAttnIdeal.τ).loc Cert.BAttnIdeal.main_arg3)) (m ((c.tc : Thread Cert.BAttnIdeal.nD Cert.BAttnIdeal.τ).loc Cert.BAttnIdeal.main_arg4)) (m ((c.tc : Thread Cert.BAttnIdeal.nD Cert.BAttnIdeal.τ).loc Cert.BAttnIdeal.main_arg5)) (m ((c.tc : Thread Cert.BAttnIdeal.nD Cert.BAttnIdeal.τ).loc Cert.BAttnIdeal.main_arg6)) (m ((c.tc : Thread Cert.BAttnIdeal.nD Cert.BAttnIdeal.τ).loc Cert.BAttnIdeal.main_arg7))) = (fun _ => 1#1)

def Pre_BAttnRefIdeal (m : (ℓ : Loc Cert.BAttnRefIdeal.nD Cert.BAttnRefIdeal.τ Cert.BAttnRefIdeal.sig) → Buf (Elt Ideal) ℓ) : Prop :=
  True

def Pre_BAttnRefIdeal_scores_finite [hPre_scores_finite : Cert.Pre_scores_finite.Facts] (m : (ℓ : Loc Cert.BAttnRefIdeal.nD Cert.BAttnRefIdeal.τ Cert.BAttnRefIdeal.sig) → Buf (Elt Ideal) ℓ) : Prop :=
  ∀ c : Dev Cert.BAttnRefIdeal.nD,
    (Cert.Pre_scores_finite.fn (F := Ideal) (m ((c.tc : Thread Cert.BAttnRefIdeal.nD Cert.BAttnRefIdeal.τ).loc Cert.BAttnRefIdeal.main_arg0)) (m ((c.tc : Thread Cert.BAttnRefIdeal.nD Cert.BAttnRefIdeal.τ).loc Cert.BAttnRefIdeal.main_arg1)) (m ((c.tc : Thread Cert.BAttnRefIdeal.nD Cert.BAttnRefIdeal.τ).loc Cert.BAttnRefIdeal.main_arg2)) (m ((c.tc : Thread Cert.BAttnRefIdeal.nD Cert.BAttnRefIdeal.τ).loc Cert.BAttnRefIdeal.main_arg3)) (m ((c.tc : Thread Cert.BAttnRefIdeal.nD Cert.BAttnRefIdeal.τ).loc Cert.BAttnRefIdeal.main_arg4)) (m ((c.tc : Thread Cert.BAttnRefIdeal.nD Cert.BAttnRefIdeal.τ).loc Cert.BAttnRefIdeal.main_arg5)) (m ((c.tc : Thread Cert.BAttnRefIdeal.nD Cert.BAttnRefIdeal.τ).loc Cert.BAttnRefIdeal.main_arg6)) (m ((c.tc : Thread Cert.BAttnRefIdeal.nD Cert.BAttnRefIdeal.τ).loc Cert.BAttnRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_BAttn [hBAttn : Cert.BAttn.Facts] : Prop :=
  ∀ (m : (ℓ : Loc Cert.BAttn.nD Cert.BAttn.τ Cert.BAttn.sig) → Buf (Elt Bits) ℓ) (g : Dev Cert.BAttn.nD → PrngReg), Pre_BAttn m →
    θ_run (Cert.BAttn.defs (F := Bits)) (onTc (τ := Cert.BAttn.τ) (Cert.BAttn.main (F := Bits))) ⟨m, fun _ => 0, g⟩ (fun r => (∀ c : Dev Cert.BAttn.nD,
      r.2.mem ((c.tc : Thread Cert.BAttn.nD Cert.BAttn.τ).loc Cert.BAttn.main_arg0) = m ((c.tc : Thread Cert.BAttn.nD Cert.BAttn.τ).loc Cert.BAttn.main_arg0)
      ∧ r.2.mem ((c.tc : Thread Cert.BAttn.nD Cert.BAttn.τ).loc Cert.BAttn.main_arg1) = m ((c.tc : Thread Cert.BAttn.nD Cert.BAttn.τ).loc Cert.BAttn.main_arg1)
      ∧ r.2.mem ((c.tc : Thread Cert.BAttn.nD Cert.BAttn.τ).loc Cert.BAttn.main_arg2) = m ((c.tc : Thread Cert.BAttn.nD Cert.BAttn.τ).loc Cert.BAttn.main_arg2)
      ∧ r.2.mem ((c.tc : Thread Cert.BAttn.nD Cert.BAttn.τ).loc Cert.BAttn.main_arg3) = m ((c.tc : Thread Cert.BAttn.nD Cert.BAttn.τ).loc Cert.BAttn.main_arg3)
      ∧ r.2.mem ((c.tc : Thread Cert.BAttn.nD Cert.BAttn.τ).loc Cert.BAttn.main_arg4) = m ((c.tc : Thread Cert.BAttn.nD Cert.BAttn.τ).loc Cert.BAttn.main_arg4)
      ∧ r.2.mem ((c.tc : Thread Cert.BAttn.nD Cert.BAttn.τ).loc Cert.BAttn.main_arg5) = m ((c.tc : Thread Cert.BAttn.nD Cert.BAttn.τ).loc Cert.BAttn.main_arg5)
      ∧ r.2.mem ((c.tc : Thread Cert.BAttn.nD Cert.BAttn.τ).loc Cert.BAttn.main_arg6) = m ((c.tc : Thread Cert.BAttn.nD Cert.BAttn.τ).loc Cert.BAttn.main_arg6)
      ∧ r.2.mem ((c.tc : Thread Cert.BAttn.nD Cert.BAttn.τ).loc Cert.BAttn.main_arg7) = m ((c.tc : Thread Cert.BAttn.nD Cert.BAttn.τ).loc Cert.BAttn.main_arg7))
      ∧ r.2.sem = fun _ => 0)

def quiescent_BAttnIdeal [hBAttnIdeal : Cert.BAttnIdeal.Facts] : Prop :=
  ∀ (m : (ℓ : Loc Cert.BAttnIdeal.nD Cert.BAttnIdeal.τ Cert.BAttnIdeal.sig) → Buf (Elt Ideal) ℓ) (g : Dev Cert.BAttnIdeal.nD → PrngReg), Pre_BAttnIdeal m →
    θ_run (Cert.BAttnIdeal.defs (F := Ideal)) (onTc (τ := Cert.BAttnIdeal.τ) (Cert.BAttnIdeal.main (F := Ideal))) ⟨m, fun _ => 0, g⟩ (fun r => (∀ c : Dev Cert.BAttnIdeal.nD,
      r.2.mem ((c.tc : Thread Cert.BAttnIdeal.nD Cert.BAttnIdeal.τ).loc Cert.BAttnIdeal.main_arg0) = m ((c.tc : Thread Cert.BAttnIdeal.nD Cert.BAttnIdeal.τ).loc Cert.BAttnIdeal.main_arg0)
      ∧ r.2.mem ((c.tc : Thread Cert.BAttnIdeal.nD Cert.BAttnIdeal.τ).loc Cert.BAttnIdeal.main_arg1) = m ((c.tc : Thread Cert.BAttnIdeal.nD Cert.BAttnIdeal.τ).loc Cert.BAttnIdeal.main_arg1)
      ∧ r.2.mem ((c.tc : Thread Cert.BAttnIdeal.nD Cert.BAttnIdeal.τ).loc Cert.BAttnIdeal.main_arg2) = m ((c.tc : Thread Cert.BAttnIdeal.nD Cert.BAttnIdeal.τ).loc Cert.BAttnIdeal.main_arg2)
      ∧ r.2.mem ((c.tc : Thread Cert.BAttnIdeal.nD Cert.BAttnIdeal.τ).loc Cert.BAttnIdeal.main_arg3) = m ((c.tc : Thread Cert.BAttnIdeal.nD Cert.BAttnIdeal.τ).loc Cert.BAttnIdeal.main_arg3)
      ∧ r.2.mem ((c.tc : Thread Cert.BAttnIdeal.nD Cert.BAttnIdeal.τ).loc Cert.BAttnIdeal.main_arg4) = m ((c.tc : Thread Cert.BAttnIdeal.nD Cert.BAttnIdeal.τ).loc Cert.BAttnIdeal.main_arg4)
      ∧ r.2.mem ((c.tc : Thread Cert.BAttnIdeal.nD Cert.BAttnIdeal.τ).loc Cert.BAttnIdeal.main_arg5) = m ((c.tc : Thread Cert.BAttnIdeal.nD Cert.BAttnIdeal.τ).loc Cert.BAttnIdeal.main_arg5)
      ∧ r.2.mem ((c.tc : Thread Cert.BAttnIdeal.nD Cert.BAttnIdeal.τ).loc Cert.BAttnIdeal.main_arg6) = m ((c.tc : Thread Cert.BAttnIdeal.nD Cert.BAttnIdeal.τ).loc Cert.BAttnIdeal.main_arg6)
      ∧ r.2.mem ((c.tc : Thread Cert.BAttnIdeal.nD Cert.BAttnIdeal.τ).loc Cert.BAttnIdeal.main_arg7) = m ((c.tc : Thread Cert.BAttnIdeal.nD Cert.BAttnIdeal.τ).loc Cert.BAttnIdeal.main_arg7))
      ∧ r.2.sem = fun _ => 0)

def quiescent_BAttnIdeal_pre_scores_finite [hBAttnIdeal : Cert.BAttnIdeal.Facts] [hPre_scores_finite : Cert.Pre_scores_finite.Facts] : Prop :=
  ∀ (m : (ℓ : Loc Cert.BAttnIdeal.nD Cert.BAttnIdeal.τ Cert.BAttnIdeal.sig) → Buf (Elt Ideal) ℓ) (g : Dev Cert.BAttnIdeal.nD → PrngReg), Pre_BAttnIdeal_scores_finite m →
    θ_run (Cert.BAttnIdeal.defs (F := Ideal)) (onTc (τ := Cert.BAttnIdeal.τ) (Cert.BAttnIdeal.main (F := Ideal))) ⟨m, fun _ => 0, g⟩ (fun r => (∀ c : Dev Cert.BAttnIdeal.nD,
      r.2.mem ((c.tc : Thread Cert.BAttnIdeal.nD Cert.BAttnIdeal.τ).loc Cert.BAttnIdeal.main_arg0) = m ((c.tc : Thread Cert.BAttnIdeal.nD Cert.BAttnIdeal.τ).loc Cert.BAttnIdeal.main_arg0)
      ∧ r.2.mem ((c.tc : Thread Cert.BAttnIdeal.nD Cert.BAttnIdeal.τ).loc Cert.BAttnIdeal.main_arg1) = m ((c.tc : Thread Cert.BAttnIdeal.nD Cert.BAttnIdeal.τ).loc Cert.BAttnIdeal.main_arg1)
      ∧ r.2.mem ((c.tc : Thread Cert.BAttnIdeal.nD Cert.BAttnIdeal.τ).loc Cert.BAttnIdeal.main_arg2) = m ((c.tc : Thread Cert.BAttnIdeal.nD Cert.BAttnIdeal.τ).loc Cert.BAttnIdeal.main_arg2)
      ∧ r.2.mem ((c.tc : Thread Cert.BAttnIdeal.nD Cert.BAttnIdeal.τ).loc Cert.BAttnIdeal.main_arg3) = m ((c.tc : Thread Cert.BAttnIdeal.nD Cert.BAttnIdeal.τ).loc Cert.BAttnIdeal.main_arg3)
      ∧ r.2.mem ((c.tc : Thread Cert.BAttnIdeal.nD Cert.BAttnIdeal.τ).loc Cert.BAttnIdeal.main_arg4) = m ((c.tc : Thread Cert.BAttnIdeal.nD Cert.BAttnIdeal.τ).loc Cert.BAttnIdeal.main_arg4)
      ∧ r.2.mem ((c.tc : Thread Cert.BAttnIdeal.nD Cert.BAttnIdeal.τ).loc Cert.BAttnIdeal.main_arg5) = m ((c.tc : Thread Cert.BAttnIdeal.nD Cert.BAttnIdeal.τ).loc Cert.BAttnIdeal.main_arg5)
      ∧ r.2.mem ((c.tc : Thread Cert.BAttnIdeal.nD Cert.BAttnIdeal.τ).loc Cert.BAttnIdeal.main_arg6) = m ((c.tc : Thread Cert.BAttnIdeal.nD Cert.BAttnIdeal.τ).loc Cert.BAttnIdeal.main_arg6)
      ∧ r.2.mem ((c.tc : Thread Cert.BAttnIdeal.nD Cert.BAttnIdeal.τ).loc Cert.BAttnIdeal.main_arg7) = m ((c.tc : Thread Cert.BAttnIdeal.nD Cert.BAttnIdeal.τ).loc Cert.BAttnIdeal.main_arg7))
      ∧ r.2.sem = fun _ => 0)

def quiescent_BAttnRefIdeal [hBAttnRefIdeal : Cert.BAttnRefIdeal.Facts] : Prop :=
  ∀ (m : (ℓ : Loc Cert.BAttnRefIdeal.nD Cert.BAttnRefIdeal.τ Cert.BAttnRefIdeal.sig) → Buf (Elt Ideal) ℓ) (g : Dev Cert.BAttnRefIdeal.nD → PrngReg), Pre_BAttnRefIdeal m →
    θ_run (Cert.BAttnRefIdeal.defs (F := Ideal)) (onTc (τ := Cert.BAttnRefIdeal.τ) (Cert.BAttnRefIdeal.main (F := Ideal))) ⟨m, fun _ => 0, g⟩ (fun r => (∀ c : Dev Cert.BAttnRefIdeal.nD,
      r.2.mem ((c.tc : Thread Cert.BAttnRefIdeal.nD Cert.BAttnRefIdeal.τ).loc Cert.BAttnRefIdeal.main_arg0) = m ((c.tc : Thread Cert.BAttnRefIdeal.nD Cert.BAttnRefIdeal.τ).loc Cert.BAttnRefIdeal.main_arg0)
      ∧ r.2.mem ((c.tc : Thread Cert.BAttnRefIdeal.nD Cert.BAttnRefIdeal.τ).loc Cert.BAttnRefIdeal.main_arg1) = m ((c.tc : Thread Cert.BAttnRefIdeal.nD Cert.BAttnRefIdeal.τ).loc Cert.BAttnRefIdeal.main_arg1)
      ∧ r.2.mem ((c.tc : Thread Cert.BAttnRefIdeal.nD Cert.BAttnRefIdeal.τ).loc Cert.BAttnRefIdeal.main_arg2) = m ((c.tc : Thread Cert.BAttnRefIdeal.nD Cert.BAttnRefIdeal.τ).loc Cert.BAttnRefIdeal.main_arg2)
      ∧ r.2.mem ((c.tc : Thread Cert.BAttnRefIdeal.nD Cert.BAttnRefIdeal.τ).loc Cert.BAttnRefIdeal.main_arg3) = m ((c.tc : Thread Cert.BAttnRefIdeal.nD Cert.BAttnRefIdeal.τ).loc Cert.BAttnRefIdeal.main_arg3)
      ∧ r.2.mem ((c.tc : Thread Cert.BAttnRefIdeal.nD Cert.BAttnRefIdeal.τ).loc Cert.BAttnRefIdeal.main_arg4) = m ((c.tc : Thread Cert.BAttnRefIdeal.nD Cert.BAttnRefIdeal.τ).loc Cert.BAttnRefIdeal.main_arg4)
      ∧ r.2.mem ((c.tc : Thread Cert.BAttnRefIdeal.nD Cert.BAttnRefIdeal.τ).loc Cert.BAttnRefIdeal.main_arg5) = m ((c.tc : Thread Cert.BAttnRefIdeal.nD Cert.BAttnRefIdeal.τ).loc Cert.BAttnRefIdeal.main_arg5)
      ∧ r.2.mem ((c.tc : Thread Cert.BAttnRefIdeal.nD Cert.BAttnRefIdeal.τ).loc Cert.BAttnRefIdeal.main_arg6) = m ((c.tc : Thread Cert.BAttnRefIdeal.nD Cert.BAttnRefIdeal.τ).loc Cert.BAttnRefIdeal.main_arg6)
      ∧ r.2.mem ((c.tc : Thread Cert.BAttnRefIdeal.nD Cert.BAttnRefIdeal.τ).loc Cert.BAttnRefIdeal.main_arg7) = m ((c.tc : Thread Cert.BAttnRefIdeal.nD Cert.BAttnRefIdeal.τ).loc Cert.BAttnRefIdeal.main_arg7))
      ∧ r.2.sem = fun _ => 0)

def quiescent_BAttnRefIdeal_pre_scores_finite [hBAttnRefIdeal : Cert.BAttnRefIdeal.Facts] [hPre_scores_finite : Cert.Pre_scores_finite.Facts] : Prop :=
  ∀ (m : (ℓ : Loc Cert.BAttnRefIdeal.nD Cert.BAttnRefIdeal.τ Cert.BAttnRefIdeal.sig) → Buf (Elt Ideal) ℓ) (g : Dev Cert.BAttnRefIdeal.nD → PrngReg), Pre_BAttnRefIdeal_scores_finite m →
    θ_run (Cert.BAttnRefIdeal.defs (F := Ideal)) (onTc (τ := Cert.BAttnRefIdeal.τ) (Cert.BAttnRefIdeal.main (F := Ideal))) ⟨m, fun _ => 0, g⟩ (fun r => (∀ c : Dev Cert.BAttnRefIdeal.nD,
      r.2.mem ((c.tc : Thread Cert.BAttnRefIdeal.nD Cert.BAttnRefIdeal.τ).loc Cert.BAttnRefIdeal.main_arg0) = m ((c.tc : Thread Cert.BAttnRefIdeal.nD Cert.BAttnRefIdeal.τ).loc Cert.BAttnRefIdeal.main_arg0)
      ∧ r.2.mem ((c.tc : Thread Cert.BAttnRefIdeal.nD Cert.BAttnRefIdeal.τ).loc Cert.BAttnRefIdeal.main_arg1) = m ((c.tc : Thread Cert.BAttnRefIdeal.nD Cert.BAttnRefIdeal.τ).loc Cert.BAttnRefIdeal.main_arg1)
      ∧ r.2.mem ((c.tc : Thread Cert.BAttnRefIdeal.nD Cert.BAttnRefIdeal.τ).loc Cert.BAttnRefIdeal.main_arg2) = m ((c.tc : Thread Cert.BAttnRefIdeal.nD Cert.BAttnRefIdeal.τ).loc Cert.BAttnRefIdeal.main_arg2)
      ∧ r.2.mem ((c.tc : Thread Cert.BAttnRefIdeal.nD Cert.BAttnRefIdeal.τ).loc Cert.BAttnRefIdeal.main_arg3) = m ((c.tc : Thread Cert.BAttnRefIdeal.nD Cert.BAttnRefIdeal.τ).loc Cert.BAttnRefIdeal.main_arg3)
      ∧ r.2.mem ((c.tc : Thread Cert.BAttnRefIdeal.nD Cert.BAttnRefIdeal.τ).loc Cert.BAttnRefIdeal.main_arg4) = m ((c.tc : Thread Cert.BAttnRefIdeal.nD Cert.BAttnRefIdeal.τ).loc Cert.BAttnRefIdeal.main_arg4)
      ∧ r.2.mem ((c.tc : Thread Cert.BAttnRefIdeal.nD Cert.BAttnRefIdeal.τ).loc Cert.BAttnRefIdeal.main_arg5) = m ((c.tc : Thread Cert.BAttnRefIdeal.nD Cert.BAttnRefIdeal.τ).loc Cert.BAttnRefIdeal.main_arg5)
      ∧ r.2.mem ((c.tc : Thread Cert.BAttnRefIdeal.nD Cert.BAttnRefIdeal.τ).loc Cert.BAttnRefIdeal.main_arg6) = m ((c.tc : Thread Cert.BAttnRefIdeal.nD Cert.BAttnRefIdeal.τ).loc Cert.BAttnRefIdeal.main_arg6)
      ∧ r.2.mem ((c.tc : Thread Cert.BAttnRefIdeal.nD Cert.BAttnRefIdeal.τ).loc Cert.BAttnRefIdeal.main_arg7) = m ((c.tc : Thread Cert.BAttnRefIdeal.nD Cert.BAttnRefIdeal.τ).loc Cert.BAttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9))
      ∧ r.2.sem = fun _ => 0)

def preserves_BAttn_BAttnIdeal : Prop :=
  True

def algebraic_BAttnIdeal_BAttnRefIdeal_pre_scores_finite [hBAttnIdeal : Cert.BAttnIdeal.Facts] [hBAttnRefIdeal : Cert.BAttnRefIdeal.Facts] [hPre_scores_finite : Cert.Pre_scores_finite.Facts] : Prop :=
  ∀ (m : (ℓ : Loc Cert.BAttnIdeal.nD Cert.BAttnIdeal.τ Cert.BAttnIdeal.sig) → Buf (Elt Ideal) ℓ) (g : Dev Cert.BAttnIdeal.nD → PrngReg)
    (m' : (ℓ : Loc Cert.BAttnRefIdeal.nD Cert.BAttnRefIdeal.τ Cert.BAttnRefIdeal.sig) → Buf (Elt Ideal) ℓ) (g' : Dev Cert.BAttnRefIdeal.nD → PrngReg), Pre_BAttnIdeal_scores_finite m →
    (∀ c : Dev Cert.BAttnIdeal.nD,
      m' ((c.tc : Thread Cert.BAttnRefIdeal.nD Cert.BAttnRefIdeal.τ).loc Cert.BAttnRefIdeal.main_arg0) = m ((c.tc : Thread Cert.BAttnIdeal.nD Cert.BAttnIdeal.τ).loc Cert.BAttnIdeal.main_arg0)
      ∧ m' ((c.tc : Thread Cert.BAttnRefIdeal.nD Cert.BAttnRefIdeal.τ).loc Cert.BAttnRefIdeal.main_arg1) = m ((c.tc : Thread Cert.BAttnIdeal.nD Cert.BAttnIdeal.τ).loc Cert.BAttnIdeal.main_arg1)
      ∧ m' ((c.tc : Thread Cert.BAttnRefIdeal.nD Cert.BAttnRefIdeal.τ).loc Cert.BAttnRefIdeal.main_arg2) = m ((c.tc : Thread Cert.BAttnIdeal.nD Cert.BAttnIdeal.τ).loc Cert.BAttnIdeal.main_arg2)
      ∧ m' ((c.tc : Thread Cert.BAttnRefIdeal.nD Cert.BAttnRefIdeal.τ).loc Cert.BAttnRefIdeal.main_arg3) = m ((c.tc : Thread Cert.BAttnIdeal.nD Cert.BAttnIdeal.τ).loc Cert.BAttnIdeal.main_arg3)
      ∧ m' ((c.tc : Thread Cert.BAttnRefIdeal.nD Cert.BAttnRefIdeal.τ).loc Cert.BAttnRefIdeal.main_arg4) = m ((c.tc : Thread Cert.BAttnIdeal.nD Cert.BAttnIdeal.τ).loc Cert.BAttnIdeal.main_arg4)
      ∧ m' ((c.tc : Thread Cert.BAttnRefIdeal.nD Cert.BAttnRefIdeal.τ).loc Cert.BAttnRefIdeal.main_arg5) = m ((c.tc : Thread Cert.BAttnIdeal.nD Cert.BAttnIdeal.τ).loc Cert.BAttnIdeal.main_arg5)
      ∧ m' ((c.tc : Thread Cert.BAttnRefIdeal.nD Cert.BAttnRefIdeal.τ).loc Cert.BAttnRefIdeal.main_arg6) = m ((c.tc : Thread Cert.BAttnIdeal.nD Cert.BAttnIdeal.τ).loc Cert.BAttnIdeal.main_arg6)
      ∧ m' ((c.tc : Thread Cert.BAttnRefIdeal.nD Cert.BAttnRefIdeal.τ).loc Cert.BAttnRefIdeal.main_arg7) = m ((c.tc : Thread Cert.BAttnIdeal.nD Cert.BAttnIdeal.τ).loc Cert.BAttnIdeal.main_arg7)) →
    ∃ (v0 : (c : Dev Cert.BAttnIdeal.nD) → Buf (Elt Ideal) ((c.tc : Thread Cert.BAttnIdeal.nD Cert.BAttnIdeal.τ).loc Cert.BAttnIdeal.main_v39_0)) (v1 : (c : Dev Cert.BAttnIdeal.nD) → Buf (Elt Ideal) ((c.tc : Thread Cert.BAttnIdeal.nD Cert.BAttnIdeal.τ).loc Cert.BAttnIdeal.main_v39_1)) (v2 : (c : Dev Cert.BAttnIdeal.nD) → Buf (Elt Ideal) ((c.tc : Thread Cert.BAttnIdeal.nD Cert.BAttnIdeal.τ).loc Cert.BAttnIdeal.main_v39_2)) (v3 : (c : Dev Cert.BAttnIdeal.nD) → Buf (Elt Ideal) ((c.tc : Thread Cert.BAttnIdeal.nD Cert.BAttnIdeal.τ).loc Cert.BAttnIdeal.main_v39_3)) (v4 : (c : Dev Cert.BAttnIdeal.nD) → Buf (Elt Ideal) ((c.tc : Thread Cert.BAttnIdeal.nD Cert.BAttnIdeal.τ).loc Cert.BAttnIdeal.main_v39_4)) (v5 : (c : Dev Cert.BAttnIdeal.nD) → Buf (Elt Ideal) ((c.tc : Thread Cert.BAttnIdeal.nD Cert.BAttnIdeal.τ).loc Cert.BAttnIdeal.main_v39_5)) (v6 : (c : Dev Cert.BAttnIdeal.nD) → Buf (Elt Ideal) ((c.tc : Thread Cert.BAttnIdeal.nD Cert.BAttnIdeal.τ).loc Cert.BAttnIdeal.main_v39_6)),
      θ_run (Cert.BAttnIdeal.defs (F := Ideal)) (onTc (τ := Cert.BAttnIdeal.τ) (Cert.BAttnIdeal.main (F := Ideal))) ⟨m, fun _ => 0, g⟩ (fun r => ∀ c : Dev Cert.BAttnIdeal.nD,
          r.2.mem ((c.tc : Thread Cert.BAttnIdeal.nD Cert.BAttnIdeal.τ).loc Cert.BAttnIdeal.main_v39_0) = v0 c
          ∧ r.2.mem ((c.tc : Thread Cert.BAttnIdeal.nD Cert.BAttnIdeal.τ).loc Cert.BAttnIdeal.main_v39_1) = v1 c
          ∧ r.2.mem ((c.tc : Thread Cert.BAttnIdeal.nD Cert.BAttnIdeal.τ).loc Cert.BAttnIdeal.main_v39_2) = v2 c
          ∧ r.2.mem ((c.tc : Thread Cert.BAttnIdeal.nD Cert.BAttnIdeal.τ).loc Cert.BAttnIdeal.main_v39_3) = v3 c
          ∧ r.2.mem ((c.tc : Thread Cert.BAttnIdeal.nD Cert.BAttnIdeal.τ).loc Cert.BAttnIdeal.main_v39_4) = v4 c
          ∧ r.2.mem ((c.tc : Thread Cert.BAttnIdeal.nD Cert.BAttnIdeal.τ).loc Cert.BAttnIdeal.main_v39_5) = v5 c
          ∧ r.2.mem ((c.tc : Thread Cert.BAttnIdeal.nD Cert.BAttnIdeal.τ).loc Cert.BAttnIdeal.main_v39_6) = v6 c
          ∧ r.2.mem ((c.tc : Thread Cert.BAttnIdeal.nD Cert.BAttnIdeal.τ).loc Cert.BAttnIdeal.main_arg0) = m ((c.tc : Thread Cert.BAttnIdeal.nD Cert.BAttnIdeal.τ).loc Cert.BAttnIdeal.main_arg0)
          ∧ r.2.mem ((c.tc : Thread Cert.BAttnIdeal.nD Cert.BAttnIdeal.τ).loc Cert.BAttnIdeal.main_arg1) = m ((c.tc : Thread Cert.BAttnIdeal.nD Cert.BAttnIdeal.τ).loc Cert.BAttnIdeal.main_arg1)
          ∧ r.2.mem ((c.tc : Thread Cert.BAttnIdeal.nD Cert.BAttnIdeal.τ).loc Cert.BAttnIdeal.main_arg2) = m ((c.tc : Thread Cert.BAttnIdeal.nD Cert.BAttnIdeal.τ).loc Cert.BAttnIdeal.main_arg2)
          ∧ r.2.mem ((c.tc : Thread Cert.BAttnIdeal.nD Cert.BAttnIdeal.τ).loc Cert.BAttnIdeal.main_arg3) = m ((c.tc : Thread Cert.BAttnIdeal.nD Cert.BAttnIdeal.τ).loc Cert.BAttnIdeal.main_arg3)
          ∧ r.2.mem ((c.tc : Thread Cert.BAttnIdeal.nD Cert.BAttnIdeal.τ).loc Cert.BAttnIdeal.main_arg4) = m ((c.tc : Thread Cert.BAttnIdeal.nD Cert.BAttnIdeal.τ).loc Cert.BAttnIdeal.main_arg4)
          ∧ r.2.mem ((c.tc : Thread Cert.BAttnIdeal.nD Cert.BAttnIdeal.τ).loc Cert.BAttnIdeal.main_arg5) = m ((c.tc : Thread Cert.BAttnIdeal.nD Cert.BAttnIdeal.τ).loc Cert.BAttnIdeal.main_arg5)
          ∧ r.2.mem ((c.tc : Thread Cert.BAttnIdeal.nD Cert.BAttnIdeal.τ).loc Cert.BAttnIdeal.main_arg6) = m ((c.tc : Thread Cert.BAttnIdeal.nD Cert.BAttnIdeal.τ).loc Cert.BAttnIdeal.main_arg6)
          ∧ r.2.mem ((c.tc : Thread Cert.BAttnIdeal.nD Cert.BAttnIdeal.τ).loc Cert.BAttnIdeal.main_arg7) = m ((c.tc : Thread Cert.BAttnIdeal.nD Cert.BAttnIdeal.τ).loc Cert.BAttnIdeal.main_arg7))
      ∧ θ_run (Cert.BAttnRefIdeal.defs (F := Ideal)) (onTc (τ := Cert.BAttnRefIdeal.τ) (Cert.BAttnRefIdeal.main (F := Ideal))) ⟨m', fun _ => 0, g'⟩ (fun r => ∀ c : Dev Cert.BAttnRefIdeal.nD,
          r.2.mem ((c.tc : Thread Cert.BAttnRefIdeal.nD Cert.BAttnRefIdeal.τ).loc Cert.BAttnRefIdeal.main_v137) = v0 c
          ∧ r.2.mem ((c.tc : Thread Cert.BAttnRefIdeal.nD Cert.BAttnRefIdeal.τ).loc Cert.BAttnRefIdeal.main_v138) = v1 c
          ∧ r.2.mem ((c.tc : Thread Cert.BAttnRefIdeal.nD Cert.BAttnRefIdeal.τ).loc Cert.BAttnRefIdeal.main_v139) = v2 c
          ∧ r.2.mem ((c.tc : Thread Cert.BAttnRefIdeal.nD Cert.BAttnRefIdeal.τ).loc Cert.BAttnRefIdeal.main_v115) = v3 c
          ∧ r.2.mem ((c.tc : Thread Cert.BAttnRefIdeal.nD Cert.BAttnRefIdeal.τ).loc Cert.BAttnRefIdeal.main_v114) = v4 c
          ∧ r.2.mem ((c.tc : Thread Cert.BAttnRefIdeal.nD Cert.BAttnRefIdeal.τ).loc Cert.BAttnRefIdeal.main_v73) = v5 c
          ∧ r.2.mem ((c.tc : Thread Cert.BAttnRefIdeal.nD Cert.BAttnRefIdeal.τ).loc Cert.BAttnRefIdeal.main_v120) = v6 c
          ∧ r.2.mem ((c.tc : Thread Cert.BAttnRefIdeal.nD Cert.BAttnRefIdeal.τ).loc Cert.BAttnRefIdeal.main_arg0) = m' ((c.tc : Thread Cert.BAttnRefIdeal.nD Cert.BAttnRefIdeal.τ).loc Cert.BAttnRefIdeal.main_arg0)
          ∧ r.2.mem ((c.tc : Thread Cert.BAttnRefIdeal.nD Cert.BAttnRefIdeal.τ).loc Cert.BAttnRefIdeal.main_arg1) = m' ((c.tc : Thread Cert.BAttnRefIdeal.nD Cert.BAttnRefIdeal.τ).loc Cert.BAttnRefIdeal.main_arg1)
          ∧ r.2.mem ((c.tc : Thread Cert.BAttnRefIdeal.nD Cert.BAttnRefIdeal.τ).loc Cert.BAttnRefIdeal.main_arg2) = m' ((c.tc : Thread Cert.BAttnRefIdeal.nD Cert.BAttnRefIdeal.τ).loc Cert.BAttnRefIdeal.main_arg2)
          ∧ r.2.mem ((c.tc : Thread Cert.BAttnRefIdeal.nD Cert.BAttnRefIdeal.τ).loc Cert.BAttnRefIdeal.main_arg3) = m' ((c.tc : Thread Cert.BAttnRefIdeal.nD Cert.BAttnRefIdeal.τ).loc Cert.BAttnRefIdeal.main_arg3)
          ∧ r.2.mem ((c.tc : Thread Cert.BAttnRefIdeal.nD Cert.BAttnRefIdeal.τ).loc Cert.BAttnRefIdeal.main_arg4) = m' ((c.tc : Thread Cert.BAttnRefIdeal.nD Cert.BAttnRefIdeal.τ).loc Cert.BAttnRefIdeal.main_arg4)
          ∧ r.2.mem ((c.tc : Thread Cert.BAttnRefIdeal.nD Cert.BAttnRefIdeal.τ).loc Cert.BAttnRefIdeal.main_arg5) = m' ((c.tc : Thread Cert.BAttnRefIdeal.nD Cert.BAttnRefIdeal.τ).loc Cert.BAttnRefIdeal.main_arg5)
          ∧ r.2.mem ((c.tc : Thread Cert.BAttnRefIdeal.nD Cert.BAttnRefIdeal.τ).loc Cert.BAttnRefIdeal.main_arg6) = m' ((c.tc : Thread Cert.BAttnRefIdeal.nD Cert.BAttnRefIdeal.τ).loc Cert.BAttnRefIdeal.main_arg6)
          ∧ r.2.mem ((c.tc : Thread Cert.BAttnRefIdeal.nD Cert.BAttnRefIdeal.τ).loc Cert.BAttnRefIdeal.main_arg7) = m' ((c.tc : Thread Cert.BAttnRefIdeal.nD Cert.BAttnRefIdeal.τ).loc Cert.BAttnRefIdeal.main_arg7))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)) (v1 : (c : Dev Cert.FfnIdeal.nD) → Buf (Elt Ideal) ((c.tc : Thread Cert.FfnIdeal.nD Cert.FfnIdeal.τ).loc Cert.FfnIdeal.main_v5_0)) (v2 : (c : Dev Cert.FfnIdeal.nD) → Buf (Elt Ideal) ((c.tc : Thread Cert.FfnIdeal.nD Cert.FfnIdeal.τ).loc Cert.FfnIdeal.main_v5_1)) (v3 : (c : Dev Cert.FfnIdeal.nD) → Buf (Elt Ideal) ((c.tc : Thread Cert.FfnIdeal.nD Cert.FfnIdeal.τ).loc Cert.FfnIdeal.main_v11)) (v4 : (c : Dev Cert.FfnIdeal.nD) → Buf (Elt Ideal) ((c.tc : Thread Cert.FfnIdeal.nD Cert.FfnIdeal.τ).loc Cert.FfnIdeal.main_v6)) (v5 : (c : Dev Cert.FfnIdeal.nD) → Buf (Elt Ideal) ((c.tc : Thread Cert.FfnIdeal.nD Cert.FfnIdeal.τ).loc Cert.FfnIdeal.main_v4_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_v5_0) = v1 c
          ∧ r.2.mem ((c.tc : Thread Cert.FfnIdeal.nD Cert.FfnIdeal.τ).loc Cert.FfnIdeal.main_v5_1) = v2 c
          ∧ r.2.mem ((c.tc : Thread Cert.FfnIdeal.nD Cert.FfnIdeal.τ).loc Cert.FfnIdeal.main_v11) = v3 c
          ∧ r.2.mem ((c.tc : Thread Cert.FfnIdeal.nD Cert.FfnIdeal.τ).loc Cert.FfnIdeal.main_v6) = v4 c
          ∧ r.2.mem ((c.tc : Thread Cert.FfnIdeal.nD Cert.FfnIdeal.τ).loc Cert.FfnIdeal.main_v4_2) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_v100) = v1 c
          ∧ r.2.mem ((c.tc : Thread Cert.FfnRefIdeal.nD Cert.FfnRefIdeal.τ).loc Cert.FfnRefIdeal.main_v83) = v2 c
          ∧ r.2.mem ((c.tc : Thread Cert.FfnRefIdeal.nD Cert.FfnRefIdeal.τ).loc Cert.FfnRefIdeal.main_v79) = v3 c
          ∧ r.2.mem ((c.tc : Thread Cert.FfnRefIdeal.nD Cert.FfnRefIdeal.τ).loc Cert.FfnRefIdeal.main_v72) = v4 c
          ∧ r.2.mem ((c.tc : Thread Cert.FfnRefIdeal.nD Cert.FfnRefIdeal.τ).loc Cert.FfnRefIdeal.main_v54) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)) →
    ∃ (v0 : (c : Dev Cert.MixInIdeal.nD) → Buf (Elt Ideal) ((c.tc : Thread Cert.MixInIdeal.nD Cert.MixInIdeal.τ).loc Cert.MixInIdeal.main_v3_1)) (v1 : (c : Dev Cert.MixInIdeal.nD) → Buf (Elt Ideal) ((c.tc : Thread Cert.MixInIdeal.nD Cert.MixInIdeal.τ).loc Cert.MixInIdeal.main_v3_2)) (v2 : (c : Dev Cert.MixInIdeal.nD) → Buf (Elt Ideal) ((c.tc : Thread Cert.MixInIdeal.nD Cert.MixInIdeal.τ).loc Cert.MixInIdeal.main_v3_3)) (v3 : (c : Dev Cert.MixInIdeal.nD) → Buf (Elt Ideal) ((c.tc : Thread Cert.MixInIdeal.nD Cert.MixInIdeal.τ).loc Cert.MixInIdeal.main_v4_0)) (v4 : (c : Dev Cert.MixInIdeal.nD) → Buf (Elt Ideal) ((c.tc : Thread Cert.MixInIdeal.nD Cert.MixInIdeal.τ).loc Cert.MixInIdeal.main_v4_1)) (v5 : (c : Dev Cert.MixInIdeal.nD) → Buf (Elt Ideal) ((c.tc : Thread Cert.MixInIdeal.nD Cert.MixInIdeal.τ).loc Cert.MixInIdeal.main_v9)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3_1) = v0 c
          ∧ r.2.mem ((c.tc : Thread Cert.MixInIdeal.nD Cert.MixInIdeal.τ).loc Cert.MixInIdeal.main_v3_2) = v1 c
          ∧ r.2.mem ((c.tc : Thread Cert.MixInIdeal.nD Cert.MixInIdeal.τ).loc Cert.MixInIdeal.main_v3_3) = v2 c
          ∧ r.2.mem ((c.tc : Thread Cert.MixInIdeal.nD Cert.MixInIdeal.τ).loc Cert.MixInIdeal.main_v4_0) = v3 c
          ∧ r.2.mem ((c.tc : Thread Cert.MixInIdeal.nD Cert.MixInIdeal.τ).loc Cert.MixInIdeal.main_v4_1) = v4 c
          ∧ r.2.mem ((c.tc : Thread Cert.MixInIdeal.nD Cert.MixInIdeal.τ).loc Cert.MixInIdeal.main_v9) = v5 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v16) = v0 c
          ∧ r.2.mem ((c.tc : Thread Cert.MixInRefIdeal.nD Cert.MixInRefIdeal.τ).loc Cert.MixInRefIdeal.main_v17) = v1 c
          ∧ r.2.mem ((c.tc : Thread Cert.MixInRefIdeal.nD Cert.MixInRefIdeal.τ).loc Cert.MixInRefIdeal.main_v18) = v2 c
          ∧ r.2.mem ((c.tc : Thread Cert.MixInRefIdeal.nD Cert.MixInRefIdeal.τ).loc Cert.MixInRefIdeal.main_v42) = v3 c
          ∧ r.2.mem ((c.tc : Thread Cert.MixInRefIdeal.nD Cert.MixInRefIdeal.τ).loc Cert.MixInRefIdeal.main_v25) = v4 c
          ∧ r.2.mem ((c.tc : Thread Cert.MixInRefIdeal.nD Cert.MixInRefIdeal.τ).loc Cert.MixInRefIdeal.main_v21) = v5 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)) →
    ∃ (v0 : (c : Dev Cert.MixOutIdeal.nD) → Buf (Elt Ideal) ((c.tc : Thread Cert.MixOutIdeal.nD Cert.MixOutIdeal.τ).loc Cert.MixOutIdeal.main_v5_6)) (v1 : (c : Dev Cert.MixOutIdeal.nD) → Buf (Elt Ideal) ((c.tc : Thread Cert.MixOutIdeal.nD Cert.MixOutIdeal.τ).loc Cert.MixOutIdeal.main_v6_4)) (v2 : (c : Dev Cert.MixOutIdeal.nD) → Buf (Elt Ideal) ((c.tc : Thread Cert.MixOutIdeal.nD Cert.MixOutIdeal.τ).loc Cert.MixOutIdeal.main_v11)) (v3 : (c : Dev Cert.MixOutIdeal.nD) → Buf (Elt Ideal) ((c.tc : Thread Cert.MixOutIdeal.nD Cert.MixOutIdeal.τ).loc Cert.MixOutIdeal.main_v10)) (v4 : (c : Dev Cert.MixOutIdeal.nD) → Buf (Elt Ideal) ((c.tc : Thread Cert.MixOutIdeal.nD Cert.MixOutIdeal.τ).loc Cert.MixOutIdeal.main_v8)) (v5 : (c : Dev Cert.MixOutIdeal.nD) → Buf (Elt Ideal) ((c.tc : Thread Cert.MixOutIdeal.nD Cert.MixOutIdeal.τ).loc Cert.MixOutIdeal.main_v12)) (v6 : (c : Dev Cert.MixOutIdeal.nD) → Buf (Elt Ideal) ((c.tc : Thread Cert.MixOutIdeal.nD Cert.MixOutIdeal.τ).loc Cert.MixOutIdeal.main_v7)) (v7 : (c : Dev Cert.MixOutIdeal.nD) → Buf (Elt Ideal) ((c.tc : Thread Cert.MixOutIdeal.nD Cert.MixOutIdeal.τ).loc Cert.MixOutIdeal.main_v6_7)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_6) = v0 c
          ∧ r.2.mem ((c.tc : Thread Cert.MixOutIdeal.nD Cert.MixOutIdeal.τ).loc Cert.MixOutIdeal.main_v6_4) = v1 c
          ∧ r.2.mem ((c.tc : Thread Cert.MixOutIdeal.nD Cert.MixOutIdeal.τ).loc Cert.MixOutIdeal.main_v11) = v2 c
          ∧ r.2.mem ((c.tc : Thread Cert.MixOutIdeal.nD Cert.MixOutIdeal.τ).loc Cert.MixOutIdeal.main_v10) = v3 c
          ∧ r.2.mem ((c.tc : Thread Cert.MixOutIdeal.nD Cert.MixOutIdeal.τ).loc Cert.MixOutIdeal.main_v8) = v4 c
          ∧ r.2.mem ((c.tc : Thread Cert.MixOutIdeal.nD Cert.MixOutIdeal.τ).loc Cert.MixOutIdeal.main_v12) = v5 c
          ∧ r.2.mem ((c.tc : Thread Cert.MixOutIdeal.nD Cert.MixOutIdeal.τ).loc Cert.MixOutIdeal.main_v7) = v6 c
          ∧ r.2.mem ((c.tc : Thread Cert.MixOutIdeal.nD Cert.MixOutIdeal.τ).loc Cert.MixOutIdeal.main_v6_7) = v7 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v73) = v0 c
          ∧ r.2.mem ((c.tc : Thread Cert.MixOutRefIdeal.nD Cert.MixOutRefIdeal.τ).loc Cert.MixOutRefIdeal.main_v107) = v1 c
          ∧ r.2.mem ((c.tc : Thread Cert.MixOutRefIdeal.nD Cert.MixOutRefIdeal.τ).loc Cert.MixOutRefIdeal.main_v128) = v2 c
          ∧ r.2.mem ((c.tc : Thread Cert.MixOutRefIdeal.nD Cert.MixOutRefIdeal.τ).loc Cert.MixOutRefIdeal.main_v113) = v3 c
          ∧ r.2.mem ((c.tc : Thread Cert.MixOutRefIdeal.nD Cert.MixOutRefIdeal.τ).loc Cert.MixOutRefIdeal.main_v106) = v4 c
          ∧ r.2.mem ((c.tc : Thread Cert.MixOutRefIdeal.nD Cert.MixOutRefIdeal.τ).loc Cert.MixOutRefIdeal.main_v100) = v5 c
          ∧ r.2.mem ((c.tc : Thread Cert.MixOutRefIdeal.nD Cert.MixOutRefIdeal.τ).loc Cert.MixOutRefIdeal.main_v95) = v6 c
          ∧ r.2.mem ((c.tc : Thread Cert.MixOutRefIdeal.nD Cert.MixOutRefIdeal.τ).loc Cert.MixOutRefIdeal.main_v77) = v7 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9))

def Claim : Prop :=
  ∃ (hBAttn : Cert.BAttn.Facts) (hBAttnIdeal : Cert.BAttnIdeal.Facts) (hBAttnRefIdeal : Cert.BAttnRefIdeal.Facts) (hFfn : Cert.Ffn.Facts) (hFfnIdeal : Cert.FfnIdeal.Facts) (hFfnRefIdeal : Cert.FfnRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hPre_scores_finite : Cert.Pre_scores_finite.Facts) (hPre_ffn_finite : Cert.Pre_ffn_finite.Facts),
    quiescent_BAttn (hBAttn := hBAttn)
    ∧ quiescent_BAttnIdeal (hBAttnIdeal := hBAttnIdeal)
    ∧ quiescent_BAttnIdeal_pre_scores_finite (hBAttnIdeal := hBAttnIdeal) (hPre_scores_finite := hPre_scores_finite)
    ∧ quiescent_BAttnRefIdeal (hBAttnRefIdeal := hBAttnRefIdeal)
    ∧ quiescent_BAttnRefIdeal_pre_scores_finite (hBAttnRefIdeal := hBAttnRefIdeal) (hPre_scores_finite := hPre_scores_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_BAttn_BAttnIdeal
    ∧ algebraic_BAttnIdeal_BAttnRefIdeal_pre_scores_finite (hBAttnIdeal := hBAttnIdeal) (hBAttnRefIdeal := hBAttnRefIdeal) (hPre_scores_finite := hPre_scores_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
-- ==== Pre_ffn_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  reducesTo_S8192x1024_S_d0_1 : S8192x1024.ReducesTo [0, 1] S_
  h_S_ : 0 < S_.numel
  reducesTo_S1x1024_S_d0_1 : S1x1024.ReducesTo [0, 1] S_
  reducesTo_S1024x5632_S_d0_1 : S1024x5632.ReducesTo [0, 1] S_
  reducesTo_S2816x1024_S_d0_1 : S2816x1024.ReducesTo [0, 1] S_

variable [Facts]

def fn_part1 {F : FTy → Type} [FloatOps F] (main_arg5 : FVec F S1x1024 .f32) (main_v14 : IVec S_ 1) (main_v15 : FVec F S2816x1024 .f32) : IVec S_ 1 :=
  let main_cst_7 : FVec F S_ .f32 := constant S_ .f32 0xFF800000#32
  let main_v16 : FVec F S_ .f32 := (fun x v => Host.reduce FloatOps.maximumf x v reducesTo_S2816x1024_S_d0_1 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  let main_v19 : FVec F S1x1024 .f32 := Host.absf main_arg5
  let main_cst_9 : FVec F S_ .f32 := constant S_ .f32 0xFF800000#32
  let main_v20 : FVec F S_ .f32 := (fun x v => Host.reduce FloatOps.maximumf x v reducesTo_S1x1024_S_d0_1 h_S_) main_v19 main_cst_9
  let main_cst_10 : FVec F S_ .f32 := constant S_ .f32 0x7F800000#32
  let main_v21 : IVec S_ 1 := cmpf .olt main_v20 main_cst_10
  let main_v22 : IVec S_ 1 := andi main_v18 main_v21
  main_v22

def fn {F : FTy → Type} [FloatOps F] (main_arg0 : FVec F S8192x1024 .f32) (main_arg1 : FVec F S8192x1024 .f32) (main_arg2 : FVec F S1x1024 .f32) (main_arg3 : FVec F S1024x5632 .f32) (main_arg4 : FVec F S2816x1024 .f32) (main_arg5 : FVec F S1x1024 .f32) : IVec S_ 1 :=
  let main_v0 : FVec F S8192x1024 .f32 := Host.absf main_arg0
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S8192x1024 .f32 := Host.absf main_arg1
  let main_cst_1 : FVec F S_ .f32 := constant S_ .f32 0xFF800000#32
  let main_v4 : FVec F S_ .f32 := (fun x v => Host.reduce FloatOps.maximumf x v reducesTo_S8192x1024_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1x1024 .f32 := Host.absf main_arg2
  let main_cst_3 : FVec F S_ .f32 := constant S_ .f32 0xFF800000#32
  let main_v8 : FVec F S_ .f32 := (fun x v => Host.reduce FloatOps.maximumf x v reducesTo_S1x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1024x5632 .f32 := Host.absf main_arg3
  let main_cst_5 : FVec F S_ .f32 := constant S_ .f32 0xFF800000#32
  let main_v12 : FVec F S_ .f32 := (fun x v => Host.reduce FloatOps.maximumf x v reducesTo_S1024x5632_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S2816x1024 .f32 := Host.absf main_arg4
  fn_part1 (F := F) main_arg5 main_v14 main_v15
-- ==== Pre_scores_finite.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S_ : Shape := ⟨0, ![]⟩

class Facts : Prop where
  reducesTo_S8192x1024_S_d0_1 : S8192x1024.ReducesTo [0, 1] S_
  h_S_ : 0 < S_.numel
  reducesTo_S1x1024_S_d0_1 : S1x1024.ReducesTo [0, 1] S_
  reducesTo_S1024x1024_S_d0_1 : S1024x1024.ReducesTo [0, 1] S_
  reducesTo_S512x1024_S_d0_1 : S512x1024.ReducesTo [0, 1] S_

variable [Facts]

def fn {F : FTy → Type} [FloatOps F] (main_arg0 : FVec F S8192x1024 .f32) (main_arg1 : FVec F S8192x1024 .f32) (main_arg2 : FVec F S1x1024 .f32) (main_arg3 : FVec F S1024x1024 .f32) (main_arg4 : FVec F S512x1024 .f32) (main_arg5 : FVec F S512x1024 .f32) (main_arg6 : FVec F S1024x1024 .f32) (main_arg7 : FVec F S1x1024 .f32) : IVec S_ 1 :=
  let main_v0 : FVec F S8192x1024 .f32 := Host.absf main_arg1
  let main_cst : FVec F S_ .f32 := constant S_ .f32 0xFF800000#32
  let main_v1 : FVec F S_ .f32 := (fun x v => Host.reduce FloatOps.maximumf x v reducesTo_S8192x1024_S_d0_1 h_S_) main_v0 main_cst
  let main_cst_0 : FVec F S_ .f32 := constant S_ .f32 0x7F800000#32
  let main_v2 : IVec S_ 1 := cmpf .olt main_v1 main_cst_0
  let main_v3 : FVec F S1x1024 .f32 := Host.absf main_arg2
  let main_cst_1 : FVec F S_ .f32 := constant S_ .f32 0xFF800000#32
  let main_v4 : FVec F S_ .f32 := (fun x v => Host.reduce FloatOps.maximumf x v reducesTo_S1x1024_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1024x1024 .f32 := Host.absf main_arg3
  let main_cst_3 : FVec F S_ .f32 := constant S_ .f32 0xFF800000#32
  let main_v8 : FVec F S_ .f32 := (fun x v => Host.reduce FloatOps.maximumf x v reducesTo_S1024x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S512x1024 .f32 := Host.absf main_arg4
  let main_cst_5 : FVec F S_ .f32 := constant S_ .f32 0xFF800000#32
  let main_v12 : FVec F S_ .f32 := (fun x v => Host.reduce FloatOps.maximumf x v reducesTo_S512x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== BAttn.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S2x4096x4x256 : Shape := ⟨4, ![2, 4096, 4, 256]⟩
abbrev S2x256x4x256 : Shape := ⟨4, ![2, 256, 4, 256]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S256x1024 : Shape := ⟨2, ![256, 1024]⟩
abbrev S512 : Shape := ⟨1, ![512]⟩
abbrev S512x1 : Shape := ⟨2, ![512, 1]⟩
abbrev S1024 : Shape := ⟨1, ![1024]⟩
abbrev S512x256 : Shape := ⟨2, ![512, 256]⟩
abbrev S256x256 : Shape := ⟨2, ![256, 256]⟩

abbrev nBuf : Space → Nat
  | .hbm => 61
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S2x4096x4x256, .f32⟩
  | .hbm, ⟨25, _⟩ => ⟨S2x256x4x256, .f32⟩
  | .hbm, ⟨26, _⟩ => ⟨S2x256x4x256, .f32⟩
  | .hbm, ⟨27, _⟩ => ⟨S2x4x4096x256, .f32⟩
  | .hbm, ⟨28, _⟩ => ⟨S_, .f32⟩
  | .hbm, ⟨29, _⟩ => ⟨S2x4x4096x256, .f32⟩
  | .hbm, ⟨30, _⟩ => ⟨S2x4x4096x256, .f32⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096x1, .f32⟩
  | .hbm, ⟨37, _⟩ => ⟨S2x4x4096x256, .f32⟩
  | .hbm, ⟨38, _⟩ => ⟨S2x4x4096x256, .f32⟩
  | .hbm, ⟨39, _⟩ => ⟨S2x4x4096x256, .f32⟩
  | .hbm, ⟨40, _⟩ => ⟨S_, .f32⟩
  | .hbm, ⟨41, _⟩ => ⟨S2x4x4096, .f32⟩
  | .hbm, ⟨42, _⟩ => ⟨S2x4x4096x1, .f32⟩
  | .hbm, ⟨43, _⟩ => ⟨S2x4x4096x256, .f32⟩
  | .hbm, ⟨44, _⟩ => ⟨S2x4x4096x256, .f32⟩
  | .hbm, ⟨45, _⟩ => ⟨S2x4x256x4096, .f32⟩
  | .hbm, ⟨46, _⟩ => ⟨S2x4096x4x256, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S1024x1024, .bf16⟩
  | .hbm, ⟨51, _⟩ => ⟨S1024x1024, .bf16⟩
  | .hbm, ⟨52, _⟩ => ⟨S512x1024, .bf16⟩
  | .hbm, ⟨53, _⟩ => ⟨S512x1024, .bf16⟩
  | .hbm, ⟨54, _⟩ => ⟨S8192x1024, .bf16⟩
  | .hbm, ⟨55, _⟩ => ⟨S8192x1024, .bf16⟩
  | .hbm, ⟨56, _⟩ => ⟨S8192x1024, .f32⟩
  | .hbm, ⟨57, _⟩ => ⟨S512x1024, .f32⟩
  | .hbm, ⟨58, _⟩ => ⟨S512x1024, .f32⟩
  | .hbm, ⟨59, _⟩ => ⟨S1x1024, .f32⟩
  | .hbm, ⟨60, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v39_2 : Ref sig .tc := ⟨.hbm, 56, rfl⟩
abbrev main_v39_3 : Ref sig .tc := ⟨.hbm, 57, rfl⟩
abbrev main_v39_4 : Ref sig .tc := ⟨.hbm, 58, rfl⟩
abbrev main_v39_5 : Ref sig .tc := ⟨.hbm, 59, rfl⟩
abbrev main_v39_6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_14 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BAttnRefIdeal.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S2x4096x4x256 : Shape := ⟨4, ![2, 4096, 4, 256]⟩
abbrev S2x256x4x256 : Shape := ⟨4, ![2, 256, 4, 256]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S1024 : Shape := ⟨1, ![1024]⟩
abbrev S2x4x256x256 : Shape := ⟨4, ![2, 4, 256, 256]⟩

abbrev nBuf : Space → Nat
  | .hbm => 178
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .f32⟩
  | 4 => ⟨S512x1024, .f32⟩
  | 5 => ⟨S512x1024, .f32⟩
  | 6 => ⟨S1024x1024, .f32⟩
  | 7 => ⟨S1x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S2x4096x4x256, .f32⟩
  | 29 => ⟨S2x256x4x256, .f32⟩
  | 30 => ⟨S2x256x4x256, .f32⟩
  | 31 => ⟨S2x4x4096x256, .f32⟩
  | 32 => ⟨S_, .f32⟩
  | 33 => ⟨S2x4x4096x256, .f32⟩
  | 34 => ⟨S2x4x4096x256, .f32⟩
  | 35 => ⟨S_, .f32⟩
  | 36 => ⟨S2x4x4096, .f32⟩
  | 37 => ⟨S2x4x4096x1, .f32⟩
  | 38 => ⟨S2x4x4096x256, .f32⟩
  | 39 => ⟨S2x4x4096x256, .i1⟩
  | 40 => ⟨S2x4x4096x256, .f32⟩
  | 41 => ⟨S_, .f32⟩
  | 42 => ⟨S2x4x4096, .f32⟩
  | 43 => ⟨S_, .f32⟩
  | 44 => ⟨S2x4x4096, .f32⟩
  | 45 => ⟨S2x4x4096, .f32⟩
  | 46 => ⟨S_, .f32⟩
  | 47 => ⟨S2x4x4096, .f32⟩
  | 48 => ⟨S2x4x4096, .i1⟩
  | 49 => ⟨S_, .f32⟩
  | 50 => ⟨S2x4x4096, .f32⟩
  | 51 => ⟨S2x4x4096, .i1⟩
  | 52 => ⟨S_, .f32⟩
  | 53 => ⟨S2x4x4096, .f32⟩
  | 54 => ⟨S_, .f32⟩
  | 55 => ⟨S2x4x4096, .f32⟩
  | 56 => ⟨S_, .f32⟩
  | 57 => ⟨S2x4x4096, .f32⟩
  | 58 => ⟨S2x4x4096, .f32⟩
  | 59 => ⟨S2x4x4096, .f32⟩
  | 60 => ⟨S2x4x4096x1, .f32⟩
  | 61 => ⟨S2x4x4096x256, .f32⟩
  | 62 => ⟨S2x4x4096x256, .f32⟩
  | 63 => ⟨S2x4x4096x256, .f32⟩
  | 64 => ⟨S_, .f32⟩
  | 65 => ⟨S2x4x4096, .f32⟩
  | 66 => ⟨S2x4x4096x1, .f32⟩
  | 67 => ⟨S2x4x4096x256, .f32⟩
  | 68 => ⟨S2x4x4096x256, .f32⟩
  | 69 => ⟨S2x4x4096x1, .f32⟩
  | 70 => ⟨S_, .f32⟩
  | 71 => ⟨S2x4x4096x1, .f32⟩
  | 72 => ⟨S2x4x4096x1, .f32⟩
  | 73 => ⟨S2x4x256x4096, .f32⟩
  | 74 => ⟨S2x4096x4x256, .f32⟩
  | 75 => ⟨S8192x1024, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x1, .f32⟩
  | 88 => ⟨S8192x1, .f32⟩
  | 89 => ⟨S_, .f32⟩
  | 90 => ⟨S8192x1, .f32⟩
  | 91 => ⟨S8192x1, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S2x4096x4x256, .f32⟩
  | 123 => ⟨S2x4x256x4096, .f32⟩
  | 124 => ⟨S2x4x4096x256, .f32⟩
  | 125 => ⟨S2x4x256x256, .f32⟩
  | 126 => ⟨S2x256x4x256, .f32⟩
  | 127 => ⟨S2x4x4096x256, .f32⟩
  | _ => ⟨S8192x1024, .f32⟩

abbrev hbmTy0_1 (i : Nat) : BufTy := match i % 128 with
  | 0 => ⟨S2x4x4096x256, .f32⟩
  | 1 => ⟨S2x4x4096x256, .f32⟩
  | 2 => ⟨S_, .f32⟩
  | 3 => ⟨S2x4x4096, .f32⟩
  | 4 => ⟨S2x4x4096x1, .f32⟩
  | 5 => ⟨S2x4x4096x1, .f32⟩
  | 6 => ⟨S2x4x4096x256, .f32⟩
  | 7 => ⟨S2x4x4096x256, .f32⟩
  | 8 => ⟨S_, .f32⟩
  | 9 => ⟨S2x4x4096, .f32⟩
  | 10 => ⟨S2x4x4096x256, .f32⟩
  | 11 => ⟨S2x4x4096x256, .f32⟩
  | 12 => ⟨S2x4x4096x256, .f32⟩
  | 13 => ⟨S_, .f32⟩
  | 14 => ⟨S2x4x4096x256, .f32⟩
  | 15 => ⟨S2x4x4096x256, .f32⟩
  | 16 => ⟨S2x4x256x256, .f32⟩
  | 17 => ⟨S2x256x4x256, .f32⟩
  | 18 => ⟨S2x4x4096x256, .f32⟩
  | 19 => ⟨S2x4096x4x256, .f32⟩
  | 20 => ⟨S512x1024, .f32⟩
  | 21 => ⟨S512x1024, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1024, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .bf16⟩
  | 48 => ⟨S8192x1024, .bf16⟩
  | 49 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_20 : Ref sig .tc := ⟨.hbm, 111, rfl⟩
abbrev main_v82 : Ref sig .tc := ⟨.hbm, 112, rfl⟩
abbrev main_v83 : Ref sig .tc := ⟨.hbm, 113, rfl⟩
abbrev main_cst_21 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_22 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_23 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_24 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_25 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_26 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_27 : Ref sig .tc := ⟨.hbm, 165, rfl⟩
abbrev main_v129 : Ref sig .tc := ⟨.hbm, 166, rfl⟩
abbrev main_v130 : Ref sig .tc := ⟨.hbm, 167, rfl⟩
abbrev main_cst_28 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1024x2816 : Shape := ⟨2, ![1024, 2816]⟩
abbrev S1024 : Shape := ⟨1, ![1024]⟩
abbrev S2048x1408 : Shape := ⟨2, ![2048, 1408]⟩
abbrev S2048x1024 : Shape := ⟨2, ![2048, 1024]⟩
abbrev S1408x1024 : Shape := ⟨2, ![1408, 1024]⟩
abbrev S5632x1024 : Shape := ⟨2, ![5632, 1024]⟩
abbrev S_ : Shape := ⟨0, ![]⟩

abbrev nBuf : Space → Nat
  | .hbm => 28
  | .vmem => 59
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S8192x1024, .bf16⟩
  | .hbm, ⟨9, _⟩ => ⟨S8192x5632, .bf16⟩
  | .hbm, ⟨10, _⟩ => ⟨S8192x2816, .bf16⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S8192x1024, .bf16⟩
  | .hbm, ⟨15, _⟩ => ⟨S8192x5632, .bf16⟩
  | .hbm, ⟨16, _⟩ => ⟨S1x1024, .f32⟩
  | .hbm, ⟨17, _⟩ => ⟨S8192x1024, .f32⟩
  | .hbm, ⟨18, _⟩ => ⟨S1x1024, .f32⟩
  | .hbm, ⟨19, _⟩ => ⟨S2816x1024, .f32⟩
  | .hbm, ⟨20, _⟩ => ⟨S5632x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x5632, .bf16⟩
  | .local _ .vmem, ⟨28, _⟩ => ⟨S512x5632, .bf16⟩
  | .local _ .vmem, ⟨29, _⟩ => ⟨S1x1024, .f32⟩
  | .local _ .vmem, ⟨30, _⟩ => ⟨S2816x1024, .bf16⟩
  | .local _ .vmem, ⟨31, _⟩ => ⟨S512x1024, .bf16⟩
  | .local _ .vmem, ⟨32, _⟩ => ⟨S512x1024, .bf16⟩
  | .local _ .vmem, ⟨33, _⟩ => ⟨S512x5632, .bf16⟩
  | .local _ .vmem, ⟨34, _⟩ => ⟨S512x5632, .bf16⟩
  | .local _ .vmem, ⟨35, _⟩ => ⟨S1x1024, .f32⟩
  | .local _ .vmem, ⟨36, _⟩ => ⟨S512x5632, .bf16⟩
  | .local _ .vmem, ⟨37, _⟩ => ⟨S512x5632, .bf16⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1024x5632, .bf16⟩
  | .local _ .vmem, ⟨43, _⟩ => ⟨S1x1024, .f32⟩
  | .local _ .vmem, ⟨44, _⟩ => ⟨S512x1024, .f32⟩
  | .local _ .vmem, ⟨45, _⟩ => ⟨S512x1024, .f32⟩
  | .local _ .vmem, ⟨46, _⟩ => ⟨S1x1024, .f32⟩
  | .local _ .vmem, ⟨47, _⟩ => ⟨S2048x1408, .bf16⟩
  | .local _ .vmem, ⟨48, _⟩ => ⟨S2048x1408, .bf16⟩
  | .local _ .vmem, ⟨49, _⟩ => ⟨S2048x1024, .bf16⟩
  | .local _ .vmem, ⟨50, _⟩ => ⟨S2048x1024, .bf16⟩
  | .local _ .vmem, ⟨51, _⟩ => ⟨S1408x1024, .f32⟩
  | .local _ .vmem, ⟨52, _⟩ => ⟨S1408x1024, .f32⟩
  | .local _ .vmem, ⟨53, _⟩ => ⟨S2048x1408, .bf16⟩
  | .local _ .vmem, ⟨54, _⟩ => ⟨S2048x1408, .bf16⟩
  | .local _ .vmem, ⟨55, _⟩ => ⟨S2048x1024, .bf16⟩
  | .local _ .vmem, ⟨56, _⟩ => ⟨S2048x1024, .bf16⟩
  | .local _ .vmem, ⟨57, _⟩ => ⟨S1408x1024, .f32⟩
  | .local _ .vmem, ⟨58, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2816x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x5632 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x5632 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨3, ![2, 1, 4], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 4], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1408x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== FfnRefIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S1024x2816 : Shape := ⟨2, ![1024, 2816]⟩
abbrev S5632x1024 : Shape := ⟨2, ![5632, 1024]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x5632, .f32⟩
  | 4 => ⟨S2816x1024, .f32⟩
  | 5 => ⟨S1x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x5632, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S1024x2816, .f32⟩
  | 110 => ⟨S2816x1024, .f32⟩
  | 111 => ⟨S8192x2816, .f32⟩
  | 112 => ⟨S8192x2816, .f32⟩
  | 113 => ⟨S8192x2816, .f32⟩
  | 114 => ⟨S8192x2816, .f32⟩
  | 115 => ⟨S8192x2816, .f32⟩
  | 116 => ⟨S8192x2816, .f32⟩
  | 117 => ⟨S8192x2816, .f32⟩
  | 118 => ⟨S8192x5632, .f32⟩
  | 119 => ⟨S5632x1024, .f32⟩
  | 120 => ⟨S1024x5632, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_cst_12 : Ref sig .tc := ⟨.hbm, 77, rfl⟩
abbrev main_cst_13 : Ref sig .tc := ⟨.hbm, 78, rfl⟩
abbrev main_v46 : Ref sig .tc := ⟨.hbm, 79, rfl⟩
abbrev main_v47 : Ref sig .tc := ⟨.hbm, 80, rfl⟩
abbrev main_cst_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_19 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_20 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_21 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1024x4608 : Shape := ⟨2, ![1024, 4608]⟩
abbrev S8192x2048 : Shape := ⟨2, ![8192, 2048]⟩
abbrev S8192x512 : Shape := ⟨2, ![8192, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1024x2048 : Shape := ⟨2, ![1024, 2048]⟩
abbrev S1024x512 : Shape := ⟨2, ![1024, 512]⟩
abbrev S1024 : Shape := ⟨1, ![1024]⟩
abbrev S2048x1024 : Shape := ⟨2, ![2048, 1024]⟩
abbrev S1024x1024 : Shape := ⟨2, ![1024, 1024]⟩
abbrev S4608x1024 : Shape := ⟨2, ![4608, 1024]⟩

abbrev nBuf : Space → Nat
  | .hbm => 21
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .f32⟩
  | .hbm, ⟨3, _⟩ => ⟨S8192x2048, .f32⟩
  | .hbm, ⟨4, _⟩ => ⟨S8192x512, .f32⟩
  | .hbm, ⟨5, _⟩ => ⟨S8192x2048, .f32⟩
  | .hbm, ⟨6, _⟩ => ⟨S8192x1024, .f32⟩
  | .hbm, ⟨7, _⟩ => ⟨S1024x4608, .bf16⟩
  | .hbm, ⟨8, _⟩ => ⟨S8192x2048, .bf16⟩
  | .hbm, ⟨9, _⟩ => ⟨S8192x2048, .bf16⟩
  | .hbm, ⟨10, _⟩ => ⟨S8192x1024, .bf16⟩
  | .hbm, ⟨11, _⟩ => ⟨S8192x2048, .f32⟩
  | .hbm, ⟨12, _⟩ => ⟨S8192x512, .f32⟩
  | .hbm, ⟨13, _⟩ => ⟨S8192x2048, .f32⟩
  | .hbm, ⟨14, _⟩ => ⟨S8192x1024, .f32⟩
  | .hbm, ⟨15, _⟩ => ⟨S1x1024, .f32⟩
  | .hbm, ⟨16, _⟩ => ⟨S2048x1024, .f32⟩
  | .hbm, ⟨17, _⟩ => ⟨S512x1024, .f32⟩
  | .hbm, ⟨18, _⟩ => ⟨S2048x1024, .f32⟩
  | .hbm, ⟨19, _⟩ => ⟨S4608x1024, .f32⟩
  | .hbm, ⟨20, _⟩ => ⟨S1024x4608, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x512, .f32⟩
  | .local _ .vmem, ⟨9, _⟩ => ⟨S512x512, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | .local _ .vmem, ⟨17, _⟩ => ⟨S512x2048, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1024x4608, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x512, .f32⟩
  | .local _ .vmem, ⟨34, _⟩ => ⟨S1024x512, .f32⟩
  | .local _ .vmem, ⟨35, _⟩ => ⟨S1024x1024, .bf16⟩
  | .local _ .vmem, ⟨36, _⟩ => ⟨S1024x1024, .bf16⟩
  | .local _ .vmem, ⟨37, _⟩ => ⟨S512x1024, .f32⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x1024, .f32⟩
  | .local _ .vmem, ⟨43, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x4608 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨3, ![2, 1, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S512x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![2, 1, 8], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== MixInRefIdeal.lean ====
abbrev S8192x1024 : Shape := ⟨2, ![8192, 1024]⟩
abbrev S1x1024 : Shape := ⟨2, ![1, 1024]⟩
abbrev S1024x4608 : Shape := ⟨2, ![1024, 4608]⟩
abbrev S8192x2048 : Shape := ⟨2, ![8192, 2048]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x4608 : Shape := ⟨2, ![8192, 4608]⟩
abbrev S4608x1024 : Shape := ⟨2, ![4608, 1024]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .f32⟩
  | .hbm, ⟨3, _⟩ => ⟨S8192x2048, .f32⟩
  | .hbm, ⟨4, _⟩ => ⟨S8192x512, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4608, .f32⟩
  | .hbm, ⟨27, _⟩ => ⟨S8192x2048, .f32⟩
  | .hbm, ⟨28, _⟩ => ⟨S8192x512, .f32⟩
  | .hbm, ⟨29, _⟩ => ⟨S8192x2048, .f32⟩
  | .hbm, ⟨30, _⟩ => ⟨S8192x4608, .f32⟩
  | .hbm, ⟨31, _⟩ => ⟨S4608x1024, .f32⟩
  | .hbm, ⟨32, _⟩ => ⟨S1024x4608, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== MixOut.lean ====
abbrev S8192x1024 : Shape := ⟨2, ![8192, 1024]⟩
abbrev S8192x512 : Shape := ⟨2, ![8192, 512]⟩
abbrev S8192x2048 : Shape := ⟨2, ![8192, 2048]⟩
abbrev S512x512 : Shape := ⟨2, ![512, 512]⟩
abbrev S1024x1024 : Shape := ⟨2, ![1024, 1024]⟩
abbrev S512x1024 : Shape := ⟨2, ![512, 1024]⟩
abbrev S1x1024 : Shape := ⟨2, ![1, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 36
  | .vmem => 79
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S512x512, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S512x512, .bf16⟩
  | .hbm, ⟨12, _⟩ => ⟨S1024x1024, .bf16⟩
  | .hbm, ⟨13, _⟩ => ⟨S512x1024, .bf16⟩
  | .hbm, ⟨14, _⟩ => ⟨S1024x1024, .bf16⟩
  | .hbm, ⟨15, _⟩ => ⟨S8192x512, .bf16⟩
  | .hbm, ⟨16, _⟩ => ⟨S8192x512, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x2048, .bf16⟩
  | .hbm, ⟨26, _⟩ => ⟨S8192x1024, .f32⟩
  | .hbm, ⟨27, _⟩ => ⟨S8192x512, .bf16⟩
  | .hbm, ⟨28, _⟩ => ⟨S8192x512, .f32⟩
  | .hbm, ⟨29, _⟩ => ⟨S1x1024, .f32⟩
  | .hbm, ⟨30, _⟩ => ⟨S1024x1024, .f32⟩
  | .hbm, ⟨31, _⟩ => ⟨S1024x1024, .f32⟩
  | .hbm, ⟨32, _⟩ => ⟨S1024x512, .f32⟩
  | .hbm, ⟨33, _⟩ => ⟨S512x512, .f32⟩
  | .hbm, ⟨34, _⟩ => ⟨S8192x2048, .f32⟩
  | .hbm, ⟨35, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S512x512, .bf16⟩
  | .local _ .vmem, ⟨9, _⟩ => ⟨S1024x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x2048, .f32⟩
  | .local _ .vmem, ⟨36, _⟩ => ⟨S512x2048, .f32⟩
  | .local _ .vmem, ⟨37, _⟩ => ⟨S512x512, .f32⟩
  | .local _ .vmem, ⟨38, _⟩ => ⟨S512x512, .f32⟩
  | .local _ .vmem, ⟨39, _⟩ => ⟨S1x1024, .f32⟩
  | .local _ .vmem, ⟨40, _⟩ => ⟨S1024x1024, .bf16⟩
  | .local _ .vmem, ⟨41, _⟩ => ⟨S1024x1024, .bf16⟩
  | .local _ .vmem, ⟨42, _⟩ => ⟨S512x1024, .bf16⟩
  | .local _ .vmem, ⟨43, _⟩ => ⟨S512x512, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x2048, .bf16⟩
  | .local _ .vmem, ⟨51, _⟩ => ⟨S512x2048, .bf16⟩
  | .local _ .vmem, ⟨52, _⟩ => ⟨S512x1024, .f32⟩
  | .local _ .vmem, ⟨53, _⟩ => ⟨S512x1024, .f32⟩
  | .local _ .vmem, ⟨54, _⟩ => ⟨S512x512, .bf16⟩
  | .local _ .vmem, ⟨55, _⟩ => ⟨S512x512, .bf16⟩
  | .local _ .vmem, ⟨56, _⟩ => ⟨S512x512, .f32⟩
  | .local _ .vmem, ⟨57, _⟩ => ⟨S512x512, .f32⟩
  | .local _ .vmem, ⟨58, _⟩ => ⟨S1x1024, .f32⟩
  | .local _ .vmem, ⟨59, _⟩ => ⟨S2048x1024, .bf16⟩
  | .local _ .vmem, ⟨60, _⟩ => ⟨S2048x1024, .bf16⟩
  | .local _ .vmem, ⟨61, _⟩ => ⟨S2048x1024, .bf16⟩
  | .local _ .vmem, ⟨62, _⟩ => ⟨S2048x1024, .bf16⟩
  | .local _ .vmem, ⟨63, _⟩ => ⟨S1024x1024, .f32⟩
  | .local _ .vmem, ⟨64, _⟩ => ⟨S2048x1024, .bf16⟩
  | .local _ .vmem, ⟨65, _⟩ => ⟨S2048x1024, .bf16⟩
  | .local _ .vmem, ⟨66, _⟩ => ⟨S2048x1024, .bf16⟩
  | .local _ .vmem, ⟨67, _⟩ => ⟨S2048x1024, .bf16⟩
  | .local _ .vmem, ⟨68, _⟩ => ⟨S1024x1024, .f32⟩
  | .local _ .vmem, ⟨69, _⟩ => ⟨S2048x1024, .bf16⟩
  | .local _ .vmem, ⟨70, _⟩ => ⟨S2048x1024, .bf16⟩
  | .local _ .vmem, ⟨71, _⟩ => ⟨S2048x512, .bf16⟩
  | .local _ .vmem, ⟨72, _⟩ => ⟨S2048x512, .bf16⟩
  | .local _ .vmem, ⟨73, _⟩ => ⟨S1024x512, .f32⟩
  | .local _ .vmem, ⟨74, _⟩ => ⟨S2048x512, .bf16⟩
  | .local _ .vmem, ⟨75, _⟩ => ⟨S2048x512, .bf16⟩
  | .local _ .vmem, ⟨76, _⟩ => ⟨S2048x512, .bf16⟩
  | .local _ .vmem, ⟨77, _⟩ => ⟨S2048x512, .bf16⟩
  | .local _ .vmem, ⟨78, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v6_3 : Ref sig .tc := ⟨.hbm, 25, rfl⟩
abbrev main_v6_4 : Ref sig .tc := ⟨.hbm, 26, rfl⟩
abbrev main_v6_5 : Ref sig .tc := ⟨.hbm, 27, rfl⟩
abbrev main_v6_6 : Ref sig .tc := ⟨.hbm, 28, rfl⟩
abbrev main_v6_7 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg4_1 : Ref sig .tc := ⟨.vmem, 36, rfl⟩
abbrev cc1_stg5_0 : Ref sig .tc := ⟨.vmem, 37, rfl⟩
abbrev cc1_stg5_1 : Ref sig .tc := ⟨.vmem, 38, rfl⟩
abbrev cc1_stg6_0 : Ref sig .tc := ⟨.vmem, 39, rfl⟩
abbrev cc1_stg7_0 : Ref sig .tc := ⟨.vmem, 40, rfl⟩
abbrev cc1_stg8_0 : Ref sig .tc := ⟨.vmem, 41, rfl⟩
abbrev cc1_stg9_0 : Ref sig .tc := ⟨.vmem, 42, rfl⟩
abbrev cc1_stg10_0 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg15_1 : Ref sig .tc := ⟨.vmem, 53, rfl⟩
abbrev cc1_stg16_0 : Ref sig .tc := ⟨.vmem, 54, rfl⟩
abbrev cc1_stg16_1 : Ref sig .tc := ⟨.vmem, 55, rfl⟩
abbrev cc1_stg17_0 : Ref sig .tc := ⟨.vmem, 56, rfl⟩
abbrev cc1_stg17_1 : Ref sig .tc := ⟨.vmem, 57, rfl⟩
abbrev cc1_stg18_0 : Ref sig .tc := ⟨.vmem, 58, rfl⟩
abbrev cc2_stg0_0 : Ref sig .tc := ⟨.vmem, 59, rfl⟩
abbrev cc2_stg0_1 : Ref sig .tc := ⟨.vmem, 60, rfl⟩
abbrev cc2_stg1_0 : Ref sig .tc := ⟨.vmem, 61, rfl⟩
abbrev cc2_stg1_1 : Ref sig .tc := ⟨.vmem, 62, rfl⟩
abbrev cc2_stg2_0 : Ref sig .tc := ⟨.vmem, 63, rfl⟩
abbrev cc3_stg0_0 : Ref sig .tc := ⟨.vmem, 64, rfl⟩
abbrev cc3_stg0_1 : Ref sig .tc := ⟨.vmem, 65, rfl⟩
abbrev cc3_stg1_0 : Ref sig .tc := ⟨.vmem, 66, rfl⟩
abbrev cc3_stg1_1 : Ref sig .tc := ⟨.vmem, 67, rfl⟩
abbrev cc3_stg2_0 : Ref sig .tc := ⟨.vmem, 68, rfl⟩
abbrev cc4_stg0_0 : Ref sig .tc := ⟨.vmem, 69, rfl⟩
abbrev cc4_stg0_1 : Ref sig .tc := ⟨.vmem, 70, rfl⟩
abbrev cc4_stg1_0 : Ref sig .tc := ⟨.vmem, 71, rfl⟩
abbrev cc4_stg1_1 : Ref sig .tc := ⟨.vmem, 72, rfl⟩
abbrev cc4_stg2_0 : Ref sig .tc := ⟨.vmem, 73, rfl⟩
abbrev cc5_stg0_0 : Ref sig .tc := ⟨.vmem, 74, rfl⟩
abbrev cc5_stg0_1 : Ref sig .tc := ⟨.vmem, 75, rfl⟩
abbrev cc5_stg1_0 : Ref sig .tc := ⟨.vmem, 76, rfl⟩
abbrev cc5_stg1_1 : Ref sig .tc := ⟨.vmem, 77, rfl⟩
abbrev cc5_stg2_0 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem3_1 : DmaSem sig := 34
abbrev cc1_sem4_0 : DmaSem sig := 35
abbrev cc1_sem4_1 : DmaSem sig := 36
abbrev cc1_sem5_0 : DmaSem sig := 37
abbrev cc1_sem5_1 : DmaSem sig := 38
abbrev cc1_sem6_0 : DmaSem sig := 39
abbrev cc1_sem7_0 : DmaSem sig := 40
abbrev cc1_sem8_0 : DmaSem sig := 41
abbrev cc1_sem9_0 : DmaSem sig := 42
abbrev cc1_sem10_0 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58
abbrev cc2_sem0_0 : DmaSem sig := 59
abbrev cc2_sem0_1 : DmaSem sig := 60
abbrev cc2_sem1_0 : DmaSem sig := 61
abbrev cc2_sem1_1 : DmaSem sig := 62
abbrev cc2_sem2_0 : DmaSem sig := 63
abbrev cc3_sem0_0 : DmaSem sig := 64
abbrev cc3_sem0_1 : DmaSem sig := 65
abbrev cc3_sem1_0 : DmaSem sig := 66
abbrev cc3_sem1_1 : DmaSem sig := 67
abbrev cc3_sem2_0 : DmaSem sig := 68
abbrev cc4_sem0_0 : DmaSem sig := 69
abbrev cc4_sem0_1 : DmaSem sig := 70
abbrev cc4_sem1_0 : DmaSem sig := 71
abbrev cc4_sem1_1 : DmaSem sig := 72
abbrev cc4_sem2_0 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev grid2 : Pipeline.Grid := ⟨3, ![1, 1, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 4], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1024x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 4], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== MixOutRefIdeal.lean ====
abbrev S8192x1024 : Shape := ⟨2, ![8192, 1024]⟩
abbrev S8192x512 : Shape := ⟨2, ![8192, 512]⟩
abbrev S8192x2048 : Shape := ⟨2, ![8192, 2048]⟩
abbrev S512x512 : Shape := ⟨2, ![512, 512]⟩
abbrev S1024x1024 : Shape := ⟨2, ![1024, 1024]⟩
abbrev S512x1024 : Shape := ⟨2, ![512, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192x512, .f32⟩
  | 2 => ⟨S8192x2048, .f32⟩
  | 3 => ⟨S8192x1024, .f32⟩
  | 4 => ⟨S512x512, .f32⟩
  | 5 => ⟨S1024x1024, .f32⟩
  | 6 => ⟨S512x1024, .f32⟩
  | 7 => ⟨S1024x1024, .f32⟩
  | 8 => ⟨S1x1024, .f32⟩
  | 9 => ⟨S8192x1024, .f32⟩
  | 10 => ⟨S8192x1024, .f32⟩
  | 11 => ⟨S8192x1024, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S8192x512, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1, .f32⟩
  | 95 => ⟨S8192x1, .f32⟩
  | 96 => ⟨S_, .f32⟩
  | 97 => ⟨S8192x1, .f32⟩
  | 98 => ⟨S8192x1, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1024x1024, .f32⟩
  | 1 => ⟨S1024x1024, .f32⟩
  | 2 => ⟨S8192x1024, .f32⟩
  | 3 => ⟨S8192x1024, .f32⟩
  | 4 => ⟨S8192x1024, .f32⟩
  | 5 => ⟨S1024x512, .f32⟩
  | 6 => ⟨S512x1024, .f32⟩
  | 7 => ⟨S8192x512, .f32⟩
  | 8 => ⟨S8192x1024, .f32⟩
  | 9 => ⟨S8192x1024, .f32⟩
  | 10 => ⟨S8192x1024, .f32⟩
  | 11 => ⟨S1024x1024, .f32⟩
  | 12 => ⟨S1024x1024, .f32⟩
  | 13 => ⟨S8192x1024, .f32⟩
  | 14 => ⟨S8192x1024, .f32⟩
  | 15 => ⟨S8192x512, .f32⟩
  | 16 => ⟨S8192x512, .f32⟩
  | 17 => ⟨S8192x512, .f32⟩
  | 18 => ⟨S512x512, .f32⟩
  | 19 => ⟨S512x512, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S8192x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_v62 : Ref sig .tc := ⟨.hbm, 90, rfl⟩
abbrev main_cst_17 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_23 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_24 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_25 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩

abbrev nD : Nat := 1
abbrev τ : Topo := Topo.v7x

variable {F : FTy → Type} [FloatOps F]
-- ==== Proof.RowGradients.lean ====
/- The mathematics of the cross-attention gradient, row by row, over the extended reals.

   `invRms`, `normed`, `normGrad` describe one row of root-mean-square normalisation and its gradient as the kernel
   computes it, `normGradRef` the gradient as it is written by differentiating the definition. `score`, `prob`,
   `scoreGrad` describe one row of softmax attention and its gradient, `scoreGradRef` the gradient obtained from the
   quotient rule. The two theorems `normGrad_eq_ref` and `scoreGrad_eq_ref` say that both ways agree. -/
module

public import Idealize.ShloMosaic.Lib.Pointwise
public import Mathlib.Data.EReal.Operations

@[expose] public section

noncomputable section

namespace Cert.RowGradients

open Idealize.ShloMosaic

/-! ## The constants of the two programs -/

/-- The number of features of a row, 1024. -/
abbrev width : EReal := Ideal.ofBits .f32 0x44800000#32
/-- The small number added to the mean square. -/
abbrev eps : EReal := Ideal.ofBits .f32 0x358637BD#32
/-- One over the square root of the head dimension, 1/16. -/
abbrev scale : EReal := Ideal.ofBits .f32 0x3D800000#32
/-- Minus infinity, where a running maximum starts. -/
abbrev negInf : EReal := Ideal.ofBits .f32 0xFF800000#32
/-- The exponent of the mean square. -/
abbrev minusHalf : EReal := Ideal.ofBits .f32 0xBF000000#32
/-- One. -/
abbrev one : EReal := Ideal.ofBits .f32 0x3F800000#32

theorem width_eq : width = ((1024 : ℝ) : EReal) := by
  simp [width, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  positivity

theorem scale_eq : scale = ((1 / 16 : ℝ) : EReal) := by
  simp [scale, Ideal.ofBits, Ideal.ieee, -EReal.coe_mul]; norm_num

theorem negInf_eq : negInf = ⊥ := by
  simp [negInf, Ideal.ofBits, Ideal.ieee]

theorem minusHalf_eq : minusHalf = ((-(1 / 2) : ℝ) : EReal) := by
  simp [minusHalf, Ideal.ofBits, Ideal.ieee, -EReal.coe_mul]; norm_num

theorem one_eq : one = 1 := by
  simp [one, Ideal.ofBits, Ideal.ieee, -EReal.coe_mul]; norm_num

/-! ## Extended-real arithmetic -/

/-- A finite sum times a nonnegative real. -/
theorem sum_mul_coe {ι : Type*} (s : Finset ι) (f : ι → EReal) (r : ℝ) (hr : 0 ≤ r) :
    (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- A square is not negative. -/
theorem mul_self_nonneg (a : EReal) : 0 ≤ a * a := by
  rcases le_total 0 a with h | h
  · exact EReal.mul_nonneg h h
  · exact EReal.mul_nonneg_iff.mpr (.inr ⟨h, h⟩)

/-- Twice an extended real. -/
theorem add_self (a : EReal) : a + a = ((2 : ℝ) : EReal) * a := by
  have h := EReal.right_distrib_of_nonneg (a := 1) (b := 1) (c := a) zero_le_one zero_le_one
  rw [one_mul] at h
  rw [← h]
  congr 1
  norm_cast

/-! ## One row of root-mean-square normalisation -/

section Norm

/-- The mean square of a row, plus the small constant. -/
def meanSq (x : Fin 1024 → EReal) : EReal := Ideal.div (∑ j, x j * x j) width + eps

/-- The factor a row is normalised by. -/
def invRms (x : Fin 1024 → EReal) : EReal := Ideal.rsqrt (meanSq x)

/-- The normalised row, before its gain. -/
def normed (x : Fin 1024 → EReal) (j : Fin 1024) : EReal := x j * invRms x

/-- The gradient of the normalisation in its argument, as the kernel computes it: from the row `x`, the gain `g` and
    the gradient `dy` of the result. -/
def normGrad (x g dy : Fin 1024 → EReal) (j : Fin 1024) : EReal :=
  invRms x * (dy j * g j - normed x j * Ideal.div (∑ l, dy l * g l * normed x l) width)

/-- The factor of the row in the gradient through the mean square. -/
def throughMean (x g dy : Fin 1024 → EReal) : EReal :=
  Ideal.div ((∑ l, x l * (dy l * g l)) * (minusHalf * Ideal.div (invRms x) (meanSq x))) width

/-- The gradient of the normalisation, differentiated as it is defined. -/
def normGradRef (x g dy : Fin 1024 → EReal) (j : Fin 1024) : EReal :=
  dy j * g j * invRms x + x j * throughMean x g dy + throughMean x g dy * x j

/-- The normalising factor is a nonnegative real `ρ`, and its quotient by the mean square is `ρ ^ 3`. -/
theorem invRms_real (x : Fin 1024 → EReal) :
    ∃ ρ : ℝ, 0 ≤ ρ ∧ invRms x = (ρ : EReal) ∧ Ideal.div (invRms x) (meanSq x) = ((ρ ^ 3 : ℝ) : EReal) := by
  obtain ⟨e, he, hee⟩ := eps_pos
  have h0 : 0 ≤ ∑ j, x j * x j := Finset.sum_nonneg fun j _ => mul_self_nonneg (x j)
  unfold invRms
  have hms : ∃ t : EReal, 0 ≤ t ∧ meanSq x = t + (e : EReal) := by
    refine ⟨_, ?_, by unfold meanSq; rw [hee]⟩
    rw [width_eq, Ideal.div_coe (by norm_num)]
    exact EReal.mul_nonneg h0 (EReal.coe_nonneg.mpr (by norm_num))
  obtain ⟨t, ht, hm⟩ := hms
  rw [hm]
  induction t with
  | bot => simp at ht
  | top =>
    refine ⟨0, le_rfl, ?_, ?_⟩
    · rw [EReal.top_add_coe]; rfl
    · rw [EReal.top_add_coe]
      simp [Ideal.div, Ideal.rsqrt]
  | coe t =>
    have ht' : 0 ≤ t := EReal.coe_nonneg.mp ht
    have hp : 0 < t + e := by linarith
    have hs : 0 < Real.sqrt (t + e) := Real.sqrt_pos.mpr hp
    refine ⟨(Real.sqrt (t + e))⁻¹, inv_nonneg.mpr hs.le, ?_, ?_⟩
    · rw [← EReal.coe_add, Ideal.rsqrt_coe, if_neg (not_lt.mpr hp.le), if_neg hp.ne']
    · rw [← EReal.coe_add, Ideal.rsqrt_coe, if_neg (not_lt.mpr hp.le), if_neg hp.ne', Ideal.div_coe hp.ne', ← EReal.coe_mul]
      congr 1
      have hq : t + e = Real.sqrt (t + e) ^ 2 := (Real.sq_sqrt hp.le).symm
      rw [one_div]
      conv_lhs => rw [show (t + e)⁻¹ = (Real.sqrt (t + e) ^ 2)⁻¹ by rw [← hq]]
      rw [inv_pow, ← mul_inv, ← pow_succ']

/-- The two ways of writing the gradient of the normalisation agree, whatever the row, the gain and the gradient. -/
theorem normGrad_eq_ref (x g dy : Fin 1024 → EReal) (j : Fin 1024) : normGrad x g dy j = normGradRef x g dy j := by
  obtain ⟨ρ, hρ, hr, hd⟩ := invRms_real x
  have hsum : (∑ l, dy l * g l * normed x l) = (∑ l, x l * (dy l * g l)) * (ρ : EReal) := by
    rw [← sum_mul_coe _ _ ρ hρ]
    refine Finset.sum_congr rfl fun l _ => ?_
    simp only [normed, hr]
    ac_rfl
  unfold normGrad normGradRef throughMean
  rw [hsum, hd, width_eq, Ideal.div_coe (by norm_num), Ideal.div_coe (by norm_num), minusHalf_eq, normed, hr]
  generalize (∑ l, x l * (dy l * g l)) = T
  rw [sub_eq_add_neg, EReal.left_distrib_of_nonneg_of_ne_top (EReal.coe_nonneg.mpr hρ) (EReal.coe_ne_top ρ),
    mul_neg, add_assoc, mul_comm (T * _ * _) (x j), add_self]
  have h1 : (ρ : EReal) * (x j * ρ * (T * ρ * ((1 / 1024 : ℝ) : EReal))) = x j * T * ((ρ ^ 3 / 1024 : ℝ) : EReal) := by
    have : ((ρ ^ 3 / 1024 : ℝ) : EReal) = ρ * ρ * ρ * ((1 / 1024 : ℝ) : EReal) := by
      rw [← EReal.coe_mul, ← EReal.coe_mul, ← EReal.coe_mul]; congr 1; ring
    rw [this]; ac_rfl
  have h2 : ((2 : ℝ) : EReal) * (x j * (T * (((-(1 / 2) : ℝ) : EReal) * ((ρ ^ 3 : ℝ) : EReal)) * ((1 / 1024 : ℝ) : EReal)))
      = -(x j * T * ((ρ ^ 3 / 1024 : ℝ) : EReal)) := by
    have : -((ρ ^ 3 / 1024 : ℝ) : EReal) = ((2 : ℝ) : EReal) * (((-(1 / 2) : ℝ) : EReal) * ((ρ ^ 3 : ℝ) : EReal) * ((1 / 1024 : ℝ) : EReal)) := by
      rw [← EReal.coe_mul, ← EReal.coe_mul, ← EReal.coe_mul, ← EReal.coe_neg]; congr 1; ring
    rw [← mul_neg, this]; ac_rfl
  rw [h1, h2, mul_comm (ρ : EReal)]

end Norm

/-! ## One row of softmax attention -/

section Attention

variable {n d : ℕ}

/-- The scaled scores of a query against the keys. -/
def score (q : Fin d → EReal) (k : Fin n → Fin d → EReal) (i : Fin n) : EReal := (∑ e, q e * k i e) * scale

/-- The largest score. -/
def rowMax (s : Fin n → EReal) : EReal := Finset.univ.fold max negInf s

/-- The exponential of a score less the largest one. -/
def expd (s : Fin n → EReal) (i : Fin n) : EReal := Ideal.exp (s i - rowMax s)

/-- The softmax of a row of scores. -/
def prob (s : Fin n → EReal) (i : Fin n) : EReal := Ideal.div (expd s i) (∑ l, expd s l)

/-- The gradient of the scores, as the kernel computes it: from the probabilities and their gradient. -/
def scoreGrad (p dp : Fin n → EReal) (i : Fin n) : EReal := p i * (dp i - ∑ l, dp l * p l) * scale

/-- The gradient of the scores by the quotient rule. -/
def scoreGradRef (s dp : Fin n → EReal) (i : Fin n) : EReal :=
  (Ideal.div (dp i) (∑ l, expd s l)
    + -(∑ l, dp l * Ideal.div one ((∑ l, expd s l) * (∑ l, expd s l)) * expd s l)) * expd s i * scale

/-- The two ways of writing the gradient of the scores agree when the sum of the exponentials is a positive real. -/
theorem scoreGrad_eq_ref (s dp : Fin n → EReal) (i : Fin n) (σ : ℝ) (hσ : 0 < σ) (h : (∑ l, expd s l) = (σ : EReal)) :
    scoreGrad (prob s) dp i = scoreGradRef s dp i := by
  have hp : ∀ l, prob s l = expd s l * ((1 / σ : ℝ) : EReal) := fun l => by
    unfold prob; rw [h, Ideal.div_coe hσ.ne']
  have h1 : (0 : ℝ) ≤ 1 / σ := by positivity
  have hk : (∑ l, dp l * prob s l) = (∑ l, dp l * expd s l) * ((1 / σ : ℝ) : EReal) := by
    rw [← sum_mul_coe _ _ _ h1]
    exact Finset.sum_congr rfl fun l _ => by rw [hp, mul_assoc]
  have hr : (∑ l, dp l * Ideal.div one ((∑ l, expd s l) * (∑ l, expd s l)) * expd s l)
      = (∑ l, dp l * expd s l) * ((1 / (σ * σ) : ℝ) : EReal) := by
    rw [← sum_mul_coe _ _ _ (by positivity)]
    refine Finset.sum_congr rfl fun l _ => ?_
    rw [h, ← EReal.coe_mul, Ideal.div_coe (by positivity), one_eq, one_mul]
    ac_rfl
  unfold scoreGrad scoreGradRef
  rw [hk, hr, hp, h, Ideal.div_coe hσ.ne']
  generalize (∑ l, dp l * expd s l) = U
  congr 1
  rw [mul_assoc (expd s i), mul_comm (expd s i)]
  congr 1
  rw [sub_eq_add_neg, EReal.left_distrib_of_nonneg_of_ne_top (EReal.coe_nonneg.mpr h1) (EReal.coe_ne_top _), mul_comm _ (dp i)]
  congr 1
  rw [mul_neg]
  congr 1
  rw [mul_comm, mul_assoc, ← EReal.coe_mul]
  congr 2
  field_simp

end Attention

/-! ## One row of the cross-attention, its four heads side by side -/

section Heads

/-- The feature of index `e` of head `h`. -/
def col (h : Fin 4) (e : Fin 256) : Fin 1024 := ⟨256 * h.val + e.val, by omega⟩

/-- The head that a feature belongs to. -/
def headIx (j : Fin 1024) : Fin 4 := ⟨j.val / 256, by omega⟩

theorem headIx_col (h : Fin 4) (e : Fin 256) : headIx (col h e) = h := by
  apply Fin.ext
  simp only [headIx, col]
  omega

/-- A row times the transpose of a matrix. -/
def timesT (a : Fin 1024 → EReal) (w : Fin 1024 → Fin 1024 → EReal) (j : Fin 1024) : EReal := ∑ l, a l * w j l

variable (q dO : Fin 1024 → EReal) (K V : Fin 256 → Fin 1024 → EReal)

/-- The attention probabilities of head `h`. -/
def headProb (h : Fin 4) (i : Fin 256) : EReal := prob (score (fun e => q (col h e)) (fun l e => K l (col h e))) i

/-- The gradient of the probabilities of head `h`. -/
def probGrad (h : Fin 4) (i : Fin 256) : EReal := ∑ e, dO (col h e) * V i (col h e)

/-- The gradient of the scores of head `h`. -/
def headGrad (h : Fin 4) (i : Fin 256) : EReal := scoreGrad (headProb q K h) (probGrad dO V h) i

/-- The gradient of the query row. -/
def queryGrad (j : Fin 1024) : EReal := ∑ i, headGrad q dO K V (headIx j) i * K i j

end Heads

/-! ## Finite values -/

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

theorem IsReal.sum {ι : Type*} (s : Finset ι) (f : ι → EReal) (h : ∀ i, IsReal (f i)) : IsReal (∑ i ∈ s, f i) := by
  choose g hg using h
  refine ⟨∑ i ∈ s, g i, ?_⟩
  simp only [hg]
  classical
  induction s using Finset.induction_on with
  | empty => simp
  | insert a s ha ih => rw [Finset.sum_insert ha, Finset.sum_insert ha, EReal.coe_add, ih]

theorem isReal_of_abs {a : EReal} (h : a < ⊤) (h' : -a < ⊤) : IsReal a := by
  induction a with
  | bot => simp at h'
  | top => simp at h
  | coe r => exact ⟨r, rfl⟩

theorem normed_isReal (x : Fin 1024 → EReal) (hx : ∀ j, IsReal (x j)) (j : Fin 1024) : IsReal (normed x j) := by
  obtain ⟨ρ, _, hr, _⟩ := invRms_real x
  exact (hx j).mul ⟨ρ, hr⟩

section Softmax

variable {n d : ℕ}

theorem score_isReal (q : Fin d → EReal) (k : Fin n → Fin d → EReal) (hq : ∀ e, IsReal (q e)) (hk : ∀ i e, IsReal (k i e))
    (i : Fin n) : IsReal (score q k i) :=
  (IsReal.sum _ _ fun e => (hq e).mul (hk i e)).mul ⟨_, scale_eq⟩

theorem rowMax_isReal (s : Fin (n + 1) → EReal) (hs : ∀ i, IsReal (s i)) : IsReal (rowMax s) := by
  choose f hf using hs
  refine isReal_of_abs ?_ ?_
  · unfold rowMax
    rw [Finset.fold_max_lt]
    exact ⟨by rw [negInf_eq]; exact bot_lt_top, fun i _ => by rw [hf]; exact EReal.coe_lt_top _⟩
  · have h : s 0 ≤ rowMax s := (Finset.le_fold_max _).mpr (.inr ⟨0, Finset.mem_univ _, le_rfl⟩)
    have : ⊥ < rowMax s := lt_of_lt_of_le (by rw [hf]; exact EReal.bot_lt_coe _) h
    rw [← EReal.neg_bot]
    exact EReal.neg_lt_neg_iff.mpr this

/-- The exponentials of a row of real scores sum to a positive real. -/
theorem sum_expd_pos (s : Fin (n + 1) → EReal) (hs : ∀ i, IsReal (s i)) :
    ∃ σ : ℝ, 0 < σ ∧ (∑ l, expd s l) = (σ : EReal) := by
  have h : ∀ i, ∃ r : ℝ, s i - rowMax s = (r : EReal) := fun i => (hs i).sub (rowMax_isReal s hs)
  choose f hf using h
  refine ⟨∑ l, Real.exp (f l), Finset.sum_pos (fun i _ => Real.exp_pos _) Finset.univ_nonempty, ?_⟩
  have : ∀ l, expd s l = ((Real.exp (f l) : ℝ) : EReal) := fun l => by unfold expd; rw [hf, Ideal.exp_coe]
  simp only [this]
  generalize (Finset.univ : Finset (Fin (n + 1))) = t
  induction t using Finset.induction_on with
  | empty => simp
  | insert a s ha ih => rw [Finset.sum_insert ha, Finset.sum_insert ha, EReal.coe_add, ih]

end Softmax

end Cert.RowGradients

end
-- ==== Proof.Payloads.lean ====
/- What one grid point of the kernel computes, read at an index: the normalisation gradients, the four heads, and the
   sums over the rows of the block, each in terms of the row functions of `RowGradients`. -/
module

public import proofs.«01_k».proof.Proof.Gen.BAttnIdeal.Skeleton
public import proofs.«01_k».proof.Proof.RowGradients
public import Idealize.ShloMosaic.Lib.Pipeline.ValueKit

@[expose] public section

set_option maxRecDepth 16384

noncomputable section

namespace Cert.BAttnIdeal.Gradient

open Cert.BAttnIdeal Cert.BAttnIdeal.Gen Idealize.ShloMosaic Cert.RowGradients

/-! ## The normalisation after the attention -/

section Post

variable (x0 x1 : FVec Ideal S512x1024 .f32) (x4 y : FVec Ideal S1x1024 .f32) (x5 : FVec Ideal S1024x1024 .bf16)

/-- The gradient of the attention's output rows, as a block. -/
abbrev daoB : FVec Ideal S512x1024 .bf16 := k0_pay14 (k0_pay8 x1) (k0_pay9 x1) (k0_pay10 x0 x4) (k0_pay11 x0 x1 x4) k0_pay12

/-- … times the transpose of the output projection. -/
abbrev doB : FVec Ideal S512x1024 .f32 := k0_pay15 (k0_pay8 x1) (k0_pay9 x1) (k0_pay10 x0 x4) (k0_pay11 x0 x1 x4) k0_pay12 x5

theorem daoB_apply (r : Fin 512) (j : Fin 1024) :
    daoB x0 x1 x4 (ix2 r j) = normGrad (fun l => x1 (ix2 r l)) (fun l => x4 (ix2 0 l)) (fun l => x0 (ix2 r l)) j := by
  simp only [normGrad, normed, invRms, meanSq]
  pointwise [k0_pay14, k0_pay8, k0_pay9, k0_pay10, k0_pay11, k0_pay12, k0_pay7]

theorem doB_apply (r : Fin 512) (j : Fin 1024) :
    doB x0 x1 x4 x5 (ix2 r j)
      = timesT (normGrad (fun l => x1 (ix2 r l)) (fun l => x4 (ix2 0 l)) (fun l => x0 (ix2 r l))) (fun a b => x5 (ix2 a b)) j := by
  simp only [timesT, ← daoB_apply]
  unfold doB daoB
  generalize k0_pay8 (F := Ideal) x1 = a
  generalize k0_pay9 (F := Ideal) x1 = b
  generalize k0_pay10 (F := Ideal) x0 x4 = c
  generalize k0_pay11 (F := Ideal) x0 x1 x4 = d
  unfold k0_pay15
  generalize k0_pay14 (F := Ideal) a b c d k0_pay12 = e
  pointwise

theorem gainPost_apply (j : Fin 1024) :
    k0_pay13 x0 (k0_pay9 x1) y (ix2 0 j) = y (ix2 0 j) + ∑ r : Fin 512, x0 (ix2 r j) * normed (fun l => x1 (ix2 r l)) j := by
  simp only [normed, invRms, meanSq]
  pointwise [k0_pay13, k0_pay8, k0_pay9, k0_pay7]

end Post

/-! ## One head -/

section Head

variable (ql : FVec Ideal S512x256 .bf16) (kl vl : FVec Ideal S256x256 .bf16) (p : FVec Ideal S512x256 .f32) (dol : FVec Ideal S512x256 .bf16)
  (acc : FVec Ideal S256x256 .f32)

theorem prob_apply (r : Fin 512) (i : Fin 256) :
    k0_pay18 (F := Ideal) ql kl (ix2 r i) = prob (score (fun e => ql (ix2 r e)) (fun l e => kl (ix2 l e))) i := by
  simp only [prob, expd, rowMax, score]
  pointwise [k0_pay18, k0_pay16, k0_pay17]
  rfl

theorem scoreGrad_apply (r : Fin 512) (i : Fin 256) :
    k0_pay21 (F := Ideal) p dol (k0_pay20 vl) (ix2 r i)
      = scoreGrad (fun l => p (ix2 r l)) (fun l => ∑ e : Fin 256, dol (ix2 r e) * vl (ix2 l e)) i := by
  simp only [scoreGrad]
  pointwise [k0_pay21, k0_pay20]

theorem queryGrad_apply (r : Fin 512) (e : Fin 256) :
    k0_pay22 (F := Ideal) (k0_pay17 kl) p dol (k0_pay20 vl) (ix2 r e)
      = ∑ i : Fin 256, scoreGrad (fun l => p (ix2 r l)) (fun l => ∑ e : Fin 256, dol (ix2 r e) * vl (ix2 l e)) i * kl (ix2 i e) := by
  simp only [← scoreGrad_apply]
  unfold k0_pay22
  generalize k0_pay21 (F := Ideal) p dol (k0_pay20 vl) = s
  pointwise [k0_pay17]

theorem keyGrad_apply (i e : Fin 256) :
    k0_pay23 (F := Ideal) (k0_pay16 ql) p dol (k0_pay20 vl) acc (ix2 i e)
      = acc (ix2 i e) + ∑ r : Fin 512, scoreGrad (fun l => p (ix2 r l)) (fun l => ∑ e : Fin 256, dol (ix2 r e) * vl (ix2 l e)) i * ql (ix2 r e) := by
  simp only [← scoreGrad_apply]
  unfold k0_pay23
  generalize k0_pay21 (F := Ideal) p dol (k0_pay20 vl) = s
  pointwise [k0_pay16]

theorem valueGrad_apply (i e : Fin 256) :
    k0_pay24 (F := Ideal) p dol acc (ix2 i e) = acc (ix2 i e) + ∑ r : Fin 512, p (ix2 r i) * dol (ix2 r e) := by
  pointwise [k0_pay24]

end Head

/-! ## The normalisation before the attention -/

section Pre

variable (x0 x2 dq : FVec Ideal S512x1024 .f32) (x7 y : FVec Ideal S1x1024 .f32) (dqb : FVec Ideal S512x1024 .bf16) (x6 : FVec Ideal S1024x1024 .bf16)

theorem hidden_apply (r : Fin 512) (j : Fin 1024) :
    k0_pay51 (F := Ideal) dqb x6 (ix2 r j) = timesT (fun l => dqb (ix2 r l)) (fun a b => x6 (ix2 a b)) j := by
  simp only [timesT]
  pointwise [k0_pay51]

theorem inputGrad_apply (r : Fin 512) (j : Fin 1024) :
    k0_pay2 (F := Ideal) x0 (k0_pay52 x2) (k0_pay53 x2) (k0_pay54 dqb x6 x7) (k0_pay55 dqb x6 x2 x7) (ix2 r j)
      = x0 (ix2 r j) + normGrad (fun l => x2 (ix2 r l)) (fun l => x7 (ix2 0 l))
          (timesT (fun l => dqb (ix2 r l)) (fun a b => x6 (ix2 a b))) j := by
  simp only [normGrad, normed, invRms, meanSq, ← hidden_apply]
  unfold k0_pay54 k0_pay55 k0_pay54
  generalize k0_pay51 (F := Ideal) dqb x6 = h
  pointwise [k0_pay2, k0_pay52, k0_pay53]

theorem gainPre_apply (j : Fin 1024) :
    k0_pay1 (F := Ideal) (k0_pay51 dqb x6) (k0_pay53 x2) y (ix2 0 j)
      = y (ix2 0 j) + ∑ r : Fin 512, timesT (fun l => dqb (ix2 r l)) (fun a b => x6 (ix2 a b)) j * normed (fun l => x2 (ix2 r l)) j := by
  simp only [normed, invRms, meanSq, ← hidden_apply]
  generalize k0_pay51 (F := Ideal) dqb x6 = h
  pointwise [k0_pay1, k0_pay52, k0_pay53]

end Pre

end Cert.BAttnIdeal.Gradient

end
-- ==== Proof.Heads.lean ====
/- The four heads of one grid point side by side: what the kernel stores through its four column slices, read at a
   feature of the whole row. -/
module

public import proofs.«01_k».proof.Proof.Payloads
public import Idealize.ShloMosaic.Lib.Pipeline.ReadBack

@[expose] public section

set_option maxRecDepth 16384

noncomputable section

namespace Cert.BAttnIdeal.Gradient

open Cert.BAttnIdeal Cert.BAttnIdeal.Gen Idealize.ShloMosaic Cert.RowGradients

/-! ## A head's slice of a block -/

/-- A load of the columns from `o` on, of a block of rows. -/
theorem ld_cols {a : ℕ} {Val : EltTy → Type} {el : EltTy} (X : (⟨2, ![a, 1024]⟩ : Shape).Idx → Val el) (o : ℕ) (inb)
    (h : Fin 4) (ho : o = 256 * h.val) (r : Fin a) (e : Fin 256) :
    View.ld X (Rect.unit (s := ⟨2, ![a, 1024]⟩) ![0, o] ![a, 256] inb) (ix2 r e) = X (ix2 r (col h e)) := by
  refine View.ld_unit_apply_of X _ _ inb _ _ fun b => ?_
  subst ho
  match b with
  | 0 => exact (Nat.zero_add r.val).symm
  | 1 => rfl

section Pieces

variable (ql : FVec Ideal S512x256 .bf16) (kl vl : FVec Ideal S256x256 .bf16) (dol : FVec Ideal S512x256 .bf16)
  (acc : FVec Ideal S256x256 .f32) (q dO : Fin 512 → Fin 1024 → EReal) (K V : Fin 256 → Fin 1024 → EReal) (h : Fin 4)
  (hq : ∀ r e, ql (ix2 r e) = q r (col h e)) (hd : ∀ r e, dol (ix2 r e) = dO r (col h e))
  (hk : ∀ r e, kl (ix2 r e) = K r (col h e)) (hv : ∀ r e, vl (ix2 r e) = V r (col h e))

include hq hk in
theorem headProb_eq (r : Fin 512) (i : Fin 256) : k0_pay18 (F := Ideal) ql kl (ix2 r i) = headProb (q r) K h i := by
  rw [prob_apply]
  simp only [hq, hk, headProb]

include hq hk hd hv in
theorem headGrad_eq (r : Fin 512) (i : Fin 256) :
    scoreGrad (fun l => k0_pay18 (F := Ideal) ql kl (ix2 r l)) (fun l => ∑ e : Fin 256, dol (ix2 r e) * vl (ix2 l e)) i
      = headGrad (q r) (dO r) K V h i := by
  simp only [headProb_eq ql kl q K h hq hk, hd, hv]
  rfl

include hq hk hd hv in
theorem queryPiece (r : Fin 512) (e : Fin 256) :
    k0_pay22 (k0_pay17 kl) (k0_pay18 (F := Ideal) ql kl) dol (k0_pay20 vl) (ix2 r e) = queryGrad (q r) (dO r) K V (col h e) := by
  rw [queryGrad_apply]
  simp only [headGrad_eq ql kl vl dol q dO K V h hq hd hk hv, hk, queryGrad, headIx_col]

include hq hk hd hv in
theorem keyPiece (i e : Fin 256) :
    k0_pay23 (k0_pay16 ql) (k0_pay18 (F := Ideal) ql kl) dol (k0_pay20 vl) acc (ix2 i e)
      = acc (ix2 i e) + ∑ r, headGrad (q r) (dO r) K V (headIx (col h e)) i * q r (col h e) := by
  rw [keyGrad_apply]
  simp only [headGrad_eq ql kl vl dol q dO K V h hq hd hk hv, hq, headIx_col]

include hq hk hd in
theorem valuePiece (i e : Fin 256) :
    k0_pay24 (k0_pay18 (F := Ideal) ql kl) dol acc (ix2 i e)
      = acc (ix2 i e) + ∑ r, headProb (q r) K (headIx (col h e)) i * dO r (col h e) := by
  rw [valueGrad_apply]
  simp only [headProb_eq ql kl q K h hq hk, hd, headIx_col]

end Pieces

/-- A head's slice of the block that the output projection's transpose gives. -/
theorem slice_cols (D : FVec Ideal S512x1024 .f32) (o : ℕ) (hs : S512x1024.Slices ![0, o] S512x256) (hb) (h : Fin 4) (ho : o = 256 * h.val)
    (r : Fin 512) (e : Fin 256) :
    truncf (F := Ideal) .bf16 (extractStridedSlice S512x256 ![0, o] D hs) hb (ix2 r e) = D (ix2 r (col h e)) := by
  subst ho
  show D _ = D _
  congr 1
  funext b
  match b with
  | 0 => exact Fin.ext (Nat.zero_add r.val)
  | 1 => rfl

/-- An index of a row of 1024 features, from its head's slice. -/
theorem eq_ix2_col {a : ℕ} (y : (⟨2, ![a, 1024]⟩ : Shape).Idx) (r : Fin a) (e : Fin 256) (h : Fin 4) (hr : (y 0).val = r.val)
    (he : (y 1).val = 256 * h.val + e.val) : y = ix2 r (col h e) := by
  funext b
  match b with
  | 0 => exact Fin.ext hr
  | 1 => exact Fin.ext he

theorem exists_col (j : Fin 1024) : ∃ h e, j = col h e :=
  ⟨headIx j, ⟨j.val % 256, by omega⟩, Fin.ext (by simp only [headIx, col]; omega)⟩

/-- Where a head's slice of the columns lies. -/
theorem emb_cols {a : ℕ} (o : ℕ) (inb) (h : Fin 4) (ho : o = 256 * h.val) (r : Fin a) (e : Fin 256) :
    (Rect.unit (s := ⟨2, ![a, 1024]⟩) ![0, o] ![a, 256] inb).emb (ix2 r e) = ix2 r (col h e) := by
  subst ho
  refine eq_ix2_col _ r e h ?_ ?_
  · exact (Rect.emb_apply _ _ 0).trans ((congrArg (0 + ·) (Nat.one_mul r.val)).trans (Nat.zero_add _))
  · exact (Rect.emb_apply _ _ 1).trans (congrArg (256 * h.val + ·) (Nat.one_mul e.val))

/-- Four stores, one per head's slice of the columns, over any earlier stores: what they leave. -/
theorem canon_heads {a : ℕ} {Val : EltTy → Type} {el : EltTy} [∀ e, Nonempty (Val e)] (G : Fin a → Fin 1024 → Val el)
    (i0 i1 i2 i3) (p0 p1 p2 p3 : (⟨2, ![a, 256]⟩ : Shape).Idx → Val el) (L : List (View.Piece Val ⟨2, ![a, 1024]⟩ el))
    (h0 : ∀ r e, p0 (ix2 r e) = G r (col 0 e)) (h1 : ∀ r e, p1 (ix2 r e) = G r (col 1 e))
    (h2 : ∀ r e, p2 (ix2 r e) = G r (col 2 e)) (h3 : ∀ r e, p3 (ix2 r e) = G r (col 3 e)) (r : Fin a) (j : Fin 1024) :
    View.canon ((⟨Rect.unit (s := ⟨2, ![a, 1024]⟩) ![0, 768] ![a, 256] i3, p3⟩ : View.Piece Val ⟨2, ![a, 1024]⟩ el)
        :: ⟨Rect.unit (s := ⟨2, ![a, 1024]⟩) ![0, 512] ![a, 256] i2, p2⟩ :: ⟨Rect.unit (s := ⟨2, ![a, 1024]⟩) ![0, 256] ![a, 256] i1, p1⟩
        :: ⟨Rect.unit (s := ⟨2, ![a, 1024]⟩) ![0, 0] ![a, 256] i0, p0⟩ :: L) (ix2 r j) = G r j := by
  let G' : (⟨2, ![a, 1024]⟩ : Shape).Idx → Val el := fun y => G (y 0) (y 1)
  have key : ∀ (o : ℕ) (h : Fin 4) (ho : o = 256 * h.val) (inb) (p : (⟨2, ![a, 256]⟩ : Shape).Idx → Val el)
      (hp : ∀ r e, p (ix2 r e) = G r (col h e)) (x : (⟨2, ![a, 256]⟩ : Shape).Idx),
      p x = G' ((Rect.unit (s := ⟨2, ![a, 1024]⟩) ![0, o] ![a, 256] inb).emb x) := by
    intro o h ho inb p hp x
    obtain ⟨r, e, rfl⟩ : ∃ (r : Fin a) (e : Fin 256), x = ix2 r e := ⟨x 0, x 1, eq_ix2 x⟩
    exact (hp r e).trans (congrArg G' (emb_cols o inb h ho r e)).symm
  obtain ⟨h, e, rfl⟩ := exists_col j
  have mem : ∀ (o : ℕ) (ho : o = 256 * h.val) (inb), ix2 r (col h e) ∈ (Rect.unit (s := ⟨2, ![a, 1024]⟩) ![0, o] ![a, 256] inb).set :=
    fun o ho inb => emb_cols o inb h ho r e ▸ (Rect.unit (s := ⟨2, ![a, 1024]⟩) ![0, o] ![a, 256] inb).idx_mem (ix2 r e)
  refine View.canon_append_of_piecesOf G' L
    [(⟨Rect.unit (s := ⟨2, ![a, 1024]⟩) ![0, 768] ![a, 256] i3, p3⟩ : View.Piece Val ⟨2, ![a, 1024]⟩ el),
      ⟨Rect.unit (s := ⟨2, ![a, 1024]⟩) ![0, 512] ![a, 256] i2, p2⟩, ⟨Rect.unit (s := ⟨2, ![a, 1024]⟩) ![0, 256] ![a, 256] i1, p1⟩,
      ⟨Rect.unit (s := ⟨2, ![a, 1024]⟩) ![0, 0] ![a, 256] i0, p0⟩]
    ⟨key 768 3 rfl i3 p3 h3, key 512 2 rfl i2 p2 h2, key 256 1 rfl i1 p1 h1, key 0 0 rfl i0 p0 h0, trivial⟩ (ix2 r (col h e)) ?_
  match h, mem with
  | 0, mem => exact ⟨_, .tail _ (.tail _ (.tail _ (.head _))), mem 0 rfl i0⟩
  | 1, mem => exact ⟨_, .tail _ (.tail _ (.head _)), mem 256 rfl i1⟩
  | 2, mem => exact ⟨_, .tail _ (.head _), mem 512 rfl i2⟩
  | 3, mem => exact ⟨_, .head _, mem 768 rfl i3⟩

end Cert.BAttnIdeal.Gradient

end
-- ==== Proof.Stores.lean ====
/- The kernel writes its four heads out one after the other. Each head's stores are the first head's computation on
   that head's slices, so each has the first head's value. -/
module

public import proofs.«01_k».proof.Proof.Heads

@[expose] public section

set_option maxRecDepth 16384

noncomputable section

namespace Cert.BAttnIdeal.Gradient

open Cert.BAttnIdeal Cert.BAttnIdeal.Gen Idealize.ShloMosaic Cert.RowGradients

section Eqs

variable (D : FVec Ideal S512x1024 .f32) (ql : FVec Ideal S512x256 .bf16) (kl vl : FVec Ideal S256x256 .bf16)
  (acc : FVec Ideal S256x256 .f32)

theorem query1_eq : k0_pay32 D (k0_pay26 kl) (k0_pay27 ql kl) (k0_pay28 ql kl) vl
    = k0_pay22 (k0_pay17 kl) (k0_pay18 ql kl) (k0_pay30 D) (k0_pay20 vl) := rfl
theorem query2_eq : k0_pay40 D (k0_pay35 ql) kl vl = k0_pay22 (k0_pay17 kl) (k0_pay18 ql kl) (k0_pay38 D) (k0_pay20 vl) := rfl
theorem query3_eq : k0_pay48 D ql kl vl = k0_pay22 (k0_pay17 kl) (k0_pay18 ql kl) (k0_pay46 D) (k0_pay20 vl) := rfl
theorem key1_eq : k0_pay33 D (k0_pay25 ql) (k0_pay27 ql kl) (k0_pay28 ql kl) vl acc
    = k0_pay23 (k0_pay16 ql) (k0_pay18 ql kl) (k0_pay30 D) (k0_pay20 vl) acc := rfl
theorem key2_eq : k0_pay41 D (k0_pay35 ql) kl vl acc
    = k0_pay23 (k0_pay16 ql) (k0_pay18 ql kl) (k0_pay38 D) (k0_pay20 vl) acc := rfl
theorem key3_eq : k0_pay49 (k0_pay43 ql) (k0_pay47 D ql kl vl) acc
    = k0_pay23 (k0_pay16 ql) (k0_pay18 ql kl) (k0_pay46 D) (k0_pay20 vl) acc := rfl
theorem value1_eq : k0_pay34 D (k0_pay27 ql kl) (k0_pay28 ql kl) acc = k0_pay24 (k0_pay18 ql kl) (k0_pay30 D) acc := rfl
theorem value2_eq : k0_pay42 (k0_pay37 (k0_pay35 ql) kl) (k0_pay38 D) acc = k0_pay24 (k0_pay18 ql kl) (k0_pay38 D) acc := rfl
theorem value3_eq : k0_pay50 (k0_pay45 ql kl) (k0_pay46 D) acc = k0_pay24 (k0_pay18 ql kl) (k0_pay46 D) acc := rfl

end Eqs

section Stores

variable (x0 x1 : FVec Ideal S512x1024 .f32) (x4 : FVec Ideal S1x1024 .f32) (x5 : FVec Ideal S1024x1024 .bf16)
  (x3 : FVec Ideal S512x1024 .bf16) (x8 x9 : FVec Ideal S256x1024 .bf16) (y : FVec Ideal S256x1024 .f32)

/-- The rows of the queries, of the heads' output gradients, of the keys, of the values. -/
abbrev rowsQ (r : Fin 512) (l : Fin 1024) : EReal := x3 (ix2 r l)
abbrev rowsD (r : Fin 512) : Fin 1024 → EReal :=
  timesT (normGrad (fun l => x1 (ix2 r l)) (fun l => x4 (ix2 0 l)) (fun l => x0 (ix2 r l))) (fun a b => x5 (ix2 a b))
abbrev rowsK (i : Fin 256) (l : Fin 1024) : EReal := x8 (ix2 i l)

/-- The first head's slice of the heads' output gradients. -/
abbrev doSlice0 : FVec Ideal S512x256 .bf16 :=
  k0_pay19 (k0_pay8 x1) (k0_pay9 x1) (k0_pay10 x0 x4) (k0_pay11 x0 x1 x4) k0_pay12 x5

theorem slice0 (r : Fin 512) (e : Fin 256) : doSlice0 x0 x1 x4 x5 (ix2 r e) = rowsD x0 x1 x4 x5 r (col 0 e) :=
  (slice_cols (doB x0 x1 x4 x5) 0 _ _ 0 rfl r e).trans (doB_apply x0 x1 x4 x5 r _)
theorem slice1 (r : Fin 512) (e : Fin 256) : k0_pay30 (F := Ideal) (doB x0 x1 x4 x5) (ix2 r e) = rowsD x0 x1 x4 x5 r (col 1 e) :=
  (slice_cols (doB x0 x1 x4 x5) 256 _ _ 1 rfl r e).trans (doB_apply x0 x1 x4 x5 r _)
theorem slice2 (r : Fin 512) (e : Fin 256) : k0_pay38 (F := Ideal) (doB x0 x1 x4 x5) (ix2 r e) = rowsD x0 x1 x4 x5 r (col 2 e) :=
  (slice_cols (doB x0 x1 x4 x5) 512 _ _ 2 rfl r e).trans (doB_apply x0 x1 x4 x5 r _)
theorem slice3 (r : Fin 512) (e : Fin 256) : k0_pay46 (F := Ideal) (doB x0 x1 x4 x5) (ix2 r e) = rowsD x0 x1 x4 x5 r (col 3 e) :=
  (slice_cols (doB x0 x1 x4 x5) 768 _ _ 3 rfl r e).trans (doB_apply x0 x1 x4 x5 r _)

/-! A head's slices of the blocks. -/

abbrev ldQ0 : FVec Ideal S512x256 .bf16 := View.ld (Val := Elt Ideal) (e' := EltTy.bf16) x3 (Rect.unit (s := S512x1024) ![0, 0] S512x256.size inb_S512x1024_S512x256_0_0)
theorem ldQ0_apply (r : Fin 512) (e : Fin 256) : ldQ0 x3 (ix2 r e) = x3 (ix2 r (col 0 e)) :=
  ld_cols (a := 512) (Val := Elt Ideal) (el := .bf16) x3 0 inb_S512x1024_S512x256_0_0 0 rfl r e
abbrev ldK0 : FVec Ideal S256x256 .bf16 := View.ld (Val := Elt Ideal) (e' := EltTy.bf16) x8 (Rect.unit (s := S256x1024) ![0, 0] S256x256.size inb_S256x1024_S256x256_0_0)
theorem ldK0_apply (r : Fin 256) (e : Fin 256) : ldK0 x8 (ix2 r e) = x8 (ix2 r (col 0 e)) :=
  ld_cols (a := 256) (Val := Elt Ideal) (el := .bf16) x8 0 inb_S256x1024_S256x256_0_0 0 rfl r e
abbrev ldA0 : FVec Ideal S256x256 .f32 := View.ld (Val := Elt Ideal) (e' := EltTy.f32) y (Rect.unit (s := S256x1024) ![0, 0] S256x256.size inb_S256x1024_S256x256_0_0)
theorem ldA0_apply (r : Fin 256) (e : Fin 256) : ldA0 y (ix2 r e) = y (ix2 r (col 0 e)) :=
  ld_cols (a := 256) (Val := Elt Ideal) (el := .f32) y 0 inb_S256x1024_S256x256_0_0 0 rfl r e
abbrev ldQ1 : FVec Ideal S512x256 .bf16 := View.ld (Val := Elt Ideal) (e' := EltTy.bf16) x3 (Rect.unit (s := S512x1024) ![0, 256] S512x256.size inb_S512x1024_S512x256_0_256)
theorem ldQ1_apply (r : Fin 512) (e : Fin 256) : ldQ1 x3 (ix2 r e) = x3 (ix2 r (col 1 e)) :=
  ld_cols (a := 512) (Val := Elt Ideal) (el := .bf16) x3 256 inb_S512x1024_S512x256_0_256 1 rfl r e
abbrev ldK1 : FVec Ideal S256x256 .bf16 := View.ld (Val := Elt Ideal) (e' := EltTy.bf16) x8 (Rect.unit (s := S256x1024) ![0, 256] S256x256.size inb_S256x1024_S256x256_0_256)
theorem ldK1_apply (r : Fin 256) (e : Fin 256) : ldK1 x8 (ix2 r e) = x8 (ix2 r (col 1 e)) :=
  ld_cols (a := 256) (Val := Elt Ideal) (el := .bf16) x8 256 inb_S256x1024_S256x256_0_256 1 rfl r e
abbrev ldA1 : FVec Ideal S256x256 .f32 := View.ld (Val := Elt Ideal) (e' := EltTy.f32) y (Rect.unit (s := S256x1024) ![0, 256] S256x256.size inb_S256x1024_S256x256_0_256)
theorem ldA1_apply (r : Fin 256) (e : Fin 256) : ldA1 y (ix2 r e) = y (ix2 r (col 1 e)) :=
  ld_cols (a := 256) (Val := Elt Ideal) (el := .f32) y 256 inb_S256x1024_S256x256_0_256 1 rfl r e
abbrev ldQ2 : FVec Ideal S512x256 .bf16 := View.ld (Val := Elt Ideal) (e' := EltTy.bf16) x3 (Rect.unit (s := S512x1024) ![0, 512] S512x256.size inb_S512x1024_S512x256_0_512)
theorem ldQ2_apply (r : Fin 512) (e : Fin 256) : ldQ2 x3 (ix2 r e) = x3 (ix2 r (col 2 e)) :=
  ld_cols (a := 512) (Val := Elt Ideal) (el := .bf16) x3 512 inb_S512x1024_S512x256_0_512 2 rfl r e
abbrev ldK2 : FVec Ideal S256x256 .bf16 := View.ld (Val := Elt Ideal) (e' := EltTy.bf16) x8 (Rect.unit (s := S256x1024) ![0, 512] S256x256.size inb_S256x1024_S256x256_0_512)
theorem ldK2_apply (r : Fin 256) (e : Fin 256) : ldK2 x8 (ix2 r e) = x8 (ix2 r (col 2 e)) :=
  ld_cols (a := 256) (Val := Elt Ideal) (el := .bf16) x8 512 inb_S256x1024_S256x256_0_512 2 rfl r e
abbrev ldA2 : FVec Ideal S256x256 .f32 := View.ld (Val := Elt Ideal) (e' := EltTy.f32) y (Rect.unit (s := S256x1024) ![0, 512] S256x256.size inb_S256x1024_S256x256_0_512)
theorem ldA2_apply (r : Fin 256) (e : Fin 256) : ldA2 y (ix2 r e) = y (ix2 r (col 2 e)) :=
  ld_cols (a := 256) (Val := Elt Ideal) (el := .f32) y 512 inb_S256x1024_S256x256_0_512 2 rfl r e
abbrev ldQ3 : FVec Ideal S512x256 .bf16 := View.ld (Val := Elt Ideal) (e' := EltTy.bf16) x3 (Rect.unit (s := S512x1024) ![0, 768] S512x256.size inb_S512x1024_S512x256_0_768)
theorem ldQ3_apply (r : Fin 512) (e : Fin 256) : ldQ3 x3 (ix2 r e) = x3 (ix2 r (col 3 e)) :=
  ld_cols (a := 512) (Val := Elt Ideal) (el := .bf16) x3 768 inb_S512x1024_S512x256_0_768 3 rfl r e
abbrev ldK3 : FVec Ideal S256x256 .bf16 := View.ld (Val := Elt Ideal) (e' := EltTy.bf16) x8 (Rect.unit (s := S256x1024) ![0, 768] S256x256.size inb_S256x1024_S256x256_0_768)
theorem ldK3_apply (r : Fin 256) (e : Fin 256) : ldK3 x8 (ix2 r e) = x8 (ix2 r (col 3 e)) :=
  ld_cols (a := 256) (Val := Elt Ideal) (el := .bf16) x8 768 inb_S256x1024_S256x256_0_768 3 rfl r e
abbrev ldA3 : FVec Ideal S256x256 .f32 := View.ld (Val := Elt Ideal) (e' := EltTy.f32) y (Rect.unit (s := S256x1024) ![0, 768] S256x256.size inb_S256x1024_S256x256_0_768)
theorem ldA3_apply (r : Fin 256) (e : Fin 256) : ldA3 y (ix2 r e) = y (ix2 r (col 3 e)) :=
  ld_cols (a := 256) (Val := Elt Ideal) (el := .f32) y 768 inb_S256x1024_S256x256_0_768 3 rfl r e

/-- The four stores of the queries' gradient. -/
abbrev queryStores : List (View.Piece (Elt Ideal) S512x1024 .bf16) :=
    ⟨Rect.unit (s := S512x1024) ![0, 768] S512x256.size inb_S512x1024_S512x256_0_768,
      k0_pay48 (doB x0 x1 x4 x5) (ldQ3 x3) (ldK3 x8) (ldK3 x9)⟩ ::
    ⟨Rect.unit (s := S512x1024) ![0, 512] S512x256.size inb_S512x1024_S512x256_0_512,
      k0_pay40 (doB x0 x1 x4 x5) (k0_pay35 (ldQ2 x3)) (ldK2 x8) (ldK2 x9)⟩ ::
    ⟨Rect.unit (s := S512x1024) ![0, 256] S512x256.size inb_S512x1024_S512x256_0_256,
      k0_pay32 (doB x0 x1 x4 x5) (k0_pay26 (ldK1 x8)) (k0_pay27 (ldQ1 x3) (ldK1 x8)) (k0_pay28 (ldQ1 x3) (ldK1 x8)) (ldK1 x9)⟩ ::
    ⟨Rect.unit (s := S512x1024) ![0, 0] S512x256.size inb_S512x1024_S512x256_0_0,
      k0_pay22 (k0_pay17 (ldK0 x8)) (k0_pay18 (ldQ0 x3) (ldK0 x8)) (doSlice0 x0 x1 x4 x5) (k0_pay20 (ldK0 x9))⟩ :: []

theorem queryStores_apply (r : Fin 512) (j : Fin 1024) :
    View.canon (queryStores x0 x1 x4 x5 x3 x8 x9) (ix2 r j)
      = queryGrad (rowsQ x3 r) (rowsD x0 x1 x4 x5 r) (rowsK x8) (rowsK x9) j := by
  refine canon_heads (Val := Elt Ideal) (el := .bf16) (fun r => queryGrad (rowsQ x3 r) (rowsD x0 x1 x4 x5 r) (rowsK x8) (rowsK x9))
    _ _ _ _ _ _ _ _ [] ?_ ?_ ?_ ?_ r j
  · exact queryPiece (ldQ0 x3) (ldK0 x8) (ldK0 x9) (doSlice0 x0 x1 x4 x5) (rowsQ x3) (rowsD x0 x1 x4 x5) (rowsK x8) (rowsK x9) 0
      (ldQ0_apply x3) (slice0 x0 x1 x4 x5) (ldK0_apply x8) (ldK0_apply x9)
  · exact queryPiece (ldQ1 x3) (ldK1 x8) (ldK1 x9) (k0_pay30 (doB x0 x1 x4 x5)) (rowsQ x3) (rowsD x0 x1 x4 x5) (rowsK x8) (rowsK x9) 1
      (ldQ1_apply x3) (slice1 x0 x1 x4 x5) (ldK1_apply x8) (ldK1_apply x9)
  · exact queryPiece (ldQ2 x3) (ldK2 x8) (ldK2 x9) (k0_pay38 (doB x0 x1 x4 x5)) (rowsQ x3) (rowsD x0 x1 x4 x5) (rowsK x8) (rowsK x9) 2
      (ldQ2_apply x3) (slice2 x0 x1 x4 x5) (ldK2_apply x8) (ldK2_apply x9)
  · exact queryPiece (ldQ3 x3) (ldK3 x8) (ldK3 x9) (k0_pay46 (doB x0 x1 x4 x5)) (rowsQ x3) (rowsD x0 x1 x4 x5) (rowsK x8) (rowsK x9) 3
      (ldQ3_apply x3) (slice3 x0 x1 x4 x5) (ldK3_apply x8) (ldK3_apply x9)

/-- The four stores of the keys' gradient, onto the sums `y` and over earlier stores. -/
abbrev keyStores (L : List (View.Piece (Elt Ideal) S256x1024 .f32)) : List (View.Piece (Elt Ideal) S256x1024 .f32) :=
    ⟨Rect.unit (s := S256x1024) ![0, 768] S256x256.size inb_S256x1024_S256x256_0_768,
      k0_pay49 (k0_pay43 (ldQ3 x3)) (k0_pay47 (doB x0 x1 x4 x5) (ldQ3 x3) (ldK3 x8) (ldK3 x9)) (ldA3 y)⟩ ::
    ⟨Rect.unit (s := S256x1024) ![0, 512] S256x256.size inb_S256x1024_S256x256_0_512,
      k0_pay41 (doB x0 x1 x4 x5) (k0_pay35 (ldQ2 x3)) (ldK2 x8) (ldK2 x9) (ldA2 y)⟩ ::
    ⟨Rect.unit (s := S256x1024) ![0, 256] S256x256.size inb_S256x1024_S256x256_0_256,
      k0_pay33 (doB x0 x1 x4 x5) (k0_pay25 (ldQ1 x3)) (k0_pay27 (ldQ1 x3) (ldK1 x8)) (k0_pay28 (ldQ1 x3) (ldK1 x8)) (ldK1 x9) (ldA1 y)⟩ ::
    ⟨Rect.unit (s := S256x1024) ![0, 0] S256x256.size inb_S256x1024_S256x256_0_0,
      k0_pay23 (k0_pay16 (ldQ0 x3)) (k0_pay18 (ldQ0 x3) (ldK0 x8)) (doSlice0 x0 x1 x4 x5) (k0_pay20 (ldK0 x9)) (ldA0 y)⟩ :: L

theorem keyStores_apply (L) (i : Fin 256) (j : Fin 1024) :
    View.canon (keyStores x0 x1 x4 x5 x3 x8 x9 y L) (ix2 i j)
      = y (ix2 i j) + ∑ r, headGrad (rowsQ x3 r) (rowsD x0 x1 x4 x5 r) (rowsK x8) (rowsK x9) (headIx j) i * rowsQ x3 r j := by
  refine canon_heads (Val := Elt Ideal) (el := .f32) (fun i j => y (ix2 i j) + ∑ r, headGrad (rowsQ x3 r) (rowsD x0 x1 x4 x5 r) (rowsK x8) (rowsK x9) (headIx j) i * rowsQ x3 r j)
    _ _ _ _ _ _ _ _ L ?_ ?_ ?_ ?_ i j
  · intro i e
    rw [keyPiece (ldQ0 x3) (ldK0 x8) (ldK0 x9) (doSlice0 x0 x1 x4 x5) (ldA0 y) (rowsQ x3) (rowsD x0 x1 x4 x5) (rowsK x8) (rowsK x9) 0
      (ldQ0_apply x3) (slice0 x0 x1 x4 x5) (ldK0_apply x8) (ldK0_apply x9)]
    exact congrArg (· + _) (ldA0_apply y i e)
  · intro i e
    rw [key1_eq, keyPiece (ldQ1 x3) (ldK1 x8) (ldK1 x9) (k0_pay30 (doB x0 x1 x4 x5)) (ldA1 y) (rowsQ x3) (rowsD x0 x1 x4 x5) (rowsK x8) (rowsK x9) 1
      (ldQ1_apply x3) (slice1 x0 x1 x4 x5) (ldK1_apply x8) (ldK1_apply x9)]
    exact congrArg (· + _) (ldA1_apply y i e)
  · intro i e
    rw [key2_eq, keyPiece (ldQ2 x3) (ldK2 x8) (ldK2 x9) (k0_pay38 (doB x0 x1 x4 x5)) (ldA2 y) (rowsQ x3) (rowsD x0 x1 x4 x5) (rowsK x8) (rowsK x9) 2
      (ldQ2_apply x3) (slice2 x0 x1 x4 x5) (ldK2_apply x8) (ldK2_apply x9)]
    exact congrArg (· + _) (ldA2_apply y i e)
  · intro i e
    rw [key3_eq, keyPiece (ldQ3 x3) (ldK3 x8) (ldK3 x9) (k0_pay46 (doB x0 x1 x4 x5)) (ldA3 y) (rowsQ x3) (rowsD x0 x1 x4 x5) (rowsK x8) (rowsK x9) 3
      (ldQ3_apply x3) (slice3 x0 x1 x4 x5) (ldK3_apply x8) (ldK3_apply x9)]
    exact congrArg (· + _) (ldA3_apply y i e)

/-- The four stores of the values' gradient, onto the sums `y` and over earlier stores. -/
abbrev valueStores (L : List (View.Piece (Elt Ideal) S256x1024 .f32)) : List (View.Piece (Elt Ideal) S256x1024 .f32) :=
    ⟨Rect.unit (s := S256x1024) ![0, 768] S256x256.size inb_S256x1024_S256x256_0_768,
      k0_pay50 (k0_pay45 (ldQ3 x3) (ldK3 x8)) (k0_pay46 (doB x0 x1 x4 x5)) (ldA3 y)⟩ ::
    ⟨Rect.unit (s := S256x1024) ![0, 512] S256x256.size inb_S256x1024_S256x256_0_512,
      k0_pay42 (k0_pay37 (k0_pay35 (ldQ2 x3)) (ldK2 x8)) (k0_pay38 (doB x0 x1 x4 x5)) (ldA2 y)⟩ ::
    ⟨Rect.unit (s := S256x1024) ![0, 256] S256x256.size inb_S256x1024_S256x256_0_256,
      k0_pay34 (doB x0 x1 x4 x5) (k0_pay27 (ldQ1 x3) (ldK1 x8)) (k0_pay28 (ldQ1 x3) (ldK1 x8)) (ldA1 y)⟩ ::
    ⟨Rect.unit (s := S256x1024) ![0, 0] S256x256.size inb_S256x1024_S256x256_0_0,
      k0_pay24 (k0_pay18 (ldQ0 x3) (ldK0 x8)) (doSlice0 x0 x1 x4 x5) (ldA0 y)⟩ :: L

theorem valueStores_apply (L) (i : Fin 256) (j : Fin 1024) :
    View.canon (valueStores x0 x1 x4 x5 x3 x8 y L) (ix2 i j)
      = y (ix2 i j) + ∑ r, headProb (rowsQ x3 r) (rowsK x8) (headIx j) i * rowsD x0 x1 x4 x5 r j := by
  refine canon_heads (Val := Elt Ideal) (el := .f32) (fun i j => y (ix2 i j) + ∑ r, headProb (rowsQ x3 r) (rowsK x8) (headIx j) i * rowsD x0 x1 x4 x5 r j)
    _ _ _ _ _ _ _ _ L ?_ ?_ ?_ ?_ i j
  · intro i e
    rw [valuePiece (ldQ0 x3) (ldK0 x8) (doSlice0 x0 x1 x4 x5) (ldA0 y) (rowsQ x3) (rowsD x0 x1 x4 x5) (rowsK x8) 0
      (ldQ0_apply x3) (slice0 x0 x1 x4 x5) (ldK0_apply x8)]
    exact congrArg (· + _) (ldA0_apply y i e)
  · intro i e
    rw [value1_eq, valuePiece (ldQ1 x3) (ldK1 x8) (k0_pay30 (doB x0 x1 x4 x5)) (ldA1 y) (rowsQ x3) (rowsD x0 x1 x4 x5) (rowsK x8) 1
      (ldQ1_apply x3) (slice1 x0 x1 x4 x5) (ldK1_apply x8)]
    exact congrArg (· + _) (ldA1_apply y i e)
  · intro i e
    rw [value2_eq, valuePiece (ldQ2 x3) (ldK2 x8) (k0_pay38 (doB x0 x1 x4 x5)) (ldA2 y) (rowsQ x3) (rowsD x0 x1 x4 x5) (rowsK x8) 2
      (ldQ2_apply x3) (slice2 x0 x1 x4 x5) (ldK2_apply x8)]
    exact congrArg (· + _) (ldA2_apply y i e)
  · intro i e
    rw [value3_eq, valuePiece (ldQ3 x3) (ldK3 x8) (k0_pay46 (doB x0 x1 x4 x5)) (ldA3 y) (rowsQ x3) (rowsD x0 x1 x4 x5) (rowsK x8) 3
      (ldQ3_apply x3) (slice3 x0 x1 x4 x5) (ldK3_apply x8)]
    exact congrArg (· + _) (ldA3_apply y i e)

end Stores

end Cert.BAttnIdeal.Gradient

end
-- ==== Proof.Cases.lean ====
/- What the buffers of the seven outputs hold after a grid point, in terms of the point's blocks: the row gradients
   outright, the sums over rows as the sum before plus the block's rows. -/
module

public import proofs.«01_k».proof.Proof.Gen.BAttnIdeal.Value
public import proofs.«01_k».proof.Proof.Stores
public import Idealize.ShloMosaic.Lib.Pipeline.ReadBack

@[expose] public section

set_option maxRecDepth 16384

noncomputable section

namespace Cert.BAttnIdeal.Gradient

open Cert.BAttnIdeal Cert.BAttnIdeal.Gen Idealize.ShloMosaic Idealize.ShloMosaic.TcCoe Idealize.SL.Sem Cert.RowGradients

variable (m : (ℓ : Loc nD τ sig) → Buf (Elt Ideal) ℓ) (c : Dev nD) (t : Fin cfg0.N)

/-- A point opens the whole run, a batch's run, or neither. -/
theorem kinds : (t.val % 16 = 0 ∧ t.val % 8 = 0) ∨ (¬t.val % 16 = 0 ∧ ¬t.val % 8 = 0) ∨ (¬t.val % 16 = 0 ∧ t.val % 8 = 0) := by omega

/-! ## The rows of a point's blocks -/

abbrev qR (r : Fin 512) (l : Fin 1024) : EReal := (iblk m c 3 t : FVec Ideal S512x1024 .bf16) (ix2 r l)
abbrev kR (i : Fin 256) (l : Fin 1024) : EReal := (iblk m c 8 t : FVec Ideal S256x1024 .bf16) (ix2 i l)
abbrev vR (i : Fin 256) (l : Fin 1024) : EReal := (iblk m c 9 t : FVec Ideal S256x1024 .bf16) (ix2 i l)
abbrev dx2R (r : Fin 512) (l : Fin 1024) : EReal := (iblk m c 0 t : FVec Ideal S512x1024 .f32) (ix2 r l)
abbrev aoR (r : Fin 512) (l : Fin 1024) : EReal := (iblk m c 1 t : FVec Ideal S512x1024 .f32) (ix2 r l)
abbrev x1R (r : Fin 512) (l : Fin 1024) : EReal := (iblk m c 2 t : FVec Ideal S512x1024 .f32) (ix2 r l)
abbrev gPostR (l : Fin 1024) : EReal := (iblk m c 4 t : FVec Ideal S1x1024 .f32) (ix2 0 l)
abbrev gPreR (l : Fin 1024) : EReal := (iblk m c 7 t : FVec Ideal S1x1024 .f32) (ix2 0 l)
abbrev woR (a b : Fin 1024) : EReal := (iblk m c 5 t : FVec Ideal S1024x1024 .bf16) (ix2 a b)
abbrev wqR (a b : Fin 1024) : EReal := (iblk m c 6 t : FVec Ideal S1024x1024 .bf16) (ix2 a b)

/-- The gradient of a row of the attention's output. -/
abbrev daoR (r : Fin 512) : Fin 1024 → EReal := normGrad (aoR m c t r) (gPostR m c t) (dx2R m c t r)
/-- The gradient of a row of the heads' outputs. -/
abbrev doR (r : Fin 512) : Fin 1024 → EReal := timesT (daoR m c t r) (woR m c t)
/-- The gradient of a row of the queries. -/
abbrev dqR (r : Fin 512) : Fin 1024 → EReal := queryGrad (qR m c t r) (doR m c t r) (kR m c t) (vR m c t)
/-- The gradient of a row of the normalised input. -/
abbrev dhR (r : Fin 512) : Fin 1024 → EReal := timesT (dqR m c t r) (wqR m c t)

/-! ## The row gradients -/

theorem left10 (r : Fin 512) (j : Fin 1024) : (outsAt0 m c t.val t.isLt).1 (ix2 r j) = daoR m c t r j := by
  refine Eq.trans ?_ (daoB_apply (iblk m c 0 t) (iblk m c 1 t) (iblk m c 4 t) r j)
  obtain h | h | h := kinds t
  · rw [outsAt0_A m c t h.1 h.2]
    dsimp only
    frame_open
    simp (disch := decide) only [↓ View.readCov_skip, ↓ View.readCov_cons_toLoadRect, ↓ View.readCov_fill]
    frame_out
  · rw [outsAt0_B m c t h.1 h.2]
    dsimp only
    frame_open
    simp (disch := decide) only [↓ View.readCov_skip, ↓ View.readCov_cons_toLoadRect, ↓ View.readCov_fill]
    frame_out
  · rw [outsAt0_C m c t h.1 h.2]
    dsimp only
    frame_open
    simp (disch := decide) only [↓ View.readCov_skip, ↓ View.readCov_cons_toLoadRect, ↓ View.readCov_fill]
    frame_out

theorem left11 (r : Fin 512) (j : Fin 1024) : (outsAt0 m c t.val t.isLt).2.1 (ix2 r j) = dqR m c t r j := by
  refine Eq.trans ?_ (queryStores_apply (iblk m c 0 t) (iblk m c 1 t) (iblk m c 4 t) (iblk m c 5 t) (iblk m c 3 t) (iblk m c 8 t) (iblk m c 9 t) r j)
  obtain h | h | h := kinds t
  · rw [outsAt0_A m c t h.1 h.2]
    dsimp only
    frame_open
    simp (disch := decide) only [↓ View.readCov_skip, ↓ View.readCov_cons_toLoadRect, ↓ View.readCov_fill]
    frame_out
  · rw [outsAt0_B m c t h.1 h.2]
    dsimp only
    frame_open
    simp (disch := decide) only [↓ View.readCov_skip, ↓ View.readCov_cons_toLoadRect, ↓ View.readCov_fill]
    frame_out
  · rw [outsAt0_C m c t h.1 h.2]
    dsimp only
    frame_open
    simp (disch := decide) only [↓ View.readCov_skip, ↓ View.readCov_cons_toLoadRect, ↓ View.readCov_fill]
    frame_out

/-- A load of a whole block of rows reads what its stores left. -/
theorem readAll {κ : Kind} {sp : Space} (v : View sig κ sp S512x1024 .bf16) (L : List (View.Piece (Elt Ideal) S512x1024 .bf16)) (inb) :
    v.readCov L (Rect.unit (s := S512x1024) ![0, 0] S512x1024.size inb).toLoadRect = View.canon L := by
  rw [View.readCov_eq_canon']
  funext y
  refine congrArg (View.canon L) (funext fun b => ?_)
  match b with
  | 0 => exact Fin.ext ((Nat.zero_add _).trans (Nat.one_mul _))
  | 1 => exact Fin.ext ((Nat.zero_add _).trans (Nat.one_mul _))

theorem left12 (r : Fin 512) (j : Fin 1024) :
    (outsAt0 m c t.val t.isLt).2.2.1 (ix2 r j) = dx2R m c t r j + normGrad (x1R m c t r) (gPreR m c t) (dhR m c t r) j := by
  have hq : View.canon (queryStores (iblk m c 0 t) (iblk m c 1 t) (iblk m c 4 t) (iblk m c 5 t) (iblk m c 3 t) (iblk m c 8 t) (iblk m c 9 t)) = fun y => dqR m c t (y 0) (y 1) := by
    funext y
    exact (congrArg _ (eq_ix2 y)).trans (queryStores_apply (iblk m c 0 t) (iblk m c 1 t) (iblk m c 4 t) (iblk m c 5 t) (iblk m c 3 t) (iblk m c 8 t) (iblk m c 9 t) (y 0) (y 1))
  refine Eq.trans ?_ (inputGrad_apply (iblk m c 0 t) (iblk m c 2 t) (iblk m c 7 t) (fun y => dqR m c t (y 0) (y 1)) (iblk m c 6 t) r j)
  rw [← hq]
  obtain h | h | h := kinds t
  · rw [outsAt0_A m c t h.1 h.2]
    dsimp only
    frame_open
    simp (disch := decide) only [↓ View.readCov_skip, ↓ View.readCov_cons_toLoadRect, ↓ View.readCov_fill]
    frame_out
    rw [readAll]
  · rw [outsAt0_B m c t h.1 h.2]
    dsimp only
    frame_open
    simp (disch := decide) only [↓ View.readCov_skip, ↓ View.readCov_cons_toLoadRect, ↓ View.readCov_fill]
    frame_out
    rw [readAll]
  · rw [outsAt0_C m c t h.1 h.2]
    dsimp only
    frame_open
    simp (disch := decide) only [↓ View.readCov_skip, ↓ View.readCov_cons_toLoadRect, ↓ View.readCov_fill]
    frame_out
    rw [readAll]

/-! ## The sums over the rows -/

/-- What a point adds to the keys' gradient, to the values', and to the two gains'. -/
abbrev keyTerm (i : Fin 256) (j : Fin 1024) : EReal :=
  ∑ r : Fin 512, headGrad (qR m c t r) (doR m c t r) (kR m c t) (vR m c t) (headIx j) i * qR m c t r j
abbrev valueTerm (i : Fin 256) (j : Fin 1024) : EReal :=
  ∑ r : Fin 512, headProb (qR m c t r) (kR m c t) (headIx j) i * doR m c t r j
abbrev gainPostTerm (j : Fin 1024) : EReal := ∑ r : Fin 512, dx2R m c t r j * normed (aoR m c t r) j
abbrev gainPreTerm (j : Fin 1024) : EReal := ∑ r : Fin 512, dhR m c t r j * normed (x1R m c t r) j

theorem zero5 (i : Fin 256) (j : Fin 1024) : k0_pay5 (F := Ideal) (ix2 i j) = 0 := by pointwise [k0_pay5]
theorem zero6 (i : Fin 256) (j : Fin 1024) : k0_pay6 (F := Ideal) (ix2 i j) = 0 := by pointwise [k0_pay6]
theorem zero3 (j : Fin 1024) : k0_pay3 (F := Ideal) (ix2 0 j) = 0 := by pointwise [k0_pay3]
theorem zero4 (j : Fin 1024) : k0_pay4 (F := Ideal) (ix2 0 j) = 0 := by pointwise [k0_pay4]

theorem first13 (h1 : t.val % 8 = 0) (i : Fin 256) (j : Fin 1024) :
    (outsAt0 m c t.val t.isLt).2.2.2.1 (ix2 i j) = 0 + keyTerm m c t i j := by
  refine Eq.trans (b := k0_pay5 (F := Ideal) (ix2 i j) + keyTerm m c t i j) ?_ (congrArg (· + _) (zero5 i j))
  refine Eq.trans ?_ (keyStores_apply (iblk m c 0 t) (iblk m c 1 t) (iblk m c 4 t) (iblk m c 5 t) (iblk m c 3 t) (iblk m c 8 t) (iblk m c 9 t) (k0_pay5 (F := Ideal))
    [⟨Rect.unit (s := S256x1024) ![0, 0] S256x1024.size inb_S256x1024_S256x1024_0_0, k0_pay5 (F := Ideal)⟩] i j)
  by_cases h0 : t.val % 16 = 0
  · rw [outsAt0_A m c t h0 h1]
    dsimp only
    frame_open
    simp (disch := decide) only [↓ View.readCov_skip, ↓ View.readCov_cons_toLoadRect, ↓ View.readCov_fill]
    frame_out
  · rw [outsAt0_C m c t h0 h1]
    dsimp only
    frame_open
    simp (disch := decide) only [↓ View.readCov_skip, ↓ View.readCov_cons_toLoadRect, ↓ View.readCov_fill]
    frame_out

theorem next13 (h1 : ¬t.val % 8 = 0) (i : Fin 256) (j : Fin 1024) :
    (outsAt0 m c t.val t.isLt).2.2.2.1 (ix2 i j)
      = (outsAt0 m c (t.val - 1) (Nat.lt_of_le_of_lt (Nat.sub_le _ _) t.isLt)).2.2.2.1 (ix2 i j) + keyTerm m c t i j := by
  refine Eq.trans ?_ (keyStores_apply (iblk m c 0 t) (iblk m c 1 t) (iblk m c 4 t) (iblk m c 5 t) (iblk m c 3 t) (iblk m c 8 t) (iblk m c 9 t)
    (outsAt0 m c (t.val - 1) (Nat.lt_of_le_of_lt (Nat.sub_le _ _) t.isLt)).2.2.2.1 [] i j)
  rw [outsAt0_B m c t (by omega) h1]
  dsimp only
  frame_open
  simp (disch := decide) only [↓ View.readCov_skip, ↓ View.readCov_cons_toLoadRect, ↓ View.readCov_fill]
  frame_out

theorem first14 (h1 : t.val % 8 = 0) (i : Fin 256) (j : Fin 1024) :
    (outsAt0 m c t.val t.isLt).2.2.2.2.1 (ix2 i j) = 0 + valueTerm m c t i j := by
  refine Eq.trans (b := k0_pay6 (F := Ideal) (ix2 i j) + valueTerm m c t i j) ?_ (congrArg (· + _) (zero6 i j))
  refine Eq.trans ?_ (valueStores_apply (iblk m c 0 t) (iblk m c 1 t) (iblk m c 4 t) (iblk m c 5 t) (iblk m c 3 t) (iblk m c 8 t) (k0_pay6 (F := Ideal))
    [⟨Rect.unit (s := S256x1024) ![0, 0] S256x1024.size inb_S256x1024_S256x1024_0_0, k0_pay6 (F := Ideal)⟩] i j)
  by_cases h0 : t.val % 16 = 0
  · rw [outsAt0_A m c t h0 h1]
    dsimp only
    frame_open
    simp (disch := decide) only [↓ View.readCov_skip, ↓ View.readCov_cons_toLoadRect, ↓ View.readCov_fill]
    frame_out
  · rw [outsAt0_C m c t h0 h1]
    dsimp only
    frame_open
    simp (disch := decide) only [↓ View.readCov_skip, ↓ View.readCov_cons_toLoadRect, ↓ View.readCov_fill]
    frame_out

theorem next14 (h1 : ¬t.val % 8 = 0) (i : Fin 256) (j : Fin 1024) :
    (outsAt0 m c t.val t.isLt).2.2.2.2.1 (ix2 i j)
      = (outsAt0 m c (t.val - 1) (Nat.lt_of_le_of_lt (Nat.sub_le _ _) t.isLt)).2.2.2.2.1 (ix2 i j) + valueTerm m c t i j := by
  refine Eq.trans ?_ (valueStores_apply (iblk m c 0 t) (iblk m c 1 t) (iblk m c 4 t) (iblk m c 5 t) (iblk m c 3 t) (iblk m c 8 t)
    (outsAt0 m c (t.val - 1) (Nat.lt_of_le_of_lt (Nat.sub_le _ _) t.isLt)).2.2.2.2.1 [] i j)
  rw [outsAt0_B m c t (by omega) h1]
  dsimp only
  frame_open
  simp (disch := decide) only [↓ View.readCov_skip, ↓ View.readCov_cons_toLoadRect, ↓ View.readCov_fill]
  frame_out

theorem first15 (h0 : t.val % 16 = 0) (j : Fin 1024) :
    (outsAt0 m c t.val t.isLt).2.2.2.2.2.1 (ix2 0 j) = 0 + gainPostTerm m c t j := by
  refine Eq.trans (b := k0_pay3 (F := Ideal) (ix2 0 j) + gainPostTerm m c t j) ?_ (congrArg (· + _) (zero3 j))
  refine Eq.trans ?_ (gainPost_apply (iblk m c 0 t) (iblk m c 1 t) (k0_pay3 (F := Ideal)) j)
  rw [outsAt0_A m c t h0 (by omega)]
  dsimp only
  frame_open
  simp (disch := decide) only [↓ View.readCov_skip, ↓ View.readCov_cons_toLoadRect, ↓ View.readCov_fill]
  frame_out

theorem next15 (h0 : ¬t.val % 16 = 0) (j : Fin 1024) :
    (outsAt0 m c t.val t.isLt).2.2.2.2.2.1 (ix2 0 j) = (outsAt0 m c (t.val - 1) (Nat.lt_of_le_of_lt (Nat.sub_le _ _) t.isLt)).2.2.2.2.2.1 (ix2 0 j) + gainPostTerm m c t j := by
  refine Eq.trans ?_ (gainPost_apply (iblk m c 0 t) (iblk m c 1 t) (outsAt0 m c (t.val - 1) (Nat.lt_of_le_of_lt (Nat.sub_le _ _) t.isLt)).2.2.2.2.2.1 j)
  by_cases h1 : t.val % 8 = 0
  · rw [outsAt0_C m c t h0 h1]
    dsimp only
    frame_open
    simp (disch := decide) only [↓ View.readCov_skip, ↓ View.readCov_cons_toLoadRect, ↓ View.readCov_fill]
    frame_out
  · rw [outsAt0_B m c t h0 h1]
    dsimp only
    frame_open
    simp (disch := decide) only [↓ View.readCov_skip, ↓ View.readCov_cons_toLoadRect, ↓ View.readCov_fill]
    frame_out

theorem first16 (h0 : t.val % 16 = 0) (j : Fin 1024) :
    (outsAt0 m c t.val t.isLt).2.2.2.2.2.2 (ix2 0 j) = 0 + gainPreTerm m c t j := by
  refine Eq.trans (b := k0_pay4 (F := Ideal) (ix2 0 j) + gainPreTerm m c t j) ?_ (congrArg (· + _) (zero4 j))
  have hq : View.canon (queryStores (iblk m c 0 t) (iblk m c 1 t) (iblk m c 4 t) (iblk m c 5 t) (iblk m c 3 t) (iblk m c 8 t) (iblk m c 9 t)) = fun y => dqR m c t (y 0) (y 1) := by
    funext y
    exact (congrArg _ (eq_ix2 y)).trans (queryStores_apply (iblk m c 0 t) (iblk m c 1 t) (iblk m c 4 t) (iblk m c 5 t) (iblk m c 3 t) (iblk m c 8 t) (iblk m c 9 t) (y 0) (y 1))
  refine Eq.trans ?_ (gainPre_apply (iblk m c 2 t) (k0_pay4 (F := Ideal)) (fun y => dqR m c t (y 0) (y 1)) (iblk m c 6 t) j)
  rw [← hq]
  rw [outsAt0_A m c t h0 (by omega)]
  dsimp only
  frame_open
  simp (disch := decide) only [↓ View.readCov_skip, ↓ View.readCov_cons_toLoadRect, ↓ View.readCov_fill]
  frame_out
  rw [readAll]

theorem next16 (h0 : ¬t.val % 16 = 0) (j : Fin 1024) :
    (outsAt0 m c t.val t.isLt).2.2.2.2.2.2 (ix2 0 j) = (outsAt0 m c (t.val - 1) (Nat.lt_of_le_of_lt (Nat.sub_le _ _) t.isLt)).2.2.2.2.2.2 (ix2 0 j) + gainPreTerm m c t j := by
  have hq : View.canon (queryStores (iblk m c 0 t) (iblk m c 1 t) (iblk m c 4 t) (iblk m c 5 t) (iblk m c 3 t) (iblk m c 8 t) (iblk m c 9 t)) = fun y => dqR m c t (y 0) (y 1) := by
    funext y
    exact (congrArg _ (eq_ix2 y)).trans (queryStores_apply (iblk m c 0 t) (iblk m c 1 t) (iblk m c 4 t) (iblk m c 5 t) (iblk m c 3 t) (iblk m c 8 t) (iblk m c 9 t) (y 0) (y 1))
  refine Eq.trans ?_ (gainPre_apply (iblk m c 2 t) (outsAt0 m c (t.val - 1) (Nat.lt_of_le_of_lt (Nat.sub_le _ _) t.isLt)).2.2.2.2.2.2 (fun y => dqR m c t (y 0) (y 1)) (iblk m c 6 t) j)
  rw [← hq]
  by_cases h1 : t.val % 8 = 0
  · rw [outsAt0_C m c t h0 h1]
    dsimp only
    frame_open
    simp (disch := decide) only [↓ View.readCov_skip, ↓ View.readCov_cons_toLoadRect, ↓ View.readCov_fill]
    frame_out
    rw [readAll]
  · rw [outsAt0_B m c t h0 h1]
    dsimp only
    frame_open
    simp (disch := decide) only [↓ View.readCov_skip, ↓ View.readCov_cons_toLoadRect, ↓ View.readCov_fill]
    frame_out
    rw [readAll]

end Cert.BAttnIdeal.Gradient

end
-- ==== Proof.Whole.lean ====
/- The gradient of the whole sub-layer, row by row: 8192 rows of two sequences of 4096, each sequence with 256 keys and
   values of its own. Every array is a function of its row and its feature. -/
module

public import proofs.«01_k».proof.Proof.RowGradients

@[expose] public section

noncomputable section

namespace Cert.RowGradients

/-- The keys (or values) of the sequence that row `n` lies in. -/
def ofSeq (k : Fin 512 → Fin 1024 → EReal) (b : Fin 2) (i : Fin 256) : Fin 1024 → EReal :=
  k ⟨b.val * 256 + i.val, by omega⟩

/-- The sequence that row `n` lies in. -/
def seqOf (n : Fin 8192) : Fin 2 := ⟨n.val / 4096, by omega⟩

/-- Row `s` of sequence `b`. -/
def rowOf (b : Fin 2) (s : Fin 4096) : Fin 8192 := ⟨b.val * 4096 + s.val, by omega⟩

theorem seqOf_rowOf (b : Fin 2) (s : Fin 4096) : seqOf (rowOf b s) = b := Fin.ext (by simp only [seqOf, rowOf]; omega)

/-- The sequence that a key lies in, and its place there. -/
def keySeq (p : Fin 512) : Fin 2 := ⟨p.val / 256, by omega⟩
def keyPos (p : Fin 512) : Fin 256 := ⟨p.val % 256, by omega⟩

theorem ofSeq_keySeq (k : Fin 512 → Fin 1024 → EReal) (p : Fin 512) : ofSeq k (keySeq p) (keyPos p) = k p :=
  congrArg k (Fin.ext (by simp only [keySeq, keyPos]; omega))

section

variable (dx2 ao x1 q : Fin 8192 → Fin 1024 → EReal) (gPost gPre : Fin 1024 → EReal) (wo wq : Fin 1024 → Fin 1024 → EReal)
  (k v : Fin 512 → Fin 1024 → EReal)

/-- The gradient of the attention's output, after the projection. -/
def wholeDao (n : Fin 8192) : Fin 1024 → EReal := normGrad (ao n) gPost (dx2 n)
/-- The gradient of the heads' outputs. -/
def wholeDo (n : Fin 8192) : Fin 1024 → EReal := timesT (wholeDao dx2 ao gPost n) wo
/-- The gradient of the queries. -/
def wholeDq (n : Fin 8192) : Fin 1024 → EReal :=
  queryGrad (q n) (wholeDo dx2 ao gPost wo n) (ofSeq k (seqOf n)) (ofSeq v (seqOf n))
/-- The gradient of the normalised input. -/
def wholeDh (n : Fin 8192) : Fin 1024 → EReal := timesT (wholeDq dx2 ao q gPost wo k v n) wq
/-- The gradient of the input. -/
def wholeDx (n : Fin 8192) (j : Fin 1024) : EReal :=
  dx2 n j + normGrad (x1 n) gPre (wholeDh dx2 ao q gPost wo wq k v n) j
/-- The gradient of the keys. -/
def wholeDk (p : Fin 512) (j : Fin 1024) : EReal :=
  ∑ s : Fin 4096, headGrad (q (rowOf (keySeq p) s)) (wholeDo dx2 ao gPost wo (rowOf (keySeq p) s)) (ofSeq k (keySeq p))
    (ofSeq v (keySeq p)) (headIx j) (keyPos p) * q (rowOf (keySeq p) s) j
/-- The gradient of the values. -/
def wholeDv (p : Fin 512) (j : Fin 1024) : EReal :=
  ∑ s : Fin 4096, headProb (q (rowOf (keySeq p) s)) (ofSeq k (keySeq p)) (headIx j) (keyPos p)
    * wholeDo dx2 ao gPost wo (rowOf (keySeq p) s) j
/-- The gradient of the gain after the attention. -/
def wholeDgPost (j : Fin 1024) : EReal := ∑ n : Fin 8192, dx2 n j * normed (ao n) j
/-- The gradient of the gain before the attention. -/
def wholeDgPre (j : Fin 1024) : EReal := ∑ n : Fin 8192, wholeDh dx2 ao q gPost wo wq k v n j * normed (x1 n) j

end

end Cert.RowGradients

end
-- ==== Proof.Arrays.lean ====
/- What the kernel leaves in the arrays of its seven results: the row gradients of the whole arrays, and the sums over
   all the rows they run over. -/
module

public import proofs.«01_k».proof.Proof.Cases
public import proofs.«01_k».proof.Proof.Whole

@[expose] public section

set_option maxRecDepth 16384

noncomputable section

namespace Cert.BAttnIdeal.Gradient

open Cert.BAttnIdeal Cert.BAttnIdeal.Gen Idealize.ShloMosaic Idealize.ShloMosaic.TcCoe Idealize.SL.Sem Cert.RowGradients

variable (m : (ℓ : Loc nD τ sig) → Buf (Elt Ideal) ℓ) (c : Dev nD) (t : Fin cfg0.N)

/-! ## The arrays that the call reads -/

abbrev dx2A (n : Fin 8192) (l : Fin 1024) : EReal := (V m c main_arg0 : FVec Ideal S8192x1024 .f32) (ix2 n l)
abbrev aoA (n : Fin 8192) (l : Fin 1024) : EReal := (V m c main_v33 : FVec Ideal S8192x1024 .f32) (ix2 n l)
abbrev x1A (n : Fin 8192) (l : Fin 1024) : EReal := (V m c main_arg1 : FVec Ideal S8192x1024 .f32) (ix2 n l)
abbrev qA (n : Fin 8192) (l : Fin 1024) : EReal := (V m c main_v34 : FVec Ideal S8192x1024 .bf16) (ix2 n l)
abbrev gPostA (l : Fin 1024) : EReal := (V m c main_arg7 : FVec Ideal S1x1024 .f32) (ix2 0 l)
abbrev gPreA (l : Fin 1024) : EReal := (V m c main_arg2 : FVec Ideal S1x1024 .f32) (ix2 0 l)
abbrev woA (a b : Fin 1024) : EReal := (V m c main_v35 : FVec Ideal S1024x1024 .bf16) (ix2 a b)
abbrev wqA (a b : Fin 1024) : EReal := (V m c main_v36 : FVec Ideal S1024x1024 .bf16) (ix2 a b)
abbrev kA (p : Fin 512) (l : Fin 1024) : EReal := (V m c main_v37 : FVec Ideal S512x1024 .bf16) (ix2 p l)
abbrev vA (p : Fin 512) (l : Fin 1024) : EReal := (V m c main_v38 : FVec Ideal S512x1024 .bf16) (ix2 p l)

/-- The block that each window shows at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val / 8, 0] ∧ win0_9.index t = ![t.val / 8, 0]
    ∧ win0_10.index t = ![t.val, 0] ∧ win0_11.index t = ![t.val, 0] ∧ win0_12.index t = ![t.val, 0]
    ∧ win0_13.index t = ![t.val / 8, 0] ∧ win0_14.index t = ![t.val / 8, 0] ∧ win0_15.index t = ![0, 0] ∧ win0_16.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val / 8, 0] ∧ win0_9.index t = ![t.val / 8, 0]
    ∧ win0_10.index t = ![t.val, 0] ∧ win0_11.index t = ![t.val, 0] ∧ win0_12.index t = ![t.val, 0]
    ∧ win0_13.index t = ![t.val / 8, 0] ∧ win0_14.index t = ![t.val / 8, 0] ∧ win0_15.index t = ![0, 0] ∧ win0_16.index t = ![0, 0])

theorem lt16 (t : Fin cfg0.N) : t.val < 16 := lt_of_lt_of_eq t.isLt N_0

/-- The row of the whole array that is row `r` of point `t`'s block. -/
def rowAt (r : Fin 512) : Fin 8192 := ⟨t.val * 512 + r.val, by have := lt16 t; omega⟩
/-- The sequence that point `t` works on. -/
def seqAt : Fin 2 := ⟨t.val / 8, by have := lt16 t; omega⟩

theorem seqOf_rowAt (r : Fin 512) : seqOf (rowAt t r) = seqAt t := Fin.ext (by simp only [seqOf, rowAt, seqAt]; omega)

theorem dx2R_eq (r : Fin 512) : dx2R m c t r = dx2A m c (rowAt t r) := by
  funext l
  show (iblk m c 0 t : FVec Ideal S512x1024 .f32) (ix2 r l) = (V m c main_arg0 : FVec Ideal S8192x1024 .f32) (ix2 (rowAt t r) l)
  blk_point [iblk, idx t, rowAt]

theorem aoR_eq (r : Fin 512) : aoR m c t r = aoA m c (rowAt t r) := by
  funext l
  show (iblk m c 1 t : FVec Ideal S512x1024 .f32) (ix2 r l) = (V m c main_v33 : FVec Ideal S8192x1024 .f32) (ix2 (rowAt t r) l)
  blk_point [iblk, idx t, rowAt]

theorem kR_eq : kR m c t = ofSeq (kA m c) (seqAt t) := by
  funext i l
  show (iblk m c 8 t : FVec Ideal S256x1024 .bf16) (ix2 i l) = (V m c main_v37 : FVec Ideal S512x1024 .bf16) (ix2 _ l)
  blk_point [iblk, idx t, seqAt]

theorem x1R_eq (r : Fin 512) : x1R m c t r = x1A m c (rowAt t r) := by
  funext l
  show (iblk m c 2 t : FVec Ideal S512x1024 .f32) (ix2 r l) = (V m c main_arg1 : FVec Ideal S8192x1024 .f32) (ix2 (rowAt t r) l)
  blk_point [iblk, idx t, rowAt]

theorem qR_eq (r : Fin 512) : qR m c t r = qA m c (rowAt t r) := by
  funext l
  show (iblk m c 3 t : FVec Ideal S512x1024 .bf16) (ix2 r l) = (V m c main_v34 : FVec Ideal S8192x1024 .bf16) (ix2 (rowAt t r) l)
  blk_point [iblk, idx t, rowAt]

theorem vR_eq : vR m c t = ofSeq (vA m c) (seqAt t) := by
  funext i l
  show (iblk m c 9 t : FVec Ideal S256x1024 .bf16) (ix2 i l) = (V m c main_v38 : FVec Ideal S512x1024 .bf16) (ix2 _ l)
  blk_point [iblk, idx t, seqAt]

theorem gPostR_eq : gPostR m c t = gPostA m c := by
  funext l
  show (iblk m c 4 t : FVec Ideal S1x1024 .f32) (ix2 0 l) = (V m c main_arg7 : FVec Ideal S1x1024 .f32) (ix2 0 l)
  blk_point [iblk, idx t]

theorem gPreR_eq : gPreR m c t = gPreA m c := by
  funext l
  show (iblk m c 7 t : FVec Ideal S1x1024 .f32) (ix2 0 l) = (V m c main_arg2 : FVec Ideal S1x1024 .f32) (ix2 0 l)
  blk_point [iblk, idx t]

theorem woR_eq : woR m c t = woA m c := by
  funext a b
  show (iblk m c 5 t : FVec Ideal S1024x1024 .bf16) (ix2 a b) = (V m c main_v35 : FVec Ideal S1024x1024 .bf16) (ix2 a b)
  blk_point [iblk, idx t]

theorem wqR_eq : wqR m c t = wqA m c := by
  funext a b
  show (iblk m c 6 t : FVec Ideal S1024x1024 .bf16) (ix2 a b) = (V m c main_v36 : FVec Ideal S1024x1024 .bf16) (ix2 a b)
  blk_point [iblk, idx t]

/-! ## The row gradients of the whole arrays -/

abbrev daoA := wholeDao (dx2A m c) (aoA m c) (gPostA m c)
abbrev doA := wholeDo (dx2A m c) (aoA m c) (gPostA m c) (woA m c)
abbrev dqA := wholeDq (dx2A m c) (aoA m c) (qA m c) (gPostA m c) (woA m c) (kA m c) (vA m c)
abbrev dhA := wholeDh (dx2A m c) (aoA m c) (qA m c) (gPostA m c) (woA m c) (wqA m c) (kA m c) (vA m c)
abbrev dxA := wholeDx (dx2A m c) (aoA m c) (x1A m c) (qA m c) (gPostA m c) (gPreA m c) (woA m c) (wqA m c) (kA m c) (vA m c)
abbrev dkA := wholeDk (dx2A m c) (aoA m c) (qA m c) (gPostA m c) (woA m c) (kA m c) (vA m c)
abbrev dvA := wholeDv (dx2A m c) (aoA m c) (qA m c) (gPostA m c) (woA m c) (kA m c)
abbrev dgPostA := wholeDgPost (dx2A m c) (aoA m c)
abbrev dgPreA := wholeDgPre (dx2A m c) (aoA m c) (x1A m c) (qA m c) (gPostA m c) (woA m c) (wqA m c) (kA m c) (vA m c)

theorem daoR_eq (r : Fin 512) : daoR m c t r = daoA m c (rowAt t r) := by
  rw [daoR, aoR_eq, gPostR_eq, dx2R_eq]; rfl
theorem doR_eq (r : Fin 512) : doR m c t r = doA m c (rowAt t r) := by
  rw [doR, daoR_eq, woR_eq]; rfl
theorem dqR_eq (r : Fin 512) : dqR m c t r = dqA m c (rowAt t r) := by
  rw [dqR, doR_eq, qR_eq, kR_eq, vR_eq]
  show _ = queryGrad _ _ (ofSeq _ (seqOf _)) (ofSeq _ (seqOf _))
  rw [seqOf_rowAt]
theorem dhR_eq (r : Fin 512) : dhR m c t r = dhA m c (rowAt t r) := by
  rw [dhR, dqR_eq, wqR_eq]; rfl

end Cert.BAttnIdeal.Gradient

end
-- ==== Proof.Finals.lean ====
/- The seven result arrays after the whole grid. -/
module

public import proofs.«01_k».proof.Proof.Arrays

@[expose] public section

set_option maxRecDepth 16384

noncomputable section

namespace Cert.BAttnIdeal.Gradient

open Cert.BAttnIdeal Cert.BAttnIdeal.Gen Idealize.ShloMosaic Idealize.ShloMosaic.TcCoe Idealize.SL.Sem Cert.RowGradients

variable (m : (ℓ : Loc nD τ sig) → Buf (Elt Ideal) ℓ) (c : Dev nD) (t : Fin cfg0.N)

theorem final10 : (dats m 0 c).arrAt 10 (cfgs 0).N = (fun y => daoA m c (y 0) (y 1) : FVec Ideal S8192x1024 .bf16) := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, eq_ix2 y⟩
  refine ((left10 m c t r j).trans (congrFun (daoR_eq m c t r) j)).trans ?_
  refine congrArg₂ (daoA m c) (Fin.ext ?_) (Fin.ext ?_)
  · blk_simp [idx t, rowAt]
  · blk_simp [idx t]

theorem final11 : (dats m 0 c).arrAt 11 (cfgs 0).N = (fun y => dqA m c (y 0) (y 1) : FVec Ideal S8192x1024 .bf16) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  refine ((left11 m c t r j).trans (congrFun (dqR_eq m c t r) j)).trans ?_
  refine congrArg₂ (dqA m c) (Fin.ext ?_) (Fin.ext ?_)
  · blk_simp [idx t, rowAt]
  · blk_simp [idx t]

theorem dxR_eq (r : Fin 512) (j : Fin 1024) :
    dx2R m c t r j + normGrad (x1R m c t r) (gPreR m c t) (dhR m c t r) j = dxA m c (rowAt t r) j := by
  rw [dx2R_eq, x1R_eq, gPreR_eq, dhR_eq]; rfl

theorem final12 : (dats m 0 c).arrAt 12 (cfgs 0).N = (fun y => dxA m c (y 0) (y 1) : FVec Ideal S8192x1024 .f32) := by
  refine (dats m 0 c).arrAt_eq_of_covers 12 _ (by decide +kernel) fun t hf y => ?_
  blk_simp
  rw [after0_12]
  obtain ⟨r, j, rfl⟩ : ∃ (r : Fin 512) (j : Fin 1024), y = ix2 r j := ⟨y 0, y 1, eq_ix2 y⟩
  refine ((left12 m c t r j).trans (dxR_eq m c t r j)).trans ?_
  refine congrArg₂ (dxA m c) (Fin.ext ?_) (Fin.ext ?_)
  · blk_simp [idx t, rowAt]
  · blk_simp [idx t]

/-! ## The sums over a sequence's rows -/

/-- The key that is row `i` of point `t`'s block of keys. -/
def keyAt (i : Fin 256) : Fin 512 := ⟨t.val / 8 * 256 + i.val, by have := lt16 t; omega⟩

theorem keySeq_keyAt (i : Fin 256) : keySeq (keyAt t i) = seqAt t := Fin.ext (by simp only [keySeq, keyAt, seqAt]; omega)
theorem keyPos_keyAt (i : Fin 256) : keyPos (keyAt t i) = i := Fin.ext (by simp only [keyPos, keyAt]; omega)

/-- A row of a point of the run that point `t` lies in. -/
theorem rowAt_run (s : Fin 8) (h : 8 * (t.val / 8) + s.val < cfg0.N) (r : Fin 512) (hl : s.val * 512 + r.val < 4096) :
    rowAt ⟨8 * (t.val / 8) + s.val, h⟩ r = rowOf (seqAt t) ⟨s.val * 512 + r.val, hl⟩ :=
  Fin.ext (by simp only [rowAt, rowOf, seqAt]; omega)
theorem seqAt_run (s : Fin 8) (h : 8 * (t.val / 8) + s.val < cfg0.N) : seqAt ⟨8 * (t.val / 8) + s.val, h⟩ = seqAt t :=
  Fin.ext (by simp only [seqAt]; omega)

theorem key_run (h : ∀ s : Fin 8, 8 * (t.val / 8) + s.val < cfg0.N) (i : Fin 256) (j : Fin 1024) :
    ∑ s : Fin 8, keyTerm m c ⟨8 * (t.val / 8) + s.val, h s⟩ i j = dkA m c (keyAt t i) j := by
  simp only [wholeDk, keySeq_keyAt, keyPos_keyAt]
  refine Fin.sum_mul_add_congr fun s r hl => ?_
  rw [qR_eq, doR_eq, kR_eq, vR_eq, seqAt_run, rowAt_run t s (h s) r hl]

theorem value_run (h : ∀ s : Fin 8, 8 * (t.val / 8) + s.val < cfg0.N) (i : Fin 256) (j : Fin 1024) :
    ∑ s : Fin 8, valueTerm m c ⟨8 * (t.val / 8) + s.val, h s⟩ i j = dvA m c (keyAt t i) j := by
  simp only [wholeDv, keySeq_keyAt, keyPos_keyAt]
  refine Fin.sum_mul_add_congr fun s r hl => ?_
  rw [qR_eq, doR_eq, kR_eq, seqAt_run, rowAt_run t s (h s) r hl]

theorem final13 : (dats m 0 c).arrAt 13 (cfgs 0).N = (fun y => dkA m c (y 0) (y 1) : FVec Ideal S512x1024 .f32) := by
  refine (dats m 0 c).arrAt_eq_of_covers 13 _ (by decide +kernel) fun t hf y => ?_
  blk_simp
  rw [after0_13]
  obtain ⟨i, j, rfl⟩ : ∃ (i : Fin 256) (j : Fin 1024), y = ix2 i j := ⟨y 0, y 1, eq_ix2 y⟩
  have key := Pipeline.eq_sum_fin_of_reset_step_apply_of_flush
    (fun n h (x : Fin 256 × Fin 1024) => ((outsAt0 m c n h).2.2.2.1 (ix2 x.1 x.2) : EReal)) 8 (fun _ => 0)
    (fun p x => keyTerm m c p x.1 x.2) (fun t h x => first13 m c t h x.1 x.2) (fun t h x => next13 m c t h x.1 x.2)
    t ((flush0_13 t).mp hf) (i, j)
  refine key.trans ((zero_add _).trans ((key_run m c t _ i j).trans ?_))
  refine congrArg₂ (dkA m c) (Fin.ext ?_) (Fin.ext ?_)
  · blk_simp [idx t, keyAt]
  · blk_simp [idx t]

theorem final14 : (dats m 0 c).arrAt 14 (cfgs 0).N = (fun y => dvA m c (y 0) (y 1) : FVec Ideal S512x1024 .f32) := by
  refine (dats m 0 c).arrAt_eq_of_covers 14 _ (by decide +kernel) fun t hf y => ?_
  blk_simp
  rw [after0_14]
  obtain ⟨i, j, rfl⟩ : ∃ (i : Fin 256) (j : Fin 1024), y = ix2 i j := ⟨y 0, y 1, eq_ix2 y⟩
  have key := Pipeline.eq_sum_fin_of_reset_step_apply_of_flush
    (fun n h (x : Fin 256 × Fin 1024) => ((outsAt0 m c n h).2.2.2.2.1 (ix2 x.1 x.2) : EReal)) 8 (fun _ => 0)
    (fun p x => valueTerm m c p x.1 x.2) (fun t h x => first14 m c t h x.1 x.2) (fun t h x => next14 m c t h x.1 x.2)
    t ((flush0_14 t).mp hf) (i, j)
  refine key.trans ((zero_add _).trans ((value_run m c t _ i j).trans ?_))
  refine congrArg₂ (dvA m c) (Fin.ext ?_) (Fin.ext ?_)
  · blk_simp [idx t, keyAt]
  · blk_simp [idx t]

/-! ## The sums over all the rows -/

theorem gainPost_run (j : Fin 1024) : ∑ p : Fin cfg0.N, gainPostTerm m c p j = dgPostA m c j := by
  refine Fin.sum_mul_add_congr (S := cfg0.N) (fun p r hl => ?_) (congrArg (· * 512) N_0.symm)
  rw [dx2R_eq, aoR_eq]; rfl

theorem gainPre_run (j : Fin 1024) : ∑ p : Fin cfg0.N, gainPreTerm m c p j = dgPreA m c j := by
  refine Fin.sum_mul_add_congr (S := cfg0.N) (fun p r hl => ?_) (congrArg (· * 512) N_0.symm)
  rw [dhR_eq, x1R_eq]; rfl

theorem final15 : (dats m 0 c).arrAt 15 (cfgs 0).N = (fun y => dgPostA m c (y 1) : FVec Ideal S1x1024 .f32) := by
  refine (dats m 0 c).arrAt_eq_of_covers 15 _ (by decide +kernel) fun t hf y => ?_
  blk_simp
  rw [after0_15]
  obtain ⟨i, j, rfl⟩ : ∃ (i : Fin 1) (j : Fin 1024), y = ix2 i j := ⟨y 0, y 1, eq_ix2 y⟩
  obtain rfl : i = 0 := Subsingleton.elim _ _
  have hl : t.val + 1 = cfg0.N := by have h := (flush0_15 t).mp hf; have := lt16 t; exact (by omega : t.val + 1 = 16).trans N_0.symm
  have key := Pipeline.eq_sum_fin_of_reset_step_apply_last
    (fun n h (x : Fin 1024) => ((outsAt0 m c n h).2.2.2.2.2.1 (ix2 0 x) : EReal)) 16 (fun _ => 0)
    (fun p x => gainPostTerm m c p x) (fun t h x => first15 m c t h x) (fun t h x => next15 m c t h x)
    (le_of_eq N_0) t hl j
  refine key.trans ((zero_add _).trans ((gainPost_run m c j).trans ?_))
  refine congrArg (dgPostA m c) (Fin.ext ?_)
  blk_simp [idx t]

theorem final16 : (dats m 0 c).arrAt 16 (cfgs 0).N = (fun y => dgPreA m c (y 1) : FVec Ideal S1x1024 .f32) := by
  refine (dats m 0 c).arrAt_eq_of_covers 16 _ (by decide +kernel) fun t hf y => ?_
  blk_simp
  rw [after0_16]
  obtain ⟨i, j, rfl⟩ : ∃ (i : Fin 1) (j : Fin 1024), y = ix2 i j := ⟨y 0, y 1, eq_ix2 y⟩
  obtain rfl : i = 0 := Subsingleton.elim _ _
  have hl : t.val + 1 = cfg0.N := by have h := (flush0_16 t).mp hf; have := lt16 t; exact (by omega : t.val + 1 = 16).trans N_0.symm
  have key := Pipeline.eq_sum_fin_of_reset_step_apply_last
    (fun n h (x : Fin 1024) => ((outsAt0 m c n h).2.2.2.2.2.2 (ix2 0 x) : EReal)) 16 (fun _ => 0)
    (fun p x => gainPreTerm m c p x) (fun t h x => first16 m c t h x) (fun t h x => next16 m c t h x)
    (le_of_eq N_0) t hl j
  refine key.trans ((zero_add _).trans ((gainPre_run m c j).trans ?_))
  refine congrArg (dgPreA m c) (Fin.ext ?_)
  blk_simp [idx t]

end Cert.BAttnIdeal.Gradient

end
-- ==== Proof.Reference.lean ====
/- The reference, read at an index: its stages as functions of a row, a head and a feature. -/
module

public import proofs.«01_k».proof.Proof.Gen.BAttnRefIdeal.Read
public import proofs.«01_k».proof.Proof.Whole
public import Idealize.ShloMosaic.Lib.Pipeline.ValueKit

@[expose] public section

set_option maxRecDepth 16384

noncomputable section

namespace Cert.BAttnRefIdeal.Gradient

open Cert.BAttnRefIdeal Cert.BAttnRefIdeal.Gen Cert.BAttnRefIdeal.Read Idealize.ShloMosaic Idealize.ShloMosaic.TcCoe Idealize.SL.Sem Cert.RowGradients

variable (x0 x1 : FVec Ideal S8192x1024 .f32) (x2 : FVec Ideal S1x1024 .f32) (x3 : FVec Ideal S1024x1024 .f32)
  (x4 x5 : FVec Ideal S512x1024 .f32) (x6 : FVec Ideal S1024x1024 .f32) (x7 : FVec Ideal S1x1024 .f32)

/-- An array of rows, of keys, a gain, a weight, as functions of their coordinates. -/
abbrev rows (x : FVec Ideal S8192x1024 .f32) (n : Fin 8192) (l : Fin 1024) : EReal := x (ix2 n l)
abbrev keys (x : FVec Ideal S512x1024 .f32) (p : Fin 512) (l : Fin 1024) : EReal := x (ix2 p l)
abbrev gain (x : FVec Ideal S1x1024 .f32) (l : Fin 1024) : EReal := x (ix2 0 l)
abbrev weight (x : FVec Ideal S1024x1024 .f32) (a b : Fin 1024) : EReal := x (ix2 a b)

/-- The queries and the attention's output. -/
abbrev qF : FVec Ideal S8192x1024 .f32 := val_main_v15 (F := Ideal) x1 x2 x3
abbrev aoF : FVec Ideal S8192x1024 .f32 := val_main_v53 (F := Ideal) x1 x2 x3 x4 x5 x6

/-! ## The two normalisations -/

theorem xhat_apply (n : Fin 8192) (j : Fin 1024) : val_main_v12 (F := Ideal) x1 (ix2 n j) = normed (rows x1 n) j := by
  simp only [normed, invRms, meanSq]
  pointwise [val_main_v12, val_main_v11, val_main_v7, val_main_v6, val_main_v5, val_main_v4, val_main_v3, val_main_v2, val_main_v1,
    val_main_v0, val_main_cst, val_main_cst_0, val_main_cst_1]

theorem aohat_apply (n : Fin 8192) (j : Fin 1024) :
    val_main_v66 (F := Ideal) x1 x2 x3 x4 x5 x6 (ix2 n j) = normed (rows (aoF x1 x2 x3 x4 x5 x6) n) j := by
  simp only [normed, invRms, meanSq]
  pointwise [val_main_v66, val_main_v65, val_main_v61, val_main_v60, val_main_v59, val_main_v58, val_main_v57, val_main_v56,
    val_main_v55, val_main_v54, val_main_cst_14, val_main_cst_15, val_main_cst_16]

theorem dao_apply (n : Fin 8192) (j : Fin 1024) :
    val_main_v89 (F := Ideal) x0 x1 x2 x3 x4 x5 x6 x7 (ix2 n j)
      = normGradRef (rows (aoF x1 x2 x3 x4 x5 x6) n) (gain x7) (rows x0 n) j := by
  simp only [normGradRef, throughMean, invRms, meanSq]
  pointwise [val_main_v89, val_main_v88, val_main_v87, val_main_v86, val_main_v85, val_main_v84, val_main_v83, val_main_v82,
    val_main_v81, val_main_v80, val_main_v79, val_main_v78, val_main_v77, val_main_v76, val_main_v75, val_main_v74, val_main_v70,
    val_main_v64, val_main_v63, val_main_v62,
    val_main_v61, val_main_v60, val_main_v59, val_main_v58, val_main_v57, val_main_v56,
    val_main_v55, val_main_v54, val_main_cst_14, val_main_cst_15, val_main_cst_16, val_main_cst_17, val_main_cst_19, val_main_cst_20,
    val_main_cst_21]
  simp only [Finset.univ_unique, Finset.sum_singleton]

/-! ## The scores and their softmax -/

theorem score_apply (b : Fin 2) (h : Fin 4) (s : Fin 4096) (i : Fin 256) :
    val_main_v21 (F := Ideal) x1 x2 x3 x4 (ix4 b h s i)
      = score (fun e => rows (qF x1 x2 x3) (rowOf b s) (col h e)) (fun l e => ofSeq (keys x4) b l (col h e)) i := by
  simp only [score, rowOf, ofSeq, col, Nat.mul_comm 256]
  pointwise [val_main_v21, val_main_v20, val_main_v19, val_main_v17, val_main_v16, val_main_cst_3]

theorem rowMax_apply (b : Fin 2) (h : Fin 4) (s : Fin 4096) :
    val_main_v22 (F := Ideal) x1 x2 x3 x4 (ix3 b h s) = rowMax fun i => val_main_v21 (F := Ideal) x1 x2 x3 x4 (ix4 b h s i) := by
  simp only [rowMax]
  pointwise [val_main_v22, val_main_cst_4]

end Cert.BAttnRefIdeal.Gradient

end
-- ==== Proof.RefAttend.lean ====
/- The reference's softmax and the gradients through it, read at an index. -/
module

public import proofs.«01_k».proof.Proof.Reference

@[expose] public section

set_option maxRecDepth 16384

noncomputable section

namespace Cert.BAttnRefIdeal.Gradient

open Cert.BAttnRefIdeal Cert.BAttnRefIdeal.Gen Cert.BAttnRefIdeal.Read Idealize.ShloMosaic Idealize.ShloMosaic.TcCoe Idealize.SL.Sem Cert.RowGradients

variable (x0 x1 : FVec Ideal S8192x1024 .f32) (x2 : FVec Ideal S1x1024 .f32) (x3 : FVec Ideal S1024x1024 .f32)
  (x4 x5 : FVec Ideal S512x1024 .f32) (x6 : FVec Ideal S1024x1024 .f32) (x7 : FVec Ideal S1x1024 .f32)

/-- The scores of a query against the keys, in head `h`. -/
abbrev scoreF (b : Fin 2) (h : Fin 4) (s : Fin 4096) : Fin 256 → EReal :=
  score (fun e => rows (qF x1 x2 x3) (rowOf b s) (col h e)) (fun l e => ofSeq (keys x4) b l (col h e))

theorem scores_row (b : Fin 2) (h : Fin 4) (s : Fin 4096) :
    (fun i => (val_main_v21 (F := Ideal) x1 x2 x3 x4 (ix4 b h s i) : EReal)) = scoreF x1 x2 x3 x4 b h s :=
  funext fun i => score_apply x1 x2 x3 x4 b h s i

theorem expd_apply (b : Fin 2) (h : Fin 4) (s : Fin 4096) (i : Fin 256) :
    val_main_v42 (F := Ideal) x1 x2 x3 x4 (ix4 b h s i) = expd (scoreF x1 x2 x3 x4 b h s) i := by
  have hi : idx_main_v39 (idx_main_v40 (ix4 b h s i)) = ix3 b h s := by
    funext a
    match a with
    | 0 => rfl
    | 1 => rfl
    | 2 => rfl
  rw [val_main_v42_apply, val_main_v41_apply, val_main_v40_apply, val_main_v39_apply, val_main_v29_apply, val_main_v28_apply,
    val_main_cst_6_apply, hi, rowMax_apply, scores_row, score_apply]
  show Ideal.exp (_ - max negInf _) = _
  rw [negInf_eq, max_eq_right bot_le]
  rfl

theorem expdSum_apply (b : Fin 2) (h : Fin 4) (s : Fin 4096) :
    val_main_v44 (F := Ideal) x1 x2 x3 x4 (ix4 b h s 0) = ∑ l, expd (scoreF x1 x2 x3 x4 b h s) l := by
  simp only [← expd_apply]
  pointwise [val_main_v44, val_main_v43, val_main_cst_12]

theorem prob_apply (b : Fin 2) (h : Fin 4) (s : Fin 4096) (i : Fin 256) :
    val_main_v46 (F := Ideal) x1 x2 x3 x4 (ix4 b h s i) = prob (scoreF x1 x2 x3 x4 b h s) i := by
  rw [prob, ← expdSum_apply, ← expd_apply]
  pointwise [val_main_v46, val_main_v45]

theorem do_apply (n : Fin 8192) (j : Fin 1024) :
    val_main_v90 (F := Ideal) x0 x1 x2 x3 x4 x5 x6 x7 (ix2 n j)
      = timesT (normGradRef (rows (aoF x1 x2 x3 x4 x5 x6) n) (gain x7) (rows x0 n)) (weight x6) j := by
  simp only [timesT, ← dao_apply]
  pointwise [val_main_v90]

/-- The gradient of the probabilities. -/
abbrev doF : FVec Ideal S8192x1024 .f32 := val_main_v90 (F := Ideal) x0 x1 x2 x3 x4 x5 x6 x7
abbrev probGradF (b : Fin 2) (h : Fin 4) (s : Fin 4096) : Fin 256 → EReal :=
  probGrad (rows (doF x0 x1 x2 x3 x4 x5 x6 x7) (rowOf b s)) (ofSeq (keys x5) b) h

theorem probGrad_apply (b : Fin 2) (h : Fin 4) (s : Fin 4096) (i : Fin 256) :
    val_main_v93 (F := Ideal) x0 x1 x2 x3 x4 x5 x6 x7 (ix4 b h s i) = probGradF x0 x1 x2 x3 x4 x5 x6 x7 b h s i := by
  simp only [probGrad, rowOf, ofSeq, col, Nat.mul_comm 256]
  pointwise [val_main_v93, val_main_v92, val_main_v91, val_main_v18]

/-- The gradient of the scores. -/
abbrev scoreGradF (b : Fin 2) (h : Fin 4) (s : Fin 4096) : Fin 256 → EReal :=
  scoreGradRef (scoreF x1 x2 x3 x4 b h s) (probGradF x0 x1 x2 x3 x4 x5 x6 x7 b h s)

theorem scoreGrad_apply (b : Fin 2) (h : Fin 4) (s : Fin 4096) (i : Fin 256) :
    val_main_v109 (F := Ideal) x0 x1 x2 x3 x4 x5 x6 x7 (ix4 b h s i) = scoreGradF x0 x1 x2 x3 x4 x5 x6 x7 b h s i := by
  show _ = (Ideal.div (probGradF x0 x1 x2 x3 x4 x5 x6 x7 b h s i) (∑ l, expd (scoreF x1 x2 x3 x4 b h s) l)
    + -(∑ l, probGradF x0 x1 x2 x3 x4 x5 x6 x7 b h s l * Ideal.div one ((∑ l, expd (scoreF x1 x2 x3 x4 b h s) l)
        * (∑ l, expd (scoreF x1 x2 x3 x4 b h s) l)) * expd (scoreF x1 x2 x3 x4 b h s) l))
    * expd (scoreF x1 x2 x3 x4 b h s) i * scale
  rw [← expdSum_apply]
  simp only [← expd_apply, ← probGrad_apply]
  pointwise [val_main_v109, val_main_v108, val_main_v107, val_main_v106, val_main_v105, val_main_v104, val_main_v103, val_main_v102,
    val_main_v101, val_main_v100, val_main_v99, val_main_v98, val_main_v97, val_main_v96, val_main_v49, val_main_v48, val_main_v47,
    val_main_cst_13, val_main_cst_22, val_main_cst_23, val_main_cst_24]
  simp only [Finset.univ_unique, Finset.sum_singleton]

/-- The gradients of the values, of the keys and of the queries. -/
theorem dv_apply (p : Fin 512) (j : Fin 1024) (b : Fin 2) (i : Fin 256) (h : Fin 4) (e : Fin 256)
    (hp : p = ⟨b.val * 256 + i.val, by omega⟩) (hj : j = col h e) :
    val_main_v114 (F := Ideal) x0 x1 x2 x3 x4 x5 x6 x7 (ix2 p j)
      = ∑ s : Fin 4096, prob (scoreF x1 x2 x3 x4 b h s) i * rows (doF x0 x1 x2 x3 x4 x5 x6 x7) (rowOf b s) j := by
  subst hp hj
  simp only [← prob_apply, rowOf, col, Nat.mul_comm 256, mul_comm (val_main_v46 (F := Ideal) _ _ _ _ _)]
  pointwise [val_main_v114, val_main_v95, val_main_v94, val_main_v92, val_main_v91]

theorem dk_apply (p : Fin 512) (j : Fin 1024) (b : Fin 2) (i : Fin 256) (h : Fin 4) (e : Fin 256)
    (hp : p = ⟨b.val * 256 + i.val, by omega⟩) (hj : j = col h e) :
    val_main_v115 (F := Ideal) x0 x1 x2 x3 x4 x5 x6 x7 (ix2 p j)
      = ∑ s : Fin 4096, scoreGradF x0 x1 x2 x3 x4 x5 x6 x7 b h s i * rows (qF x1 x2 x3) (rowOf b s) j := by
  subst hp hj
  simp only [← scoreGrad_apply, rowOf, col, Nat.mul_comm 256]
  pointwise [val_main_v115, val_main_v111, val_main_v110, val_main_v16]

theorem dq_apply (n : Fin 8192) (j : Fin 1024) (b : Fin 2) (s : Fin 4096) (h : Fin 4) (e : Fin 256)
    (hn : n = rowOf b s) (hj : j = col h e) :
    val_main_v116 (F := Ideal) x0 x1 x2 x3 x4 x5 x6 x7 (ix2 n j)
      = ∑ i : Fin 256, scoreGradF x0 x1 x2 x3 x4 x5 x6 x7 b h s i * ofSeq (keys x4) b i j := by
  subst hn hj
  simp only [← scoreGrad_apply, rowOf, ofSeq, col, Nat.mul_comm 256]
  pointwise [val_main_v116, val_main_v113, val_main_v112, val_main_v17]

/-- The gradient of the normed rows, and through the norm of the rows. -/
theorem dh_apply (n : Fin 8192) (j : Fin 1024) :
    val_main_v117 (F := Ideal) x0 x1 x2 x3 x4 x5 x6 x7 (ix2 n j)
      = timesT (fun l => val_main_v116 (F := Ideal) x0 x1 x2 x3 x4 x5 x6 x7 (ix2 n l)) (weight x3) j := by
  simp only [timesT]
  pointwise [val_main_v117]

theorem dx_apply (n : Fin 8192) (j : Fin 1024) :
    val_main_v139 (F := Ideal) x0 x1 x2 x3 x4 x5 x6 x7 (ix2 n j)
      = rows x0 n j + normGradRef (rows x1 n) (gain x2)
          (fun l => val_main_v117 (F := Ideal) x0 x1 x2 x3 x4 x5 x6 x7 (ix2 n l)) j := by
  simp only [normGradRef, throughMean, invRms, meanSq]
  pointwise [val_main_v139, val_main_v136, val_main_v135, val_main_v134, val_main_v133, val_main_v132, val_main_v131, val_main_v130,
    val_main_v129, val_main_v128, val_main_v127, val_main_v126, val_main_v125, val_main_v124, val_main_v123, val_main_v122,
    val_main_v121, val_main_v10, val_main_v9, val_main_v8, val_main_v7, val_main_v6, val_main_v5, val_main_v4, val_main_v3,
    val_main_v2, val_main_v1, val_main_v0, val_main_cst, val_main_cst_0, val_main_cst_1, val_main_cst_2, val_main_cst_26,
    val_main_cst_27, val_main_cst_28]
  simp only [Finset.univ_unique, Finset.sum_singleton]

/-- The gradients of the two gains. -/
theorem dgPre_apply (j : Fin 1024) :
    val_main_v120 (F := Ideal) x0 x1 x2 x3 x4 x5 x6 x7 (ix2 0 j)
      = ∑ n : Fin 8192, val_main_v117 (F := Ideal) x0 x1 x2 x3 x4 x5 x6 x7 (ix2 n j) * normed (rows x1 n) j := by
  simp only [← xhat_apply, mul_comm (val_main_v117 (F := Ideal) _ _ _ _ _ _ _ _ _)]
  pointwise [val_main_v120, val_main_v119, val_main_v118, val_main_cst_25]

theorem dgPost_apply (j : Fin 1024) :
    val_main_v73 (F := Ideal) x0 x1 x2 x3 x4 x5 x6 (ix2 0 j)
      = ∑ n : Fin 8192, rows x0 n j * normed (rows (aoF x1 x2 x3 x4 x5 x6) n) j := by
  simp only [← aohat_apply, mul_comm (rows x0 _ j)]
  pointwise [val_main_v73, val_main_v72, val_main_v71, val_main_v70, val_main_cst_18]

end Cert.BAttnRefIdeal.Gradient

end
-- ==== Proof.RefWhole.lean ====
/- The reference's results are the same functions of its arguments as the kernel's. The two differ in the order of the steps of
   the two normalisations and of the softmax; for the softmax the scores have to be real numbers. -/
module

public import proofs.«01_k».proof.Proof.RefAttend

@[expose] public section

set_option maxRecDepth 16384

noncomputable section

namespace Cert.BAttnRefIdeal.Gradient

open Cert.BAttnRefIdeal Cert.BAttnRefIdeal.Gen Cert.BAttnRefIdeal.Read Idealize.ShloMosaic Idealize.ShloMosaic.TcCoe Idealize.SL.Sem Cert.RowGradients

variable (x0 x1 : FVec Ideal S8192x1024 .f32) (x2 : FVec Ideal S1x1024 .f32) (x3 : FVec Ideal S1024x1024 .f32)
  (x4 x5 : FVec Ideal S512x1024 .f32) (x6 : FVec Ideal S1024x1024 .f32) (x7 : FVec Ideal S1x1024 .f32)

/-- The scores are real numbers where the arrays that they come from are. -/
structure Finite : Prop where
  x1 : ∀ n j, IsReal (rows x1 n j)
  gPre : ∀ j, IsReal (gain x2 j)
  wq : ∀ a b, IsReal (weight x3 a b)
  k : ∀ p j, IsReal (keys x4 p j)

theorem q_apply (n : Fin 8192) (j : Fin 1024) :
    rows (qF x1 x2 x3) n j = ∑ l, (normed (rows x1 n) l * gain x2 l) * weight x3 l j := by
  simp only [← xhat_apply]
  show val_main_v15 (F := Ideal) x1 x2 x3 (ix2 n j) = _
  pointwise [val_main_v15, val_main_v14, val_main_v13]

section

variable {x1 x2 x3 x4}

theorem Finite.q (hf : Finite x1 x2 x3 x4) (n : Fin 8192) (j : Fin 1024) : IsReal (rows (qF x1 x2 x3) n j) := by
  rw [q_apply]
  exact IsReal.sum _ _ fun l => ((normed_isReal _ (hf.x1 n) l).mul (hf.gPre l)).mul (hf.wq l j)

theorem Finite.score (hf : Finite x1 x2 x3 x4) (b : Fin 2) (h : Fin 4) (s : Fin 4096) (i : Fin 256) :
    IsReal (scoreF x1 x2 x3 x4 b h s i) :=
  score_isReal _ _ (fun e => hf.q _ _) (fun l e => hf.k _ _) i

theorem Finite.scoreGrad (hf : Finite x1 x2 x3 x4) (dp : Fin 256 → EReal) (b : Fin 2) (h : Fin 4) (s : Fin 4096) (i : Fin 256) :
    scoreGradRef (scoreF x1 x2 x3 x4 b h s) dp i = scoreGrad (prob (scoreF x1 x2 x3 x4 b h s)) dp i := by
  obtain ⟨σ, hσ, h'⟩ := sum_expd_pos _ (hf.score b h s)
  exact (scoreGrad_eq_ref _ dp i σ hσ h').symm

end

/-! ## The seven results -/

theorem dao_whole (n : Fin 8192) : normGradRef (rows (aoF x1 x2 x3 x4 x5 x6) n) (gain x7) (rows x0 n)
    = wholeDao (rows x0) (rows (aoF x1 x2 x3 x4 x5 x6)) (gain x7) n :=
  funext fun j => (normGrad_eq_ref _ _ _ j).symm

theorem do_whole (n : Fin 8192) : rows (doF x0 x1 x2 x3 x4 x5 x6 x7) n
    = wholeDo (rows x0) (rows (aoF x1 x2 x3 x4 x5 x6)) (gain x7) (weight x6) n := by
  funext j
  rw [wholeDo, ← dao_whole]
  exact do_apply x0 x1 x2 x3 x4 x5 x6 x7 n j

theorem headGrad_whole (hf : Finite x1 x2 x3 x4) (b : Fin 2) (h : Fin 4) (s : Fin 4096) (i : Fin 256) :
    scoreGradF x0 x1 x2 x3 x4 x5 x6 x7 b h s i
      = headGrad (rows (qF x1 x2 x3) (rowOf b s))
          (wholeDo (rows x0) (rows (aoF x1 x2 x3 x4 x5 x6)) (gain x7) (weight x6) (rowOf b s))
          (ofSeq (keys x4) b) (ofSeq (keys x5) b) h i := by
  rw [scoreGradF, hf.scoreGrad, probGradF, do_whole]
  rfl

theorem rowOf_seqOf (n : Fin 8192) : n = rowOf (seqOf n) ⟨n.val % 4096, by omega⟩ :=
  Fin.ext (by simp only [seqOf, rowOf]; omega)

theorem key_eq (p : Fin 512) : p = ⟨(keySeq p).val * 256 + (keyPos p).val, by omega⟩ :=
  Fin.ext (by simp only [keySeq, keyPos]; omega)

theorem col_headIx (j : Fin 1024) : j = col (headIx j) ⟨j.val % 256, by omega⟩ :=
  Fin.ext (by simp only [headIx, col]; omega)

theorem dq_whole (hf : Finite x1 x2 x3 x4) (n : Fin 8192) (j : Fin 1024) :
    val_main_v116 (F := Ideal) x0 x1 x2 x3 x4 x5 x6 x7 (ix2 n j)
      = wholeDq (rows x0) (rows (aoF x1 x2 x3 x4 x5 x6)) (rows (qF x1 x2 x3)) (gain x7) (weight x6) (keys x4) (keys x5) n j := by
  rw [dq_apply x0 x1 x2 x3 x4 x5 x6 x7 n j _ _ _ _ (rowOf_seqOf n) (col_headIx j)]
  simp only [headGrad_whole x0 x1 x2 x3 x4 x5 x6 x7 hf, ← rowOf_seqOf n]
  rfl

theorem dh_whole (hf : Finite x1 x2 x3 x4) (n : Fin 8192) (j : Fin 1024) :
    val_main_v117 (F := Ideal) x0 x1 x2 x3 x4 x5 x6 x7 (ix2 n j)
      = wholeDh (rows x0) (rows (aoF x1 x2 x3 x4 x5 x6)) (rows (qF x1 x2 x3)) (gain x7) (weight x6) (weight x3) (keys x4) (keys x5)
          n j := by
  rw [dh_apply]
  simp only [dq_whole x0 x1 x2 x3 x4 x5 x6 x7 hf]
  rfl

theorem dx_whole (hf : Finite x1 x2 x3 x4) (n : Fin 8192) (j : Fin 1024) :
    val_main_v139 (F := Ideal) x0 x1 x2 x3 x4 x5 x6 x7 (ix2 n j)
      = wholeDx (rows x0) (rows (aoF x1 x2 x3 x4 x5 x6)) (rows x1) (rows (qF x1 x2 x3)) (gain x7) (gain x2) (weight x6) (weight x3)
          (keys x4) (keys x5) n j := by
  rw [dx_apply, ← normGrad_eq_ref]
  simp only [dh_whole x0 x1 x2 x3 x4 x5 x6 x7 hf]
  rfl

theorem dk_whole (hf : Finite x1 x2 x3 x4) (p : Fin 512) (j : Fin 1024) :
    val_main_v115 (F := Ideal) x0 x1 x2 x3 x4 x5 x6 x7 (ix2 p j)
      = wholeDk (rows x0) (rows (aoF x1 x2 x3 x4 x5 x6)) (rows (qF x1 x2 x3)) (gain x7) (weight x6) (keys x4) (keys x5) p j := by
  rw [dk_apply x0 x1 x2 x3 x4 x5 x6 x7 p j _ _ _ _ (key_eq p) (col_headIx j)]
  simp only [headGrad_whole x0 x1 x2 x3 x4 x5 x6 x7 hf]
  rfl

theorem dv_whole (p : Fin 512) (j : Fin 1024) :
    val_main_v114 (F := Ideal) x0 x1 x2 x3 x4 x5 x6 x7 (ix2 p j)
      = wholeDv (rows x0) (rows (aoF x1 x2 x3 x4 x5 x6)) (rows (qF x1 x2 x3)) (gain x7) (weight x6) (keys x4) p j := by
  rw [dv_apply x0 x1 x2 x3 x4 x5 x6 x7 p j _ _ _ _ (key_eq p) (col_headIx j)]
  exact Finset.sum_congr rfl fun s _ => congrArg (_ * ·) (congrFun (do_whole x0 x1 x2 x3 x4 x5 x6 x7 _) j)

theorem dgPre_whole (hf : Finite x1 x2 x3 x4) (j : Fin 1024) :
    val_main_v120 (F := Ideal) x0 x1 x2 x3 x4 x5 x6 x7 (ix2 0 j)
      = wholeDgPre (rows x0) (rows (aoF x1 x2 x3 x4 x5 x6)) (rows x1) (rows (qF x1 x2 x3)) (gain x7) (weight x6) (weight x3)
          (keys x4) (keys x5) j := by
  rw [dgPre_apply]
  simp only [dh_whole x0 x1 x2 x3 x4 x5 x6 x7 hf]
  rfl

end Cert.BAttnRefIdeal.Gradient

end
-- ==== Proof.Finite.lean ====
/- What the precondition says: the four arrays that the scores come from hold real numbers. -/
module

public import proofs.«01_k».proof.Pre_scores_finite
public import proofs.«01_k».proof.Proof.RowGradients
public import Idealize.ShloMosaic.Lib.ReduceAll

@[expose] public section

noncomputable section

namespace Cert.Pre_scores_finite

open Idealize.ShloMosaic Cert.RowGradients

theorem facts : Facts := ⟨by decide, by decide, by decide, by decide, by decide⟩

/-- A running maximum is at least every value that it has met. -/
theorem le_foldl_max {ι : Type*} (f : ι → EReal) :
    ∀ (l : List ι) (a : EReal), a ≤ l.foldl (fun r n => max r (f n)) a ∧ ∀ n ∈ l, f n ≤ l.foldl (fun r n => max r (f n)) a
  | [], a => ⟨le_rfl, by simp⟩
  | b :: l, a => by
    obtain ⟨h, h'⟩ := le_foldl_max f l (max a (f b))
    refine ⟨(le_max_left _ _).trans h, fun n hn => ?_⟩
    rcases List.mem_cons.1 hn with rfl | hn
    · exact (le_max_right _ _).trans h
    · exact h' n hn

/-- An array whose largest absolute value is below infinity holds real numbers. -/
theorem isReal_of_max {s t : Shape} {axes : List (Fin s.rank)} [Subsingleton t.Idx] (x : FVec Ideal s .f32) (h : s.ReducesTo axes t)
    (hu : 0 < t.numel) (j : t.Idx)
    (e : cmpf .olt (Host.reduce FloatOps.maximumf (Host.absf x) (constant t .f32 0xFF800000#32) h hu) (constant t .f32 0x7F800000#32) j
      = 1#1) (i : s.Idx) : IsReal (x i) := by
  have top : Ideal.ofBits .f32 0x7F800000#32 = ⊤ := by simp [Ideal.ofBits, Ideal.ieee]
  have e' : Host.reduce FloatOps.maximumf (Host.absf x) (constant t .f32 0xFF800000#32) h hu j < (⊤ : EReal) := by
    by_contra hn
    rw [← top] at hn
    have : cmpf .olt (Host.reduce FloatOps.maximumf (Host.absf x) (constant t .f32 0xFF800000#32) h hu)
      (constant t .f32 0x7F800000#32) j = 0#1 := by
      show BitVec.ofBool (decide _) = _
      exact congrArg BitVec.ofBool (decide_eq_false hn)
    rw [this] at e
    exact absurd e (by decide)
  rw [Host.reduce_eq_foldl] at e'
  have mem : i ∈ List.filter (fun i => decide (h.drop i = j)) (List.map (⇑s.rowMajor.symm) (List.finRange s.numel)) :=
    List.mem_filter.2 ⟨List.mem_map.2 ⟨s.rowMajor i, List.mem_finRange _, Equiv.symm_apply_apply _ _⟩,
      decide_eq_true (Subsingleton.elim (h.drop i) j)⟩
  have hi := (le_foldl_max (fun i => max (x i) (-(x i))) _ (constant (F := Ideal) t .f32 0xFF800000#32 (Shape.Idx.first hu))).2 i mem
  have := hi.trans_lt e'
  exact isReal_of_abs ((le_max_left _ _).trans_lt this) ((le_max_right _ _).trans_lt this)

instance : Subsingleton S_.Idx := ⟨fun a b => funext fun i => i.elim0⟩

theorem real [Facts] (a0 a1 : FVec Ideal S8192x1024 .f32) (a2 : FVec Ideal S1x1024 .f32) (a3 : FVec Ideal S1024x1024 .f32)
    (a4 a5 : FVec Ideal S512x1024 .f32) (a6 : FVec Ideal S1024x1024 .f32) (a7 : FVec Ideal S1x1024 .f32)
    (e : fn (F := Ideal) a0 a1 a2 a3 a4 a5 a6 a7 = fun _ => 1#1) :
    (∀ i, IsReal (a1 i)) ∧ (∀ i, IsReal (a2 i)) ∧ (∀ i, IsReal (a3 i)) ∧ (∀ i, IsReal (a4 i)) := by
  have e := congrFun e (fun a => a.elim0)
  obtain ⟨e, e4⟩ := IntOp.andi_eq_one.1 e
  obtain ⟨e, e3⟩ := IntOp.andi_eq_one.1 e
  obtain ⟨e1, e2⟩ := IntOp.andi_eq_one.1 e
  exact ⟨isReal_of_max _ _ _ _ e1, isReal_of_max _ _ _ _ e2, isReal_of_max _ _ _ _ e3, isReal_of_max _ _ _ _ e4⟩

end Cert.Pre_scores_finite

end
-- ==== Proof.Results.lean ====
/- The claims about the attention's backward call: both runs end at the same seven arrays. -/
module

public import proofs.«01_k».proof.Defs
public import proofs.«01_k».proof.Proof.Finals
public import proofs.«01_k».proof.Proof.RefWhole
public import proofs.«01_k».proof.Proof.Finite
public import proofs.«01_k».proof.Proof.Gen.BAttn.Frame
public import proofs.«01_k».proof.Proof.Gen.BAttnIdeal.Frame
public import Idealize.ShloMosaic.Lib.Claim
public import Idealize.ShloMosaic.Adequacy
public import Idealize.ShloMosaic.Init

@[expose] public section

set_option maxRecDepth 16384

noncomputable section

namespace Cert.BAttnIdeal.Gradient

open Cert.BAttnIdeal Cert.BAttnIdeal.Gen Idealize.ShloMosaic Idealize.ShloMosaic.TcCoe Idealize.SL.Sem Cert.RowGradients
open Cert.BAttnRefIdeal.Read

variable (m : (ℓ : Loc nD τ sig) → Buf (Elt Ideal) ℓ) (c : Dev nD)

/-- The arguments of the call. -/
abbrev a0 : FVec Ideal S8192x1024 .f32 := m ((c : Thread nD τ).loc main_arg0)
abbrev a1 : FVec Ideal S8192x1024 .f32 := m ((c : Thread nD τ).loc main_arg1)
abbrev a2 : FVec Ideal S1x1024 .f32 := m ((c : Thread nD τ).loc main_arg2)
abbrev a3 : FVec Ideal S1024x1024 .f32 := m ((c : Thread nD τ).loc main_arg3)
abbrev a4 : FVec Ideal S512x1024 .f32 := m ((c : Thread nD τ).loc main_arg4)
abbrev a5 : FVec Ideal S512x1024 .f32 := m ((c : Thread nD τ).loc main_arg5)
abbrev a6 : FVec Ideal S1024x1024 .f32 := m ((c : Thread nD τ).loc main_arg6)
abbrev a7 : FVec Ideal S1x1024 .f32 := m ((c : Thread nD τ).loc main_arg7)

/-! ## What the lines before the call leave: the forward's arrays, and the casts of the weights -/

theorem entry_0 : (V m c main_arg0 : FVec Ideal S8192x1024 .f32) = a0 m c := by entry_read; rfl
theorem entry_1 : (V m c main_arg1 : FVec Ideal S8192x1024 .f32) = a1 m c := by entry_read; rfl
theorem entry_2 : (V m c main_arg2 : FVec Ideal S1x1024 .f32) = a2 m c := by entry_read; rfl
theorem entry_7 : (V m c main_arg7 : FVec Ideal S1x1024 .f32) = a7 m c := by entry_read; rfl
theorem entry_ao : (V m c main_v33 : FVec Ideal S8192x1024 .f32)
    = val_main_v53 (F := Ideal) (a1 m c) (a2 m c) (a3 m c) (a4 m c) (a5 m c) (a6 m c) := by entry_read; rfl
theorem entry_q : (V m c main_v34 : FVec Ideal S8192x1024 .bf16)
    = (val_main_v15 (F := Ideal) (a1 m c) (a2 m c) (a3 m c) : S8192x1024.Idx → EReal) := by entry_read; rfl
theorem entry_wo : (V m c main_v35 : FVec Ideal S1024x1024 .bf16) = (a6 m c : S1024x1024.Idx → EReal) := by entry_read; rfl
theorem entry_wq : (V m c main_v36 : FVec Ideal S1024x1024 .bf16) = (a3 m c : S1024x1024.Idx → EReal) := by entry_read; rfl
theorem entry_k : (V m c main_v37 : FVec Ideal S512x1024 .bf16) = (a4 m c : S512x1024.Idx → EReal) := by entry_read; rfl
theorem entry_v : (V m c main_v38 : FVec Ideal S512x1024 .bf16) = (a5 m c : S512x1024.Idx → EReal) := by entry_read; rfl

end Cert.BAttnIdeal.Gradient

namespace Cert.BAttnRefIdeal.Gradient

open Cert.BAttnRefIdeal Cert.BAttnRefIdeal.Read Idealize.ShloMosaic Cert.RowGradients

section

variable (x0 x1 : FVec Ideal S8192x1024 .f32) (x2 : FVec Ideal S1x1024 .f32) (x3 : FVec Ideal S1024x1024 .f32)
  (x4 x5 : FVec Ideal S512x1024 .f32) (x6 : FVec Ideal S1024x1024 .f32) (x7 : FVec Ideal S1x1024 .f32)

theorem ix2_eta {n0 n1 : ℕ} (y : (⟨2, ![n0, n1]⟩ : Shape).Idx) : y = ix2 (y 0) (y 1) := by
  funext a; match a with
  | 0 => rfl
  | 1 => rfl

theorem ix2_zero {n1 : ℕ} (y : (⟨2, ![1, n1]⟩ : Shape).Idx) : y = ix2 0 (y 1) := by
  funext a; match a with
  | 0 => exact Subsingleton.elim (α := Fin 1) _ _
  | 1 => rfl

theorem res137 : (fun y => wholeDao (rows x0) (rows (aoF x1 x2 x3 x4 x5 x6)) (gain x7) (y 0) (y 1) : FVec Ideal S8192x1024 .bf16)
    = val_main_v137 (F := Ideal) x0 x1 x2 x3 x4 x5 x6 x7 := by
  funext y
  rw [ix2_eta y]
  exact ((dao_apply x0 x1 x2 x3 x4 x5 x6 x7 _ _).trans (congrFun (dao_whole x0 x1 x2 x3 x4 x5 x6 x7 _) _)).symm

variable {x1 x2 x3 x4} in
theorem res138 (hf : Finite x1 x2 x3 x4) : (fun y => wholeDq (rows x0) (rows (aoF x1 x2 x3 x4 x5 x6)) (rows (qF x1 x2 x3)) (gain x7)
      (weight x6) (keys x4) (keys x5) (y 0) (y 1) : FVec Ideal S8192x1024 .bf16)
    = val_main_v138 (F := Ideal) x0 x1 x2 x3 x4 x5 x6 x7 := by
  funext y
  rw [ix2_eta y]
  exact (dq_whole x0 x1 x2 x3 x4 x5 x6 x7 hf _ _).symm

variable {x1 x2 x3 x4} in
theorem res139 (hf : Finite x1 x2 x3 x4) : (fun y => wholeDx (rows x0) (rows (aoF x1 x2 x3 x4 x5 x6)) (rows x1) (rows (qF x1 x2 x3))
      (gain x7) (gain x2) (weight x6) (weight x3) (keys x4) (keys x5) (y 0) (y 1) : FVec Ideal S8192x1024 .f32)
    = val_main_v139 (F := Ideal) x0 x1 x2 x3 x4 x5 x6 x7 := by
  funext y
  rw [ix2_eta y]
  exact (dx_whole x0 x1 x2 x3 x4 x5 x6 x7 hf _ _).symm

variable {x1 x2 x3 x4} in
theorem res115 (hf : Finite x1 x2 x3 x4) : (fun y => wholeDk (rows x0) (rows (aoF x1 x2 x3 x4 x5 x6)) (rows (qF x1 x2 x3)) (gain x7)
      (weight x6) (keys x4) (keys x5) (y 0) (y 1) : FVec Ideal S512x1024 .f32)
    = val_main_v115 (F := Ideal) x0 x1 x2 x3 x4 x5 x6 x7 := by
  funext y
  rw [ix2_eta y]
  exact (dk_whole x0 x1 x2 x3 x4 x5 x6 x7 hf _ _).symm

theorem res114 : (fun y => wholeDv (rows x0) (rows (aoF x1 x2 x3 x4 x5 x6)) (rows (qF x1 x2 x3)) (gain x7)
      (weight x6) (keys x4) (y 0) (y 1) : FVec Ideal S512x1024 .f32)
    = val_main_v114 (F := Ideal) x0 x1 x2 x3 x4 x5 x6 x7 := by
  funext y
  rw [ix2_eta y]
  exact (dv_whole x0 x1 x2 x3 x4 x5 x6 x7 _ _).symm

theorem res73 : (fun y => wholeDgPost (rows x0) (rows (aoF x1 x2 x3 x4 x5 x6)) (y 1) : FVec Ideal S1x1024 .f32)
    = val_main_v73 (F := Ideal) x0 x1 x2 x3 x4 x5 x6 := by
  funext y
  rw [ix2_zero y]
  exact (dgPost_apply x0 x1 x2 x3 x4 x5 x6 _).symm

variable {x1 x2 x3 x4} in
theorem res120 (hf : Finite x1 x2 x3 x4) : (fun y => wholeDgPre (rows x0) (rows (aoF x1 x2 x3 x4 x5 x6)) (rows x1) (rows (qF x1 x2 x3))
      (gain x7) (weight x6) (weight x3) (keys x4) (keys x5) (y 1) : FVec Ideal S1x1024 .f32)
    = val_main_v120 (F := Ideal) x0 x1 x2 x3 x4 x5 x6 x7 := by
  funext y
  rw [ix2_zero y]
  exact (dgPre_whole x0 x1 x2 x3 x4 x5 x6 x7 hf _).symm

end

end Cert.BAttnRefIdeal.Gradient

namespace Cert.BAttnIdeal.Gradient

open Cert.BAttnIdeal Cert.BAttnIdeal.Gen Idealize.ShloMosaic Idealize.ShloMosaic.TcCoe Idealize.SL.Sem Cert.RowGradients
open Cert.BAttnRefIdeal.Read
open Cert.BAttnRefIdeal.Gradient (rows keys gain weight qF aoF Finite)

variable (m : (ℓ : Loc nD τ sig) → Buf (Elt Ideal) ℓ) (c : Dev nD)

theorem dx2A_eq : dx2A m c = rows (a0 m c) := funext fun n => funext fun l => congrFun (entry_0 m c) (ix2 n l)
theorem aoA_eq : aoA m c = rows (aoF (a1 m c) (a2 m c) (a3 m c) (a4 m c) (a5 m c) (a6 m c)) :=
  funext fun n => funext fun l => congrFun (entry_ao m c) (ix2 n l)
theorem x1A_eq : x1A m c = rows (a1 m c) := funext fun n => funext fun l => congrFun (entry_1 m c) (ix2 n l)
theorem qA_eq : qA m c = rows (qF (a1 m c) (a2 m c) (a3 m c)) := funext fun n => funext fun l => congrFun (entry_q m c) (ix2 n l)
theorem gPostA_eq : gPostA m c = gain (a7 m c) := funext fun l => congrFun (entry_7 m c) (ix2 0 l)
theorem gPreA_eq : gPreA m c = gain (a2 m c) := funext fun l => congrFun (entry_2 m c) (ix2 0 l)
theorem woA_eq : woA m c = weight (a6 m c) := funext fun a => funext fun b => congrFun (entry_wo m c) (ix2 a b)
theorem wqA_eq : wqA m c = weight (a3 m c) := funext fun a => funext fun b => congrFun (entry_wq m c) (ix2 a b)
theorem kA_eq : kA m c = keys (a4 m c) := funext fun p => funext fun l => congrFun (entry_k m c) (ix2 p l)
theorem vA_eq : vA m c = keys (a5 m c) := funext fun p => funext fun l => congrFun (entry_v m c) (ix2 p l)

/-! ## The seven result arrays of the run, as the reference's -/

theorem dao_final : (dats m 0 c).arrAt 10 (cfgs 0).N
    = (val_main_v137 (F := Ideal) (a0 m c) (a1 m c) (a2 m c) (a3 m c) (a4 m c) (a5 m c) (a6 m c) (a7 m c) : FVec Ideal S8192x1024 .bf16) := by
  rw [final10]
  simp only [daoA, dx2A_eq, aoA_eq, x1A_eq, qA_eq, gPostA_eq, gPreA_eq, woA_eq, wqA_eq, kA_eq, vA_eq]
  exact Cert.BAttnRefIdeal.Gradient.res137 (a0 m c) (a1 m c) (a2 m c) (a3 m c) (a4 m c) (a5 m c) (a6 m c) (a7 m c)

theorem dq_final (hf : Finite (a1 m c) (a2 m c) (a3 m c) (a4 m c)) : (dats m 0 c).arrAt 11 (cfgs 0).N
    = (val_main_v138 (F := Ideal) (a0 m c) (a1 m c) (a2 m c) (a3 m c) (a4 m c) (a5 m c) (a6 m c) (a7 m c) : FVec Ideal S8192x1024 .bf16) := by
  rw [final11]
  simp only [dqA, dx2A_eq, aoA_eq, x1A_eq, qA_eq, gPostA_eq, gPreA_eq, woA_eq, wqA_eq, kA_eq, vA_eq]
  exact Cert.BAttnRefIdeal.Gradient.res138 (a0 m c) (a5 m c) (a6 m c) (a7 m c) hf

theorem dx_final (hf : Finite (a1 m c) (a2 m c) (a3 m c) (a4 m c)) : (dats m 0 c).arrAt 12 (cfgs 0).N
    = (val_main_v139 (F := Ideal) (a0 m c) (a1 m c) (a2 m c) (a3 m c) (a4 m c) (a5 m c) (a6 m c) (a7 m c) : FVec Ideal S8192x1024 .f32) := by
  rw [final12]
  simp only [dxA, dx2A_eq, aoA_eq, x1A_eq, qA_eq, gPostA_eq, gPreA_eq, woA_eq, wqA_eq, kA_eq, vA_eq]
  exact Cert.BAttnRefIdeal.Gradient.res139 (a0 m c) (a5 m c) (a6 m c) (a7 m c) hf

theorem dk_final (hf : Finite (a1 m c) (a2 m c) (a3 m c) (a4 m c)) : (dats m 0 c).arrAt 13 (cfgs 0).N
    = (val_main_v115 (F := Ideal) (a0 m c) (a1 m c) (a2 m c) (a3 m c) (a4 m c) (a5 m c) (a6 m c) (a7 m c) : FVec Ideal S512x1024 .f32) := by
  rw [final13]
  simp only [dkA, dx2A_eq, aoA_eq, x1A_eq, qA_eq, gPostA_eq, gPreA_eq, woA_eq, wqA_eq, kA_eq, vA_eq]
  exact Cert.BAttnRefIdeal.Gradient.res115 (a0 m c) (a5 m c) (a6 m c) (a7 m c) hf

theorem dv_final : (dats m 0 c).arrAt 14 (cfgs 0).N
    = (val_main_v114 (F := Ideal) (a0 m c) (a1 m c) (a2 m c) (a3 m c) (a4 m c) (a5 m c) (a6 m c) (a7 m c) : FVec Ideal S512x1024 .f32) := by
  rw [final14]
  simp only [dvA, dx2A_eq, aoA_eq, x1A_eq, qA_eq, gPostA_eq, gPreA_eq, woA_eq, wqA_eq, kA_eq, vA_eq]
  exact Cert.BAttnRefIdeal.Gradient.res114 (a0 m c) (a1 m c) (a2 m c) (a3 m c) (a4 m c) (a5 m c) (a6 m c) (a7 m c)

theorem dgPost_final : (dats m 0 c).arrAt 15 (cfgs 0).N
    = (val_main_v73 (F := Ideal) (a0 m c) (a1 m c) (a2 m c) (a3 m c) (a4 m c) (a5 m c) (a6 m c) : FVec Ideal S1x1024 .f32) := by
  rw [final15]
  simp only [dgPostA, dx2A_eq, aoA_eq, x1A_eq, qA_eq, gPostA_eq, gPreA_eq, woA_eq, wqA_eq, kA_eq, vA_eq]
  exact Cert.BAttnRefIdeal.Gradient.res73 (a0 m c) (a1 m c) (a2 m c) (a3 m c) (a4 m c) (a5 m c) (a6 m c)

theorem dgPre_final (hf : Finite (a1 m c) (a2 m c) (a3 m c) (a4 m c)) : (dats m 0 c).arrAt 16 (cfgs 0).N
    = (val_main_v120 (F := Ideal) (a0 m c) (a1 m c) (a2 m c) (a3 m c) (a4 m c) (a5 m c) (a6 m c) (a7 m c) : FVec Ideal S1x1024 .f32) := by
  rw [final16]
  simp only [dgPreA, dx2A_eq, aoA_eq, x1A_eq, qA_eq, gPostA_eq, gPreA_eq, woA_eq, wqA_eq, kA_eq, vA_eq]
  exact Cert.BAttnRefIdeal.Gradient.res120 (a0 m c) (a5 m c) (a6 m c) (a7 m c) hf

end Cert.BAttnIdeal.Gradient

end
-- ==== Proof.Claims.lean ====
/- `Cert.Claim`: the frames of the attention's backward call, of its ideal text and of the reference, and that the call computes
   the reference's seven arrays at the reals. -/
module

public import proofs.«01_k».proof.Proof.Results

@[expose] public section

set_option maxRecDepth 16384

noncomputable section

namespace Cert.Proof.Attn

open Idealize.ShloMosaic Idealize.ShloMosaic.TcCoe Idealize.SL.Sem Cert.RowGradients Cert.BAttnIdeal.Gradient
open Cert.BAttnRefIdeal.Gradient (Finite)

/-- The precondition says that the scores come from real numbers. -/
theorem finite_of_pre (m : (ℓ : Loc Cert.BAttnIdeal.nD Cert.BAttnIdeal.τ Cert.BAttnIdeal.sig) → Buf (Elt Ideal) ℓ)
    (h : Cert.Pre_BAttnIdeal_scores_finite (hPre_scores_finite := Cert.Pre_scores_finite.facts) m) (c : Dev Cert.BAttnIdeal.nD) :
    Finite (a1 m c) (a2 m c) (a3 m c) (a4 m c) := by
  haveI := Cert.Pre_scores_finite.facts
  obtain ⟨h1, h2, h3, h4⟩ := Cert.Pre_scores_finite.real (a0 m c) (a1 m c) (a2 m c) (a3 m c) (a4 m c) (a5 m c) (a6 m c) (a7 m c) (h c)
  exact ⟨fun n j => h1 _, fun j => h2 _, fun a b => h3 _, fun p j => h4 _⟩

/-- The reference leaves its arguments as they were; it has no semaphore. -/
theorem frame_ref : Cert.quiescent_BAttnRefIdeal := fun m ρ _ =>
  (θ_run Cert.BAttnRefIdeal.defs _ _).mono (fun r h => ⟨fun c => (h c).2.2.2.2.2.2.2,
      Idealize.ShloMosaic.sem_eq_zero_of_no_sems (by decide) r.2⟩)
    (Cert.BAttnRefIdeal.Value.run (F := Ideal) m ρ)

/-- The reference's arguments, and what its run leaves in its seven results. -/
abbrev b0 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S8192x1024 .f32 :=
  m ((c.tc : Thread Cert.BAttnRefIdeal.nD Cert.BAttnRefIdeal.τ).loc Cert.BAttnRefIdeal.main_arg0)
abbrev b1 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S8192x1024 .f32 :=
  m ((c.tc : Thread Cert.BAttnRefIdeal.nD Cert.BAttnRefIdeal.τ).loc Cert.BAttnRefIdeal.main_arg1)
abbrev b2 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S1x1024 .f32 :=
  m ((c.tc : Thread Cert.BAttnRefIdeal.nD Cert.BAttnRefIdeal.τ).loc Cert.BAttnRefIdeal.main_arg2)
abbrev b3 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S1024x1024 .f32 :=
  m ((c.tc : Thread Cert.BAttnRefIdeal.nD Cert.BAttnRefIdeal.τ).loc Cert.BAttnRefIdeal.main_arg3)
abbrev b4 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S512x1024 .f32 :=
  m ((c.tc : Thread Cert.BAttnRefIdeal.nD Cert.BAttnRefIdeal.τ).loc Cert.BAttnRefIdeal.main_arg4)
abbrev b5 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S512x1024 .f32 :=
  m ((c.tc : Thread Cert.BAttnRefIdeal.nD Cert.BAttnRefIdeal.τ).loc Cert.BAttnRefIdeal.main_arg5)
abbrev b6 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S1024x1024 .f32 :=
  m ((c.tc : Thread Cert.BAttnRefIdeal.nD Cert.BAttnRefIdeal.τ).loc Cert.BAttnRefIdeal.main_arg6)
abbrev b7 (m : (ℓ : Loc Cert.BAttnRefIdeal.nD Cert.BAttnRefIdeal.τ Cert.BAttnRefIdeal.sig) → Buf (Elt Ideal) ℓ)
    (c : Dev Cert.BAttnRefIdeal.nD) : FVec Ideal Cert.BAttnRefIdeal.S1x1024 .f32 :=
  m ((c.tc : Thread Cert.BAttnRefIdeal.nD Cert.BAttnRefIdeal.τ).loc Cert.BAttnRefIdeal.main_arg7)

section

open Cert.BAttnRefIdeal Cert.BAttnRefIdeal.Read

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137) = val_main_v137 (F := Ideal) (b0 m c) (b1 m c) (b2 m c) (b3 m c) (b4 m c) (b5 m c) (b6 m c) (b7 m c)
      ∧ r.2.mem ((c.tc : Thread nD τ).loc main_v138) = val_main_v138 (F := Ideal) (b0 m c) (b1 m c) (b2 m c) (b3 m c) (b4 m c) (b5 m c) (b6 m c) (b7 m c)
      ∧ r.2.mem ((c.tc : Thread nD τ).loc main_v139) = val_main_v139 (F := Ideal) (b0 m c) (b1 m c) (b2 m c) (b3 m c) (b4 m c) (b5 m c) (b6 m c) (b7 m c)
      ∧ r.2.mem ((c.tc : Thread nD τ).loc main_v115) = val_main_v115 (F := Ideal) (b0 m c) (b1 m c) (b2 m c) (b3 m c) (b4 m c) (b5 m c) (b6 m c) (b7 m c)
      ∧ r.2.mem ((c.tc : Thread nD τ).loc main_v114) = val_main_v114 (F := Ideal) (b0 m c) (b1 m c) (b2 m c) (b3 m c) (b4 m c) (b5 m c) (b6 m c) (b7 m c)
      ∧ r.2.mem ((c.tc : Thread nD τ).loc main_v73) = val_main_v73 (F := Ideal) (b0 m c) (b1 m c) (b2 m c) (b3 m c) (b4 m c) (b5 m c) (b6 m c)
      ∧ r.2.mem ((c.tc : Thread nD τ).loc main_v120) = val_main_v120 (F := Ideal) (b0 m c) (b1 m c) (b2 m c) (b3 m c) (b4 m c) (b5 m c) (b6 m c) (b7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (val_main_v137_eq (StableHlo.launchContents m c)),
    (h c).2.1.trans (val_main_v138_eq (StableHlo.launchContents m c)),
    (h c).2.2.1.trans (val_main_v139_eq (StableHlo.launchContents m c)),
    (h c).2.2.2.1.trans (val_main_v115_eq (StableHlo.launchContents m c)),
    (h c).2.2.2.2.1.trans (val_main_v114_eq (StableHlo.launchContents m c)),
    (h c).2.2.2.2.2.1.trans (val_main_v73_eq (StableHlo.launchContents m c)),
    (h c).2.2.2.2.2.2.1.trans (val_main_v120_eq (StableHlo.launchContents m c)),
    (h c).2.2.2.2.2.2.2⟩) (Cert.BAttnRefIdeal.Value.run (F := Ideal) m ρ)

end

theorem algebraic : Cert.algebraic_BAttnIdeal_BAttnRefIdeal_pre_scores_finite (hPre_scores_finite := Cert.Pre_scores_finite.facts) := by
  intro m ρ m' ρ' hpre hag
  have hf := finite_of_pre m hpre
  refine ⟨fun c => Cert.BAttnRefIdeal.Read.val_main_v137 (F := Ideal) (a0 m c) (a1 m c) (a2 m c) (a3 m c) (a4 m c) (a5 m c) (a6 m c) (a7 m c),
    fun c => Cert.BAttnRefIdeal.Read.val_main_v138 (F := Ideal) (a0 m c) (a1 m c) (a2 m c) (a3 m c) (a4 m c) (a5 m c) (a6 m c) (a7 m c),
    fun c => Cert.BAttnRefIdeal.Read.val_main_v139 (F := Ideal) (a0 m c) (a1 m c) (a2 m c) (a3 m c) (a4 m c) (a5 m c) (a6 m c) (a7 m c),
    fun c => Cert.BAttnRefIdeal.Read.val_main_v115 (F := Ideal) (a0 m c) (a1 m c) (a2 m c) (a3 m c) (a4 m c) (a5 m c) (a6 m c) (a7 m c),
    fun c => Cert.BAttnRefIdeal.Read.val_main_v114 (F := Ideal) (a0 m c) (a1 m c) (a2 m c) (a3 m c) (a4 m c) (a5 m c) (a6 m c) (a7 m c),
    fun c => Cert.BAttnRefIdeal.Read.val_main_v73 (F := Ideal) (a0 m c) (a1 m c) (a2 m c) (a3 m c) (a4 m c) (a5 m c) (a6 m c),
    fun c => Cert.BAttnRefIdeal.Read.val_main_v120 (F := Ideal) (a0 m c) (a1 m c) (a2 m c) (a3 m c) (a4 m c) (a5 m c) (a6 m c) (a7 m c),
    ?_, ?_⟩
  · refine (θ_run Cert.BAttnIdeal.defs _ _).mono (fun r h c => ?_) (Cert.BAttnIdeal.Value.run_blocks (F := Ideal) m ρ)
    obtain ⟨h0, h1, h2, h3, h4, h5, h6, hk⟩ := h c
    exact ⟨h0.trans (dao_final m c), h1.trans (dq_final m c (hf c)), h2.trans (dx_final m c (hf c)), h3.trans (dk_final m c (hf c)),
      h4.trans (dv_final m c), h5.trans (dgPost_final m c), h6.trans (dgPre_final m c (hf c)), hk⟩
  · refine (θ_run Cert.BAttnRefIdeal.defs _ _).mono (fun r h c => ?_) (run_ref m' ρ')
    obtain ⟨g0, g1, g2, g3, g4, g5, g6, g7⟩ := hag c
    have e := h c
    rw [show b0 m' c = a0 m c from g0, show b1 m' c = a1 m c from g1, show b2 m' c = a2 m c from g2, show b3 m' c = a3 m c from g3,
      show b4 m' c = a4 m c from g4, show b5 m' c = a5 m c from g5, show b6 m' c = a6 m c from g6, show b7 m' c = a7 m c from g7] at e
    exact e

end Cert.Proof.Attn

end
-- ==== Proof.FfnMath.lean ====
/- The mathematics of the feed-forward sublayer with its squared loss, row by row, over the extended reals.

   A row `x` is normalised and multiplied by the gate and up weights side by side (5632 columns); the gate's half goes
   through `silu` and is multiplied by the up half; the down weights bring it back to 1024 features, which are
   normalised again and added to `x`. The backward functions are the gradients as the kernels compute them. -/
module

public import proofs.«01_k».proof.Proof.RowGradients

@[expose] public section

noncomputable section

namespace Cert.FeedForward

open Idealize.ShloMosaic Cert.RowGradients

/-! ## Constants -/

theorem half_eq : Ideal.ofBits .f32 0x3F000000#32 = ((1 / 2 : ℝ) : EReal) := by
  simp [Ideal.ofBits, Ideal.ieee, -EReal.coe_mul]; norm_num
theorem perWidth_eq : Ideal.ofBits .f32 0x3A800000#32 = ((1 / 1024 : ℝ) : EReal) := by
  simp [Ideal.ofBits, Ideal.ieee, -EReal.coe_mul]; norm_num
theorem shortOne_eq : Ideal.ofBits .bf16 0x3F80#16 = 1 := by
  simp [Ideal.ofBits, Ideal.ieee, -EReal.coe_mul]; norm_num
theorem shortZero_eq : Ideal.ofBits .bf16 0x0000#16 = 0 := by
  simp [Ideal.ofBits, Ideal.ieee]
theorem zero_eq : Ideal.ofBits .f32 0x00000000#32 = 0 := by
  simp [Ideal.ofBits, Ideal.ieee]

/-! ## The two halves of the gate and up columns -/

/-- The gate's column `e`. -/
def lo (e : Fin 2816) : Fin 5632 := ⟨e.val, by omega⟩
/-- The up column `e`. -/
def hi (e : Fin 2816) : Fin 5632 := ⟨2816 + e.val, by omega⟩

/-- A row of 5632 from its two halves. -/
def halves {α : Type*} (a b : Fin 2816 → α) (j : Fin 5632) : α :=
  if h : j.val < 2816 then a ⟨j.val, h⟩ else b ⟨j.val - 2816, by omega⟩

theorem halves_lo {α : Type*} (a b : Fin 2816 → α) (e : Fin 2816) : halves a b (lo e) = a e := by
  simp [halves, lo]
theorem halves_hi {α : Type*} (a b : Fin 2816 → α) (e : Fin 2816) : halves a b (hi e) = b e := by
  simp [halves, hi]
theorem lo_or_hi (j : Fin 5632) : (∃ e, j = lo e) ∨ ∃ e, j = hi e := by
  by_cases h : j.val < 2816
  · exact .inl ⟨⟨j.val, h⟩, rfl⟩
  · exact .inr ⟨⟨j.val - 2816, by omega⟩, Fin.ext (by simp only [hi]; omega)⟩

/-! ## One row -/

/-- A row times a matrix. -/
def times {n k : ℕ} (a : Fin n → EReal) (w : Fin n → Fin k → EReal) (j : Fin k) : EReal := ∑ l, a l * w l j
/-- A row times the transpose of a matrix. -/
def timesTr {n k : ℕ} (a : Fin n → EReal) (w : Fin k → Fin n → EReal) (j : Fin k) : EReal := ∑ l, a l * w j l

/-- The normalised row with its gain. -/
def gained (x g : Fin 1024 → EReal) (j : Fin 1024) : EReal := normed x j * g j

/-- The logistic function, and the argument times it, with its derivative. -/
def sigm (z : EReal) : EReal := Ideal.div 1 (1 + Ideal.exp (0 - z))
def silu (z : EReal) : EReal := z * sigm z
def siluGrad (z : EReal) : EReal := sigm z + silu z * (1 - sigm z)

/-- The activated row. -/
def activ (gu : Fin 5632 → EReal) (e : Fin 2816) : EReal := silu (gu (lo e)) * gu (hi e)

/-- The residual row less its target. -/
def errRow (x t dn g : Fin 1024 → EReal) (j : Fin 1024) : EReal := x j + gained dn g j - t j

/-- The gradient of the two halves, from the gradient of the activated row. -/
def gateUpGrad (da : Fin 2816 → EReal) (gu : Fin 5632 → EReal) : Fin 5632 → EReal :=
  halves (fun e => da e * gu (hi e) * siluGrad (gu (lo e))) (fun e => da e * silu (gu (lo e)))

/-! ## All the rows -/

section Whole

variable (x t : Fin 8192 → Fin 1024 → EReal) (gPre gPost : Fin 1024 → EReal) (wGu : Fin 1024 → Fin 5632 → EReal)
  (wDown : Fin 2816 → Fin 1024 → EReal)

def hfA (n : Fin 8192) : Fin 1024 → EReal := gained (x n) gPre
def guA (n : Fin 8192) : Fin 5632 → EReal := times (hfA x gPre n) wGu
def actA (n : Fin 8192) : Fin 2816 → EReal := activ (guA x gPre wGu n)
def dnA (n : Fin 8192) : Fin 1024 → EReal := times (actA x gPre wGu n) wDown
def errA (n : Fin 8192) : Fin 1024 → EReal := errRow (x n) (t n) (dnA x gPre wGu wDown n) gPost
/-- The gradient of the residual row. -/
def dyA (n : Fin 8192) (j : Fin 1024) : EReal := errA x t gPre gPost wGu wDown n j * ((1 / 1024 : ℝ) : EReal)
def ddnA (n : Fin 8192) : Fin 1024 → EReal := normGrad (dnA x gPre wGu wDown n) gPost (dyA x t gPre gPost wGu wDown n)
def dactA (n : Fin 8192) : Fin 2816 → EReal := timesTr (ddnA x t gPre gPost wGu wDown n) wDown
def dguA (n : Fin 8192) : Fin 5632 → EReal := gateUpGrad (dactA x t gPre gPost wGu wDown n) (guA x gPre wGu n)
def dhfA (n : Fin 8192) : Fin 1024 → EReal := timesTr (dguA x t gPre gPost wGu wDown n) wGu

/-- The loss, as the kernel adds it up: the columns' sums over the rows first. -/
def lossA : EReal :=
  Ideal.div (((1 / 2 : ℝ) : EReal) * ∑ j : Fin 1024, ∑ n : Fin 8192,
    errA x t gPre gPost wGu wDown n j * errA x t gPre gPost wGu wDown n j) width
def dxA (n : Fin 8192) (j : Fin 1024) : EReal :=
  dyA x t gPre gPost wGu wDown n j + normGrad (x n) gPre (dhfA x t gPre gPost wGu wDown n) j
def dgPreA (j : Fin 1024) : EReal := ∑ n : Fin 8192, dhfA x t gPre gPost wGu wDown n j * normed (x n) j
def dgPostA (j : Fin 1024) : EReal :=
  ∑ n : Fin 8192, dyA x t gPre gPost wGu wDown n j * normed (dnA x gPre wGu wDown n) j
def dwGuA (j : Fin 1024) (b : Fin 5632) : EReal := ∑ n : Fin 8192, dguA x t gPre gPost wGu wDown n b * hfA x gPre n j
def dwDownA (e : Fin 2816) (j : Fin 1024) : EReal := ∑ n : Fin 8192, actA x gPre wGu n e * ddnA x t gPre gPost wGu wDown n j

end Whole

end Cert.FeedForward

end
-- ==== Proof.FfnRun.lean ====
/- The run of the six kernels and the host operations around them: what every buffer that outlives the calls holds at the
   end, which is the contents that the segments' records give one after another. -/
module

public import proofs.«01_k».proof.Proof.Gen.FfnIdeal.Frame
public import proofs.«01_k».proof.Proof.FfnMath

@[expose] public section

set_option maxRecDepth 16384

noncomputable section

namespace Cert.FfnIdeal.FeedForward

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer outside the calls ends at the last boundary's contents. -/
theorem run_contents : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.FfnIdeal.FeedForward

end
-- ==== Proof.FfnRows.lean ====
/- What one grid point of each of the six feed-forward kernels computes, read at an index, in terms of the row functions
   of `FfnMath`. -/
module

public import proofs.«01_k».proof.Proof.Gen.FfnIdeal.Skeleton
public import proofs.«01_k».proof.Proof.FfnMath
public import Idealize.ShloMosaic.Lib.Pipeline.ValueKit

@[expose] public section

set_option maxRecDepth 16384

noncomputable section

namespace Cert.FfnIdeal.FeedForward

open Cert.FfnIdeal Cert.FfnIdeal.Gen Idealize.ShloMosaic Cert.RowGradients Cert.FeedForward

/-! ## Gate and up -/

section Up

variable (x : FVec Ideal S512x1024 .f32) (g : FVec Ideal S1x1024 .f32) (w : FVec Ideal S1024x2816 .bf16)

theorem hf_apply (r : Fin 512) (j : Fin 1024) :
    k0_pay2 (F := Ideal) x g (ix2 r j) = gained (fun l => x (ix2 r l)) (fun l => g (ix2 0 l)) j := by
  simp only [gained, normed, invRms, meanSq]
  pointwise [k0_pay2]

theorem gate_apply (r : Fin 512) (e : Fin 2816) :
    k0_pay3 (F := Ideal) x g w (ix2 r e) = times (gained (fun l => x (ix2 r l)) (fun l => g (ix2 0 l))) (fun l e => w (ix2 l e)) e := by
  simp only [times, ← hf_apply]
  unfold k0_pay3
  generalize k0_pay2 (F := Ideal) x g = h
  pointwise

theorem up_apply (r : Fin 512) (e : Fin 2816) :
    k0_pay4 (F := Ideal) x g w (ix2 r e) = times (gained (fun l => x (ix2 r l)) (fun l => g (ix2 0 l))) (fun l e => w (ix2 l e)) e := by
  rw [← gate_apply]; rfl

theorem gateStore_apply (r : Fin 512) (e : Fin 2816) :
    k0_pay5 (F := Ideal) x g w (ix2 r e) = times (gained (fun l => x (ix2 r l)) (fun l => g (ix2 0 l))) (fun l e => w (ix2 l e)) e := by
  rw [← gate_apply]; rfl

theorem upStore_apply (r : Fin 512) (e : Fin 2816) :
    k0_pay6 (F := Ideal) x g w (ix2 r e) = times (gained (fun l => x (ix2 r l)) (fun l => g (ix2 0 l))) (fun l e => w (ix2 l e)) e := by
  rw [← gate_apply]; rfl

theorem silu_apply (r : Fin 512) (e : Fin 2816) :
    k0_pay7 (F := Ideal) x g w (ix2 r e) = silu (times (gained (fun l => x (ix2 r l)) (fun l => g (ix2 0 l))) (fun l e => w (ix2 l e)) e) := by
  rw [← gate_apply]
  simp only [silu, sigm, ← one_eq, ← zero_eq]
  unfold k0_pay7
  generalize k0_pay3 (F := Ideal) x g w = h
  pointwise

theorem act_apply (a b : FVec Ideal S512x2816 .f32) (r : Fin 512) (e : Fin 2816) :
    k0_pay1 (F := Ideal) a b (ix2 r e) = b (ix2 r e) * a (ix2 r e) := by pointwise [k0_pay1]

end Up

/-! ## Down and the loss -/

section Down

variable (a : FVec Ideal S512x2816 .bf16) (w : FVec Ideal S2816x1024 .bf16) (x t : FVec Ideal S512x1024 .f32)
  (g y : FVec Ideal S1x1024 .f32)

theorem dn_apply (r : Fin 512) (j : Fin 1024) :
    k1_pay3 (F := Ideal) a w (ix2 r j) = times (fun e => a (ix2 r e)) (fun e j => w (ix2 e j)) j := by
  simp only [times]
  pointwise [k1_pay3]

theorem err_apply (r : Fin 512) (j : Fin 1024) :
    k1_pay4 (F := Ideal) a w x g t (ix2 r j) = errRow (fun l => x (ix2 r l)) (fun l => t (ix2 r l))
      (times (fun e => a (ix2 r e)) (fun e j => w (ix2 e j))) (fun l => g (ix2 0 l)) j := by
  rw [show times (fun e => a (ix2 r e)) (fun e j => w (ix2 e j)) = fun j => k1_pay3 (F := Ideal) a w (ix2 r j) from
    funext fun j => (dn_apply a w r j).symm]
  simp only [errRow, gained, normed, invRms, meanSq]
  unfold k1_pay4
  generalize k1_pay3 (F := Ideal) a w = h
  pointwise

theorem dy_apply (r : Fin 512) (j : Fin 1024) :
    k1_pay5 (F := Ideal) a w x g t (ix2 r j) = errRow (fun l => x (ix2 r l)) (fun l => t (ix2 r l))
      (times (fun e => a (ix2 r e)) (fun e j => w (ix2 e j))) (fun l => g (ix2 0 l)) j * ((1 / 1024 : ℝ) : EReal) := by
  rw [← err_apply, ← perWidth_eq]
  unfold k1_pay5
  generalize k1_pay4 (F := Ideal) a w x g t = h
  pointwise

theorem lossCol_apply (j : Fin 1024) :
    k1_pay1 (F := Ideal) (k1_pay6 y) (k1_pay7 a w x g t) (ix2 0 j) = y (ix2 0 j) + ∑ r : Fin 512,
      errRow (fun l => x (ix2 r l)) (fun l => t (ix2 r l)) (times (fun e => a (ix2 r e)) (fun e j => w (ix2 e j))) (fun l => g (ix2 0 l)) j
      * errRow (fun l => x (ix2 r l)) (fun l => t (ix2 r l)) (times (fun e => a (ix2 r e)) (fun e j => w (ix2 e j))) (fun l => g (ix2 0 l)) j := by
  simp only [← err_apply]
  unfold k1_pay7
  generalize k1_pay4 (F := Ideal) a w x g t = h
  pointwise [k1_pay1, k1_pay6]

theorem lossZero (j : Fin 1024) : k1_pay2 (F := Ideal) (ix2 0 j) = 0 := by pointwise [k1_pay2]

end Down

/-! ## The gradient through the down weights -/

section BackDown

variable (dy dn : FVec Ideal S512x1024 .f32) (g y : FVec Ideal S1x1024 .f32) (w : FVec Ideal S2816x1024 .bf16)
  (d : FVec Ideal S512x1024 .bf16) (ga up : FVec Ideal S512x2816 .bf16)

theorem ddn_apply (r : Fin 512) (j : Fin 1024) :
    k2_pay13 (F := Ideal) dn g dy (ix2 r j) = normGrad (fun l => dn (ix2 r l)) (fun l => g (ix2 0 l)) (fun l => dy (ix2 r l)) j := by
  simp only [normGrad, normed, invRms, meanSq]
  pointwise [k2_pay13, k2_pay8, k2_pay9, k2_pay10, k2_pay11]

theorem gainPost_apply (j : Fin 1024) :
    k2_pay12 (F := Ideal) dn dy y (ix2 0 j) = y (ix2 0 j) + ∑ r : Fin 512, dy (ix2 r j) * normed (fun l => dn (ix2 r l)) j := by
  simp only [normed, invRms, meanSq]
  pointwise [k2_pay12, k2_pay8, k2_pay9, k2_pay10, k2_pay11]

theorem gainPostZero (j : Fin 1024) : k2_pay7 (F := Ideal) (ix2 0 j) = 0 := by pointwise [k2_pay7]

theorem dact_apply (r : Fin 512) (e : Fin 2816) :
    k2_pay1 (F := Ideal) d w (ix2 r e) = timesTr (fun l => d (ix2 r l)) (fun e l => w (ix2 e l)) e := by
  simp only [timesTr]
  pointwise [k2_pay1]

theorem gateGrad_apply (r : Fin 512) (e : Fin 2816) :
    k2_pay5 (F := Ideal) d w ga up (ix2 r e)
      = timesTr (fun l => d (ix2 r l)) (fun e l => w (ix2 e l)) e * up (ix2 r e) * siluGrad (ga (ix2 r e)) := by
  rw [← dact_apply]
  simp only [siluGrad, silu, sigm, ← shortOne_eq, ← shortZero_eq]
  unfold k2_pay5
  generalize k2_pay1 (F := Ideal) d w = h
  pointwise [k2_pay2, k2_pay3, k2_pay4]

theorem upGrad_apply (r : Fin 512) (e : Fin 2816) :
    k2_pay6 (F := Ideal) d w ga (ix2 r e) = timesTr (fun l => d (ix2 r l)) (fun e l => w (ix2 e l)) e * silu (ga (ix2 r e)) := by
  rw [← dact_apply]
  simp only [silu, sigm, ← shortOne_eq, ← shortZero_eq]
  unfold k2_pay6
  generalize k2_pay1 (F := Ideal) d w = h
  pointwise [k2_pay2, k2_pay3, k2_pay4]

end BackDown

/-! ## The gradient through the gate and up weights -/

section BackUp

variable (dgu : FVec Ideal S512x5632 .bf16) (w : FVec Ideal S1024x5632 .bf16) (x dy dh : FVec Ideal S512x1024 .f32)
  (g y : FVec Ideal S1x1024 .f32)

theorem dhf_apply (r : Fin 512) (j : Fin 1024) :
    k3_pay3 (F := Ideal) dgu w (ix2 r j) = timesTr (fun b => dgu (ix2 r b)) (fun j b => w (ix2 j b)) j := by
  simp only [timesTr]
  pointwise [k3_pay3]

theorem inputGrad_apply (r : Fin 512) (j : Fin 1024) :
    k3_pay1 (F := Ideal) (k3_pay6 dgu w x g) dy (ix2 r j) = dy (ix2 r j) + normGrad (fun l => x (ix2 r l)) (fun l => g (ix2 0 l))
      (timesTr (fun b => dgu (ix2 r b)) (fun j b => w (ix2 j b))) j := by
  rw [show timesTr (fun b => dgu (ix2 r b)) (fun j b => w (ix2 j b)) = fun j => k3_pay3 (F := Ideal) dgu w (ix2 r j) from
    funext fun j => (dhf_apply dgu w r j).symm]
  simp only [normGrad, normed, invRms, meanSq]
  unfold k3_pay6
  generalize k3_pay3 (F := Ideal) dgu w = h
  pointwise [k3_pay1, k3_pay4, k3_pay5]

theorem gainPre_apply (j : Fin 1024) :
    k3_pay7 (F := Ideal) dgu w x y (ix2 0 j) = y (ix2 0 j)
      + ∑ r : Fin 512, timesTr (fun b => dgu (ix2 r b)) (fun j b => w (ix2 j b)) j * normed (fun l => x (ix2 r l)) j := by
  simp only [← dhf_apply, normed, invRms, meanSq]
  unfold k3_pay7
  generalize k3_pay3 (F := Ideal) dgu w = h
  pointwise [k3_pay4, k3_pay5]

theorem gainPreZero (j : Fin 1024) : k3_pay2 (F := Ideal) (ix2 0 j) = 0 := by pointwise [k3_pay2]

end BackUp

/-! ## The weights' gradients -/

section Weights

variable (y : FVec Ideal S1408x1024 .f32) (a : FVec Ideal S2048x1408 .bf16) (b : FVec Ideal S2048x1024 .bf16)

theorem product_apply (i : Fin 1408) (j : Fin 1024) :
    k4_pay2 (F := Ideal) y a b (ix2 i j) = y (ix2 i j) + ∑ r : Fin 2048, a (ix2 r i) * b (ix2 r j) := by
  pointwise [k4_pay2]

theorem product5_apply (i : Fin 1408) (j : Fin 1024) :
    k5_pay2 (F := Ideal) y a b (ix2 i j) = y (ix2 i j) + ∑ r : Fin 2048, a (ix2 r i) * b (ix2 r j) := product_apply y a b i j

theorem productZero (i : Fin 1408) (j : Fin 1024) : k4_pay1 (F := Ideal) (ix2 i j) = 0 := by pointwise [k4_pay1]
theorem product5Zero (i : Fin 1408) (j : Fin 1024) : k5_pay1 (F := Ideal) (ix2 i j) = 0 := productZero i j

end Weights

end Cert.FfnIdeal.FeedForward

end
-- ==== Proof.FfnHalves.lean ====
/- The gate and up columns lie side by side in one block of 5632: how a load of either half is read, and what two
   stores, one per half, leave. Also the row of a whole array that a block's row is. -/
module

public import proofs.«01_k».proof.Proof.Gen.FfnIdeal.Skeleton
public import proofs.«01_k».proof.Proof.FfnRows
public import Idealize.ShloMosaic.Lib.Pipeline.ReadBack

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

/-- Row `r` of the block of 512 rows that point `t` shows. -/
def rowAt (t : ℕ) (h : t < 16) (r : Fin 512) : Fin 8192 := ⟨t * 512 + r.val, by omega⟩

section

variable {a : ℕ} {Val : EltTy → Type} {el : EltTy}

theorem ld_lo (X : (⟨2, ![a, 5632]⟩ : Shape).Idx → Val el) (inb) (r : Fin a) (e : Fin 2816) :
    View.ld X (Rect.unit (s := ⟨2, ![a, 5632]⟩) ![0, 0] ![a, 2816] inb) (ix2 r e) = X (ix2 r (lo e)) := by
  refine View.ld_unit_apply_of X _ _ inb _ _ fun b => ?_
  match b with
  | 0 => exact (Nat.zero_add r.val).symm
  | 1 => exact (Nat.zero_add e.val).symm

theorem ld_hi (X : (⟨2, ![a, 5632]⟩ : Shape).Idx → Val el) (inb) (r : Fin a) (e : Fin 2816) :
    View.ld X (Rect.unit (s := ⟨2, ![a, 5632]⟩) ![0, 2816] ![a, 2816] inb) (ix2 r e) = X (ix2 r (hi e)) := by
  refine View.ld_unit_apply_of X _ _ inb _ _ fun b => ?_
  match b with
  | 0 => exact (Nat.zero_add r.val).symm
  | 1 => rfl

theorem emb_half (o : ℕ) (inb) (r : Fin a) (e : Fin 2816) (j : Fin 5632) (hj : j.val = o + e.val) :
    (Rect.unit (s := ⟨2, ![a, 5632]⟩) ![0, o] ![a, 2816] inb).emb (ix2 r e) = ix2 r j := by
  funext b
  match b with
  | 0 => exact Fin.ext ((Rect.emb_apply _ _ 0).trans ((congrArg (0 + ·) (Nat.one_mul r.val)).trans (Nat.zero_add _)))
  | 1 => exact Fin.ext (((Rect.emb_apply _ _ 1).trans (congrArg (o + ·) (Nat.one_mul e.val))).trans hj.symm)

/-- Two stores, one per half of the columns: what they leave. -/
theorem canon_halves [∀ e, Nonempty (Val e)] (G : Fin a → Fin 5632 → Val el) (i0 i1)
    (p0 p1 : (⟨2, ![a, 2816]⟩ : Shape).Idx → Val el)
    (h0 : ∀ r e, p0 (ix2 r e) = G r (lo e)) (h1 : ∀ r e, p1 (ix2 r e) = G r (hi e)) (r : Fin a) (j : Fin 5632) :
    View.canon ([⟨Rect.unit (s := ⟨2, ![a, 5632]⟩) ![0, 2816] ![a, 2816] i1, p1⟩,
        ⟨Rect.unit (s := ⟨2, ![a, 5632]⟩) ![0, 0] ![a, 2816] i0, p0⟩] : List (View.Piece Val ⟨2, ![a, 5632]⟩ el)) (ix2 r j) = G r j := by
  let G' : (⟨2, ![a, 5632]⟩ : Shape).Idx → Val el := fun y => G (y 0) (y 1)
  have e0 : ∀ (r : Fin a) (e : Fin 2816), (Rect.unit (s := ⟨2, ![a, 5632]⟩) ![0, 0] ![a, 2816] i0).emb (ix2 r e) = ix2 r (lo e) :=
    fun r e => emb_half 0 i0 r e (lo e) (Nat.zero_add _).symm
  have e1 : ∀ (r : Fin a) (e : Fin 2816), (Rect.unit (s := ⟨2, ![a, 5632]⟩) ![0, 2816] ![a, 2816] i1).emb (ix2 r e) = ix2 r (hi e) :=
    fun r e => emb_half 2816 i1 r e (hi e) rfl
  have k0 : ∀ x : (⟨2, ![a, 2816]⟩ : Shape).Idx, p0 x = G' ((Rect.unit (s := ⟨2, ![a, 5632]⟩) ![0, 0] ![a, 2816] i0).emb x) := by
    intro x
    obtain ⟨r, e, rfl⟩ : ∃ (r : Fin a) (e : Fin 2816), x = ix2 r e := ⟨x 0, x 1, eq_ix2 x⟩
    exact (h0 r e).trans (congrArg G' (e0 r e)).symm
  have k1 : ∀ x : (⟨2, ![a, 2816]⟩ : Shape).Idx, p1 x = G' ((Rect.unit (s := ⟨2, ![a, 5632]⟩) ![0, 2816] ![a, 2816] i1).emb x) := by
    intro x
    obtain ⟨r, e, rfl⟩ : ∃ (r : Fin a) (e : Fin 2816), x = ix2 r e := ⟨x 0, x 1, eq_ix2 x⟩
    exact (h1 r e).trans (congrArg G' (e1 r e)).symm
  refine View.canon_append_of_piecesOf G' []
    [(⟨Rect.unit (s := ⟨2, ![a, 5632]⟩) ![0, 2816] ![a, 2816] i1, p1⟩ : View.Piece Val ⟨2, ![a, 5632]⟩ el),
      ⟨Rect.unit (s := ⟨2, ![a, 5632]⟩) ![0, 0] ![a, 2816] i0, p0⟩] ⟨k1, k0, trivial⟩ (ix2 r j) ?_
  obtain ⟨e, rfl⟩ | ⟨e, rfl⟩ := lo_or_hi j
  · exact ⟨_, .tail _ (.head _), e0 r e ▸ (Rect.unit (s := ⟨2, ![a, 5632]⟩) ![0, 0] ![a, 2816] i0).idx_mem (ix2 r e)⟩
  · exact ⟨_, .head _, e1 r e ▸ (Rect.unit (s := ⟨2, ![a, 5632]⟩) ![0, 2816] ![a, 2816] i1).idx_mem (ix2 r e)⟩

/-- Reading back the whole of a block. -/
theorem ld_all {b : ℕ} (X : (⟨2, ![a, b]⟩ : Shape).Idx → Val el) (inb) :
    View.ld X (Rect.unit (s := ⟨2, ![a, b]⟩) ![0, 0] ![a, b] inb) = X := by
  funext y
  refine View.ld_unit_apply_of X _ _ inb _ _ fun i => ?_
  match i with
  | 0 => exact (Nat.zero_add _).symm
  | 1 => exact (Nat.zero_add _).symm

end

end Cert.FfnIdeal.FeedForward

end
-- ==== Proof.FfnUp.lean ====
/- The gate and up kernel: what it leaves in the arrays of the normalised rows, of the gate and up columns, and of the
   activated rows. -/
module

public import proofs.«01_k».proof.Proof.Gen.FfnIdeal.Frame.Region0
public import proofs.«01_k».proof.Proof.FfnHalves

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

variable (V : (c : Dev nD) → (b : Ref sig .tc) → Buf (Elt Ideal) ((c : Thread nD τ).loc b)) (c : Dev nD) (t : Fin cfg0.N)

/-! ## The arrays that the call reads -/

abbrev upX (n : Fin 8192) (l : Fin 1024) : EReal := (V c main_arg0 : FVec Ideal S8192x1024 .f32) (ix2 n l)
abbrev upG (l : Fin 1024) : EReal := (V c main_arg2 : FVec Ideal S1x1024 .f32) (ix2 0 l)
abbrev upW (l : Fin 1024) (j : Fin 5632) : EReal := (V c main_v0 : FVec Ideal S1024x5632 .bf16) (ix2 l j)

theorem upLt (t : Fin cfg0.N) : t.val < 16 := lt_of_lt_of_eq t.isLt N_0

theorem upIdx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0])

theorem upX_blk (r : Fin 512) (l : Fin 1024) :
    (iblk0 V c 0 t : FVec Ideal S512x1024 .f32) (ix2 r l) = upX V c (rowAt t.val (upLt t) r) l := by
  show (iblk0 V c 0 t : FVec Ideal S512x1024 .f32) (ix2 r l) = (V c main_arg0 : FVec Ideal S8192x1024 .f32) (ix2 (rowAt t.val (upLt t) r) l)
  blk_point [iblk0, upIdx t, rowAt]
theorem upG_blk (l : Fin 1024) : (iblk0 V c 1 t : FVec Ideal S1x1024 .f32) (ix2 0 l) = upG V c l := by
  show (iblk0 V c 1 t : FVec Ideal S1x1024 .f32) (ix2 0 l) = (V c main_arg2 : FVec Ideal S1x1024 .f32) (ix2 0 l)
  blk_point [iblk0, upIdx t]
theorem upW_blk (l : Fin 1024) (j : Fin 5632) : (iblk0 V c 2 t : FVec Ideal S1024x5632 .bf16) (ix2 l j) = upW V c l j := by
  show (iblk0 V c 2 t : FVec Ideal S1024x5632 .bf16) (ix2 l j) = (V c main_v0 : FVec Ideal S1024x5632 .bf16) (ix2 l j)
  blk_point [iblk0, upIdx t]

/-! ## What a point leaves -/

section Block

variable (x : FVec Ideal S512x1024 .f32) (g : FVec Ideal S1x1024 .f32) (w : FVec Ideal S1024x5632 .bf16)

/-- A row of the block, normalised, times the gate and up weights. -/
abbrev upRow (r : Fin 512) : Fin 5632 → EReal :=
  times (gained (fun l => x (ix2 r l)) (fun l => g (ix2 0 l))) (fun l j => w (ix2 l j))

abbrev ldGate : FVec Ideal S1024x2816 .bf16 := View.ld (Val := Elt Ideal) (e' := EltTy.bf16) w r0_2
abbrev ldUp : FVec Ideal S1024x2816 .bf16 := View.ld (Val := Elt Ideal) (e' := EltTy.bf16) w r0_3

theorem gate_eq (r : Fin 512) (e : Fin 2816) :
    times (gained (fun l => x (ix2 r l)) (fun l => g (ix2 0 l))) (fun l e => ldGate w (ix2 l e)) e = upRow x g w r (lo e) := by
  refine Finset.sum_congr rfl fun l _ => congrArg (gained (fun l => x (ix2 r l)) (fun l => g (ix2 0 l)) l * ·) ?_
  exact ld_lo (a := 1024) (Val := Elt Ideal) (el := .bf16) w inb_S1024x5632_S1024x2816_0_0 l e
theorem up_eq (r : Fin 512) (e : Fin 2816) :
    times (gained (fun l => x (ix2 r l)) (fun l => g (ix2 0 l))) (fun l e => ldUp w (ix2 l e)) e = upRow x g w r (hi e) := by
  refine Finset.sum_congr rfl fun l _ => congrArg (gained (fun l => x (ix2 r l)) (fun l => g (ix2 0 l)) l * ·) ?_
  exact ld_hi (a := 1024) (Val := Elt Ideal) (el := .bf16) w inb_S1024x5632_S1024x2816_0_2816 l e

theorem out3_apply (r : Fin 512) (j : Fin 1024) :
    out0_3 (F := Ideal) x g w (ix2 r j) = gained (fun l => x (ix2 r l)) (fun l => g (ix2 0 l)) j := by
  rw [← hf_apply]
  unfold out0_3
  frame_out

theorem out4_apply (r : Fin 512) (j : Fin 5632) : out0_4 (F := Ideal) x g w (ix2 r j) = upRow x g w r j := by
  unfold out0_4
  refine canon_halves (Val := Elt Ideal) (el := .bf16) (fun r => upRow x g w r) _ _ _ _ ?_ ?_ r j
  · intro r e
    refine Eq.trans ?_ ((gateStore_apply x g (ldGate w) r e).trans (gate_eq x g w r e))
    frame_out
  · intro r e
    refine Eq.trans ?_ ((upStore_apply x g (ldUp w) r e).trans (up_eq x g w r e))
    frame_out

theorem out5_apply (r : Fin 512) (e : Fin 2816) : out0_5 (F := Ideal) x g w (ix2 r e) = activ (upRow x g w r) e := by
  refine Eq.trans (b := k0_pay1 (F := Ideal) (k0_pay4 x g (ldUp w)) (k0_pay7 x g (ldGate w)) (ix2 r e)) ?_ ?_
  · unfold out0_5
    frame_out
  · rw [act_apply, silu_apply, up_apply, gate_eq, up_eq]
    rfl

end Block

/-! ## The arrays after the whole grid -/

abbrev upHf (n : Fin 8192) : Fin 1024 → EReal := gained (upX V c n) (upG V c)
abbrev upGu (n : Fin 8192) : Fin 5632 → EReal := times (upHf V c n) (upW V c)
abbrev upAct (n : Fin 8192) : Fin 2816 → EReal := activ (upGu V c n)

theorem hf_blk (r : Fin 512) : gained (fun l => (iblk0 V c 0 t : FVec Ideal S512x1024 .f32) (ix2 r l))
    (fun l => (iblk0 V c 1 t : FVec Ideal S1x1024 .f32) (ix2 0 l)) = upHf V c (rowAt t.val (upLt t) r) := by
  rw [funext fun l => upX_blk V c t r l, funext fun l => upG_blk V c t l]
theorem gu_blk (r : Fin 512) : upRow (iblk0 V c 0 t) (iblk0 V c 1 t) (iblk0 V c 2 t) r = upGu V c (rowAt t.val (upLt t) r) := by
  unfold upRow
  rw [hf_blk, funext fun l => funext fun j => upW_blk V c t l j]

theorem up3 : (dat0 V c).arrAt 3 cfg0.N = (fun y => upHf V c (y 0) (y 1) : FVec Ideal S8192x1024 .bf16) := by
  refine (dat0 V c).arrAt_eq_of_covers 3 _ (by decide +kernel) fun t hf y => ?_
  blk_simp
  rw [after0_3]
  obtain ⟨r, j, rfl⟩ : ∃ (r : Fin 512) (j : Fin 1024), y = ix2 r j := ⟨y 0, y 1, eq_ix2 y⟩
  refine ((out3_apply _ _ _ r j).trans (congrFun (hf_blk V c t r) j)).trans ?_
  refine congrArg₂ (upHf V c) (Fin.ext ?_) (Fin.ext ?_)
  · blk_simp [upIdx t, rowAt]
  · blk_simp [upIdx t]

theorem up4 : (dat0 V c).arrAt 4 cfg0.N = (fun y => upGu V c (y 0) (y 1) : FVec Ideal S8192x5632 .bf16) := by
  refine (dat0 V c).arrAt_eq_of_covers 4 _ (by decide +kernel) fun t hf y => ?_
  blk_simp
  rw [after0_4]
  obtain ⟨r, j, rfl⟩ : ∃ (r : Fin 512) (j : Fin 5632), y = ix2 r j := ⟨y 0, y 1, eq_ix2 y⟩
  refine ((out4_apply _ _ _ r j).trans (congrFun (gu_blk V c t r) j)).trans ?_
  refine congrArg₂ (upGu V c) (Fin.ext ?_) (Fin.ext ?_)
  · blk_simp [upIdx t, rowAt]
  · blk_simp [upIdx t]

theorem up5 : (dat0 V c).arrAt 5 cfg0.N = (fun y => upAct V c (y 0) (y 1) : FVec Ideal S8192x2816 .bf16) := by
  refine (dat0 V c).arrAt_eq_of_covers 5 _ (by decide +kernel) fun t hf y => ?_
  blk_simp
  rw [after0_5]
  obtain ⟨r, e, rfl⟩ : ∃ (r : Fin 512) (e : Fin 2816), y = ix2 r e := ⟨y 0, y 1, eq_ix2 y⟩
  refine ((out5_apply _ _ _ r e).trans (congrArg (fun z => activ z e) (gu_blk V c t r))).trans ?_
  refine congrArg₂ (upAct V c) (Fin.ext ?_) (Fin.ext ?_)
  · blk_simp [upIdx t, rowAt]
  · blk_simp [upIdx t]

end Cert.FfnIdeal.FeedForward

end
-- ==== Proof.FfnDown.lean ====
/- The down kernel: what it leaves in the arrays of the sublayer's output rows and of the residual's gradient, and in the
   row of the squared errors' column sums. -/
module

public import proofs.«01_k».proof.Proof.Gen.FfnIdeal.Frame.Region1
public import proofs.«01_k».proof.Proof.FfnHalves

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

variable (V : (c : Dev nD) → (b : Ref sig .tc) → Buf (Elt Ideal) ((c : Thread nD τ).loc b)) (c : Dev nD) (t : Fin cfg1.N)

/-! ## The arrays that the call reads -/

abbrev downA (n : Fin 8192) (e : Fin 2816) : EReal := (V c main_v2_2 : FVec Ideal S8192x2816 .bf16) (ix2 n e)
abbrev downX (n : Fin 8192) (l : Fin 1024) : EReal := (V c main_arg0 : FVec Ideal S8192x1024 .f32) (ix2 n l)
abbrev downT (n : Fin 8192) (l : Fin 1024) : EReal := (V c main_arg1 : FVec Ideal S8192x1024 .f32) (ix2 n l)
abbrev downW (e : Fin 2816) (j : Fin 1024) : EReal := (V c main_v1 : FVec Ideal S2816x1024 .bf16) (ix2 e j)
abbrev downG (l : Fin 1024) : EReal := (V c main_arg5 : FVec Ideal S1x1024 .f32) (ix2 0 l)

theorem downLt (t : Fin cfg1.N) : t.val < 16 := lt_of_lt_of_eq t.isLt N_1

theorem downIdx : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] ∧ win1_6.index t = ![t.val, 0]
    ∧ win1_7.index t = ![0, 0] :=
  (by decide +kernel : ∀ t : Fin grid1.N, win1_0.index t = ![t.val, 0] ∧ win1_1.index t = ![t.val, 0] ∧ win1_2.index t = ![t.val, 0]
    ∧ win1_3.index t = ![0, 0] ∧ win1_4.index t = ![0, 0] ∧ win1_5.index t = ![t.val, 0] ∧ win1_6.index t = ![t.val, 0]
    ∧ win1_7.index t = ![0, 0])

abbrev downRow (r : Fin 512) : Fin 8192 := rowAt t.val (downLt t) r

theorem downA_blk (r : Fin 512) : (fun e => (iblk1 V c 0 t : FVec Ideal S512x2816 .bf16) (ix2 r e)) = downA V c (downRow t r) := by
  funext e
  show (iblk1 V c 0 t : FVec Ideal S512x2816 .bf16) (ix2 r e) = (V c main_v2_2 : FVec Ideal S8192x2816 .bf16) (ix2 (downRow t r) e)
  blk_point [iblk1, downIdx t, rowAt]
theorem downX_blk (r : Fin 512) : (fun l => (iblk1 V c 1 t : FVec Ideal S512x1024 .f32) (ix2 r l)) = downX V c (downRow t r) := by
  funext l
  show (iblk1 V c 1 t : FVec Ideal S512x1024 .f32) (ix2 r l) = (V c main_arg0 : FVec Ideal S8192x1024 .f32) (ix2 (downRow t r) l)
  blk_point [iblk1, downIdx t, rowAt]
theorem downT_blk (r : Fin 512) : (fun l => (iblk1 V c 2 t : FVec Ideal S512x1024 .f32) (ix2 r l)) = downT V c (downRow t r) := by
  funext l
  show (iblk1 V c 2 t : FVec Ideal S512x1024 .f32) (ix2 r l) = (V c main_arg1 : FVec Ideal S8192x1024 .f32) (ix2 (downRow t r) l)
  blk_point [iblk1, downIdx t, rowAt]
theorem downW_blk : (fun e j => (iblk1 V c 3 t : FVec Ideal S2816x1024 .bf16) (ix2 e j)) = downW V c := by
  funext e j
  show (iblk1 V c 3 t : FVec Ideal S2816x1024 .bf16) (ix2 e j) = (V c main_v1 : FVec Ideal S2816x1024 .bf16) (ix2 e j)
  blk_point [iblk1, downIdx t]
theorem downG_blk : (fun l => (iblk1 V c 4 t : FVec Ideal S1x1024 .f32) (ix2 0 l)) = downG V c := by
  funext l
  show (iblk1 V c 4 t : FVec Ideal S1x1024 .f32) (ix2 0 l) = (V c main_arg5 : FVec Ideal S1x1024 .f32) (ix2 0 l)
  blk_point [iblk1, downIdx t]

/-! ## What a point leaves -/

abbrev downDn (n : Fin 8192) : Fin 1024 → EReal := times (downA V c n) (downW V c)
abbrev downErr (n : Fin 8192) : Fin 1024 → EReal := errRow (downX V c n) (downT V c n) (downDn V c n) (downG V c)
abbrev downDy (n : Fin 8192) (j : Fin 1024) : EReal := downErr V c n j * ((1 / 1024 : ℝ) : EReal)
/-- What a point adds to the squared errors' column sums. -/
abbrev lossTerm (t : Fin cfg1.N) (j : Fin 1024) : EReal :=
  ∑ r : Fin 512, downErr V c (downRow t r) j * downErr V c (downRow t r) j

theorem downDn_blk (r : Fin 512) : times (fun e => (iblk1 V c 0 t : FVec Ideal S512x2816 .bf16) (ix2 r e))
    (fun e j => (iblk1 V c 3 t : FVec Ideal S2816x1024 .bf16) (ix2 e j)) = downDn V c (downRow t r) := by
  rw [downA_blk, downW_blk]

theorem left1_5 (r : Fin 512) (j : Fin 1024) : (outsAt1 V c t.val t.isLt).1 (ix2 r j) = downDn V c (downRow t r) j := by
  refine Eq.trans ?_ ((dn_apply (iblk1 V c 0 t) (iblk1 V c 3 t) r j).trans (congrFun (downDn_blk V c t r) j))
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem left1_6 (r : Fin 512) (j : Fin 1024) : (outsAt1 V c t.val t.isLt).2.1 (ix2 r j) = downDy V c (downRow t r) j := by
  refine Eq.trans ?_ ((dy_apply (iblk1 V c 0 t) (iblk1 V c 3 t) (iblk1 V c 1 t) (iblk1 V c 2 t) (iblk1 V c 4 t) r j).trans
    (by rw [downDn_blk, downX_blk, downT_blk, downG_blk]))
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem lossTerm_blk (y : FVec Ideal S1x1024 .f32) (j : Fin 1024) :
    k1_pay1 (F := Ideal) (k1_pay6 y) (k1_pay7 (iblk1 V c 0 t) (iblk1 V c 3 t) (iblk1 V c 1 t) (iblk1 V c 4 t) (iblk1 V c 2 t)) (ix2 0 j)
      = y (ix2 0 j) + lossTerm V c t j := by
  refine (lossCol_apply (iblk1 V c 0 t) (iblk1 V c 3 t) (iblk1 V c 1 t) (iblk1 V c 2 t) (iblk1 V c 4 t) y j).trans ?_
  refine congrArg (y (ix2 0 j) + ·) (Finset.sum_congr rfl fun r _ => ?_)
  rw [downDn_blk, downX_blk, downT_blk, downG_blk]

theorem first1_7 (h : t.val % 16 = 0) (j : Fin 1024) :
    (outsAt1 V c t.val t.isLt).2.2 (ix2 0 j) = 0 + lossTerm V c t j := by
  refine Eq.trans ?_ ((lossTerm_blk V c t (k1_pay2 (F := Ideal)) j).trans (congrArg (· + _) (lossZero j)))
  rw [outsAt1_A V c t h]
  dsimp only
  frame_open
  simp (disch := decide) only [↓ View.readCov_skip, ↓ View.readCov_cons_toLoadRect, ↓ View.readCov_fill]
  frame_out

theorem next1_7 (h : ¬t.val % 16 = 0) (j : Fin 1024) :
    (outsAt1 V c t.val t.isLt).2.2 (ix2 0 j)
      = (outsAt1 V c (t.val - 1) (Nat.lt_of_le_of_lt (Nat.sub_le _ _) t.isLt)).2.2 (ix2 0 j) + lossTerm V c t j := by
  refine Eq.trans ?_ (lossTerm_blk V c t (outsAt1 V c (t.val - 1) (Nat.lt_of_le_of_lt (Nat.sub_le _ _) t.isLt)).2.2 j)
  rw [outsAt1_B V c t h]
  dsimp only
  frame_open
  simp (disch := decide) only [↓ View.readCov_skip, ↓ View.readCov_cons_toLoadRect, ↓ View.readCov_fill]
  frame_out

/-! ## The arrays after the whole grid -/

theorem down5 : (dat1 V c).arrAt 5 cfg1.N = (fun y => downDn V c (y 0) (y 1) : FVec Ideal S8192x1024 .f32) := by
  refine (dat1 V c).arrAt_eq_of_covers 5 _ (by decide +kernel) fun t hf y => ?_
  blk_simp
  rw [after1_5]
  obtain ⟨r, j, rfl⟩ : ∃ (r : Fin 512) (j : Fin 1024), y = ix2 r j := ⟨y 0, y 1, eq_ix2 y⟩
  refine (left1_5 V c t r j).trans ?_
  refine congrArg₂ (downDn V c) (Fin.ext ?_) (Fin.ext ?_)
  · blk_simp [downIdx t, rowAt]
  · blk_simp [downIdx t]

theorem down6 : (dat1 V c).arrAt 6 cfg1.N = (fun y => downDy V c (y 0) (y 1) : FVec Ideal S8192x1024 .f32) := by
  refine (dat1 V c).arrAt_eq_of_covers 6 _ (by decide +kernel) fun t hf y => ?_
  blk_simp
  rw [after1_6]
  obtain ⟨r, j, rfl⟩ : ∃ (r : Fin 512) (j : Fin 1024), y = ix2 r j := ⟨y 0, y 1, eq_ix2 y⟩
  refine (left1_6 V c t r j).trans ?_
  refine congrArg₂ (downDy V c) (Fin.ext ?_) (Fin.ext ?_)
  · blk_simp [downIdx t, rowAt]
  · blk_simp [downIdx t]

/-- The squared errors' column sums. -/
abbrev downLoss (j : Fin 1024) : EReal := ∑ n : Fin 8192, downErr V c n j * downErr V c n j

theorem loss_run (j : Fin 1024) : ∑ p : Fin cfg1.N, lossTerm V c p j = downLoss V c j :=
  Fin.sum_mul_add_congr (S := cfg1.N) (fun p r hl => rfl) (congrArg (· * 512) N_1.symm)

theorem down7 : (dat1 V c).arrAt 7 cfg1.N = (fun y => downLoss V c (y 1) : FVec Ideal S1x1024 .f32) := by
  refine (dat1 V c).arrAt_eq_of_covers 7 _ (by decide +kernel) fun t hf y => ?_
  blk_simp
  rw [after1_7]
  obtain ⟨i, j, rfl⟩ : ∃ (i : Fin 1) (j : Fin 1024), y = ix2 i j := ⟨y 0, y 1, eq_ix2 y⟩
  obtain rfl : i = 0 := Fin.eq_zero i
  have hl : t.val = 15 := by have := (flush1_7 t).mp hf; have := downLt t; omega
  have key := Pipeline.eq_sum_fin_of_reset_step_apply_last
    (fun n h (j : Fin 1024) => ((outsAt1 V c n h).2.2 (ix2 0 j) : EReal)) 16 (fun _ => 0)
    (fun p j => lossTerm V c p j) (fun t h j => first1_7 V c t h j) (fun t h j => next1_7 V c t h j) (le_of_eq N_1) t (by rw [hl]; exact N_1.symm) j
  refine key.trans ((zero_add _).trans ((loss_run V c j).trans (congrArg (downLoss V c) (Fin.ext ?_))))
  blk_simp [downIdx t]

end Cert.FfnIdeal.FeedForward

end
-- ==== Proof.FfnBackDown.lean ====
/- The kernel of the gradient through the down weights: what it leaves in the arrays of the sublayer output's gradient, of
   the gate and up columns' gradient, and in the gradient of the gain after the sublayer. -/
module

public import proofs.«01_k».proof.Proof.Gen.FfnIdeal.Frame.Region2
public import proofs.«01_k».proof.Proof.FfnHalves

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

variable (V : (c : Dev nD) → (b : Ref sig .tc) → Buf (Elt Ideal) ((c : Thread nD τ).loc b)) (c : Dev nD) (t : Fin cfg2.N)

/-! ## The arrays that the call reads -/

abbrev bdDy (n : Fin 8192) (l : Fin 1024) : EReal := (V c main_v3_1 : FVec Ideal S8192x1024 .f32) (ix2 n l)
abbrev bdDn (n : Fin 8192) (l : Fin 1024) : EReal := (V c main_v3_0 : FVec Ideal S8192x1024 .f32) (ix2 n l)
abbrev bdGu (n : Fin 8192) (l : Fin 5632) : EReal := (V c main_v2_1 : FVec Ideal S8192x5632 .bf16) (ix2 n l)
abbrev bdG (l : Fin 1024) : EReal := (V c main_arg5 : FVec Ideal S1x1024 .f32) (ix2 0 l)
abbrev bdW (a : Fin 2816) (b : Fin 1024) : EReal := (V c main_v1 : FVec Ideal S2816x1024 .bf16) (ix2 a b)

theorem bdLt (t : Fin cfg2.N) : t.val < 16 := lt_of_lt_of_eq t.isLt N_2

theorem bdIdx : ∀ t : Fin cfg2.N, win2_0.index t = ![t.val, 0]
    ∧ win2_1.index t = ![t.val, 0]
    ∧ win2_2.index t = ![t.val, 0]
    ∧ win2_3.index t = ![0, 0]
    ∧ win2_4.index t = ![0, 0]
    ∧ win2_5.index t = ![t.val, 0]
    ∧ win2_6.index t = ![t.val, 0]
    ∧ win2_7.index t = ![0, 0] :=
  (by decide +kernel : ∀ t : Fin grid2.N, win2_0.index t = ![t.val, 0]
    ∧ win2_1.index t = ![t.val, 0]
    ∧ win2_2.index t = ![t.val, 0]
    ∧ win2_3.index t = ![0, 0]
    ∧ win2_4.index t = ![0, 0]
    ∧ win2_5.index t = ![t.val, 0]
    ∧ win2_6.index t = ![t.val, 0]
    ∧ win2_7.index t = ![0, 0])

abbrev bdRow (r : Fin 512) : Fin 8192 := rowAt t.val (bdLt t) r

theorem bdDy_blk (r : Fin 512) : (fun l => (iblk2 V c 0 t : FVec Ideal S512x1024 .f32) (ix2 r l)) = bdDy V c (bdRow t r) := by
  funext l
  show (iblk2 V c 0 t : FVec Ideal S512x1024 .f32) (ix2 r l) = (V c main_v3_1 : FVec Ideal S8192x1024 .f32) (ix2 (bdRow t r) l)
  blk_point [iblk2, bdIdx t, rowAt]
theorem bdDn_blk (r : Fin 512) : (fun l => (iblk2 V c 1 t : FVec Ideal S512x1024 .f32) (ix2 r l)) = bdDn V c (bdRow t r) := by
  funext l
  show (iblk2 V c 1 t : FVec Ideal S512x1024 .f32) (ix2 r l) = (V c main_v3_0 : FVec Ideal S8192x1024 .f32) (ix2 (bdRow t r) l)
  blk_point [iblk2, bdIdx t, rowAt]
theorem bdGu_blk (r : Fin 512) : (fun l => (iblk2 V c 2 t : FVec Ideal S512x5632 .bf16) (ix2 r l)) = bdGu V c (bdRow t r) := by
  funext l
  show (iblk2 V c 2 t : FVec Ideal S512x5632 .bf16) (ix2 r l) = (V c main_v2_1 : FVec Ideal S8192x5632 .bf16) (ix2 (bdRow t r) l)
  blk_point [iblk2, bdIdx t, rowAt]
theorem bdG_blk : (fun l => (iblk2 V c 3 t : FVec Ideal S1x1024 .f32) (ix2 0 l)) = bdG V c := by
  funext l
  show (iblk2 V c 3 t : FVec Ideal S1x1024 .f32) (ix2 0 l) = (V c main_arg5 : FVec Ideal S1x1024 .f32) (ix2 0 l)
  blk_point [iblk2, bdIdx t]
theorem bdW_blk : (fun a b => (iblk2 V c 4 t : FVec Ideal S2816x1024 .bf16) (ix2 a b)) = bdW V c := by
  funext a b
  show (iblk2 V c 4 t : FVec Ideal S2816x1024 .bf16) (ix2 a b) = (V c main_v1 : FVec Ideal S2816x1024 .bf16) (ix2 a b)
  blk_point [iblk2, bdIdx t]

/-! ## What a point leaves -/

abbrev bdDdn (n : Fin 8192) : Fin 1024 → EReal := normGrad (bdDn V c n) (bdG V c) (bdDy V c n)
abbrev bdDact (n : Fin 8192) : Fin 2816 → EReal := timesTr (bdDdn V c n) (bdW V c)
abbrev bdDgu (n : Fin 8192) : Fin 5632 → EReal := gateUpGrad (bdDact V c n) (bdGu V c n)
/-- What a point adds to the gradient of the gain. -/
abbrev bdTerm (t : Fin cfg2.N) (j : Fin 1024) : EReal := ∑ r : Fin 512, bdDy V c (bdRow t r) j * normed (bdDn V c (bdRow t r)) j

/-- The block of the sublayer output's gradient. -/
abbrev bdD : FVec Ideal S512x1024 .bf16 := k2_pay13 (F := Ideal) (iblk2 V c 1 t) (iblk2 V c 3 t) (iblk2 V c 0 t)

theorem bdD_apply (r : Fin 512) (j : Fin 1024) : bdD V c t (ix2 r j) = bdDdn V c (bdRow t r) j := by
  refine (ddn_apply (iblk2 V c 0 t) (iblk2 V c 1 t) (iblk2 V c 3 t) r j).trans ?_
  rw [bdDy_blk, bdDn_blk, bdG_blk]

theorem bdDact_blk (r : Fin 512) : timesTr (fun l => bdD V c t (ix2 r l))
    (fun a b => (iblk2 V c 4 t : FVec Ideal S2816x1024 .bf16) (ix2 a b)) = bdDact V c (bdRow t r) := by
  rw [funext fun l => bdD_apply V c t r l, bdW_blk]

theorem left2_5 (r : Fin 512) (j : Fin 1024) : (outsAt2 V c t.val t.isLt).1 (ix2 r j) = bdDdn V c (bdRow t r) j := by
  refine Eq.trans ?_ (bdD_apply V c t r j)
  by_cases h : t.val % 16 = 0
  · rw [outsAt2_A V c t h]
    dsimp only
    frame_open
    simp (disch := decide) only [↓ View.readCov_skip, ↓ View.readCov_cons_toLoadRect, ↓ View.readCov_fill]
    frame_out
  · rw [outsAt2_B V c t h]
    dsimp only
    frame_open
    simp (disch := decide) only [↓ View.readCov_skip, ↓ View.readCov_cons_toLoadRect, ↓ View.readCov_fill]
    frame_out

/-- The two halves of the block of gate and up columns, as the kernel loads them. -/
abbrev bdGate : FVec Ideal S512x2816 .bf16 := View.ld (Val := Elt Ideal) (e' := EltTy.bf16) (iblk2 V c 2 t)
  (Rect.unit (s := S512x5632) ![0, 0] S512x2816.size inb_S512x5632_S512x2816_0_0)
abbrev bdUp : FVec Ideal S512x2816 .bf16 := View.ld (Val := Elt Ideal) (e' := EltTy.bf16) (iblk2 V c 2 t)
  (Rect.unit (s := S512x5632) ![0, 2816] S512x2816.size inb_S512x5632_S512x2816_0_2816)

theorem bdGate_apply (r : Fin 512) (e : Fin 2816) : bdGate V c t (ix2 r e) = bdGu V c (bdRow t r) (lo e) :=
  (ld_lo (a := 512) (Val := Elt Ideal) (el := .bf16) (iblk2 V c 2 t) inb_S512x5632_S512x2816_0_0 r e).trans
    (congrFun (bdGu_blk V c t r) (lo e))
theorem bdUp_apply (r : Fin 512) (e : Fin 2816) : bdUp V c t (ix2 r e) = bdGu V c (bdRow t r) (hi e) :=
  (ld_hi (a := 512) (Val := Elt Ideal) (el := .bf16) (iblk2 V c 2 t) inb_S512x5632_S512x2816_0_2816 r e).trans
    (congrFun (bdGu_blk V c t r) (hi e))

/-- The two stores of the gate and up columns' gradient. -/
abbrev bdStores : List (View.Piece (Elt Ideal) S512x5632 .bf16) :=
  [⟨Rect.unit (s := S512x5632) ![0, 2816] S512x2816.size inb_S512x5632_S512x2816_0_2816,
      k2_pay6 (F := Ideal) (bdD V c t) (iblk2 V c 4 t) (bdGate V c t)⟩,
    ⟨Rect.unit (s := S512x5632) ![0, 0] S512x2816.size inb_S512x5632_S512x2816_0_0,
      k2_pay5 (F := Ideal) (bdD V c t) (iblk2 V c 4 t) (bdGate V c t) (bdUp V c t)⟩]

theorem bdStores_apply (r : Fin 512) (j : Fin 5632) : View.canon (bdStores V c t) (ix2 r j) = bdDgu V c (bdRow t r) j := by
  refine canon_halves (Val := Elt Ideal) (el := .bf16) (fun r => bdDgu V c (bdRow t r)) _ _ _ _ ?_ ?_ r j
  · intro r e
    refine (gateGrad_apply (iblk2 V c 4 t) (bdD V c t) (bdGate V c t) (bdUp V c t) r e).trans ?_
    rw [bdDact_blk, bdGate_apply, bdUp_apply]
    exact (halves_lo (fun e => bdDact V c (bdRow t r) e * bdGu V c (bdRow t r) (hi e) * siluGrad (bdGu V c (bdRow t r) (lo e)))
      (fun e => bdDact V c (bdRow t r) e * silu (bdGu V c (bdRow t r) (lo e))) e).symm
  · intro r e
    refine (upGrad_apply (iblk2 V c 4 t) (bdD V c t) (bdGate V c t) r e).trans ?_
    rw [bdDact_blk, bdGate_apply]
    exact (halves_hi (fun e => bdDact V c (bdRow t r) e * bdGu V c (bdRow t r) (hi e) * siluGrad (bdGu V c (bdRow t r) (lo e)))
      (fun e => bdDact V c (bdRow t r) e * silu (bdGu V c (bdRow t r) (lo e))) e).symm

theorem left2_6 (r : Fin 512) (j : Fin 5632) : (outsAt2 V c t.val t.isLt).2.1 (ix2 r j) = bdDgu V c (bdRow t r) j := by
  refine Eq.trans ?_ (bdStores_apply V c t r j)
  by_cases h : t.val % 16 = 0
  · rw [outsAt2_A V c t h]
    dsimp only
    frame_open
    simp (disch := decide) only [↓ View.readCov_skip, ↓ View.readCov_cons_toLoadRect, ↓ View.readCov_fill]
    frame_out
    rfl
  · rw [outsAt2_B V c t h]
    dsimp only
    frame_open
    simp (disch := decide) only [↓ View.readCov_skip, ↓ View.readCov_cons_toLoadRect, ↓ View.readCov_fill]
    frame_out
    rfl

theorem bdTerm_blk (y : FVec Ideal S1x1024 .f32) (j : Fin 1024) :
    k2_pay12 (F := Ideal) (iblk2 V c 1 t) (iblk2 V c 0 t) y (ix2 0 j) = y (ix2 0 j) + bdTerm V c t j := by
  refine (gainPost_apply (iblk2 V c 0 t) (iblk2 V c 1 t) y j).trans ?_
  refine congrArg (y (ix2 0 j) + ·) (Finset.sum_congr rfl fun r _ => ?_)
  rw [bdDn_blk]
  exact congrArg (· * normed (bdDn V c (bdRow t r)) j) (congrFun (bdDy_blk V c t r) j)

theorem first2_7 (h : t.val % 16 = 0) (j : Fin 1024) : (outsAt2 V c t.val t.isLt).2.2 (ix2 0 j) = 0 + bdTerm V c t j := by
  refine Eq.trans ?_ ((bdTerm_blk V c t (k2_pay7 (F := Ideal)) j).trans (congrArg (· + _) (gainPostZero j)))
  rw [outsAt2_A V c t h]
  dsimp only
  frame_open
  simp (disch := decide) only [↓ View.readCov_skip, ↓ View.readCov_cons_toLoadRect, ↓ View.readCov_fill]
  frame_out

theorem next2_7 (h : ¬t.val % 16 = 0) (j : Fin 1024) :
    (outsAt2 V c t.val t.isLt).2.2 (ix2 0 j)
      = (outsAt2 V c (t.val - 1) (Nat.lt_of_le_of_lt (Nat.sub_le _ _) t.isLt)).2.2 (ix2 0 j) + bdTerm V c t j := by
  refine Eq.trans ?_ (bdTerm_blk V c t (outsAt2 V c (t.val - 1) (Nat.lt_of_le_of_lt (Nat.sub_le _ _) t.isLt)).2.2 j)
  rw [outsAt2_B V c t h]
  dsimp only
  frame_open
  simp (disch := decide) only [↓ View.readCov_skip, ↓ View.readCov_cons_toLoadRect, ↓ View.readCov_fill]
  frame_out

/-! ## The arrays after the whole grid -/

theorem bd5 : (dat2 V c).arrAt 5 cfg2.N = (fun y => bdDdn V c (y 0) (y 1) : FVec Ideal S8192x1024 .bf16) := by
  refine (dat2 V c).arrAt_eq_of_covers 5 _ (by decide +kernel) fun t hf y => ?_
  blk_simp
  rw [after2_5]
  obtain ⟨r, j, rfl⟩ : ∃ (r : Fin 512) (j : Fin 1024), y = ix2 r j := ⟨y 0, y 1, eq_ix2 y⟩
  refine (left2_5 V c t r j).trans ?_
  refine congrArg₂ (bdDdn V c) (Fin.ext ?_) (Fin.ext ?_)
  · blk_simp [bdIdx t, rowAt]
  · blk_simp [bdIdx t]

theorem bd6 : (dat2 V c).arrAt 6 cfg2.N = (fun y => bdDgu V c (y 0) (y 1) : FVec Ideal S8192x5632 .bf16) := by
  refine (dat2 V c).arrAt_eq_of_covers 6 _ (by decide +kernel) fun t hf y => ?_
  blk_simp
  rw [after2_6]
  obtain ⟨r, j, rfl⟩ : ∃ (r : Fin 512) (j : Fin 5632), y = ix2 r j := ⟨y 0, y 1, eq_ix2 y⟩
  refine (left2_6 V c t r j).trans ?_
  refine congrArg₂ (bdDgu V c) (Fin.ext ?_) (Fin.ext ?_)
  · blk_simp [bdIdx t, rowAt]
  · blk_simp [bdIdx t]

abbrev bdGain (j : Fin 1024) : EReal := ∑ n : Fin 8192, bdDy V c n j * normed (bdDn V c n) j

theorem bd_run (j : Fin 1024) : ∑ p : Fin cfg2.N, bdTerm V c p j = bdGain V c j :=
  Fin.sum_mul_add_congr (S := cfg2.N) (fun p r hl => rfl) (congrArg (· * 512) N_2.symm)

theorem bd7 : (dat2 V c).arrAt 7 cfg2.N = (fun y => bdGain V c (y 1) : FVec Ideal S1x1024 .f32) := by
  refine (dat2 V c).arrAt_eq_of_covers 7 _ (by decide +kernel) fun t hf y => ?_
  blk_simp
  rw [after2_7]
  obtain ⟨i, j, rfl⟩ : ∃ (i : Fin 1) (j : Fin 1024), y = ix2 i j := ⟨y 0, y 1, eq_ix2 y⟩
  obtain rfl : i = 0 := Fin.eq_zero i
  have hl : t.val = 15 := by have := (flush2_7 t).mp hf; have := bdLt t; omega
  have key := Pipeline.eq_sum_fin_of_reset_step_apply_last
    (fun n h (j : Fin 1024) => ((outsAt2 V c n h).2.2 (ix2 0 j) : EReal)) 16 (fun _ => 0)
    (fun p j => bdTerm V c p j) (fun t h j => first2_7 V c t h j) (fun t h j => next2_7 V c t h j) (le_of_eq N_2) t (by rw [hl]; exact N_2.symm) j
  refine key.trans ((zero_add _).trans ((bd_run V c j).trans (congrArg (bdGain V c) (Fin.ext ?_))))
  blk_simp [bdIdx t]

end Cert.FfnIdeal.FeedForward

end
-- ==== Proof.FfnBackUp.lean ====
/- The kernel of the gradient through the gate and up weights: what it leaves in the array of the input's gradient and in
   the gradient of the gain before the sublayer. -/
module

public import proofs.«01_k».proof.Proof.Gen.FfnIdeal.Frame.Region3
public import proofs.«01_k».proof.Proof.FfnHalves

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

variable (V : (c : Dev nD) → (b : Ref sig .tc) → Buf (Elt Ideal) ((c : Thread nD τ).loc b)) (c : Dev nD) (t : Fin cfg3.N)

/-! ## The arrays that the call reads -/

abbrev buDgu (n : Fin 8192) (l : Fin 5632) : EReal := (V c main_v4_1 : FVec Ideal S8192x5632 .bf16) (ix2 n l)
abbrev buDy (n : Fin 8192) (l : Fin 1024) : EReal := (V c main_v3_1 : FVec Ideal S8192x1024 .f32) (ix2 n l)
abbrev buX (n : Fin 8192) (l : Fin 1024) : EReal := (V c main_arg0 : FVec Ideal S8192x1024 .f32) (ix2 n l)
abbrev buW (a : Fin 1024) (b : Fin 5632) : EReal := (V c main_v0 : FVec Ideal S1024x5632 .bf16) (ix2 a b)
abbrev buG (l : Fin 1024) : EReal := (V c main_arg2 : FVec Ideal S1x1024 .f32) (ix2 0 l)

theorem buLt (t : Fin cfg3.N) : t.val < 16 := lt_of_lt_of_eq t.isLt N_3

theorem buIdx : ∀ t : Fin cfg3.N, win3_0.index t = ![t.val, 0]
    ∧ win3_1.index t = ![t.val, 0]
    ∧ win3_2.index t = ![t.val, 0]
    ∧ win3_3.index t = ![0, 0]
    ∧ win3_4.index t = ![0, 0]
    ∧ win3_5.index t = ![t.val, 0]
    ∧ win3_6.index t = ![0, 0] :=
  (by decide +kernel : ∀ t : Fin grid3.N, win3_0.index t = ![t.val, 0]
    ∧ win3_1.index t = ![t.val, 0]
    ∧ win3_2.index t = ![t.val, 0]
    ∧ win3_3.index t = ![0, 0]
    ∧ win3_4.index t = ![0, 0]
    ∧ win3_5.index t = ![t.val, 0]
    ∧ win3_6.index t = ![0, 0])

abbrev buRow (r : Fin 512) : Fin 8192 := rowAt t.val (buLt t) r

theorem buDgu_blk (r : Fin 512) : (fun l => (iblk3 V c 0 t : FVec Ideal S512x5632 .bf16) (ix2 r l)) = buDgu V c (buRow t r) := by
  funext l
  show (iblk3 V c 0 t : FVec Ideal S512x5632 .bf16) (ix2 r l) = (V c main_v4_1 : FVec Ideal S8192x5632 .bf16) (ix2 (buRow t r) l)
  blk_point [iblk3, buIdx t, rowAt]
theorem buDy_blk (r : Fin 512) : (fun l => (iblk3 V c 1 t : FVec Ideal S512x1024 .f32) (ix2 r l)) = buDy V c (buRow t r) := by
  funext l
  show (iblk3 V c 1 t : FVec Ideal S512x1024 .f32) (ix2 r l) = (V c main_v3_1 : FVec Ideal S8192x1024 .f32) (ix2 (buRow t r) l)
  blk_point [iblk3, buIdx t, rowAt]
theorem buX_blk (r : Fin 512) : (fun l => (iblk3 V c 2 t : FVec Ideal S512x1024 .f32) (ix2 r l)) = buX V c (buRow t r) := by
  funext l
  show (iblk3 V c 2 t : FVec Ideal S512x1024 .f32) (ix2 r l) = (V c main_arg0 : FVec Ideal S8192x1024 .f32) (ix2 (buRow t r) l)
  blk_point [iblk3, buIdx t, rowAt]
theorem buW_blk : (fun a b => (iblk3 V c 3 t : FVec Ideal S1024x5632 .bf16) (ix2 a b)) = buW V c := by
  funext a b
  show (iblk3 V c 3 t : FVec Ideal S1024x5632 .bf16) (ix2 a b) = (V c main_v0 : FVec Ideal S1024x5632 .bf16) (ix2 a b)
  blk_point [iblk3, buIdx t]
theorem buG_blk : (fun l => (iblk3 V c 4 t : FVec Ideal S1x1024 .f32) (ix2 0 l)) = buG V c := by
  funext l
  show (iblk3 V c 4 t : FVec Ideal S1x1024 .f32) (ix2 0 l) = (V c main_arg2 : FVec Ideal S1x1024 .f32) (ix2 0 l)
  blk_point [iblk3, buIdx t]

/-! ## What a point leaves -/

abbrev buDhf (n : Fin 8192) : Fin 1024 → EReal := timesTr (buDgu V c n) (buW V c)
abbrev buDx (n : Fin 8192) (j : Fin 1024) : EReal := buDy V c n j + normGrad (buX V c n) (buG V c) (buDhf V c n) j
/-- What a point adds to the gradient of the gain. -/
abbrev buTerm (t : Fin cfg3.N) (j : Fin 1024) : EReal := ∑ r : Fin 512, buDhf V c (buRow t r) j * normed (buX V c (buRow t r)) j

theorem left3_5 (r : Fin 512) (j : Fin 1024) : (outsAt3 V c t.val t.isLt).1 (ix2 r j) = buDx V c (buRow t r) j := by
  refine Eq.trans ?_ ((inputGrad_apply (iblk3 V c 0 t) (iblk3 V c 3 t) (iblk3 V c 2 t) (iblk3 V c 1 t) (iblk3 V c 4 t) r j).trans ?_)
  case refine_2 =>
    rw [buDgu_blk, buW_blk, buX_blk, buG_blk]
    exact congrArg (· + normGrad (buX V c (buRow t r)) (buG V c) (buDhf V c (buRow t r)) j) (congrFun (buDy_blk V c t r) j)
  by_cases h : t.val % 16 = 0
  · rw [outsAt3_A V c t h]
    dsimp only
    frame_open
    simp (disch := decide) only [↓ View.readCov_skip, ↓ View.readCov_cons_toLoadRect, ↓ View.readCov_fill]
    frame_out
  · rw [outsAt3_B V c t h]
    dsimp only
    frame_open
    simp (disch := decide) only [↓ View.readCov_skip, ↓ View.readCov_cons_toLoadRect, ↓ View.readCov_fill]
    frame_out

theorem buTerm_blk (y : FVec Ideal S1x1024 .f32) (j : Fin 1024) :
    k3_pay7 (F := Ideal) (iblk3 V c 0 t) (iblk3 V c 3 t) (iblk3 V c 2 t) y (ix2 0 j) = y (ix2 0 j) + buTerm V c t j := by
  refine (gainPre_apply (iblk3 V c 0 t) (iblk3 V c 3 t) (iblk3 V c 2 t) y j).trans ?_
  refine congrArg (y (ix2 0 j) + ·) (Finset.sum_congr rfl fun r _ => ?_)
  rw [buDgu_blk, buW_blk, buX_blk]

theorem first3_6 (h : t.val % 16 = 0) (j : Fin 1024) : (outsAt3 V c t.val t.isLt).2 (ix2 0 j) = 0 + buTerm V c t j := by
  refine Eq.trans ?_ ((buTerm_blk V c t (k3_pay2 (F := Ideal)) j).trans (congrArg (· + _) (gainPreZero j)))
  rw [outsAt3_A V c t h]
  dsimp only
  frame_open
  simp (disch := decide) only [↓ View.readCov_skip, ↓ View.readCov_cons_toLoadRect, ↓ View.readCov_fill]
  frame_out

theorem next3_6 (h : ¬t.val % 16 = 0) (j : Fin 1024) :
    (outsAt3 V c t.val t.isLt).2 (ix2 0 j)
      = (outsAt3 V c (t.val - 1) (Nat.lt_of_le_of_lt (Nat.sub_le _ _) t.isLt)).2 (ix2 0 j) + buTerm V c t j := by
  refine Eq.trans ?_ (buTerm_blk V c t (outsAt3 V c (t.val - 1) (Nat.lt_of_le_of_lt (Nat.sub_le _ _) t.isLt)).2 j)
  rw [outsAt3_B V c t h]
  dsimp only
  frame_open
  simp (disch := decide) only [↓ View.readCov_skip, ↓ View.readCov_cons_toLoadRect, ↓ View.readCov_fill]
  frame_out

/-! ## The arrays after the whole grid -/

theorem bu5 : (dat3 V c).arrAt 5 cfg3.N = (fun y => buDx V c (y 0) (y 1) : FVec Ideal S8192x1024 .f32) := by
  refine (dat3 V c).arrAt_eq_of_covers 5 _ (by decide +kernel) fun t hf y => ?_
  blk_simp
  rw [after3_5]
  obtain ⟨r, j, rfl⟩ : ∃ (r : Fin 512) (j : Fin 1024), y = ix2 r j := ⟨y 0, y 1, eq_ix2 y⟩
  refine (left3_5 V c t r j).trans ?_
  refine congrArg₂ (buDx V c) (Fin.ext ?_) (Fin.ext ?_)
  · blk_simp [buIdx t, rowAt]
  · blk_simp [buIdx t]

abbrev buGain (j : Fin 1024) : EReal := ∑ n : Fin 8192, buDhf V c n j * normed (buX V c n) j

theorem bu_run (j : Fin 1024) : ∑ p : Fin cfg3.N, buTerm V c p j = buGain V c j :=
  Fin.sum_mul_add_congr (S := cfg3.N) (fun p r hl => rfl) (congrArg (· * 512) N_3.symm)

theorem bu6 : (dat3 V c).arrAt 6 cfg3.N = (fun y => buGain V c (y 1) : FVec Ideal S1x1024 .f32) := by
  refine (dat3 V c).arrAt_eq_of_covers 6 _ (by decide +kernel) fun t hf y => ?_
  blk_simp
  rw [after3_6]
  obtain ⟨i, j, rfl⟩ : ∃ (i : Fin 1) (j : Fin 1024), y = ix2 i j := ⟨y 0, y 1, eq_ix2 y⟩
  obtain rfl : i = 0 := Fin.eq_zero i
  have hl : t.val = 15 := by have := (flush3_6 t).mp hf; have := buLt t; omega
  have key := Pipeline.eq_sum_fin_of_reset_step_apply_last
    (fun n h (j : Fin 1024) => ((outsAt3 V c n h).2 (ix2 0 j) : EReal)) 16 (fun _ => 0)
    (fun p j => buTerm V c p j) (fun t h j => first3_6 V c t h j) (fun t h j => next3_6 V c t h j) (le_of_eq N_3) t (by rw [hl]; exact N_3.symm) j
  refine key.trans ((zero_add _).trans ((bu_run V c j).trans (congrArg (buGain V c) (Fin.ext ?_))))
  blk_simp [buIdx t]

end Cert.FfnIdeal.FeedForward

end
-- ==== Proof.FfnWeights.lean ====
/- The two products that give the weights' gradients: each block of 1408 rows of the result is summed up over four
   blocks of 2048 rows of its two operands. -/
module

public import proofs.«01_k».proof.Proof.Gen.FfnIdeal.Frame.Region4
public import proofs.«01_k».proof.Proof.Gen.FfnIdeal.Frame.Region5
public import proofs.«01_k».proof.Proof.FfnHalves

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

/-- Row `r` of the block of 2048 rows that point `n` shows. -/
def quarterRow (n : ℕ) (r : Fin 2048) : Fin 8192 := ⟨n % 4 * 2048 + r.val, by omega⟩

section

variable (V : (c : Dev nD) → (b : Ref sig .tc) → Buf (Elt Ideal) ((c : Thread nD τ).loc b)) (c : Dev nD) (t : Fin cfg4.N)

abbrev wdA (n : Fin 8192) (i : Fin 2816) : EReal := (V c main_v2_2 : FVec Ideal S8192x2816 .bf16) (ix2 n i)
abbrev wdB (n : Fin 8192) (j : Fin 1024) : EReal := (V c main_v4_0 : FVec Ideal S8192x1024 .bf16) (ix2 n j)

theorem wdLt (t : Fin cfg4.N) : t.val < 8 := lt_of_lt_of_eq t.isLt N_4

theorem wdIdx : ∀ t : Fin cfg4.N, win4_0.index t = ![t.val % 4, t.val / 4] ∧ win4_1.index t = ![t.val % 4, 0]
    ∧ win4_2.index t = ![t.val / 4, 0] :=
  (by decide +kernel : ∀ t : Fin grid4.N, win4_0.index t = ![t.val % 4, t.val / 4] ∧ win4_1.index t = ![t.val % 4, 0]
    ∧ win4_2.index t = ![t.val / 4, 0])

/-- The result's row that row `i` of point `t`'s block is. -/
def wdCol (i : Fin 1408) : Fin 2816 := ⟨t.val / 4 * 1408 + i.val, by have := wdLt t; omega⟩

theorem wdA_blk (r : Fin 2048) (i : Fin 1408) :
    (iblk4 V c 0 t : FVec Ideal S2048x1408 .bf16) (ix2 r i) = wdA V c (quarterRow t.val r) (wdCol t i) := by
  show (iblk4 V c 0 t : FVec Ideal S2048x1408 .bf16) (ix2 r i) = (V c main_v2_2 : FVec Ideal S8192x2816 .bf16) (ix2 (quarterRow t.val r) (wdCol t i))
  blk_point [iblk4, wdIdx t, quarterRow, wdCol]
theorem wdB_blk (r : Fin 2048) (j : Fin 1024) :
    (iblk4 V c 1 t : FVec Ideal S2048x1024 .bf16) (ix2 r j) = wdB V c (quarterRow t.val r) j := by
  show (iblk4 V c 1 t : FVec Ideal S2048x1024 .bf16) (ix2 r j) = (V c main_v4_0 : FVec Ideal S8192x1024 .bf16) (ix2 (quarterRow t.val r) j)
  blk_point [iblk4, wdIdx t, quarterRow]

/-- What a point adds to its block of the product. -/
abbrev wdTerm (t : Fin cfg4.N) (i : Fin 1408) (j : Fin 1024) : EReal :=
  ∑ r : Fin 2048, wdA V c (quarterRow t.val r) (wdCol t i) * wdB V c (quarterRow t.val r) j

theorem wdTerm_blk (y : FVec Ideal S1408x1024 .f32) (i : Fin 1408) (j : Fin 1024) :
    k4_pay2 (F := Ideal) y (iblk4 V c 0 t) (iblk4 V c 1 t) (ix2 i j) = y (ix2 i j) + wdTerm V c t i j := by
  refine (product_apply y (iblk4 V c 0 t) (iblk4 V c 1 t) i j).trans ?_
  refine congrArg (y (ix2 i j) + ·) (Finset.sum_congr rfl fun r _ => ?_)
  rw [wdA_blk, wdB_blk]

theorem first4 (h : t.val % 4 = 0) (i : Fin 1408) (j : Fin 1024) :
    outsAt4 V c t.val t.isLt (ix2 i j) = 0 + wdTerm V c t i j := by
  refine Eq.trans ?_ ((wdTerm_blk V c t (k4_pay1 (F := Ideal)) i j).trans (congrArg (· + _) (productZero i j)))
  rw [outsAt4_A V c t h]
  frame_open
  simp (disch := decide) only [↓ View.readCov_skip, ↓ View.readCov_cons_toLoadRect, ↓ View.readCov_fill]
  frame_out

theorem next4 (h : ¬t.val % 4 = 0) (i : Fin 1408) (j : Fin 1024) :
    outsAt4 V c t.val t.isLt (ix2 i j)
      = outsAt4 V c (t.val - 1) (Nat.lt_of_le_of_lt (Nat.sub_le _ _) t.isLt) (ix2 i j) + wdTerm V c t i j := by
  refine Eq.trans ?_ (wdTerm_blk V c t (outsAt4 V c (t.val - 1) (Nat.lt_of_le_of_lt (Nat.sub_le _ _) t.isLt)) i j)
  rw [outsAt4_B V c t h]
  frame_open
  simp (disch := decide) only [↓ View.readCov_skip, ↓ View.readCov_cons_toLoadRect, ↓ View.readCov_fill]
  frame_out

/-- The product over all the rows. -/
abbrev wdProd (i : Fin 2816) (j : Fin 1024) : EReal := ∑ n : Fin 8192, wdA V c n i * wdB V c n j

theorem wd_run (h : ∀ s : Fin 4, 4 * (t.val / 4) + s.val < cfg4.N) (i : Fin 1408) (j : Fin 1024) :
    ∑ s : Fin 4, wdTerm V c ⟨4 * (t.val / 4) + s.val, h s⟩ i j = wdProd V c (wdCol t i) j := by
  refine Fin.sum_mul_add_congr fun s r hl => ?_
  have e1 : quarterRow (4 * (t.val / 4) + s.val) r = ⟨s.val * 2048 + r.val, hl⟩ := Fin.ext (by simp only [quarterRow]; omega)
  have e2 : wdCol ⟨4 * (t.val / 4) + s.val, h s⟩ i = wdCol t i := Fin.ext (by simp only [wdCol]; omega)
  show wdA V c (quarterRow (4 * (t.val / 4) + s.val) r) (wdCol ⟨4 * (t.val / 4) + s.val, h s⟩ i) * wdB V c (quarterRow (4 * (t.val / 4) + s.val) r) j = _
  rw [e1, e2]

theorem wd2 : (dat4 V c).arrAt 2 cfg4.N = (fun y => wdProd V c (y 0) (y 1) : FVec Ideal S2816x1024 .f32) := by
  refine (dat4 V c).arrAt_eq_of_covers 2 _ (by decide +kernel) fun t hf y => ?_
  blk_simp
  rw [after4_2]
  obtain ⟨i, j, rfl⟩ : ∃ (i : Fin 1408) (j : Fin 1024), y = ix2 i j := ⟨y 0, y 1, eq_ix2 y⟩
  have key := Pipeline.eq_sum_fin_of_reset_step_apply_of_flush
    (fun n h (x : Fin 1408 × Fin 1024) => (outsAt4 V c n h (ix2 x.1 x.2) : EReal)) 4 (fun _ => 0)
    (fun p x => wdTerm V c p x.1 x.2) (fun t h x => first4 V c t h x.1 x.2) (fun t h x => next4 V c t h x.1 x.2)
    t ((flush4_2 t).mp hf) (i, j)
  refine key.trans ((zero_add _).trans ((wd_run V c t _ i j).trans ?_))
  refine congrArg₂ (wdProd V c) (Fin.ext ?_) (Fin.ext ?_)
  · blk_simp [wdIdx t, wdCol]
  · blk_simp [wdIdx t]

end

section

variable (V : (c : Dev nD) → (b : Ref sig .tc) → Buf (Elt Ideal) ((c : Thread nD τ).loc b)) (c : Dev nD) (t : Fin cfg5.N)

abbrev wgA (n : Fin 8192) (i : Fin 5632) : EReal := (V c main_v4_1 : FVec Ideal S8192x5632 .bf16) (ix2 n i)
abbrev wgB (n : Fin 8192) (j : Fin 1024) : EReal := (V c main_v2_0 : FVec Ideal S8192x1024 .bf16) (ix2 n j)

theorem wgLt (t : Fin cfg5.N) : t.val < 16 := lt_of_lt_of_eq t.isLt N_5

theorem wgIdx : ∀ t : Fin cfg5.N, win5_0.index t = ![t.val % 4, t.val / 4] ∧ win5_1.index t = ![t.val % 4, 0]
    ∧ win5_2.index t = ![t.val / 4, 0] :=
  (by decide +kernel : ∀ t : Fin grid5.N, win5_0.index t = ![t.val % 4, t.val / 4] ∧ win5_1.index t = ![t.val % 4, 0]
    ∧ win5_2.index t = ![t.val / 4, 0])

/-- The result's row that row `i` of point `t`'s block is. -/
def wgCol (i : Fin 1408) : Fin 5632 := ⟨t.val / 4 * 1408 + i.val, by have := wgLt t; omega⟩

theorem wgA_blk (r : Fin 2048) (i : Fin 1408) :
    (iblk5 V c 0 t : FVec Ideal S2048x1408 .bf16) (ix2 r i) = wgA V c (quarterRow t.val r) (wgCol t i) := by
  show (iblk5 V c 0 t : FVec Ideal S2048x1408 .bf16) (ix2 r i) = (V c main_v4_1 : FVec Ideal S8192x5632 .bf16) (ix2 (quarterRow t.val r) (wgCol t i))
  blk_point [iblk5, wgIdx t, quarterRow, wgCol]
theorem wgB_blk (r : Fin 2048) (j : Fin 1024) :
    (iblk5 V c 1 t : FVec Ideal S2048x1024 .bf16) (ix2 r j) = wgB V c (quarterRow t.val r) j := by
  show (iblk5 V c 1 t : FVec Ideal S2048x1024 .bf16) (ix2 r j) = (V c main_v2_0 : FVec Ideal S8192x1024 .bf16) (ix2 (quarterRow t.val r) j)
  blk_point [iblk5, wgIdx t, quarterRow]

/-- What a point adds to its block of the product. -/
abbrev wgTerm (t : Fin cfg5.N) (i : Fin 1408) (j : Fin 1024) : EReal :=
  ∑ r : Fin 2048, wgA V c (quarterRow t.val r) (wgCol t i) * wgB V c (quarterRow t.val r) j

theorem wgTerm_blk (y : FVec Ideal S1408x1024 .f32) (i : Fin 1408) (j : Fin 1024) :
    k5_pay2 (F := Ideal) y (iblk5 V c 0 t) (iblk5 V c 1 t) (ix2 i j) = y (ix2 i j) + wgTerm V c t i j := by
  refine (product5_apply y (iblk5 V c 0 t) (iblk5 V c 1 t) i j).trans ?_
  refine congrArg (y (ix2 i j) + ·) (Finset.sum_congr rfl fun r _ => ?_)
  rw [wgA_blk, wgB_blk]

theorem first5 (h : t.val % 4 = 0) (i : Fin 1408) (j : Fin 1024) :
    outsAt5 V c t.val t.isLt (ix2 i j) = 0 + wgTerm V c t i j := by
  refine Eq.trans ?_ ((wgTerm_blk V c t (k5_pay1 (F := Ideal)) i j).trans (congrArg (· + _) (product5Zero i j)))
  rw [outsAt5_A V c t h]
  frame_open
  simp (disch := decide) only [↓ View.readCov_skip, ↓ View.readCov_cons_toLoadRect, ↓ View.readCov_fill]
  frame_out

theorem next5 (h : ¬t.val % 4 = 0) (i : Fin 1408) (j : Fin 1024) :
    outsAt5 V c t.val t.isLt (ix2 i j)
      = outsAt5 V c (t.val - 1) (Nat.lt_of_le_of_lt (Nat.sub_le _ _) t.isLt) (ix2 i j) + wgTerm V c t i j := by
  refine Eq.trans ?_ (wgTerm_blk V c t (outsAt5 V c (t.val - 1) (Nat.lt_of_le_of_lt (Nat.sub_le _ _) t.isLt)) i j)
  rw [outsAt5_B V c t h]
  frame_open
  simp (disch := decide) only [↓ View.readCov_skip, ↓ View.readCov_cons_toLoadRect, ↓ View.readCov_fill]
  frame_out

/-- The product over all the rows. -/
abbrev wgProd (i : Fin 5632) (j : Fin 1024) : EReal := ∑ n : Fin 8192, wgA V c n i * wgB V c n j

theorem wg_run (h : ∀ s : Fin 4, 4 * (t.val / 4) + s.val < cfg5.N) (i : Fin 1408) (j : Fin 1024) :
    ∑ s : Fin 4, wgTerm V c ⟨4 * (t.val / 4) + s.val, h s⟩ i j = wgProd V c (wgCol t i) j := by
  refine Fin.sum_mul_add_congr fun s r hl => ?_
  have e1 : quarterRow (4 * (t.val / 4) + s.val) r = ⟨s.val * 2048 + r.val, hl⟩ := Fin.ext (by simp only [quarterRow]; omega)
  have e2 : wgCol ⟨4 * (t.val / 4) + s.val, h s⟩ i = wgCol t i := Fin.ext (by simp only [wgCol]; omega)
  show wgA V c (quarterRow (4 * (t.val / 4) + s.val) r) (wgCol ⟨4 * (t.val / 4) + s.val, h s⟩ i) * wgB V c (quarterRow (4 * (t.val / 4) + s.val) r) j = _
  rw [e1, e2]

theorem wg2 : (dat5 V c).arrAt 2 cfg5.N = (fun y => wgProd V c (y 0) (y 1) : FVec Ideal S5632x1024 .f32) := by
  refine (dat5 V c).arrAt_eq_of_covers 2 _ (by decide +kernel) fun t hf y => ?_
  blk_simp
  rw [after5_2]
  obtain ⟨i, j, rfl⟩ : ∃ (i : Fin 1408) (j : Fin 1024), y = ix2 i j := ⟨y 0, y 1, eq_ix2 y⟩
  have key := Pipeline.eq_sum_fin_of_reset_step_apply_of_flush
    (fun n h (x : Fin 1408 × Fin 1024) => (outsAt5 V c n h (ix2 x.1 x.2) : EReal)) 4 (fun _ => 0)
    (fun p x => wgTerm V c p x.1 x.2) (fun t h x => first5 V c t h x.1 x.2) (fun t h x => next5 V c t h x.1 x.2)
    t ((flush5_2 t).mp hf) (i, j)
  refine key.trans ((zero_add _).trans ((wg_run V c t _ i j).trans ?_))
  refine congrArg₂ (wgProd V c) (Fin.ext ?_) (Fin.ext ?_)
  · blk_simp [wgIdx t, wgCol]
  · blk_simp [wgIdx t]

end

end Cert.FfnIdeal.FeedForward

end
-- ==== Proof.FfnChain.lean ====
/- What the six calls hand on to each other: every array between them as the sublayer's mathematics of the arguments, and
   the results of the whole run. -/
module

public import proofs.«01_k».proof.Proof.FfnRun
public import proofs.«01_k».proof.Proof.FfnUp
public import proofs.«01_k».proof.Proof.FfnDown
public import proofs.«01_k».proof.Proof.FfnBackDown
public import proofs.«01_k».proof.Proof.FfnBackUp
public import proofs.«01_k».proof.Proof.FfnWeights
public import Idealize.ShloMosaic.Lib.Claim

@[expose] public section

set_option maxRecDepth 16384

noncomputable section

namespace Cert.FfnIdeal.FeedForward

open Cert.FfnIdeal Cert.FfnIdeal.Gen Idealize.ShloMosaic Idealize.ShloMosaic.TcCoe Idealize.SL.Sem Cert.RowGradients Cert.FeedForward

variable (m : (ℓ : Loc nD τ sig) → Buf (Elt Ideal) ℓ) (ρ : Dev nD → PrngReg) (c : Dev nD)

/-- The arguments, and as functions of their coordinates. -/
abbrev p0 : FVec Ideal S8192x1024 .f32 := m ((c : Thread nD τ).loc main_arg0)
abbrev p1 : FVec Ideal S8192x1024 .f32 := m ((c : Thread nD τ).loc main_arg1)
abbrev p2 : FVec Ideal S1x1024 .f32 := m ((c : Thread nD τ).loc main_arg2)
abbrev p3 : FVec Ideal S1024x5632 .f32 := m ((c : Thread nD τ).loc main_arg3)
abbrev p4 : FVec Ideal S2816x1024 .f32 := m ((c : Thread nD τ).loc main_arg4)
abbrev p5 : FVec Ideal S1x1024 .f32 := m ((c : Thread nD τ).loc main_arg5)
abbrev wX (n : Fin 8192) (l : Fin 1024) : EReal := p0 m c (ix2 n l)
abbrev wT (n : Fin 8192) (l : Fin 1024) : EReal := p1 m c (ix2 n l)
abbrev wGPre (l : Fin 1024) : EReal := p2 m c (ix2 0 l)
abbrev wGu (n : Fin 1024) (l : Fin 5632) : EReal := p3 m c (ix2 n l)
abbrev wDown (n : Fin 2816) (l : Fin 1024) : EReal := p4 m c (ix2 n l)
abbrev wGPost (l : Fin 1024) : EReal := p5 m c (ix2 0 l)

/-! ## The contents of the arguments and of the cast weights, where a call reads them -/

theorem arg_mem_0 : main_arg0 ∈ argRefs := by decide
theorem arg_mem_1 : main_arg1 ∈ argRefs := by decide
theorem arg_mem_2 : main_arg2 ∈ argRefs := by decide
theorem arg_mem_5 : main_arg5 ∈ argRefs := by decide

theorem gu_1 : (V1 m ρ c main_v0 : FVec Ideal S1024x5632 .bf16) = (p3 m c : S1024x5632.Idx → EReal) := by
  show StableHlo.after hostOps0 (W0 m ρ c) (Proc.devRef .tc main_v0) = _
  entry_read
  rfl
theorem down_1 : (V1 m ρ c main_v1 : FVec Ideal S2816x1024 .bf16) = (p4 m c : S2816x1024.Idx → EReal) := by
  show StableHlo.after hostOps0 (W0 m ρ c) (Proc.devRef .tc main_v1) = _
  entry_read
  rfl

/-! ## The forward calls -/

theorem upX_eq : upX (V1 m ρ) c = wX m c := funext fun n => funext fun l => congrFun (W1_args m ρ c main_arg0 arg_mem_0) (ix2 n l)
theorem upG_eq : upG (V1 m ρ) c = wGPre m c := funext fun l => congrFun (W1_args m ρ c main_arg2 arg_mem_2) (ix2 0 l)
theorem upW_eq : upW (V1 m ρ) c = wGu m c := funext fun n => funext fun l => congrFun (gu_1 m ρ c) (ix2 n l)
theorem hf_2 : (V2 m ρ c main_v2_0 : FVec Ideal S8192x1024 .bf16) = (fun y => hfA (wX m c) (wGPre m c) (y 0) (y 1) : S8192x1024.Idx → EReal) := by
  refine (W2_arr m ρ c 3).trans ((up3 (V1 m ρ) c).trans ?_)
  funext y
  show upHf (V1 m ρ) c (y 0) (y 1) = _
  unfold upHf
  rw [upX_eq, upG_eq]
  rfl
theorem gu_2 : (V2 m ρ c main_v2_1 : FVec Ideal S8192x5632 .bf16) = (fun y => guA (wX m c) (wGPre m c) (wGu m c) (y 0) (y 1) : S8192x5632.Idx → EReal) := by
  refine (W2_arr m ρ c 4).trans ((up4 (V1 m ρ) c).trans ?_)
  funext y
  show upGu (V1 m ρ) c (y 0) (y 1) = _
  unfold upGu upHf
  rw [upX_eq, upG_eq, upW_eq]
  rfl
theorem act_2 : (V2 m ρ c main_v2_2 : FVec Ideal S8192x2816 .bf16) = (fun y => actA (wX m c) (wGPre m c) (wGu m c) (y 0) (y 1) : S8192x2816.Idx → EReal) := by
  refine (W2_arr m ρ c 5).trans ((up5 (V1 m ρ) c).trans ?_)
  funext y
  show upAct (V1 m ρ) c (y 0) (y 1) = _
  unfold upAct upGu upHf
  rw [upX_eq, upG_eq, upW_eq]
  rfl

theorem downA_eq : downA (V2 m ρ) c = actA (wX m c) (wGPre m c) (wGu m c) := funext fun n => funext fun l => congrFun (act_2 m ρ c) (ix2 n l)
theorem downX_eq : downX (V2 m ρ) c = wX m c := funext fun n => funext fun l => congrFun (W2_args m ρ c main_arg0 arg_mem_0) (ix2 n l)
theorem downT_eq : downT (V2 m ρ) c = wT m c := funext fun n => funext fun l => congrFun (W2_args m ρ c main_arg1 arg_mem_1) (ix2 n l)
theorem downW_eq : downW (V2 m ρ) c = wDown m c := funext fun n => funext fun l => congrFun ((W2_of m ρ c main_v1 (by decide)).trans (down_1 m ρ c)) (ix2 n l)
theorem downG_eq : downG (V2 m ρ) c = wGPost m c := funext fun l => congrFun (W2_args m ρ c main_arg5 arg_mem_5) (ix2 0 l)
theorem dn_3 : (V3 m ρ c main_v3_0 : FVec Ideal S8192x1024 .f32) = (fun y => dnA (wX m c) (wGPre m c) (wGu m c) (wDown m c) (y 0) (y 1) : S8192x1024.Idx → EReal) := by
  refine (W3_arr m ρ c 5).trans ((down5 (V2 m ρ) c).trans ?_)
  funext y
  show downDn (V2 m ρ) c (y 0) (y 1) = _
  unfold downDn
  rw [downA_eq, downW_eq]
  rfl
theorem dy_3 : (V3 m ρ c main_v3_1 : FVec Ideal S8192x1024 .f32) = (fun y => dyA (wX m c) (wT m c) (wGPre m c) (wGPost m c) (wGu m c) (wDown m c) (y 0) (y 1) : S8192x1024.Idx → EReal) := by
  refine (W3_arr m ρ c 6).trans ((down6 (V2 m ρ) c).trans ?_)
  funext y
  show downDy (V2 m ρ) c (y 0) (y 1) = _
  unfold downDy downErr downDn
  rw [downA_eq, downX_eq, downT_eq, downW_eq, downG_eq]
  rfl
/-- The squared errors' sum over the rows, column by column. -/
abbrev lossCols (j : Fin 1024) : EReal := ∑ n : Fin 8192, errA (wX m c) (wT m c) (wGPre m c) (wGPost m c) (wGu m c) (wDown m c) n j * errA (wX m c) (wT m c) (wGPre m c) (wGPost m c) (wGu m c) (wDown m c) n j
theorem loss_3 : (V3 m ρ c main_v3_2 : FVec Ideal S1x1024 .f32) = (fun y => lossCols m c (y 1) : S1x1024.Idx → EReal) := by
  refine (W3_arr m ρ c 7).trans ((down7 (V2 m ρ) c).trans ?_)
  funext y
  show downLoss (V2 m ρ) c (y 1) = _
  unfold downLoss downErr downDn
  rw [downA_eq, downX_eq, downT_eq, downW_eq, downG_eq]
  rfl

/-! ## The backward calls -/

theorem bdDy_eq : bdDy (V3 m ρ) c = dyA (wX m c) (wT m c) (wGPre m c) (wGPost m c) (wGu m c) (wDown m c) := funext fun n => funext fun l => congrFun (dy_3 m ρ c) (ix2 n l)
theorem bdDn_eq : bdDn (V3 m ρ) c = dnA (wX m c) (wGPre m c) (wGu m c) (wDown m c) := funext fun n => funext fun l => congrFun (dn_3 m ρ c) (ix2 n l)
theorem bdGu_eq : bdGu (V3 m ρ) c = guA (wX m c) (wGPre m c) (wGu m c) := funext fun n => funext fun l => congrFun ((W3_of m ρ c main_v2_1 (by decide)).trans (gu_2 m ρ c)) (ix2 n l)
theorem bdG_eq : bdG (V3 m ρ) c = wGPost m c := funext fun l => congrFun (W3_args m ρ c main_arg5 arg_mem_5) (ix2 0 l)
theorem bdW_eq : bdW (V3 m ρ) c = wDown m c := funext fun n => funext fun l => congrFun (((W3_of m ρ c main_v1 (by decide)).trans (W2_of m ρ c main_v1 (by decide))).trans (down_1 m ρ c)) (ix2 n l)
theorem ddn_4 : (V4 m ρ c main_v4_0 : FVec Ideal S8192x1024 .bf16) = (fun y => ddnA (wX m c) (wT m c) (wGPre m c) (wGPost m c) (wGu m c) (wDown m c) (y 0) (y 1) : S8192x1024.Idx → EReal) := by
  refine (W4_arr m ρ c 5).trans ((bd5 (V3 m ρ) c).trans ?_)
  funext y
  show bdDdn (V3 m ρ) c (y 0) (y 1) = _
  unfold bdDdn
  rw [bdDy_eq, bdDn_eq, bdG_eq]
  rfl
theorem dgu_4 : (V4 m ρ c main_v4_1 : FVec Ideal S8192x5632 .bf16) = (fun y => dguA (wX m c) (wT m c) (wGPre m c) (wGPost m c) (wGu m c) (wDown m c) (y 0) (y 1) : S8192x5632.Idx → EReal) := by
  refine (W4_arr m ρ c 6).trans ((bd6 (V3 m ρ) c).trans ?_)
  funext y
  show bdDgu (V3 m ρ) c (y 0) (y 1) = _
  unfold bdDgu bdDact bdDdn
  rw [bdDy_eq, bdDn_eq, bdGu_eq, bdG_eq, bdW_eq]
  rfl
theorem dgPost_4 : (V4 m ρ c main_v4_2 : FVec Ideal S1x1024 .f32) = (fun y => dgPostA (wX m c) (wT m c) (wGPre m c) (wGPost m c) (wGu m c) (wDown m c) (y 1) : S1x1024.Idx → EReal) := by
  refine (W4_arr m ρ c 7).trans ((bd7 (V3 m ρ) c).trans ?_)
  funext y
  show bdGain (V3 m ρ) c (y 1) = _
  unfold bdGain
  rw [bdDy_eq, bdDn_eq]
  rfl

theorem buDgu_eq : buDgu (V4 m ρ) c = dguA (wX m c) (wT m c) (wGPre m c) (wGPost m c) (wGu m c) (wDown m c) := funext fun n => funext fun l => congrFun (dgu_4 m ρ c) (ix2 n l)
theorem buDy_eq : buDy (V4 m ρ) c = dyA (wX m c) (wT m c) (wGPre m c) (wGPost m c) (wGu m c) (wDown m c) := funext fun n => funext fun l => congrFun ((W4_of m ρ c main_v3_1 (by decide)).trans (dy_3 m ρ c)) (ix2 n l)
theorem buX_eq : buX (V4 m ρ) c = wX m c := funext fun n => funext fun l => congrFun (W4_args m ρ c main_arg0 arg_mem_0) (ix2 n l)
theorem buW_eq : buW (V4 m ρ) c = wGu m c := funext fun n => funext fun l => congrFun ((((W4_of m ρ c main_v0 (by decide)).trans (W3_of m ρ c main_v0 (by decide))).trans (W2_of m ρ c main_v0 (by decide))).trans (gu_1 m ρ c)) (ix2 n l)
theorem buG_eq : buG (V4 m ρ) c = wGPre m c := funext fun l => congrFun (W4_args m ρ c main_arg2 arg_mem_2) (ix2 0 l)
theorem dx_5 : (V5 m ρ c main_v5_0 : FVec Ideal S8192x1024 .f32) = (fun y => dxA (wX m c) (wT m c) (wGPre m c) (wGPost m c) (wGu m c) (wDown m c) (y 0) (y 1) : S8192x1024.Idx → EReal) := by
  refine (W5_arr m ρ c 5).trans ((bu5 (V4 m ρ) c).trans ?_)
  funext y
  show buDx (V4 m ρ) c (y 0) (y 1) = _
  unfold buDx buDhf
  rw [buDgu_eq, buDy_eq, buX_eq, buW_eq, buG_eq]
  rfl
theorem dgPre_5 : (V5 m ρ c main_v5_1 : FVec Ideal S1x1024 .f32) = (fun y => dgPreA (wX m c) (wT m c) (wGPre m c) (wGPost m c) (wGu m c) (wDown m c) (y 1) : S1x1024.Idx → EReal) := by
  refine (W5_arr m ρ c 6).trans ((bu6 (V4 m ρ) c).trans ?_)
  funext y
  show buGain (V4 m ρ) c (y 1) = _
  unfold buGain buDhf
  rw [buDgu_eq, buX_eq, buW_eq]
  rfl

theorem wdA_eq : wdA (V5 m ρ) c = actA (wX m c) (wGPre m c) (wGu m c) := funext fun n => funext fun l => congrFun ((((W5_of m ρ c main_v2_2 (by decide)).trans (W4_of m ρ c main_v2_2 (by decide))).trans (W3_of m ρ c main_v2_2 (by decide))).trans (act_2 m ρ c)) (ix2 n l)
theorem wdB_eq : wdB (V5 m ρ) c = ddnA (wX m c) (wT m c) (wGPre m c) (wGPost m c) (wGu m c) (wDown m c) := funext fun n => funext fun l => congrFun ((W5_of m ρ c main_v4_0 (by decide)).trans (ddn_4 m ρ c)) (ix2 n l)
theorem dwDown_6 : (V6 m ρ c main_v6 : FVec Ideal S2816x1024 .f32) = (fun y => dwDownA (wX m c) (wT m c) (wGPre m c) (wGPost m c) (wGu m c) (wDown m c) (y 0) (y 1) : S2816x1024.Idx → EReal) := by
  refine (W6_arr m ρ c 2).trans ((wd2 (V5 m ρ) c).trans ?_)
  funext y
  show wdProd (V5 m ρ) c (y 0) (y 1) = _
  unfold wdProd
  rw [wdA_eq, wdB_eq]
  rfl

theorem wgA_eq : wgA (V6 m ρ) c = dguA (wX m c) (wT m c) (wGPre m c) (wGPost m c) (wGu m c) (wDown m c) := funext fun n => funext fun l => congrFun (((W6_of m ρ c main_v4_1 (by decide)).trans (W5_of m ρ c main_v4_1 (by decide))).trans (dgu_4 m ρ c)) (ix2 n l)
theorem wgB_eq : wgB (V6 m ρ) c = hfA (wX m c) (wGPre m c) := funext fun n => funext fun l => congrFun (((((W6_of m ρ c main_v2_0 (by decide)).trans (W5_of m ρ c main_v2_0 (by decide))).trans (W4_of m ρ c main_v2_0 (by decide))).trans (W3_of m ρ c main_v2_0 (by decide))).trans (hf_2 m ρ c)) (ix2 n l)
theorem dwGu_7 : (V7 m ρ c main_v7 : FVec Ideal S5632x1024 .f32) = (fun y => dwGuA (wX m c) (wT m c) (wGPre m c) (wGPost m c) (wGu m c) (wDown m c) (y 1) (y 0) : S5632x1024.Idx → EReal) := by
  refine (W7_arr m ρ c 2).trans ((wg2 (V6 m ρ) c).trans ?_)
  funext y
  show wgProd (V6 m ρ) c (y 0) (y 1) = _
  unfold wgProd
  rw [wgA_eq, wgB_eq]
  rfl

/-! ## The results at the end of the run -/

theorem dx_end : (W8 m ρ c main_v5_0 : FVec Ideal S8192x1024 .f32) = (fun y => dxA (wX m c) (wT m c) (wGPre m c) (wGPost m c) (wGu m c) (wDown m c) (y 0) (y 1) : S8192x1024.Idx → EReal) :=
  (((W8_of m ρ c main_v5_0 (by decide)).trans (W7_of m ρ c main_v5_0 (by decide))).trans (W6_of m ρ c main_v5_0 (by decide))).trans (dx_5 m ρ c)
theorem dgPre_end : (W8 m ρ c main_v5_1 : FVec Ideal S1x1024 .f32) = (fun y => dgPreA (wX m c) (wT m c) (wGPre m c) (wGPost m c) (wGu m c) (wDown m c) (y 1) : S1x1024.Idx → EReal) :=
  (((W8_of m ρ c main_v5_1 (by decide)).trans (W7_of m ρ c main_v5_1 (by decide))).trans (W6_of m ρ c main_v5_1 (by decide))).trans (dgPre_5 m ρ c)
theorem dwDown_end : (W8 m ρ c main_v6 : FVec Ideal S2816x1024 .f32) = (fun y => dwDownA (wX m c) (wT m c) (wGPre m c) (wGPost m c) (wGu m c) (wDown m c) (y 0) (y 1) : S2816x1024.Idx → EReal) :=
  ((W8_of m ρ c main_v6 (by decide)).trans (W7_of m ρ c main_v6 (by decide))).trans (dwDown_6 m ρ c)
theorem dgPost_end : (W8 m ρ c main_v4_2 : FVec Ideal S1x1024 .f32) = (fun y => dgPostA (wX m c) (wT m c) (wGPre m c) (wGPost m c) (wGu m c) (wDown m c) (y 1) : S1x1024.Idx → EReal) :=
  ((((W8_of m ρ c main_v4_2 (by decide)).trans (W7_of m ρ c main_v4_2 (by decide))).trans (W6_of m ρ c main_v4_2 (by decide))).trans (W5_of m ρ c main_v4_2 (by decide))).trans (dgPost_4 m ρ c)

theorem loss_7 : (W7 m ρ c main_v3_2 : FVec Ideal S1x1024 .f32) = (fun y => lossCols m c (y 1) : S1x1024.Idx → EReal) :=
  ((((W7_of m ρ c main_v3_2 (by decide)).trans (W6_of m ρ c main_v3_2 (by decide))).trans (W5_of m ρ c main_v3_2 (by decide))).trans (W4_of m ρ c main_v3_2 (by decide))).trans (loss_3 m ρ c)

theorem dwGu_end : (W8 m ρ c main_v11 : FVec Ideal S1024x5632 .f32) = (fun y => dwGuA (wX m c) (wT m c) (wGPre m c) (wGPost m c) (wGu m c) (wDown m c) (y 0) (y 1) : S1024x5632.Idx → EReal) := by
  have h : (W8 m ρ c main_v11 : FVec Ideal S1024x5632 .f32)
      = transpose S1024x5632 [1, 0] (W7 m ρ c main_v7 : FVec Ideal S5632x1024 .f32) transposes_S5632x1024_S1024x5632_1_0 := by
    show StableHlo.after hostOps6 (W7 m ρ c) (Proc.devRef .tc main_v11) = _
    entry_read
    rfl
  rw [h, show (W7 m ρ c main_v7 : FVec Ideal S5632x1024 .f32) = _ from dwGu_7 m ρ c]
  funext y
  pointwise []

theorem loss_end : (W8 m ρ c main_v10 : FVec Ideal S_ .f32) = (fun _ => lossA (wX m c) (wT m c) (wGPre m c) (wGPost m c) (wGu m c) (wDown m c) : S_.Idx → EReal) := by
  have h : (W8 m ρ c main_v10 : FVec Ideal S_ .f32)
      = (Host.divf (F := Ideal) (mulf (constant S_ .f32 0x3F000000#32) (Host.reduceAdd (W7 m ρ c main_v3_2 : FVec Ideal S1x1024 .f32)
          (constant S_ .f32 0x00000000#32) reducesTo_S1x1024_S_d0_1 h_S_)) (constant S_ .f32 0x44800000#32) : FVec Ideal S_ .f32) := by
    show StableHlo.after hostOps6 (W7 m ρ c) (Proc.devRef .tc main_v10) = _
    entry_read
    rfl
  rw [h, show (W7 m ρ c main_v3_2 : FVec Ideal S1x1024 .f32) = _ from loss_7 m ρ c]
  funext y
  simp only [lossA, ← half_eq]
  pointwise []
  simp only [Finset.univ_unique, Finset.sum_singleton]

end Cert.FfnIdeal.FeedForward

end
-- ==== Proof.FfnReference.lean ====
/- The feed-forward reference, read at an index: its stages as functions of a row and a feature. -/
module

public import proofs.«01_k».proof.Proof.Gen.FfnRefIdeal.Read
public import proofs.«01_k».proof.Proof.FfnMath

@[expose] public section

set_option maxRecDepth 16384

noncomputable section

namespace Cert.FfnRefIdeal.FeedForward

open Cert.FfnRefIdeal Cert.FfnRefIdeal.Gen Cert.FfnRefIdeal.Read Idealize.ShloMosaic Idealize.ShloMosaic.TcCoe Idealize.SL.Sem
open Cert.RowGradients Cert.FeedForward

variable (x0 x1 : FVec Ideal S8192x1024 .f32) (x2 : FVec Ideal S1x1024 .f32) (x3 : FVec Ideal S1024x5632 .f32)
  (x4 : FVec Ideal S2816x1024 .f32) (x5 : FVec Ideal S1x1024 .f32)

/-- An array of rows or a weight, and a gain, as functions of their coordinates. -/
abbrev mat {a b : ℕ} (x : FVec Ideal ⟨2, ![a, b]⟩ .f32) (n : Fin a) (l : Fin b) : EReal := x (ix2 n l)
abbrev gain (x : FVec Ideal S1x1024 .f32) (l : Fin 1024) : EReal := x (ix2 0 l)

/-- The gradient through `silu`, as it is differentiated from its definition. -/
abbrev siluGradRef (ct z : EReal) : EReal := ct * sigm z + z * ct * (sigm z * (1 - sigm z))

/-! ## The forward pass -/

theorem xhat_apply (n : Fin 8192) (j : Fin 1024) : val_main_v12 (F := Ideal) x0 (ix2 n j) = normed (mat x0 n) j := by
  simp only [normed, invRms, meanSq]
  pointwise [val_main_v12, val_main_v11, val_main_v7, val_main_v6, val_main_v5, val_main_v4, val_main_v3, val_main_v2, val_main_v1,
    val_main_v0, val_main_cst, val_main_cst_0, val_main_cst_1]

theorem hf_apply (n : Fin 8192) (j : Fin 1024) : val_main_v14 (F := Ideal) x0 x2 (ix2 n j) = hfA (mat x0) (gain x2) n j := by
  simp only [hfA, gained, ← xhat_apply]
  pointwise [val_main_v14, val_main_v13]

theorem gu_apply (n : Fin 8192) (b : Fin 5632) :
    val_main_v15 (F := Ideal) x0 x2 x3 (ix2 n b) = guA (mat x0) (gain x2) (mat x3) n b := by
  simp only [guA, times, ← hf_apply]
  pointwise [val_main_v15]

theorem gate_apply (n : Fin 8192) (e : Fin 2816) :
    val_main_v16 (F := Ideal) x0 x2 x3 (ix2 n e) = guA (mat x0) (gain x2) (mat x3) n (lo e) := by
  rw [← gu_apply]
  simp only [lo]
  pointwise [val_main_v16]

theorem up_apply (n : Fin 8192) (e : Fin 2816) :
    val_main_v17 (F := Ideal) x0 x2 x3 (ix2 n e) = guA (mat x0) (gain x2) (mat x3) n (hi e) := by
  rw [← gu_apply]
  simp only [hi]
  pointwise [val_main_v17]

theorem sigm_apply (n : Fin 8192) (e : Fin 2816) :
    val_main_v18_2 (F := Ideal) x0 x2 x3 (ix2 n e) = sigm (guA (mat x0) (gain x2) (mat x3) n (lo e)) := by
  rw [← gate_apply]
  simp only [sigm, zero_sub, ← one_eq]
  pointwise [val_main_v18_2, val_main_call0_v4, val_main_call0_v3, val_main_call0_v2, val_main_call0_v1, val_main_call0_v0,
    val_main_call0_cst, val_main_call0_cst_0]

theorem silu_apply (n : Fin 8192) (e : Fin 2816) :
    val_main_v18_0 (F := Ideal) x0 x2 x3 (ix2 n e) = silu (guA (mat x0) (gain x2) (mat x3) n (lo e)) := by
  simp only [silu, ← sigm_apply]
  simp only [← gate_apply]
  pointwise [val_main_v18_0]

theorem act_apply (n : Fin 8192) (e : Fin 2816) :
    val_main_v19 (F := Ideal) x0 x2 x3 (ix2 n e) = actA (mat x0) (gain x2) (mat x3) n e := by
  simp only [actA, activ, ← silu_apply, ← up_apply]
  pointwise [val_main_v19]

theorem dn_apply (n : Fin 8192) (j : Fin 1024) :
    val_main_v20 (F := Ideal) x0 x2 x3 x4 (ix2 n j) = dnA (mat x0) (gain x2) (mat x3) (mat x4) n j := by
  simp only [dnA, times, ← act_apply]
  pointwise [val_main_v20]

theorem dnhat_apply (n : Fin 8192) (j : Fin 1024) :
    val_main_v33 (F := Ideal) x0 x2 x3 x4 (ix2 n j) = normed (dnA (mat x0) (gain x2) (mat x3) (mat x4) n) j := by
  simp only [normed, invRms, meanSq, ← dn_apply]
  pointwise [val_main_v33, val_main_v32, val_main_v28, val_main_v27, val_main_v26, val_main_v25, val_main_v24, val_main_v23,
    val_main_v22, val_main_v21, val_main_cst_3, val_main_cst_4, val_main_cst_5]

theorem err_apply (n : Fin 8192) (j : Fin 1024) :
    val_main_v37 (F := Ideal) x0 x1 x2 x3 x4 x5 (ix2 n j)
      = errA (mat x0) (mat x1) (gain x2) (gain x5) (mat x3) (mat x4) n j := by
  simp only [errA, errRow, gained, ← dnhat_apply]
  pointwise [val_main_v37, val_main_v36, val_main_v35, val_main_v34]

/-! ## The loss and the gradient of the residual row -/

theorem two_eq : Ideal.ofBits .f32 0x40000000#32 = ((2 : ℝ) : EReal) := by
  simp [Ideal.ofBits, Ideal.ieee, -EReal.coe_mul]; norm_num

theorem loss_read (i : S_.Idx) : val_main_v45 (F := Ideal) x0 x1 x2 x3 x4 x5 i
    = Ideal.ofBits .f32 0x3F000000#32 * ∑ n : Fin 8192, Ideal.div (∑ j : Fin 1024,
      val_main_v37 (F := Ideal) x0 x1 x2 x3 x4 x5 (ix2 n j) * val_main_v37 (F := Ideal) x0 x1 x2 x3 x4 x5 (ix2 n j)) width := by
  pointwise [val_main_v45, val_main_v44, val_main_v43, val_main_v42, val_main_v41, val_main_v38, val_main_cst_8, val_main_cst_9,
    val_main_cst_10, val_main_cst_11]

/-- The rows' means summed up are the columns' sums summed up and divided. -/
theorem loss_apply (i : S_.Idx) : val_main_v45 (F := Ideal) x0 x1 x2 x3 x4 x5 i
    = lossA (mat x0) (mat x1) (gain x2) (gain x5) (mat x3) (mat x4) := by
  rw [loss_read]
  simp only [err_apply, lossA, width_eq, half_eq]
  simp only [Ideal.div_coe (show (1024 : ℝ) ≠ 0 by norm_num)]
  rw [sum_mul_coe _ _ _ (by norm_num), ← mul_assoc]
  refine congrArg (((1 / 2 : ℝ) : EReal) * · * ((1 / 1024 : ℝ) : EReal)) Finset.sum_comm

theorem dy_apply (n : Fin 8192) (j : Fin 1024) :
    val_main_v51 (F := Ideal) x0 x1 x2 x3 x4 x5 (ix2 n j)
      = dyA (mat x0) (mat x1) (gain x2) (gain x5) (mat x3) (mat x4) n j := by
  have h : val_main_v51 (F := Ideal) x0 x1 x2 x3 x4 x5 (ix2 n j)
      = Ideal.div (Ideal.ofBits .f32 0x3F000000#32 * one) width
        * (Ideal.ofBits .f32 0x40000000#32 * val_main_v37 (F := Ideal) x0 x1 x2 x3 x4 x5 (ix2 n j)) := by
    pointwise [val_main_v51, val_main_v50, val_main_v49, val_main_v48, val_main_v47, val_main_v46, val_main_v40, val_main_v39,
      val_main_cst_7, val_main_cst_12, val_main_cst_13, val_main_cst_14]
  rw [h, err_apply, dyA, half_eq, two_eq, one_eq, mul_one, width_eq, Ideal.div_coe (by norm_num), ← mul_assoc, ← EReal.coe_mul,
    ← EReal.coe_mul, mul_comm]
  congr 2
  norm_num

/-! ## The backward pass -/

theorem ddn_apply (n : Fin 8192) (j : Fin 1024) :
    val_main_v70 (F := Ideal) x0 x1 x2 x3 x4 x5 (ix2 n j)
      = ddnA (mat x0) (mat x1) (gain x2) (gain x5) (mat x3) (mat x4) n j := by
  rw [ddnA, normGrad_eq_ref]
  simp only [normGradRef, throughMean, invRms, meanSq, ← dn_apply, ← dy_apply]
  pointwise [val_main_v70, val_main_v69, val_main_v68, val_main_v67, val_main_v66, val_main_v65, val_main_v64, val_main_v63,
    val_main_v62, val_main_v61, val_main_v60, val_main_v59, val_main_v58, val_main_v57, val_main_v56, val_main_v55, val_main_v31,
    val_main_v30, val_main_v29, val_main_v28, val_main_v27, val_main_v26, val_main_v25, val_main_v24, val_main_v23,
    val_main_v22, val_main_v21, val_main_cst_3, val_main_cst_4, val_main_cst_5, val_main_cst_6, val_main_cst_16, val_main_cst_17,
    val_main_cst_18]
  simp only [Finset.univ_unique, Finset.sum_singleton]

theorem dact_apply (n : Fin 8192) (e : Fin 2816) :
    val_main_v73 (F := Ideal) x0 x1 x2 x3 x4 x5 (ix2 n e)
      = dactA (mat x0) (mat x1) (gain x2) (gain x5) (mat x3) (mat x4) n e := by
  simp only [dactA, timesTr, ← ddn_apply]
  pointwise [val_main_v73]

theorem dgPost_apply (j : Fin 1024) :
    val_main_v54 (F := Ideal) x0 x1 x2 x3 x4 x5 (ix2 0 j)
      = dgPostA (mat x0) (mat x1) (gain x2) (gain x5) (mat x3) (mat x4) j := by
  simp only [dgPostA, ← dy_apply, ← dnhat_apply]
  simp only [mul_comm (val_main_v51 (F := Ideal) x0 x1 x2 x3 x4 x5 _)]
  pointwise [val_main_v54, val_main_v53, val_main_v52, val_main_cst_15]

theorem dwDown_apply (e : Fin 2816) (j : Fin 1024) :
    val_main_v72 (F := Ideal) x0 x1 x2 x3 x4 x5 (ix2 e j)
      = dwDownA (mat x0) (mat x1) (gain x2) (gain x5) (mat x3) (mat x4) e j := by
  simp only [dwDownA, ← ddn_apply, ← act_apply]
  simp only [mul_comm (val_main_v19 (F := Ideal) x0 x2 x3 _)]
  pointwise [val_main_v72, val_main_v71]

/-- The up half of the gate and up columns' gradient. -/
theorem dup_apply (n : Fin 8192) (e : Fin 2816) :
    val_main_v77 (F := Ideal) x0 x1 x2 x3 x4 x5 (ix2 n (hi e))
      = dactA (mat x0) (mat x1) (gain x2) (gain x5) (mat x3) (mat x4) n e * silu (guA (mat x0) (gain x2) (mat x3) n (lo e)) := by
  rw [← silu_apply, ← dact_apply, mul_comm]
  simp only [hi]
  pointwise [val_main_v77, val_main_v74]

/-- The gate's half, as the reference differentiates it. -/
theorem dgate_apply (n : Fin 8192) (e : Fin 2816) :
    val_main_v77 (F := Ideal) x0 x1 x2 x3 x4 x5 (ix2 n (lo e))
      = siluGradRef (dactA (mat x0) (mat x1) (gain x2) (gain x5) (mat x3) (mat x4) n e * guA (mat x0) (gain x2) (mat x3) n (hi e))
          (guA (mat x0) (gain x2) (mat x3) n (lo e)) := by
  simp only [siluGradRef, ← sigm_apply]
  simp only [← dact_apply, ← up_apply, ← gate_apply, ← one_eq]
  simp only [lo]
  pointwise [val_main_v77, val_main_v76, val_main_call1_v2, val_main_call1_v1, val_main_call1_v0, val_main_v75, val_main_v18_1,
    val_main_call0_v7, val_main_call0_v6, val_main_call0_cst_1]

/-- The reference's other results, from the gate and up columns' gradient. -/
theorem dwGu_read (j : Fin 1024) (b : Fin 5632) :
    val_main_v79 (F := Ideal) x0 x1 x2 x3 x4 x5 (ix2 j b)
      = ∑ n : Fin 8192, val_main_v77 (F := Ideal) x0 x1 x2 x3 x4 x5 (ix2 n b) * hfA (mat x0) (gain x2) n j := by
  simp only [← hf_apply]
  pointwise [val_main_v79, val_main_v78]

theorem dhf_read (n : Fin 8192) (j : Fin 1024) :
    val_main_v80 (F := Ideal) x0 x1 x2 x3 x4 x5 (ix2 n j)
      = timesTr (fun b => val_main_v77 (F := Ideal) x0 x1 x2 x3 x4 x5 (ix2 n b)) (mat x3) j := by
  simp only [timesTr]
  pointwise [val_main_v80]

theorem dgPre_read (j : Fin 1024) :
    val_main_v83 (F := Ideal) x0 x1 x2 x3 x4 x5 (ix2 0 j)
      = ∑ n : Fin 8192, val_main_v80 (F := Ideal) x0 x1 x2 x3 x4 x5 (ix2 n j) * normed (mat x0 n) j := by
  simp only [← xhat_apply]
  simp only [mul_comm (val_main_v80 (F := Ideal) x0 x1 x2 x3 x4 x5 _)]
  pointwise [val_main_v83, val_main_v82, val_main_v81, val_main_cst_19]

theorem dx_read (n : Fin 8192) (j : Fin 1024) :
    val_main_v100 (F := Ideal) x0 x1 x2 x3 x4 x5 (ix2 n j)
      = dyA (mat x0) (mat x1) (gain x2) (gain x5) (mat x3) (mat x4) n j
        + normGrad (mat x0 n) (gain x2) (fun l => val_main_v80 (F := Ideal) x0 x1 x2 x3 x4 x5 (ix2 n l)) j := by
  rw [normGrad_eq_ref, ← dy_apply]
  simp only [normGradRef, throughMean, invRms, meanSq]
  rw [← add_assoc, ← add_assoc]
  pointwise [val_main_v100, val_main_v99, val_main_v98, val_main_v97, val_main_v96, val_main_v95, val_main_v94, val_main_v93,
    val_main_v92, val_main_v91, val_main_v90, val_main_v89, val_main_v88, val_main_v87, val_main_v86, val_main_v85, val_main_v84,
    val_main_v10, val_main_v9, val_main_v8, val_main_v7, val_main_v6, val_main_v5, val_main_v4, val_main_v3, val_main_v2, val_main_v1,
    val_main_v0, val_main_cst, val_main_cst_0, val_main_cst_1, val_main_cst_2, val_main_cst_20, val_main_cst_21, val_main_cst_22]
  simp only [Finset.univ_unique, Finset.sum_singleton]

end Cert.FfnRefIdeal.FeedForward

end
-- ==== Proof.FfnFinite.lean ====
/- What the feed-forward precondition says, and what follows: the gradient of the activated row and the gate and up columns are
   real numbers, so that the gradient through `silu` may be distributed. -/
module

public import proofs.«01_k».proof.Pre_ffn_finite
public import proofs.«01_k».proof.Proof.Finite
public import proofs.«01_k».proof.Proof.FfnReference

@[expose] public section

noncomputable section

namespace Cert.Pre_ffn_finite

open Idealize.ShloMosaic Cert.RowGradients

theorem facts : Facts := by constructor <;> decide

instance : Subsingleton S_.Idx := ⟨fun a b => funext fun i => i.elim0⟩

theorem real [Facts] (a0 a1 : FVec Ideal S8192x1024 .f32) (a2 : FVec Ideal S1x1024 .f32) (a3 : FVec Ideal S1024x5632 .f32)
    (a4 : FVec Ideal S2816x1024 .f32) (a5 : FVec Ideal S1x1024 .f32)
    (e : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have e := congrFun e (fun a => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨Cert.Pre_scores_finite.isReal_of_max _ _ _ _ e1, Cert.Pre_scores_finite.isReal_of_max _ _ _ _ e2,
    Cert.Pre_scores_finite.isReal_of_max _ _ _ _ e3, Cert.Pre_scores_finite.isReal_of_max _ _ _ _ e4,
    Cert.Pre_scores_finite.isReal_of_max _ _ _ _ e5, Cert.Pre_scores_finite.isReal_of_max _ _ _ _ e6⟩

end Cert.Pre_ffn_finite

namespace Cert.FeedForward

open Idealize.ShloMosaic Cert.RowGradients

/-! ## Real numbers stay real -/

theorem isReal_add {a b : EReal} (ha : IsReal a) (hb : IsReal b) : IsReal (a + b) := by
  obtain ⟨r, rfl⟩ := ha; obtain ⟨s, rfl⟩ := hb
  exact ⟨r + s, (EReal.coe_add r s).symm⟩

theorem times_isReal {n k : ℕ} (a : Fin n → EReal) (w : Fin n → Fin k → EReal) (ha : ∀ l, IsReal (a l)) (hw : ∀ l j, IsReal (w l j))
    (j : Fin k) : IsReal (times a w j) := IsReal.sum _ _ fun l => (ha l).mul (hw l j)

theorem timesTr_isReal {n k : ℕ} (a : Fin n → EReal) (w : Fin k → Fin n → EReal) (ha : ∀ l, IsReal (a l)) (hw : ∀ j l, IsReal (w j l))
    (j : Fin k) : IsReal (timesTr a w j) := IsReal.sum _ _ fun l => (ha l).mul (hw j l)

theorem gained_isReal (x g : Fin 1024 → EReal) (hx : ∀ j, IsReal (x j)) (hg : ∀ j, IsReal (g j)) (j : Fin 1024) :
    IsReal (gained x g j) := (normed_isReal x hx j).mul (hg j)

theorem sigm_isReal {z : EReal} (hz : IsReal z) : IsReal (sigm z) := by
  obtain ⟨r, rfl⟩ := hz
  refine ⟨1 / (1 + Real.exp (-r)), ?_⟩
  have h : (1 : ℝ) + Real.exp (-r) ≠ 0 := by positivity
  rw [sigm, zero_sub, ← EReal.coe_neg, Ideal.exp_coe, ← EReal.coe_one, ← EReal.coe_add, Ideal.div_coe h, ← EReal.coe_mul, one_mul]

theorem silu_isReal {z : EReal} (hz : IsReal z) : IsReal (silu z) := hz.mul (sigm_isReal hz)

theorem normGrad_isReal (x g dy : Fin 1024 → EReal) (hx : ∀ j, IsReal (x j)) (hg : ∀ j, IsReal (g j)) (hd : ∀ j, IsReal (dy j))
    (j : Fin 1024) : IsReal (normGrad x g dy j) := by
  obtain ⟨ρ, _, hr, _⟩ := invRms_real x
  refine IsReal.mul ⟨ρ, hr⟩ (((hd j).mul (hg j)).sub ((normed_isReal x hx j).mul ?_))
  rw [width_eq, Ideal.div_coe (by norm_num)]
  exact IsReal.mul (IsReal.sum _ _ fun l => ((hd l).mul (hg l)).mul (normed_isReal x hx l)) ⟨_, rfl⟩

/-- The two ways of writing the gradient through `silu` agree on real numbers. -/
theorem siluGrad_eq {ct z : EReal} (hc : IsReal ct) (hz : IsReal z) :
    ct * sigm z + z * ct * (sigm z * (1 - sigm z)) = ct * siluGrad z := by
  obtain ⟨s, hs⟩ := sigm_isReal hz
  obtain ⟨r, rfl⟩ := hz
  obtain ⟨q, rfl⟩ := hc
  rw [siluGrad, silu, hs, ← EReal.coe_one, ← EReal.coe_sub]
  simp only [← EReal.coe_mul, ← EReal.coe_add]
  congr 1
  ring

end Cert.FeedForward

namespace Cert.FfnRefIdeal.FeedForward

open Cert.FfnRefIdeal Cert.FfnRefIdeal.Read Idealize.ShloMosaic Cert.RowGradients Cert.FeedForward

/-! ## The results that go through `silu` -/

section

variable (x0 x1 : FVec Ideal S8192x1024 .f32) (x2 : FVec Ideal S1x1024 .f32) (x3 : FVec Ideal S1024x5632 .f32)
  (x4 : FVec Ideal S2816x1024 .f32) (x5 : FVec Ideal S1x1024 .f32)

/-- All the arguments are real. -/
structure Finite : Prop where
  x : ∀ n l, IsReal (mat x0 n l)
  t : ∀ n l, IsReal (mat x1 n l)
  gPre : ∀ l, IsReal (gain x2 l)
  wGu : ∀ a b, IsReal (mat x3 a b)
  wDown : ∀ a b, IsReal (mat x4 a b)
  gPost : ∀ l, IsReal (gain x5 l)

variable {x0 x1 x2 x3 x4 x5} (hf : Finite x0 x1 x2 x3 x4 x5)

include hf

theorem Finite.gu (n : Fin 8192) (b : Fin 5632) : IsReal (guA (mat x0) (gain x2) (mat x3) n b) :=
  times_isReal _ _ (fun l => gained_isReal _ _ (hf.x n) hf.gPre l) hf.wGu b

theorem Finite.dn (n : Fin 8192) (j : Fin 1024) : IsReal (dnA (mat x0) (gain x2) (mat x3) (mat x4) n j) :=
  times_isReal _ _ (fun e => (silu_isReal (hf.gu n (lo e))).mul (hf.gu n (hi e))) hf.wDown j

theorem Finite.dy (n : Fin 8192) (j : Fin 1024) : IsReal (dyA (mat x0) (mat x1) (gain x2) (gain x5) (mat x3) (mat x4) n j) :=
  IsReal.mul ((isReal_add (hf.x n j) (gained_isReal _ _ (hf.dn n) hf.gPost j)).sub (hf.t n j)) ⟨_, rfl⟩

theorem Finite.dact (n : Fin 8192) (e : Fin 2816) :
    IsReal (dactA (mat x0) (mat x1) (gain x2) (gain x5) (mat x3) (mat x4) n e) :=
  timesTr_isReal _ _ (fun j => normGrad_isReal _ _ _ (hf.dn n) hf.gPost (hf.dy n) j) hf.wDown e

theorem dgu_apply (n : Fin 8192) (b : Fin 5632) :
    val_main_v77 (F := Ideal) x0 x1 x2 x3 x4 x5 (ix2 n b)
      = dguA (mat x0) (mat x1) (gain x2) (gain x5) (mat x3) (mat x4) n b := by
  unfold dguA gateUpGrad
  rcases lo_or_hi b with ⟨e, rfl⟩ | ⟨e, rfl⟩
  · rw [dgate_apply, halves_lo]
    exact siluGrad_eq ((hf.dact n e).mul (hf.gu n (hi e))) (hf.gu n (lo e))
  · rw [dup_apply, halves_hi]

theorem dwGu_apply (j : Fin 1024) (b : Fin 5632) :
    val_main_v79 (F := Ideal) x0 x1 x2 x3 x4 x5 (ix2 j b)
      = dwGuA (mat x0) (mat x1) (gain x2) (gain x5) (mat x3) (mat x4) j b := by
  rw [dwGu_read]
  exact Finset.sum_congr rfl fun n _ => congrArg (· * hfA (mat x0) (gain x2) n j) (dgu_apply hf n b)

theorem dhf_apply (n : Fin 8192) (j : Fin 1024) :
    val_main_v80 (F := Ideal) x0 x1 x2 x3 x4 x5 (ix2 n j)
      = dhfA (mat x0) (mat x1) (gain x2) (gain x5) (mat x3) (mat x4) n j := by
  rw [dhf_read, funext fun b => dgu_apply hf n b]
  rfl

theorem dgPre_apply (j : Fin 1024) :
    val_main_v83 (F := Ideal) x0 x1 x2 x3 x4 x5 (ix2 0 j)
      = dgPreA (mat x0) (mat x1) (gain x2) (gain x5) (mat x3) (mat x4) j := by
  rw [dgPre_read]
  exact Finset.sum_congr rfl fun n _ => congrArg (· * normed (mat x0 n) j) (dhf_apply hf n j)

theorem dx_apply (n : Fin 8192) (j : Fin 1024) :
    val_main_v100 (F := Ideal) x0 x1 x2 x3 x4 x5 (ix2 n j)
      = dxA (mat x0) (mat x1) (gain x2) (gain x5) (mat x3) (mat x4) n j := by
  rw [dx_read, funext fun l => dhf_apply hf n l]
  rfl

end

end Cert.FfnRefIdeal.FeedForward

end
-- ==== Proof.FfnClaims.lean ====
/- The claims about the feed-forward sublayer: the frames, and that the run of the six kernels ends at the reference's loss and
   gradients. -/
module

public import proofs.«01_k».proof.Defs
public import proofs.«01_k».proof.Proof.FfnChain
public import proofs.«01_k».proof.Proof.FfnFinite
public import proofs.«01_k».proof.Proof.Gen.Ffn.Frame

@[expose] public section

set_option maxRecDepth 16384

noncomputable section

namespace Cert.Proof.Ffn

open Idealize.ShloMosaic Idealize.ShloMosaic.TcCoe Idealize.SL.Sem Cert.RowGradients Cert.FeedForward
open Cert.FfnIdeal.FeedForward (p0 p1 p2 p3 p4 p5)
open Cert.FfnRefIdeal.FeedForward (Finite mat gain)

/-- The precondition says that the arguments are real numbers. -/
theorem finite_of_pre (m : (ℓ : Loc Cert.FfnIdeal.nD Cert.FfnIdeal.τ Cert.FfnIdeal.sig) → Buf (Elt Ideal) ℓ)
    (h : Cert.Pre_FfnIdeal_ffn_finite (hPre_ffn_finite := Cert.Pre_ffn_finite.facts) m) (c : Dev Cert.FfnIdeal.nD) :
    Finite (p0 m c) (p1 m c) (p2 m c) (p3 m c) (p4 m c) (p5 m c) := by
  haveI := Cert.Pre_ffn_finite.facts
  obtain ⟨h0, h1, h2, h3, h4, h5⟩ := Cert.Pre_ffn_finite.real (p0 m c) (p1 m c) (p2 m c) (p3 m c) (p4 m c) (p5 m c) (h c)
  exact ⟨fun _ _ => h0 _, fun _ _ => h1 _, fun _ => h2 _, fun _ _ => h3 _, fun _ _ => h4 _, fun _ => h5 _⟩

/-- The reference leaves its arguments as they were; it has no semaphore. -/
theorem frame_ref : Cert.quiescent_FfnRefIdeal := fun m ρ _ =>
  (θ_run Cert.FfnRefIdeal.defs _ _).mono (fun r h => ⟨fun c => (h c).2.2.2.2.2.2,
      Idealize.ShloMosaic.sem_eq_zero_of_no_sems (by decide) r.2⟩)
    (Cert.FfnRefIdeal.Value.run (F := Ideal) m ρ)

section

open Cert.FfnRefIdeal Cert.FfnRefIdeal.Read Cert.FfnRefIdeal.FeedForward

/-! ## The reference's run -/

variable (m : (ℓ : Loc nD τ sig) → Buf (Elt Ideal) ℓ) (c : Dev nD)

abbrev q0 : FVec Ideal S8192x1024 .f32 := m ((c.tc : Thread nD τ).loc main_arg0)
abbrev q1 : FVec Ideal S8192x1024 .f32 := m ((c.tc : Thread nD τ).loc main_arg1)
abbrev q2 : FVec Ideal S1x1024 .f32 := m ((c.tc : Thread nD τ).loc main_arg2)
abbrev q3 : FVec Ideal S1024x5632 .f32 := m ((c.tc : Thread nD τ).loc main_arg3)
abbrev q4 : FVec Ideal S2816x1024 .f32 := m ((c.tc : Thread nD τ).loc main_arg4)
abbrev q5 : FVec Ideal S1x1024 .f32 := m ((c.tc : Thread nD τ).loc main_arg5)

theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v45) = val_main_v45 (F := Ideal) (q0 m c) (q1 m c) (q2 m c) (q3 m c) (q4 m c) (q5 m c)
      ∧ r.2.mem ((c.tc : Thread nD τ).loc main_v100) = val_main_v100 (F := Ideal) (q0 m c) (q1 m c) (q2 m c) (q3 m c) (q4 m c) (q5 m c)
      ∧ r.2.mem ((c.tc : Thread nD τ).loc main_v83) = val_main_v83 (F := Ideal) (q0 m c) (q1 m c) (q2 m c) (q3 m c) (q4 m c) (q5 m c)
      ∧ r.2.mem ((c.tc : Thread nD τ).loc main_v79) = val_main_v79 (F := Ideal) (q0 m c) (q1 m c) (q2 m c) (q3 m c) (q4 m c) (q5 m c)
      ∧ r.2.mem ((c.tc : Thread nD τ).loc main_v72) = val_main_v72 (F := Ideal) (q0 m c) (q1 m c) (q2 m c) (q3 m c) (q4 m c) (q5 m c)
      ∧ r.2.mem ((c.tc : Thread nD τ).loc main_v54) = val_main_v54 (F := Ideal) (q0 m c) (q1 m c) (q2 m c) (q3 m c) (q4 m c) (q5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v45_eq (StableHlo.launchContents m c)),
    (h c).2.1.trans (val_main_v100_eq (StableHlo.launchContents m c)),
    (h c).2.2.1.trans (val_main_v83_eq (StableHlo.launchContents m c)),
    (h c).2.2.2.1.trans (val_main_v79_eq (StableHlo.launchContents m c)),
    (h c).2.2.2.2.1.trans (val_main_v72_eq (StableHlo.launchContents m c)),
    (h c).2.2.2.2.2.1.trans (val_main_v54_eq (StableHlo.launchContents m c)),
    (h c).2.2.2.2.2.2⟩) (Cert.FfnRefIdeal.Value.run (F := Ideal) m ρ)

/-! ## The reference's results, as the sublayer's mathematics -/

variable (x0 x1 : FVec Ideal S8192x1024 .f32) (x2 : FVec Ideal S1x1024 .f32) (x3 : FVec Ideal S1024x5632 .f32)
  (x4 : FVec Ideal S2816x1024 .f32) (x5 : FVec Ideal S1x1024 .f32)

theorem eta {n0 n1 : ℕ} (y : (⟨2, ![n0, n1]⟩ : Shape).Idx) : y = ix2 (y 0) (y 1) := by
  funext a; match a with
  | 0 => rfl
  | 1 => rfl

theorem eta_zero {n1 : ℕ} (y : (⟨2, ![1, n1]⟩ : Shape).Idx) : y = ix2 0 (y 1) := by
  funext a; match a with
  | 0 => exact Subsingleton.elim (α := Fin 1) _ _
  | 1 => rfl

theorem res45 : (fun _ => lossA (mat x0) (mat x1) (gain x2) (gain x5) (mat x3) (mat x4) : S_.Idx → EReal) = val_main_v45 (F := Ideal) x0 x1 x2 x3 x4 x5 :=
  funext fun y => (loss_apply x0 x1 x2 x3 x4 x5 y).symm

variable {x0 x1 x2 x3 x4 x5} in
theorem res100 (hf : Finite x0 x1 x2 x3 x4 x5) : (fun y => dxA (mat x0) (mat x1) (gain x2) (gain x5) (mat x3) (mat x4) (y 0) (y 1) : S8192x1024.Idx → EReal)
    = val_main_v100 (F := Ideal) x0 x1 x2 x3 x4 x5 := by
  funext y
  rw [eta y]
  exact (dx_apply hf _ _).symm

variable {x0 x1 x2 x3 x4 x5} in
theorem res83 (hf : Finite x0 x1 x2 x3 x4 x5) : (fun y => dgPreA (mat x0) (mat x1) (gain x2) (gain x5) (mat x3) (mat x4) (y 1) : S1x1024.Idx → EReal)
    = val_main_v83 (F := Ideal) x0 x1 x2 x3 x4 x5 := by
  funext y
  rw [eta_zero y]
  exact (dgPre_apply hf _).symm

variable {x0 x1 x2 x3 x4 x5} in
theorem res79 (hf : Finite x0 x1 x2 x3 x4 x5) : (fun y => dwGuA (mat x0) (mat x1) (gain x2) (gain x5) (mat x3) (mat x4) (y 0) (y 1) : S1024x5632.Idx → EReal)
    = val_main_v79 (F := Ideal) x0 x1 x2 x3 x4 x5 := by
  funext y
  rw [eta y]
  exact (dwGu_apply hf _ _).symm

theorem res72 : (fun y => dwDownA (mat x0) (mat x1) (gain x2) (gain x5) (mat x3) (mat x4) (y 0) (y 1) : S2816x1024.Idx → EReal)
    = val_main_v72 (F := Ideal) x0 x1 x2 x3 x4 x5 := by
  funext y
  rw [eta y]
  exact (dwDown_apply x0 x1 x2 x3 x4 x5 _ _).symm

theorem res54 : (fun y => dgPostA (mat x0) (mat x1) (gain x2) (gain x5) (mat x3) (mat x4) (y 1) : S1x1024.Idx → EReal)
    = val_main_v54 (F := Ideal) x0 x1 x2 x3 x4 x5 := by
  funext y
  rw [eta_zero y]
  exact (dgPost_apply x0 x1 x2 x3 x4 x5 _).symm

end

/-! ## The claim -/

open Cert.FfnIdeal.FeedForward in
theorem algebraic : Cert.algebraic_FfnIdeal_FfnRefIdeal_pre_ffn_finite (hPre_ffn_finite := Cert.Pre_ffn_finite.facts) := by
  intro m ρ m' ρ' hpre hag
  have hf := finite_of_pre m hpre
  refine ⟨fun c => Cert.FfnRefIdeal.Read.val_main_v45 (F := Ideal) (p0 m c) (p1 m c) (p2 m c) (p3 m c) (p4 m c) (p5 m c),
    fun c => Cert.FfnRefIdeal.Read.val_main_v100 (F := Ideal) (p0 m c) (p1 m c) (p2 m c) (p3 m c) (p4 m c) (p5 m c),
    fun c => Cert.FfnRefIdeal.Read.val_main_v83 (F := Ideal) (p0 m c) (p1 m c) (p2 m c) (p3 m c) (p4 m c) (p5 m c),
    fun c => Cert.FfnRefIdeal.Read.val_main_v79 (F := Ideal) (p0 m c) (p1 m c) (p2 m c) (p3 m c) (p4 m c) (p5 m c),
    fun c => Cert.FfnRefIdeal.Read.val_main_v72 (F := Ideal) (p0 m c) (p1 m c) (p2 m c) (p3 m c) (p4 m c) (p5 m c),
    fun c => Cert.FfnRefIdeal.Read.val_main_v54 (F := Ideal) (p0 m c) (p1 m c) (p2 m c) (p3 m c) (p4 m c) (p5 m c),
    ?_, ?_⟩
  · refine (θ_run Cert.FfnIdeal.defs _ _).mono (fun r h c => ?_) (run_contents m ρ)
    have at_ := fun b hb => h c (Proc.devRef .tc b) (Cert.FfnIdeal.Gen.mem_uc b hb)
    exact ⟨(at_ Cert.FfnIdeal.main_v10 (by decide)).trans ((loss_end m ρ c).trans (res45 (p0 m c) (p1 m c) (p2 m c) (p3 m c) (p4 m c) (p5 m c))),
      (at_ Cert.FfnIdeal.main_v5_0 (by decide)).trans ((dx_end m ρ c).trans (res100 (hf c))),
      (at_ Cert.FfnIdeal.main_v5_1 (by decide)).trans ((dgPre_end m ρ c).trans (res83 (hf c))),
      (at_ Cert.FfnIdeal.main_v11 (by decide)).trans ((dwGu_end m ρ c).trans (res79 (hf c))),
      (at_ Cert.FfnIdeal.main_v6 (by decide)).trans ((dwDown_end m ρ c).trans (res72 (p0 m c) (p1 m c) (p2 m c) (p3 m c) (p4 m c) (p5 m c))),
      (at_ Cert.FfnIdeal.main_v4_2 (by decide)).trans ((dgPost_end m ρ c).trans (res54 (p0 m c) (p1 m c) (p2 m c) (p3 m c) (p4 m c) (p5 m c))),
      (at_ Cert.FfnIdeal.main_arg0 (by decide)).trans (Cert.FfnIdeal.Gen.W8_main_arg0 m ρ c),
      (at_ Cert.FfnIdeal.main_arg1 (by decide)).trans (Cert.FfnIdeal.Gen.W8_main_arg1 m ρ c),
      (at_ Cert.FfnIdeal.main_arg2 (by decide)).trans (Cert.FfnIdeal.Gen.W8_main_arg2 m ρ c),
      (at_ Cert.FfnIdeal.main_arg3 (by decide)).trans (Cert.FfnIdeal.Gen.W8_main_arg3 m ρ c),
      (at_ Cert.FfnIdeal.main_arg4 (by decide)).trans (Cert.FfnIdeal.Gen.W8_main_arg4 m ρ c),
      (at_ Cert.FfnIdeal.main_arg5 (by decide)).trans (Cert.FfnIdeal.Gen.W8_main_arg5 m ρ c)⟩
  · refine (θ_run Cert.FfnRefIdeal.defs _ _).mono (fun r h c => ?_) (run_ref m' ρ')
    obtain ⟨g0, g1, g2, g3, g4, g5⟩ := hag c
    have e := h c
    rw [show q0 m' c = p0 m c from g0, show q1 m' c = p1 m c from g1, show q2 m' c = p2 m c from g2, show q3 m' c = p3 m c from g3, show q4 m' c = p4 m c from g4, show q5 m' c = p5 m c from g5] at e
    exact e

end Cert.Proof.Ffn

end
-- ==== Proof.Blocks.lean ====
/- Facts about blocks of rows and columns that several calls share: which row of an array a block's row is, how a load of
   some columns is read, and a product of two arrays that is summed up block of rows by block of rows. -/
module

public import proofs.«01_k».proof.Proof.FfnMath
public import Idealize.ShloMosaic.Lib.Pipeline.ReadBack
public import Idealize.ShloMosaic.Lib.Pipeline.ValueKit

@[expose] public section

noncomputable section

namespace Cert.Blocks

open Idealize.ShloMosaic

/-- Row `r` of the block of 512 rows that point `t` of a grid of 16 shows. -/
def rowAt (t : ℕ) (h : t < 16) (r : Fin 512) : Fin 8192 := ⟨t * 512 + r.val, by omega⟩

/-- Row `r` of the block of 1024 rows that point `n` shows, in runs of eight points. -/
def eighthRow (n : ℕ) (r : Fin 1024) : Fin 8192 := ⟨n % 8 * 1024 + r.val, by omega⟩

/-- Row `r` of the block of 2048 rows that point `n` shows, in runs of four points. -/
def quarterRow (n : ℕ) (r : Fin 2048) : Fin 8192 := ⟨n % 4 * 2048 + r.val, by omega⟩

theorem eta {n0 n1 : ℕ} (y : (⟨2, ![n0, n1]⟩ : Shape).Idx) : y = ix2 (y 0) (y 1) := by
  funext a; match a with
  | 0 => rfl
  | 1 => rfl

theorem eta_zero {n1 : ℕ} (y : (⟨2, ![1, n1]⟩ : Shape).Idx) : y = ix2 0 (y 1) := by
  funext a; match a with
  | 0 => exact Subsingleton.elim (α := Fin 1) _ _
  | 1 => rfl

/-- A load of `k` columns from column `o` on. -/
theorem ld_cols {a b k : ℕ} {Val : EltTy → Type} {el : EltTy} (X : (⟨2, ![a, b]⟩ : Shape).Idx → Val el) (o : ℕ) (inb) (r : Fin a)
    (e : Fin k) (j : Fin b) (hj : j.val = o + e.val) :
    View.ld X (Rect.unit (s := ⟨2, ![a, b]⟩) ![0, o] ![a, k] inb) (ix2 r e) = X (ix2 r j) := by
  refine View.ld_unit_apply_of X _ _ inb _ _ fun i => ?_
  match i with
  | 0 => exact (Nat.zero_add r.val).symm
  | 1 => exact hj

/-- A block of a product of two arrays' columns, summed up over a run of `K` blocks of `R` rows each: at the run's last
    point it is the product over all the rows. `acc` is the block after a point, `row` and `col` say which rows and which of
    the left array's columns a point shows. -/
theorem product_of_runs {N K R L p P Q : ℕ} [NeZero K] (A : Fin L → Fin P → EReal) (B : Fin L → Fin Q → EReal)
    (acc : (n : ℕ) → n < N → Fin p → Fin Q → EReal) (row : ℕ → Fin R → Fin L) (col : Fin N → Fin p → Fin P)
    (hL : L = K * R) (hrow : ∀ n r, (row n r).val = n % K * R + r.val)
    (hcol : ∀ (s t : Fin N) i, s.val / K = t.val / K → col s i = col t i)
    (h0 : ∀ t : Fin N, t.val % K = 0 → ∀ i j, acc t.val t.isLt i j = 0 + ∑ r, A (row t.val r) (col t i) * B (row t.val r) j)
    (hs : ∀ t : Fin N, ¬t.val % K = 0 → ∀ i j, acc t.val t.isLt i j
      = acc (t.val - 1) (Nat.lt_of_le_of_lt (Nat.sub_le _ _) t.isLt) i j + ∑ r, A (row t.val r) (col t i) * B (row t.val r) j)
    (t : Fin N) (hr : t.val % K = K - 1) (i : Fin p) (j : Fin Q) :
    acc t.val t.isLt i j = ∑ n, A n (col t i) * B n j := by
  have key := Pipeline.eq_sum_fin_of_reset_step_apply_of_flush
    (fun n h (x : Fin p × Fin Q) => acc n h x.1 x.2) K (fun _ => 0)
    (fun t x => ∑ r, A (row t.val r) (col t x.1) * B (row t.val r) x.2) (fun t h x => h0 t h x.1 x.2)
    (fun t h x => hs t h x.1 x.2) t hr (i, j)
  refine key.trans ((zero_add _).trans (Fin.sum_mul_add_congr (fun s r hl => ?_) hL))
  have hmod : (K * (t.val / K) + s.val) % K = s.val := by rw [Nat.mul_add_mod]; exact Nat.mod_eq_of_lt s.isLt
  have hdiv : (K * (t.val / K) + s.val) / K = t.val / K := by
    rw [Nat.mul_add_div (Nat.pos_of_ne_zero (NeZero.ne K)), Nat.div_eq_of_lt s.isLt, Nat.add_zero]
  have e1 : row (K * (t.val / K) + s.val) r = ⟨s.val * R + r.val, hl⟩ := Fin.ext (by rw [hrow, hmod])
  show A (row (K * (t.val / K) + s.val) r) (col ⟨K * (t.val / K) + s.val, _⟩ i) * B (row (K * (t.val / K) + s.val) r) j = _
  rw [e1, hcol _ t i hdiv]

end Cert.Blocks

end
-- ==== Proof.InMath.lean ====
/- The mathematics of the mixer's input projection, row by row, over the extended reals.

   A row is normalised and multiplied by the input weights, whose 4608 columns fall into three parts of 2048, 512 and 2048:
   the gating unit's, the state space's and the gate's. The gradient comes back as three rows, one per part. -/
module

public import proofs.«01_k».proof.Proof.Blocks

@[expose] public section

noncomputable section

namespace Cert.MixerIn

open Idealize.ShloMosaic Cert.RowGradients Cert.FeedForward

/-! ## The three parts of the columns -/

/-- The gating unit's column `e`, the state space's and the gate's. -/
def unitCol (e : Fin 2048) : Fin 4608 := ⟨e.val, by omega⟩
def stateCol (e : Fin 512) : Fin 4608 := ⟨2048 + e.val, by omega⟩
def gateCol (e : Fin 2048) : Fin 4608 := ⟨2560 + e.val, by omega⟩

/-- A row of 4608 from its three parts. -/
def joined {α : Type*} (a : Fin 2048 → α) (b : Fin 512 → α) (d : Fin 2048 → α) (j : Fin 4608) : α :=
  if h : j.val < 2048 then a ⟨j.val, h⟩ else if h' : j.val < 2560 then b ⟨j.val - 2048, by omega⟩ else d ⟨j.val - 2560, by omega⟩

section

variable {α : Type*} (a : Fin 2048 → α) (b : Fin 512 → α) (d : Fin 2048 → α)

theorem joined_unit (e : Fin 2048) : joined a b d (unitCol e) = a e := by simp [joined, unitCol]
theorem joined_state (e : Fin 512) : joined a b d (stateCol e) = b e := by
  have h : 2048 + e.val < 2560 := by omega
  simp [joined, stateCol, h]
theorem joined_gate (e : Fin 2048) : joined a b d (gateCol e) = d e := by
  have h : ¬2560 + e.val < 2048 := by omega
  simp [joined, gateCol, h]

end

theorem col_cases (j : Fin 4608) : (∃ e, j = unitCol e) ∨ (∃ e, j = stateCol e) ∨ ∃ e, j = gateCol e := by
  by_cases h : j.val < 2048
  · exact .inl ⟨⟨j.val, h⟩, rfl⟩
  by_cases h' : j.val < 2560
  · exact .inr (.inl ⟨⟨j.val - 2048, by omega⟩, Fin.ext (by simp only [stateCol]; omega)⟩)
  · exact .inr (.inr ⟨⟨j.val - 2560, by omega⟩, Fin.ext (by simp only [gateCol]; omega)⟩)

/-- A sum over all the columns, part by part. -/
theorem sum_cols (f : Fin 4608 → EReal) :
    ∑ j, f j = (∑ e, f (unitCol e) + ∑ e, f (stateCol e)) + ∑ e, f (gateCol e) :=
  (Fin.sum_univ_add (a := 2560) (b := 2048) f).trans
    (congrArg (· + ∑ e, f (gateCol e)) (Fin.sum_univ_add (a := 2048) (b := 512) fun j => f (Fin.castAdd 2048 j)))

/-! ## All the rows -/

section Whole

variable (x : Fin 8192 → Fin 1024 → EReal) (g : Fin 1024 → EReal) (w : Fin 1024 → Fin 4608 → EReal)
  (du : Fin 8192 → Fin 2048 → EReal) (ds : Fin 8192 → Fin 512 → EReal) (dz : Fin 8192 → Fin 2048 → EReal)
  (dx1 : Fin 8192 → Fin 1024 → EReal)

def hA (n : Fin 8192) : Fin 1024 → EReal := gained (x n) g
def zA (n : Fin 8192) : Fin 4608 → EReal := times (hA x g n) w
def dhA (n : Fin 8192) : Fin 1024 → EReal := timesTr (joined (du n) (ds n) (dz n)) w
def dInA (n : Fin 8192) (j : Fin 1024) : EReal := dx1 n j + normGrad (x n) g (dhA w du ds dz n) j
def dgA (j : Fin 1024) : EReal := ∑ n : Fin 8192, dhA w du ds dz n j * normed (x n) j
def dwA (j : Fin 1024) (b : Fin 4608) : EReal := ∑ n : Fin 8192, joined (du n) (ds n) (dz n) b * hA x g n j

/-- The rows' gradient as three products, one per part. -/
theorem dhA_parts (n : Fin 8192) (j : Fin 1024) : dhA w du ds dz n j
    = (timesTr (du n) (fun j e => w j (unitCol e)) j + timesTr (ds n) (fun j e => w j (stateCol e)) j)
      + timesTr (dz n) (fun j e => w j (gateCol e)) j := by
  unfold dhA timesTr
  rw [sum_cols]
  simp only [joined_unit, joined_state, joined_gate]

end Whole

end Cert.MixerIn

end
-- ==== Proof.InRun.lean ====
/- The run of the five kernels and the host operations around them: what every buffer that outlives the calls holds at the
   end, which is the contents that the segments' records give one after another. -/
module

public import proofs.«01_k».proof.Proof.Gen.MixInIdeal.Frame
public import proofs.«01_k».proof.Proof.InMath

@[expose] public section

set_option maxRecDepth 16384

noncomputable section

namespace Cert.MixInIdeal.MixerIn

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer outside the calls ends at the last boundary's contents. -/
theorem run_contents : θ_run defs (onTc (τ := τ) (main (F := Ideal))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.MixInIdeal.MixerIn

end
-- ==== Proof.InRows.lean ====
/- What one grid point of each of the input projection's kernels computes, read at an index, in terms of the row functions of
   `InMath`. -/
module

public import proofs.«01_k».proof.Proof.Gen.MixInIdeal.Skeleton
public import proofs.«01_k».proof.Proof.InMath

@[expose] public section

set_option maxRecDepth 16384

noncomputable section

namespace Cert.MixInIdeal.MixerIn

open Cert.MixInIdeal Cert.MixInIdeal.Gen Idealize.ShloMosaic Cert.RowGradients Cert.FeedForward Cert.MixerIn

/-! ## The projection -/

section Forward

variable (x : FVec Ideal S512x1024 .f32) (g : FVec Ideal S1x1024 .f32)

theorem h_apply (r : Fin 512) (j : Fin 1024) :
    k0_pay1 (F := Ideal) x g (ix2 r j) = gained (fun l => x (ix2 r l)) (fun l => g (ix2 0 l)) j := by
  simp only [gained, normed, invRms, meanSq]
  pointwise [k0_pay1]

theorem unit_apply (w : FVec Ideal S1024x2048 .bf16) (r : Fin 512) (e : Fin 2048) :
    k0_pay2 (F := Ideal) x g w (ix2 r e) = times (gained (fun l => x (ix2 r l)) (fun l => g (ix2 0 l))) (fun l e => w (ix2 l e)) e := by
  simp only [times, ← h_apply]
  unfold k0_pay2
  generalize k0_pay1 (F := Ideal) x g = h
  pointwise

theorem state_apply (w : FVec Ideal S1024x512 .bf16) (r : Fin 512) (e : Fin 512) :
    k0_pay3 (F := Ideal) x g w (ix2 r e) = times (gained (fun l => x (ix2 r l)) (fun l => g (ix2 0 l))) (fun l e => w (ix2 l e)) e := by
  simp only [times, ← h_apply]
  unfold k0_pay3
  generalize k0_pay1 (F := Ideal) x g = h
  pointwise

theorem gate_apply (w : FVec Ideal S1024x2048 .bf16) (r : Fin 512) (e : Fin 2048) :
    k0_pay4 (F := Ideal) x g w (ix2 r e) = times (gained (fun l => x (ix2 r l)) (fun l => g (ix2 0 l))) (fun l e => w (ix2 l e)) e :=
  unit_apply x g w r e

end Forward

/-! ## The gradient through the projection -/

section Back

variable (du : FVec Ideal S512x2048 .bf16) (wu : FVec Ideal S1024x2048 .bf16) (ds : FVec Ideal S512x512 .f32)
  (ws : FVec Ideal S1024x512 .bf16) (dz : FVec Ideal S512x2048 .bf16) (wz : FVec Ideal S1024x2048 .bf16)
  (x d1 dh : FVec Ideal S512x1024 .f32) (g y : FVec Ideal S1x1024 .f32)

theorem dh_apply (r : Fin 512) (j : Fin 1024) : k1_pay4 (F := Ideal) du wu ds ws dz wz (ix2 r j)
    = (timesTr (fun e => du (ix2 r e)) (fun j e => wu (ix2 j e)) j + timesTr (fun e => ds (ix2 r e)) (fun j e => ws (ix2 j e)) j)
      + timesTr (fun e => dz (ix2 r e)) (fun j e => wz (ix2 j e)) j := by
  simp only [timesTr]
  pointwise [k1_pay4]

theorem inputGrad_apply (r : Fin 512) (j : Fin 1024) :
    k1_pay2 (F := Ideal) (k1_pay5 x) (k1_pay6 x) (k1_pay7 du wu ds ws dz wz g) d1 (ix2 r j)
      = d1 (ix2 r j) + normGrad (fun l => x (ix2 r l)) (fun l => g (ix2 0 l)) (fun l => k1_pay4 (F := Ideal) du wu ds ws dz wz (ix2 r l)) j := by
  simp only [normGrad, normed, invRms, meanSq]
  unfold k1_pay7
  generalize k1_pay4 (F := Ideal) du wu ds ws dz wz = h
  pointwise [k1_pay2, k1_pay5, k1_pay6]

theorem gainTerm_apply (j : Fin 1024) :
    k1_pay1 (F := Ideal) dh (k1_pay6 x) y (ix2 0 j) = y (ix2 0 j) + ∑ r : Fin 512, dh (ix2 r j) * normed (fun l => x (ix2 r l)) j := by
  simp only [normed, invRms, meanSq]
  pointwise [k1_pay1, k1_pay5, k1_pay6]

theorem gainZero (j : Fin 1024) : k1_pay3 (F := Ideal) (ix2 0 j) = 0 := by pointwise [k1_pay3]

end Back

/-! ## The weights' gradients -/

section Weights

variable (b : FVec Ideal S1024x1024 .bf16)

theorem product_apply (y : FVec Ideal S1024x1024 .f32) (a : FVec Ideal S1024x1024 .bf16) (i j : Fin 1024) :
    k2_pay2 (F := Ideal) y a b (ix2 i j) = y (ix2 i j) + ∑ r : Fin 1024, a (ix2 r i) * b (ix2 r j) := by
  pointwise [k2_pay2]
theorem product3_apply (y : FVec Ideal S512x1024 .f32) (a : FVec Ideal S1024x512 .f32) (i : Fin 512) (j : Fin 1024) :
    k3_pay2 (F := Ideal) y a b (ix2 i j) = y (ix2 i j) + ∑ r : Fin 1024, a (ix2 r i) * b (ix2 r j) := by
  pointwise [k3_pay2]
theorem product4_apply (y : FVec Ideal S1024x1024 .f32) (a : FVec Ideal S1024x1024 .bf16) (i j : Fin 1024) :
    k4_pay2 (F := Ideal) y a b (ix2 i j) = y (ix2 i j) + ∑ r : Fin 1024, a (ix2 r i) * b (ix2 r j) := product_apply b y a i j

theorem productZero (i j : Fin 1024) : k2_pay1 (F := Ideal) (ix2 i j) = 0 := by pointwise [k2_pay1]
theorem product3Zero (i : Fin 512) (j : Fin 1024) : k3_pay1 (F := Ideal) (ix2 i j) = 0 := by pointwise [k3_pay1]
theorem product4Zero (i j : Fin 1024) : k4_pay1 (F := Ideal) (ix2 i j) = 0 := productZero i j

end Weights

end Cert.MixInIdeal.MixerIn

end
-- ==== Proof.InForward.lean ====
/- The projection kernel: what it leaves in the arrays of the normalised rows and of the three parts of the columns. -/
module

public import proofs.«01_k».proof.Proof.Gen.MixInIdeal.Frame
public import proofs.«01_k».proof.Proof.InRows

@[expose] public section

set_option maxRecDepth 16384

noncomputable section

namespace Cert.MixInIdeal.MixerIn

open Cert.MixInIdeal Cert.MixInIdeal.Gen Idealize.ShloMosaic Idealize.ShloMosaic.TcCoe Idealize.SL.Sem Cert.RowGradients
open Cert.FeedForward Cert.MixerIn Cert.Blocks

variable (V : (c : Dev nD) → (b : Ref sig .tc) → Buf (Elt Ideal) ((c : Thread nD τ).loc b)) (c : Dev nD) (t : Fin cfg0.N)

/-! ## The arrays that the call reads -/

abbrev fiX (n : Fin 8192) (l : Fin 1024) : EReal := (V c main_arg0 : FVec Ideal S8192x1024 .f32) (ix2 n l)
abbrev fiG (l : Fin 1024) : EReal := (V c main_arg1 : FVec Ideal S1x1024 .f32) (ix2 0 l)
abbrev fiW (l : Fin 1024) (j : Fin 4608) : EReal := (V c main_v0 : FVec Ideal S1024x4608 .bf16) (ix2 l j)

theorem fiLt (t : Fin cfg0.N) : t.val < 16 := lt_of_lt_of_eq t.isLt N_0

theorem fiIdx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0])

theorem fiX_blk (r : Fin 512) (l : Fin 1024) :
    (iblk0 V c 0 t : FVec Ideal S512x1024 .f32) (ix2 r l) = fiX V c (rowAt t.val (fiLt t) r) l := by
  show (iblk0 V c 0 t : FVec Ideal S512x1024 .f32) (ix2 r l) = (V c main_arg0 : FVec Ideal S8192x1024 .f32) (ix2 (rowAt t.val (fiLt t) r) l)
  blk_point [iblk0, fiIdx t, rowAt]
theorem fiG_blk (l : Fin 1024) : (iblk0 V c 1 t : FVec Ideal S1x1024 .f32) (ix2 0 l) = fiG V c l := by
  show (iblk0 V c 1 t : FVec Ideal S1x1024 .f32) (ix2 0 l) = (V c main_arg1 : FVec Ideal S1x1024 .f32) (ix2 0 l)
  blk_point [iblk0, fiIdx t]
theorem fiW_blk (l : Fin 1024) (j : Fin 4608) : (iblk0 V c 2 t : FVec Ideal S1024x4608 .bf16) (ix2 l j) = fiW V c l j := by
  show (iblk0 V c 2 t : FVec Ideal S1024x4608 .bf16) (ix2 l j) = (V c main_v0 : FVec Ideal S1024x4608 .bf16) (ix2 l j)
  blk_point [iblk0, fiIdx t]

/-! ## What a point leaves -/

section Block

variable (x : FVec Ideal S512x1024 .f32) (g : FVec Ideal S1x1024 .f32) (w : FVec Ideal S1024x4608 .bf16)

/-- A row of the block, normalised, times the input weights. -/
abbrev inRow (r : Fin 512) : Fin 4608 → EReal :=
  times (gained (fun l => x (ix2 r l)) (fun l => g (ix2 0 l))) (fun l j => w (ix2 l j))

/-- A product with some columns of the weights is that part of the product. -/
theorem inRow_part {k : ℕ} (u : Fin 1024 → Fin k → EReal) (col : Fin k → Fin 4608) (h : ∀ l e, u l e = w (ix2 l (col e)))
    (r : Fin 512) (e : Fin k) :
    times (gained (fun l => x (ix2 r l)) (fun l => g (ix2 0 l))) u e = inRow x g w r (col e) :=
  Finset.sum_congr rfl fun l _ => congrArg (gained (fun l => x (ix2 r l)) (fun l => g (ix2 0 l)) l * ·) (h l e)

theorem out3_apply (r : Fin 512) (j : Fin 1024) :
    out0_3 (F := Ideal) x g w (ix2 r j) = gained (fun l => x (ix2 r l)) (fun l => g (ix2 0 l)) j := by
  rw [← h_apply]
  unfold out0_3
  frame_out

theorem out4_apply (r : Fin 512) (e : Fin 2048) : out0_4 (F := Ideal) x g w (ix2 r e) = inRow x g w r (unitCol e) := by
  refine Eq.trans ?_ ((unit_apply x g (View.ld (Val := Elt Ideal) (e' := EltTy.bf16) w r0_2) r e).trans
    (inRow_part x g w _ unitCol (fun l e => ld_cols (a := 1024) (Val := Elt Ideal) (el := .bf16) w 0 inb_S1024x4608_S1024x2048_0_0 l e
      (unitCol e) (Nat.zero_add _).symm) r e))
  unfold out0_4
  frame_out

theorem out5_apply (r : Fin 512) (e : Fin 512) : out0_5 (F := Ideal) x g w (ix2 r e) = inRow x g w r (stateCol e) := by
  refine Eq.trans ?_ ((state_apply x g (View.ld (Val := Elt Ideal) (e' := EltTy.bf16) w r0_4) r e).trans
    (inRow_part x g w _ stateCol (fun l e => ld_cols (a := 1024) (Val := Elt Ideal) (el := .bf16) w 2048 inb_S1024x4608_S1024x512_0_2048 l e
      (stateCol e) rfl) r e))
  unfold out0_5
  frame_out

theorem out6_apply (r : Fin 512) (e : Fin 2048) : out0_6 (F := Ideal) x g w (ix2 r e) = inRow x g w r (gateCol e) := by
  refine Eq.trans ?_ ((gate_apply x g (View.ld (Val := Elt Ideal) (e' := EltTy.bf16) w r0_6) r e).trans
    (inRow_part x g w _ gateCol (fun l e => ld_cols (a := 1024) (Val := Elt Ideal) (el := .bf16) w 2560 inb_S1024x4608_S1024x2048_0_2560 l e
      (gateCol e) rfl) r e))
  unfold out0_6
  frame_out

end Block

/-! ## The arrays after the whole grid -/

abbrev fiH (n : Fin 8192) : Fin 1024 → EReal := gained (fiX V c n) (fiG V c)
abbrev fiZ (n : Fin 8192) : Fin 4608 → EReal := times (fiH V c n) (fiW V c)

theorem h_blk (r : Fin 512) : gained (fun l => (iblk0 V c 0 t : FVec Ideal S512x1024 .f32) (ix2 r l))
    (fun l => (iblk0 V c 1 t : FVec Ideal S1x1024 .f32) (ix2 0 l)) = fiH V c (rowAt t.val (fiLt t) r) := by
  rw [funext fun l => fiX_blk V c t r l, funext fun l => fiG_blk V c t l]
theorem z_blk (r : Fin 512) : inRow (iblk0 V c 0 t) (iblk0 V c 1 t) (iblk0 V c 2 t) r = fiZ V c (rowAt t.val (fiLt t) r) := by
  unfold inRow
  rw [h_blk, funext fun l => funext fun j => fiW_blk V c t l j]

theorem fi3 : (dat0 V c).arrAt 3 cfg0.N = (fun y => fiH V c (y 0) (y 1) : FVec Ideal S8192x1024 .bf16) := by
  refine (dat0 V c).arrAt_eq_of_covers 3 _ (by decide +kernel) fun t hf y => ?_
  blk_simp
  rw [after0_3]
  obtain ⟨r, j, rfl⟩ : ∃ (r : Fin 512) (j : Fin 1024), y = ix2 r j := ⟨y 0, y 1, eq_ix2 y⟩
  refine ((out3_apply _ _ _ r j).trans (congrFun (h_blk V c t r) j)).trans ?_
  refine congrArg₂ (fiH V c) (Fin.ext ?_) (Fin.ext ?_)
  · blk_simp [fiIdx t, rowAt]
  · blk_simp [fiIdx t]

theorem fi4 : (dat0 V c).arrAt 4 cfg0.N = (fun y => fiZ V c (y 0) (unitCol (y 1)) : FVec Ideal S8192x2048 .f32) := by
  refine (dat0 V c).arrAt_eq_of_covers 4 _ (by decide +kernel) fun t hf y => ?_
  blk_simp
  rw [after0_4]
  obtain ⟨r, e, rfl⟩ : ∃ (r : Fin 512) (e : Fin 2048), y = ix2 r e := ⟨y 0, y 1, eq_ix2 y⟩
  refine ((out4_apply _ _ _ r e).trans (congrFun (z_blk V c t r) _)).trans ?_
  refine congrArg₂ (fun n e => fiZ V c n (unitCol e)) (Fin.ext ?_) (Fin.ext ?_)
  · blk_simp [fiIdx t, rowAt]
  · blk_simp [fiIdx t]

theorem fi5 : (dat0 V c).arrAt 5 cfg0.N = (fun y => fiZ V c (y 0) (stateCol (y 1)) : FVec Ideal S8192x512 .f32) := by
  refine (dat0 V c).arrAt_eq_of_covers 5 _ (by decide +kernel) fun t hf y => ?_
  blk_simp
  rw [after0_5]
  obtain ⟨r, e, rfl⟩ : ∃ (r : Fin 512) (e : Fin 512), y = ix2 r e := ⟨y 0, y 1, eq_ix2 y⟩
  refine ((out5_apply _ _ _ r e).trans (congrFun (z_blk V c t r) _)).trans ?_
  refine congrArg₂ (fun n e => fiZ V c n (stateCol e)) (Fin.ext ?_) (Fin.ext ?_)
  · blk_simp [fiIdx t, rowAt]
  · blk_simp [fiIdx t]

theorem fi6 : (dat0 V c).arrAt 6 cfg0.N = (fun y => fiZ V c (y 0) (gateCol (y 1)) : FVec Ideal S8192x2048 .f32) := by
  refine (dat0 V c).arrAt_eq_of_covers 6 _ (by decide +kernel) fun t hf y => ?_
  blk_simp
  rw [after0_6]
  obtain ⟨r, e, rfl⟩ : ∃ (r : Fin 512) (e : Fin 2048), y = ix2 r e := ⟨y 0, y 1, eq_ix2 y⟩
  refine ((out6_apply _ _ _ r e).trans (congrFun (z_blk V c t r) _)).trans ?_
  refine congrArg₂ (fun n e => fiZ V c n (gateCol e)) (Fin.ext ?_) (Fin.ext ?_)
  · blk_simp [fiIdx t, rowAt]
  · blk_simp [fiIdx t]

end Cert.MixInIdeal.MixerIn

end
-- ==== Proof.InBack.lean ====
/- The kernel of the gradient through the projection: what it leaves in the array of the input's gradient and in the gradient
   of the gain. -/
module

public import proofs.«01_k».proof.Proof.Gen.MixInIdeal.Frame
public import proofs.«01_k».proof.Proof.InRows

@[expose] public section

set_option maxRecDepth 16384

noncomputable section

namespace Cert.MixInIdeal.MixerIn

open Cert.MixInIdeal Cert.MixInIdeal.Gen Idealize.ShloMosaic Idealize.ShloMosaic.TcCoe Idealize.SL.Sem Cert.RowGradients
open Cert.FeedForward Cert.MixerIn Cert.Blocks

variable (V : (c : Dev nD) → (b : Ref sig .tc) → Buf (Elt Ideal) ((c : Thread nD τ).loc b)) (c : Dev nD) (t : Fin cfg1.N)

/-! ## The arrays that the call reads -/

abbrev biU (n : Fin 8192) (e : Fin 2048) : EReal := (V c main_v1 : FVec Ideal S8192x2048 .bf16) (ix2 n e)
abbrev biS (n : Fin 8192) (e : Fin 512) : EReal := (V c main_arg4 : FVec Ideal S8192x512 .f32) (ix2 n e)
abbrev biZ (n : Fin 8192) (e : Fin 2048) : EReal := (V c main_v2 : FVec Ideal S8192x2048 .bf16) (ix2 n e)
abbrev biD (n : Fin 8192) (l : Fin 1024) : EReal := (V c main_arg6 : FVec Ideal S8192x1024 .f32) (ix2 n l)
abbrev biX (n : Fin 8192) (l : Fin 1024) : EReal := (V c main_arg0 : FVec Ideal S8192x1024 .f32) (ix2 n l)
abbrev biW (a : Fin 1024) (b : Fin 4608) : EReal := (V c main_v0 : FVec Ideal S1024x4608 .bf16) (ix2 a b)
abbrev biG (l : Fin 1024) : EReal := (V c main_arg1 : FVec Ideal S1x1024 .f32) (ix2 0 l)

theorem biLt (t : Fin cfg1.N) : t.val < 16 := lt_of_lt_of_eq t.isLt N_1

theorem biIdx : ∀ t : Fin cfg1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![0, 0]
    ∧ win1_6.index t = ![0, 0]
    ∧ win1_7.index t = ![t.val, 0]
    ∧ win1_8.index t = ![0, 0] :=
  (by decide +kernel : ∀ t : Fin grid1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![0, 0]
    ∧ win1_6.index t = ![0, 0]
    ∧ win1_7.index t = ![t.val, 0]
    ∧ win1_8.index t = ![0, 0])

abbrev biRow (r : Fin 512) : Fin 8192 := rowAt t.val (biLt t) r

theorem biU_blk (r : Fin 512) : (fun l => (iblk1 V c 0 t : FVec Ideal S512x2048 .bf16) (ix2 r l)) = biU V c (biRow t r) := by
  funext l
  show (iblk1 V c 0 t : FVec Ideal S512x2048 .bf16) (ix2 r l) = (V c main_v1 : FVec Ideal S8192x2048 .bf16) (ix2 (biRow t r) l)
  blk_point [iblk1, biIdx t, rowAt]
theorem biS_blk (r : Fin 512) : (fun l => (iblk1 V c 1 t : FVec Ideal S512x512 .f32) (ix2 r l)) = biS V c (biRow t r) := by
  funext l
  show (iblk1 V c 1 t : FVec Ideal S512x512 .f32) (ix2 r l) = (V c main_arg4 : FVec Ideal S8192x512 .f32) (ix2 (biRow t r) l)
  blk_point [iblk1, biIdx t, rowAt]
theorem biZ_blk (r : Fin 512) : (fun l => (iblk1 V c 2 t : FVec Ideal S512x2048 .bf16) (ix2 r l)) = biZ V c (biRow t r) := by
  funext l
  show (iblk1 V c 2 t : FVec Ideal S512x2048 .bf16) (ix2 r l) = (V c main_v2 : FVec Ideal S8192x2048 .bf16) (ix2 (biRow t r) l)
  blk_point [iblk1, biIdx t, rowAt]
theorem biD_blk (r : Fin 512) : (fun l => (iblk1 V c 3 t : FVec Ideal S512x1024 .f32) (ix2 r l)) = biD V c (biRow t r) := by
  funext l
  show (iblk1 V c 3 t : FVec Ideal S512x1024 .f32) (ix2 r l) = (V c main_arg6 : FVec Ideal S8192x1024 .f32) (ix2 (biRow t r) l)
  blk_point [iblk1, biIdx t, rowAt]
theorem biX_blk (r : Fin 512) : (fun l => (iblk1 V c 4 t : FVec Ideal S512x1024 .f32) (ix2 r l)) = biX V c (biRow t r) := by
  funext l
  show (iblk1 V c 4 t : FVec Ideal S512x1024 .f32) (ix2 r l) = (V c main_arg0 : FVec Ideal S8192x1024 .f32) (ix2 (biRow t r) l)
  blk_point [iblk1, biIdx t, rowAt]
theorem biW_blk (a : Fin 1024) (b : Fin 4608) : (iblk1 V c 5 t : FVec Ideal S1024x4608 .bf16) (ix2 a b) = biW V c a b := by
  show (iblk1 V c 5 t : FVec Ideal S1024x4608 .bf16) (ix2 a b) = (V c main_v0 : FVec Ideal S1024x4608 .bf16) (ix2 a b)
  blk_point [iblk1, biIdx t]
theorem biG_blk : (fun l => (iblk1 V c 6 t : FVec Ideal S1x1024 .f32) (ix2 0 l)) = biG V c := by
  funext l
  show (iblk1 V c 6 t : FVec Ideal S1x1024 .f32) (ix2 0 l) = (V c main_arg1 : FVec Ideal S1x1024 .f32) (ix2 0 l)
  blk_point [iblk1, biIdx t]

/-! ## What a point leaves -/

abbrev biDh (n : Fin 8192) : Fin 1024 → EReal := dhA (biW V c) (biU V c) (biS V c) (biZ V c) n
abbrev biDx (n : Fin 8192) (j : Fin 1024) : EReal := biD V c n j + normGrad (biX V c n) (biG V c) (biDh V c n) j
/-- What a point adds to the gradient of the gain. -/
abbrev biTerm (t : Fin cfg1.N) (j : Fin 1024) : EReal := ∑ r : Fin 512, biDh V c (biRow t r) j * normed (biX V c (biRow t r)) j

/-- The three parts of the weights as a point loads them. -/
abbrev wUnit (w : FVec Ideal S1024x4608 .bf16) : FVec Ideal S1024x2048 .bf16 :=
  View.ld (Val := Elt Ideal) (e' := EltTy.bf16) w (Rect.unit (s := S1024x4608) ![0, 0] S1024x2048.size inb_S1024x4608_S1024x2048_0_0)
abbrev wState (w : FVec Ideal S1024x4608 .bf16) : FVec Ideal S1024x512 .bf16 :=
  View.ld (Val := Elt Ideal) (e' := EltTy.bf16) w (Rect.unit (s := S1024x4608) ![0, 2048] S1024x512.size inb_S1024x4608_S1024x512_0_2048)
abbrev wGate (w : FVec Ideal S1024x4608 .bf16) : FVec Ideal S1024x2048 .bf16 :=
  View.ld (Val := Elt Ideal) (e' := EltTy.bf16) w (Rect.unit (s := S1024x4608) ![0, 2560] S1024x2048.size inb_S1024x4608_S1024x2048_0_2560)

theorem wUnit_blk : (fun j e => wUnit (iblk1 V c 5 t) (ix2 j e)) = fun j e => biW V c j (unitCol e) := by
  funext j e
  exact (ld_cols (a := 1024) (Val := Elt Ideal) (el := .bf16) (iblk1 V c 5 t) 0 inb_S1024x4608_S1024x2048_0_0 j e (unitCol e)
    (Nat.zero_add _).symm).trans (biW_blk V c t j (unitCol e))
theorem wState_blk : (fun j e => wState (iblk1 V c 5 t) (ix2 j e)) = fun j e => biW V c j (stateCol e) := by
  funext j e
  exact (ld_cols (a := 1024) (Val := Elt Ideal) (el := .bf16) (iblk1 V c 5 t) 2048 inb_S1024x4608_S1024x512_0_2048 j e (stateCol e)
    rfl).trans (biW_blk V c t j (stateCol e))
theorem wGate_blk : (fun j e => wGate (iblk1 V c 5 t) (ix2 j e)) = fun j e => biW V c j (gateCol e) := by
  funext j e
  exact (ld_cols (a := 1024) (Val := Elt Ideal) (el := .bf16) (iblk1 V c 5 t) 2560 inb_S1024x4608_S1024x2048_0_2560 j e (gateCol e)
    rfl).trans (biW_blk V c t j (gateCol e))

/-- The block of the rows' gradient. -/
abbrev dhBlk : FVec Ideal S512x1024 .f32 :=
  k1_pay4 (F := Ideal) (iblk1 V c 0 t) (wUnit (iblk1 V c 5 t)) (iblk1 V c 1 t) (wState (iblk1 V c 5 t)) (iblk1 V c 2 t) (wGate (iblk1 V c 5 t))

theorem dh_blk (r : Fin 512) (j : Fin 1024) : dhBlk V c t (ix2 r j) = biDh V c (biRow t r) j := by
  refine (dh_apply (iblk1 V c 0 t) (wUnit (iblk1 V c 5 t)) (iblk1 V c 1 t) (wState (iblk1 V c 5 t)) (iblk1 V c 2 t)
    (wGate (iblk1 V c 5 t)) r j).trans ?_
  rw [biU_blk, biS_blk, biZ_blk, wUnit_blk, wState_blk, wGate_blk]
  exact (dhA_parts (biW V c) (biU V c) (biS V c) (biZ V c) (biRow t r) j).symm

theorem left1_7 (r : Fin 512) (j : Fin 1024) : (outsAt1 V c t.val t.isLt).1 (ix2 r j) = biDx V c (biRow t r) j := by
  refine Eq.trans ?_ ((inputGrad_apply (iblk1 V c 0 t) (wUnit (iblk1 V c 5 t)) (iblk1 V c 1 t) (wState (iblk1 V c 5 t)) (iblk1 V c 2 t)
    (wGate (iblk1 V c 5 t)) (iblk1 V c 4 t) (iblk1 V c 3 t) (iblk1 V c 6 t) r j).trans ?_)
  case refine_2 =>
    rw [biX_blk, biG_blk, funext fun l => dh_blk V c t r l]
    exact congrArg (· + normGrad (biX V c (biRow t r)) (biG V c) (biDh V c (biRow t r)) j) (congrFun (biD_blk V c t r) j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem biTerm_blk (y : FVec Ideal S1x1024 .f32) (j : Fin 1024) :
    k1_pay1 (F := Ideal) (dhBlk V c t) (k1_pay6 (iblk1 V c 4 t)) y (ix2 0 j) = y (ix2 0 j) + biTerm V c t j := by
  refine (gainTerm_apply (iblk1 V c 4 t) (dhBlk V c t) y j).trans ?_
  refine congrArg (y (ix2 0 j) + ·) (Finset.sum_congr rfl fun r _ => ?_)
  rw [biX_blk, dh_blk]

theorem first1_8 (h : t.val % 16 = 0) (j : Fin 1024) : (outsAt1 V c t.val t.isLt).2 (ix2 0 j) = 0 + biTerm V c t j := by
  refine Eq.trans ?_ ((biTerm_blk V c t (k1_pay3 (F := Ideal)) j).trans (congrArg (· + _) (gainZero j)))
  rw [outsAt1_A V c t h]
  dsimp only
  frame_open
  simp (disch := decide) only [↓ View.readCov_skip, ↓ View.readCov_cons_toLoadRect, ↓ View.readCov_fill]
  frame_out

theorem next1_8 (h : ¬t.val % 16 = 0) (j : Fin 1024) :
    (outsAt1 V c t.val t.isLt).2 (ix2 0 j)
      = (outsAt1 V c (t.val - 1) (Nat.lt_of_le_of_lt (Nat.sub_le _ _) t.isLt)).2 (ix2 0 j) + biTerm V c t j := by
  refine Eq.trans ?_ (biTerm_blk V c t (outsAt1 V c (t.val - 1) (Nat.lt_of_le_of_lt (Nat.sub_le _ _) t.isLt)).2 j)
  rw [outsAt1_B V c t h]
  dsimp only
  frame_open
  simp (disch := decide) only [↓ View.readCov_skip, ↓ View.readCov_cons_toLoadRect, ↓ View.readCov_fill]
  frame_out

/-! ## The arrays after the whole grid -/

theorem bi7 : (dat1 V c).arrAt 7 cfg1.N = (fun y => biDx V c (y 0) (y 1) : FVec Ideal S8192x1024 .f32) := by
  refine (dat1 V c).arrAt_eq_of_covers 7 _ (by decide +kernel) fun t hf y => ?_
  blk_simp
  rw [after1_7]
  obtain ⟨r, j, rfl⟩ : ∃ (r : Fin 512) (j : Fin 1024), y = ix2 r j := ⟨y 0, y 1, eq_ix2 y⟩
  refine (left1_7 V c t r j).trans ?_
  refine congrArg₂ (biDx V c) (Fin.ext ?_) (Fin.ext ?_)
  · blk_simp [biIdx t, rowAt]
  · blk_simp [biIdx t]

abbrev biGain (j : Fin 1024) : EReal := ∑ n : Fin 8192, biDh V c n j * normed (biX V c n) j

theorem bi_run (j : Fin 1024) : ∑ p : Fin cfg1.N, biTerm V c p j = biGain V c j :=
  Fin.sum_mul_add_congr (S := cfg1.N) (fun p r hl => rfl) (congrArg (· * 512) N_1.symm)

theorem bi8 : (dat1 V c).arrAt 8 cfg1.N = (fun y => biGain V c (y 1) : FVec Ideal S1x1024 .f32) := by
  refine (dat1 V c).arrAt_eq_of_covers 8 _ (by decide +kernel) fun t hf y => ?_
  blk_simp
  rw [after1_8]
  obtain ⟨i, j, rfl⟩ : ∃ (i : Fin 1) (j : Fin 1024), y = ix2 i j := ⟨y 0, y 1, eq_ix2 y⟩
  obtain rfl : i = 0 := Fin.eq_zero i
  have hl : t.val = 15 := by have := (flush1_8 t).mp hf; have := biLt t; omega
  have key := Pipeline.eq_sum_fin_of_reset_step_apply_last
    (fun n h (j : Fin 1024) => ((outsAt1 V c n h).2 (ix2 0 j) : EReal)) 16 (fun _ => 0)
    (fun p j => biTerm V c p j) (fun t h j => first1_8 V c t h j) (fun t h j => next1_8 V c t h j) (le_of_eq N_1) t (by rw [hl]; exact N_1.symm) j
  refine key.trans ((zero_add _).trans ((bi_run V c j).trans (congrArg (biGain V c) (Fin.ext ?_))))
  blk_simp [biIdx t]

end Cert.MixInIdeal.MixerIn

end
-- ==== Proof.InWeights.lean ====
/- The three products that give the input weights' gradients, one per part of the columns: each block of the result is summed up
   over eight blocks of 1024 rows of its two operands. -/
module

public import proofs.«01_k».proof.Proof.Gen.MixInIdeal.Frame
public import proofs.«01_k».proof.Proof.InRows

@[expose] public section

set_option maxRecDepth 16384

noncomputable section

namespace Cert.MixInIdeal.MixerIn

open Cert.MixInIdeal Cert.MixInIdeal.Gen Idealize.ShloMosaic Idealize.ShloMosaic.TcCoe Idealize.SL.Sem Cert.RowGradients
open Cert.FeedForward Cert.MixerIn Cert.Blocks

section

variable (V : (c : Dev nD) → (b : Ref sig .tc) → Buf (Elt Ideal) ((c : Thread nD τ).loc b)) (c : Dev nD) (t : Fin cfg2.N)

abbrev wuA (n : Fin 8192) (i : Fin 2048) : EReal := (V c main_v1 : FVec Ideal S8192x2048 .bf16) (ix2 n i)
abbrev wuB (n : Fin 8192) (j : Fin 1024) : EReal := (V c main_v3_0 : FVec Ideal S8192x1024 .bf16) (ix2 n j)

theorem wuLt (t : Fin cfg2.N) : t.val < 16 := lt_of_lt_of_eq t.isLt N_2

theorem wuIdx : ∀ t : Fin cfg2.N, win2_0.index t = ![t.val % 8, t.val / 8] ∧ win2_1.index t = ![t.val % 8, 0]
    ∧ win2_2.index t = ![t.val / 8, 0] :=
  (by decide +kernel : ∀ t : Fin grid2.N, win2_0.index t = ![t.val % 8, t.val / 8] ∧ win2_1.index t = ![t.val % 8, 0]
    ∧ win2_2.index t = ![t.val / 8, 0])

/-- The result's row that row `i` of point `t`'s block is. -/
def wuCol (i : Fin 1024) : Fin 2048 := ⟨t.val / 8 * 1024 + i.val, by have := wuLt t; omega⟩

theorem wuA_blk (r : Fin 1024) (i : Fin 1024) :
    (iblk2 V c 0 t : FVec Ideal S1024x1024 .bf16) (ix2 r i) = wuA V c (eighthRow t.val r) (wuCol t i) := by
  show (iblk2 V c 0 t : FVec Ideal S1024x1024 .bf16) (ix2 r i) = (V c main_v1 : FVec Ideal S8192x2048 .bf16) (ix2 (eighthRow t.val r) (wuCol t i))
  blk_point [iblk2, wuIdx t, eighthRow, wuCol]
theorem wuB_blk (r : Fin 1024) (j : Fin 1024) :
    (iblk2 V c 1 t : FVec Ideal S1024x1024 .bf16) (ix2 r j) = wuB V c (eighthRow t.val r) j := by
  show (iblk2 V c 1 t : FVec Ideal S1024x1024 .bf16) (ix2 r j) = (V c main_v3_0 : FVec Ideal S8192x1024 .bf16) (ix2 (eighthRow t.val r) j)
  blk_point [iblk2, wuIdx t, eighthRow]

theorem wuTerm_blk (y : FVec Ideal S1024x1024 .f32) (i : Fin 1024) (j : Fin 1024) :
    k2_pay2 (F := Ideal) y (iblk2 V c 0 t) (iblk2 V c 1 t) (ix2 i j)
      = y (ix2 i j) + ∑ r : Fin 1024, wuA V c (eighthRow t.val r) (wuCol t i) * wuB V c (eighthRow t.val r) j := by
  refine (product_apply (iblk2 V c 1 t) y (iblk2 V c 0 t) i j).trans ?_
  refine congrArg (y (ix2 i j) + ·) (Finset.sum_congr rfl fun r _ => ?_)
  rw [wuA_blk, wuB_blk]

/-- The product over all the rows. -/
abbrev wuProd (i : Fin 2048) (j : Fin 1024) : EReal := ∑ n : Fin 8192, wuA V c n i * wuB V c n j

theorem wuLast (hf : t.val % 8 = 7) (i : Fin 1024) (j : Fin 1024) :
    outsAt2 V c t.val t.isLt (ix2 i j) = wuProd V c (wuCol t i) j := by
  refine product_of_runs (K := 8) (wuA V c) (wuB V c) (fun n h i j => outsAt2 V c n h (ix2 i j)) eighthRow wuCol rfl
    (fun _ _ => rfl) (fun s t i h => Fin.ext (congrArg (· * 1024 + i.val) h)) (fun t h i j => ?_) (fun t h i j => ?_) t hf i j
  · refine Eq.trans ?_ ((wuTerm_blk V c t (k2_pay1 (F := Ideal)) i j).trans (congrArg (· + _) (productZero i j)))
    rw [outsAt2_A V c t h]
    frame_open
    simp (disch := decide) only [↓ View.readCov_skip, ↓ View.readCov_cons_toLoadRect, ↓ View.readCov_fill]
    frame_out
  · refine Eq.trans ?_ (wuTerm_blk V c t (outsAt2 V c (t.val - 1) (Nat.lt_of_le_of_lt (Nat.sub_le _ _) t.isLt)) i j)
    rw [outsAt2_B V c t h]
    frame_open
    simp (disch := decide) only [↓ View.readCov_skip, ↓ View.readCov_cons_toLoadRect, ↓ View.readCov_fill]
    frame_out

theorem wu2 : (dat2 V c).arrAt 2 cfg2.N = (fun y => wuProd V c (y 0) (y 1) : FVec Ideal S2048x1024 .f32) := by
  refine (dat2 V c).arrAt_eq_of_covers 2 _ (by decide +kernel) fun t hf y => ?_
  blk_simp
  rw [after2_2]
  obtain ⟨i, j, rfl⟩ : ∃ (i : Fin 1024) (j : Fin 1024), y = ix2 i j := ⟨y 0, y 1, eq_ix2 y⟩
  refine (wuLast V c t ((flush2_2 t).mp hf) i j).trans ?_
  refine congrArg₂ (wuProd V c) (Fin.ext ?_) (Fin.ext ?_)
  · blk_simp [wuIdx t, wuCol]
  · blk_simp [wuIdx t]

end

section

variable (V : (c : Dev nD) → (b : Ref sig .tc) → Buf (Elt Ideal) ((c : Thread nD τ).loc b)) (c : Dev nD) (t : Fin cfg3.N)

abbrev wsA (n : Fin 8192) (i : Fin 512) : EReal := (V c main_arg4 : FVec Ideal S8192x512 .f32) (ix2 n i)
abbrev wsB (n : Fin 8192) (j : Fin 1024) : EReal := (V c main_v3_0 : FVec Ideal S8192x1024 .bf16) (ix2 n j)

theorem wsLt (t : Fin cfg3.N) : t.val < 8 := lt_of_lt_of_eq t.isLt N_3

theorem wsIdx : ∀ t : Fin cfg3.N, win3_0.index t = ![t.val % 8, t.val / 8] ∧ win3_1.index t = ![t.val % 8, 0]
    ∧ win3_2.index t = ![t.val / 8, 0] :=
  (by decide +kernel : ∀ t : Fin grid3.N, win3_0.index t = ![t.val % 8, t.val / 8] ∧ win3_1.index t = ![t.val % 8, 0]
    ∧ win3_2.index t = ![t.val / 8, 0])

/-- The result's row that row `i` of point `t`'s block is. -/
def wsCol (i : Fin 512) : Fin 512 := ⟨t.val / 8 * 512 + i.val, by have := wsLt t; omega⟩

theorem wsA_blk (r : Fin 1024) (i : Fin 512) :
    (iblk3 V c 0 t : FVec Ideal S1024x512 .f32) (ix2 r i) = wsA V c (eighthRow t.val r) (wsCol t i) := by
  show (iblk3 V c 0 t : FVec Ideal S1024x512 .f32) (ix2 r i) = (V c main_arg4 : FVec Ideal S8192x512 .f32) (ix2 (eighthRow t.val r) (wsCol t i))
  blk_point [iblk3, wsIdx t, eighthRow, wsCol]
theorem wsB_blk (r : Fin 1024) (j : Fin 1024) :
    (iblk3 V c 1 t : FVec Ideal S1024x1024 .bf16) (ix2 r j) = wsB V c (eighthRow t.val r) j := by
  show (iblk3 V c 1 t : FVec Ideal S1024x1024 .bf16) (ix2 r j) = (V c main_v3_0 : FVec Ideal S8192x1024 .bf16) (ix2 (eighthRow t.val r) j)
  blk_point [iblk3, wsIdx t, eighthRow]

theorem wsTerm_blk (y : FVec Ideal S512x1024 .f32) (i : Fin 512) (j : Fin 1024) :
    k3_pay2 (F := Ideal) y (iblk3 V c 0 t) (iblk3 V c 1 t) (ix2 i j)
      = y (ix2 i j) + ∑ r : Fin 1024, wsA V c (eighthRow t.val r) (wsCol t i) * wsB V c (eighthRow t.val r) j := by
  refine (product3_apply (iblk3 V c 1 t) y (iblk3 V c 0 t) i j).trans ?_
  refine congrArg (y (ix2 i j) + ·) (Finset.sum_congr rfl fun r _ => ?_)
  rw [wsA_blk, wsB_blk]

/-- The product over all the rows. -/
abbrev wsProd (i : Fin 512) (j : Fin 1024) : EReal := ∑ n : Fin 8192, wsA V c n i * wsB V c n j

theorem wsLast (hf : t.val % 8 = 7) (i : Fin 512) (j : Fin 1024) :
    outsAt3 V c t.val t.isLt (ix2 i j) = wsProd V c (wsCol t i) j := by
  refine product_of_runs (K := 8) (wsA V c) (wsB V c) (fun n h i j => outsAt3 V c n h (ix2 i j)) eighthRow wsCol rfl
    (fun _ _ => rfl) (fun s t i h => Fin.ext (congrArg (· * 512 + i.val) h)) (fun t h i j => ?_) (fun t h i j => ?_) t hf i j
  · refine Eq.trans ?_ ((wsTerm_blk V c t (k3_pay1 (F := Ideal)) i j).trans (congrArg (· + _) (product3Zero i j)))
    rw [outsAt3_A V c t h]
    frame_open
    simp (disch := decide) only [↓ View.readCov_skip, ↓ View.readCov_cons_toLoadRect, ↓ View.readCov_fill]
    frame_out
  · refine Eq.trans ?_ (wsTerm_blk V c t (outsAt3 V c (t.val - 1) (Nat.lt_of_le_of_lt (Nat.sub_le _ _) t.isLt)) i j)
    rw [outsAt3_B V c t h]
    frame_open
    simp (disch := decide) only [↓ View.readCov_skip, ↓ View.readCov_cons_toLoadRect, ↓ View.readCov_fill]
    frame_out

theorem ws2 : (dat3 V c).arrAt 2 cfg3.N = (fun y => wsProd V c (y 0) (y 1) : FVec Ideal S512x1024 .f32) := by
  refine (dat3 V c).arrAt_eq_of_covers 2 _ (by decide +kernel) fun t hf y => ?_
  blk_simp
  rw [after3_2]
  obtain ⟨i, j, rfl⟩ : ∃ (i : Fin 512) (j : Fin 1024), y = ix2 i j := ⟨y 0, y 1, eq_ix2 y⟩
  refine (wsLast V c t ((flush3_2 t).mp hf) i j).trans ?_
  refine congrArg₂ (wsProd V c) (Fin.ext ?_) (Fin.ext ?_)
  · blk_simp [wsIdx t, wsCol]
  · blk_simp [wsIdx t]

end

section

variable (V : (c : Dev nD) → (b : Ref sig .tc) → Buf (Elt Ideal) ((c : Thread nD τ).loc b)) (c : Dev nD) (t : Fin cfg4.N)

abbrev wzA (n : Fin 8192) (i : Fin 2048) : EReal := (V c main_v2 : FVec Ideal S8192x2048 .bf16) (ix2 n i)
abbrev wzB (n : Fin 8192) (j : Fin 1024) : EReal := (V c main_v3_0 : FVec Ideal S8192x1024 .bf16) (ix2 n j)

theorem wzLt (t : Fin cfg4.N) : t.val < 16 := lt_of_lt_of_eq t.isLt N_4

theorem wzIdx : ∀ t : Fin cfg4.N, win4_0.index t = ![t.val % 8, t.val / 8] ∧ win4_1.index t = ![t.val % 8, 0]
    ∧ win4_2.index t = ![t.val / 8, 0] :=
  (by decide +kernel : ∀ t : Fin grid4.N, win4_0.index t = ![t.val % 8, t.val / 8] ∧ win4_1.index t = ![t.val % 8, 0]
    ∧ win4_2.index t = ![t.val / 8, 0])

/-- The result's row that row `i` of point `t`'s block is. -/
def wzCol (i : Fin 1024) : Fin 2048 := ⟨t.val / 8 * 1024 + i.val, by have := wzLt t; omega⟩

theorem wzA_blk (r : Fin 1024) (i : Fin 1024) :
    (iblk4 V c 0 t : FVec Ideal S1024x1024 .bf16) (ix2 r i) = wzA V c (eighthRow t.val r) (wzCol t i) := by
  show (iblk4 V c 0 t : FVec Ideal S1024x1024 .bf16) (ix2 r i) = (V c main_v2 : FVec Ideal S8192x2048 .bf16) (ix2 (eighthRow t.val r) (wzCol t i))
  blk_point [iblk4, wzIdx t, eighthRow, wzCol]
theorem wzB_blk (r : Fin 1024) (j : Fin 1024) :
    (iblk4 V c 1 t : FVec Ideal S1024x1024 .bf16) (ix2 r j) = wzB V c (eighthRow t.val r) j := by
  show (iblk4 V c 1 t : FVec Ideal S1024x1024 .bf16) (ix2 r j) = (V c main_v3_0 : FVec Ideal S8192x1024 .bf16) (ix2 (eighthRow t.val r) j)
  blk_point [iblk4, wzIdx t, eighthRow]

theorem wzTerm_blk (y : FVec Ideal S1024x1024 .f32) (i : Fin 1024) (j : Fin 1024) :
    k4_pay2 (F := Ideal) y (iblk4 V c 0 t) (iblk4 V c 1 t) (ix2 i j)
      = y (ix2 i j) + ∑ r : Fin 1024, wzA V c (eighthRow t.val r) (wzCol t i) * wzB V c (eighthRow t.val r) j := by
  refine (product4_apply (iblk4 V c 1 t) y (iblk4 V c 0 t) i j).trans ?_
  refine congrArg (y (ix2 i j) + ·) (Finset.sum_congr rfl fun r _ => ?_)
  rw [wzA_blk, wzB_blk]

/-- The product over all the rows. -/
abbrev wzProd (i : Fin 2048) (j : Fin 1024) : EReal := ∑ n : Fin 8192, wzA V c n i * wzB V c n j

theorem wzLast (hf : t.val % 8 = 7) (i : Fin 1024) (j : Fin 1024) :
    outsAt4 V c t.val t.isLt (ix2 i j) = wzProd V c (wzCol t i) j := by
  refine product_of_runs (K := 8) (wzA V c) (wzB V c) (fun n h i j => outsAt4 V c n h (ix2 i j)) eighthRow wzCol rfl
    (fun _ _ => rfl) (fun s t i h => Fin.ext (congrArg (· * 1024 + i.val) h)) (fun t h i j => ?_) (fun t h i j => ?_) t hf i j
  · refine Eq.trans ?_ ((wzTerm_blk V c t (k4_pay1 (F := Ideal)) i j).trans (congrArg (· + _) (product4Zero i j)))
    rw [outsAt4_A V c t h]
    frame_open
    simp (disch := decide) only [↓ View.readCov_skip, ↓ View.readCov_cons_toLoadRect, ↓ View.readCov_fill]
    frame_out
  · refine Eq.trans ?_ (wzTerm_blk V c t (outsAt4 V c (t.val - 1) (Nat.lt_of_le_of_lt (Nat.sub_le _ _) t.isLt)) i j)
    rw [outsAt4_B V c t h]
    frame_open
    simp (disch := decide) only [↓ View.readCov_skip, ↓ View.readCov_cons_toLoadRect, ↓ View.readCov_fill]
    frame_out

theorem wz2 : (dat4 V c).arrAt 2 cfg4.N = (fun y => wzProd V c (y 0) (y 1) : FVec Ideal S2048x1024 .f32) := by
  refine (dat4 V c).arrAt_eq_of_covers 2 _ (by decide +kernel) fun t hf y => ?_
  blk_simp
  rw [after4_2]
  obtain ⟨i, j, rfl⟩ : ∃ (i : Fin 1024) (j : Fin 1024), y = ix2 i j := ⟨y 0, y 1, eq_ix2 y⟩
  refine (wzLast V c t ((flush4_2 t).mp hf) i j).trans ?_
  refine congrArg₂ (wzProd V c) (Fin.ext ?_) (Fin.ext ?_)
  · blk_simp [wzIdx t, wzCol]
  · blk_simp [wzIdx t]

end

end Cert.MixInIdeal.MixerIn

end
-- ==== Proof.InChain.lean ====
/- What the five calls of the input projection hand on to each other, and the results of the whole run. -/
module

public import proofs.«01_k».proof.Proof.InRun
public import proofs.«01_k».proof.Proof.InForward
public import proofs.«01_k».proof.Proof.InBack
public import proofs.«01_k».proof.Proof.InWeights
public import Idealize.ShloMosaic.Lib.Claim

@[expose] public section

set_option maxRecDepth 16384

noncomputable section

namespace Cert.MixInIdeal.MixerIn

open Cert.MixInIdeal Cert.MixInIdeal.Gen Idealize.ShloMosaic Idealize.ShloMosaic.TcCoe Idealize.SL.Sem Cert.RowGradients
open Cert.FeedForward Cert.MixerIn Cert.Blocks

variable (m : (ℓ : Loc nD τ sig) → Buf (Elt Ideal) ℓ) (ρ : Dev nD → PrngReg) (c : Dev nD)

/-- The arguments, and as functions of their coordinates. -/
abbrev p0 : FVec Ideal S8192x1024 .f32 := m ((c : Thread nD τ).loc main_arg0)
abbrev p1 : FVec Ideal S1x1024 .f32 := m ((c : Thread nD τ).loc main_arg1)
abbrev p2 : FVec Ideal S1024x4608 .f32 := m ((c : Thread nD τ).loc main_arg2)
abbrev p3 : FVec Ideal S8192x2048 .f32 := m ((c : Thread nD τ).loc main_arg3)
abbrev p4 : FVec Ideal S8192x512 .f32 := m ((c : Thread nD τ).loc main_arg4)
abbrev p5 : FVec Ideal S8192x2048 .f32 := m ((c : Thread nD τ).loc main_arg5)
abbrev p6 : FVec Ideal S8192x1024 .f32 := m ((c : Thread nD τ).loc main_arg6)
abbrev wX (n : Fin 8192) (l : Fin 1024) : EReal := p0 m c (ix2 n l)
abbrev wG (l : Fin 1024) : EReal := p1 m c (ix2 0 l)
abbrev wW (n : Fin 1024) (l : Fin 4608) : EReal := p2 m c (ix2 n l)
abbrev wU (n : Fin 8192) (l : Fin 2048) : EReal := p3 m c (ix2 n l)
abbrev wS (n : Fin 8192) (l : Fin 512) : EReal := p4 m c (ix2 n l)
abbrev wZ (n : Fin 8192) (l : Fin 2048) : EReal := p5 m c (ix2 n l)
abbrev wD (n : Fin 8192) (l : Fin 1024) : EReal := p6 m c (ix2 n l)

/-! ## The contents of the arguments and of the cast arrays, where a call reads them -/

theorem arg_mem_0 : main_arg0 ∈ argRefs := by decide
theorem arg_mem_1 : main_arg1 ∈ argRefs := by decide
theorem arg_mem_4 : main_arg4 ∈ argRefs := by decide
theorem arg_mem_6 : main_arg6 ∈ argRefs := by decide

theorem w_1 : (V1 m ρ c main_v0 : FVec Ideal S1024x4608 .bf16) = (p2 m c : S1024x4608.Idx → EReal) := by
  show StableHlo.after hostOps0 (W0 m ρ c) (Proc.devRef .tc main_v0) = _
  entry_read
  rfl
theorem u_1 : (V1 m ρ c main_v1 : FVec Ideal S8192x2048 .bf16) = (p3 m c : S8192x2048.Idx → EReal) := by
  show StableHlo.after hostOps0 (W0 m ρ c) (Proc.devRef .tc main_v1) = _
  entry_read
  rfl
theorem z_1 : (V1 m ρ c main_v2 : FVec Ideal S8192x2048 .bf16) = (p5 m c : S8192x2048.Idx → EReal) := by
  show StableHlo.after hostOps0 (W0 m ρ c) (Proc.devRef .tc main_v2) = _
  entry_read
  rfl

/-! ## The projection -/

theorem fiX_eq : fiX (V1 m ρ) c = wX m c := funext fun n => funext fun l => congrFun (W1_args m ρ c main_arg0 arg_mem_0) (ix2 n l)
theorem fiG_eq : fiG (V1 m ρ) c = wG m c := funext fun l => congrFun (W1_args m ρ c main_arg1 arg_mem_1) (ix2 0 l)
theorem fiW_eq : fiW (V1 m ρ) c = wW m c := funext fun n => funext fun l => congrFun (w_1 m ρ c) (ix2 n l)
theorem fiZ_eq : fiZ (V1 m ρ) c = zA (wX m c) (wG m c) (wW m c) := by
  funext n
  unfold fiZ fiH
  rw [fiX_eq, fiG_eq, fiW_eq]
  rfl
theorem h_2 : (V2 m ρ c main_v3_0 : FVec Ideal S8192x1024 .bf16) = (fun y => hA (wX m c) (wG m c) (y 0) (y 1) : S8192x1024.Idx → EReal) := by
  refine (W2_arr m ρ c 3).trans ((fi3 (V1 m ρ) c).trans ?_)
  funext y
  show fiH (V1 m ρ) c (y 0) (y 1) = _
  unfold fiH
  rw [fiX_eq, fiG_eq]
  rfl
theorem unit_2 : (V2 m ρ c main_v3_1 : FVec Ideal S8192x2048 .f32) = (fun y => zA (wX m c) (wG m c) (wW m c) (y 0) (unitCol (y 1)) : S8192x2048.Idx → EReal) :=
  (W2_arr m ρ c 4).trans ((fi4 (V1 m ρ) c).trans (funext fun y => congrFun (congrFun (fiZ_eq m ρ c) (y 0)) (unitCol (y 1))))
theorem state_2 : (V2 m ρ c main_v3_2 : FVec Ideal S8192x512 .f32) = (fun y => zA (wX m c) (wG m c) (wW m c) (y 0) (stateCol (y 1)) : S8192x512.Idx → EReal) :=
  (W2_arr m ρ c 5).trans ((fi5 (V1 m ρ) c).trans (funext fun y => congrFun (congrFun (fiZ_eq m ρ c) (y 0)) (stateCol (y 1))))
theorem gate_2 : (V2 m ρ c main_v3_3 : FVec Ideal S8192x2048 .f32) = (fun y => zA (wX m c) (wG m c) (wW m c) (y 0) (gateCol (y 1)) : S8192x2048.Idx → EReal) :=
  (W2_arr m ρ c 6).trans ((fi6 (V1 m ρ) c).trans (funext fun y => congrFun (congrFun (fiZ_eq m ρ c) (y 0)) (gateCol (y 1))))

/-! ## The gradient through it -/

theorem biU_eq : biU (V2 m ρ) c = wU m c := funext fun n => funext fun l => congrFun ((W2_of m ρ c main_v1 (by decide)).trans (u_1 m ρ c)) (ix2 n l)
theorem biS_eq : biS (V2 m ρ) c = wS m c := funext fun n => funext fun l => congrFun (W2_args m ρ c main_arg4 arg_mem_4) (ix2 n l)
theorem biZ_eq : biZ (V2 m ρ) c = wZ m c := funext fun n => funext fun l => congrFun ((W2_of m ρ c main_v2 (by decide)).trans (z_1 m ρ c)) (ix2 n l)
theorem biD_eq : biD (V2 m ρ) c = wD m c := funext fun n => funext fun l => congrFun (W2_args m ρ c main_arg6 arg_mem_6) (ix2 n l)
theorem biX_eq : biX (V2 m ρ) c = wX m c := funext fun n => funext fun l => congrFun (W2_args m ρ c main_arg0 arg_mem_0) (ix2 n l)
theorem biW_eq : biW (V2 m ρ) c = wW m c := funext fun n => funext fun l => congrFun ((W2_of m ρ c main_v0 (by decide)).trans (w_1 m ρ c)) (ix2 n l)
theorem biG_eq : biG (V2 m ρ) c = wG m c := funext fun l => congrFun (W2_args m ρ c main_arg1 arg_mem_1) (ix2 0 l)

theorem dx_3 : (V3 m ρ c main_v4_0 : FVec Ideal S8192x1024 .f32)
    = (fun y => dInA (wX m c) (wG m c) (wW m c) (wU m c) (wS m c) (wZ m c) (wD m c) (y 0) (y 1) : S8192x1024.Idx → EReal) := by
  refine (W3_arr m ρ c 7).trans ((bi7 (V2 m ρ) c).trans ?_)
  funext y
  show biDx (V2 m ρ) c (y 0) (y 1) = _
  unfold biDx biDh
  rw [biU_eq, biS_eq, biZ_eq, biD_eq, biX_eq, biW_eq, biG_eq]
  rfl
theorem dg_3 : (V3 m ρ c main_v4_1 : FVec Ideal S1x1024 .f32)
    = (fun y => dgA (wX m c) (wW m c) (wU m c) (wS m c) (wZ m c) (y 1) : S1x1024.Idx → EReal) := by
  refine (W3_arr m ρ c 8).trans ((bi8 (V2 m ρ) c).trans ?_)
  funext y
  show biGain (V2 m ρ) c (y 1) = _
  unfold biGain biDh
  rw [biU_eq, biS_eq, biZ_eq, biX_eq, biW_eq]
  rfl

/-! ## The weights' gradients -/

theorem h_3 : (V3 m ρ c main_v3_0 : FVec Ideal S8192x1024 .bf16) = (fun y => hA (wX m c) (wG m c) (y 0) (y 1) : S8192x1024.Idx → EReal) :=
  (W3_of m ρ c main_v3_0 (by decide)).trans (h_2 m ρ c)
theorem h_4 : (V4 m ρ c main_v3_0 : FVec Ideal S8192x1024 .bf16) = (fun y => hA (wX m c) (wG m c) (y 0) (y 1) : S8192x1024.Idx → EReal) :=
  (W4_of m ρ c main_v3_0 (by decide)).trans (h_3 m ρ c)
theorem h_5 : (V5 m ρ c main_v3_0 : FVec Ideal S8192x1024 .bf16) = (fun y => hA (wX m c) (wG m c) (y 0) (y 1) : S8192x1024.Idx → EReal) :=
  (W5_of m ρ c main_v3_0 (by decide)).trans (h_4 m ρ c)

/-- The products' rows, one per column of the weights. -/
abbrev dwRow (b : Fin 4608) (j : Fin 1024) : EReal := dwA (wX m c) (wG m c) (wU m c) (wS m c) (wZ m c) j b

theorem dwUnit_4 : (V4 m ρ c main_v5 : FVec Ideal S2048x1024 .f32) = (fun y => dwRow m c (unitCol (y 0)) (y 1) : S2048x1024.Idx → EReal) := by
  refine (W4_arr m ρ c 2).trans ((wu2 (V3 m ρ) c).trans ?_)
  funext y
  refine Finset.sum_congr rfl fun n _ => congrArg₂ (· * ·) ?_ (congrFun (h_3 m ρ c) (ix2 n (y 1)))
  exact (congrFun (((W3_of m ρ c main_v1 (by decide)).trans (W2_of m ρ c main_v1 (by decide))).trans (u_1 m ρ c)) (ix2 n (y 0))).trans
    (joined_unit (wU m c n) (wS m c n) (wZ m c n) (y 0)).symm
theorem dwState_5 : (V5 m ρ c main_v6 : FVec Ideal S512x1024 .f32) = (fun y => dwRow m c (stateCol (y 0)) (y 1) : S512x1024.Idx → EReal) := by
  refine (W5_arr m ρ c 2).trans ((ws2 (V4 m ρ) c).trans ?_)
  funext y
  refine Finset.sum_congr rfl fun n _ => congrArg₂ (· * ·) ?_ (congrFun (h_4 m ρ c) (ix2 n (y 1)))
  exact (congrFun (W4_args m ρ c main_arg4 arg_mem_4) (ix2 n (y 0))).trans
    (joined_state (wU m c n) (wS m c n) (wZ m c n) (y 0)).symm
theorem dwGate_6 : (V6 m ρ c main_v7 : FVec Ideal S2048x1024 .f32) = (fun y => dwRow m c (gateCol (y 0)) (y 1) : S2048x1024.Idx → EReal) := by
  refine (W6_arr m ρ c 2).trans ((wz2 (V5 m ρ) c).trans ?_)
  funext y
  refine Finset.sum_congr rfl fun n _ => congrArg₂ (· * ·) ?_ (congrFun (h_5 m ρ c) (ix2 n (y 1)))
  exact (congrFun (((((W5_of m ρ c main_v2 (by decide)).trans (W4_of m ρ c main_v2 (by decide))).trans (W3_of m ρ c main_v2 (by decide))).trans
    (W2_of m ρ c main_v2 (by decide))).trans (z_1 m ρ c)) (ix2 n (y 0))).trans
    (joined_gate (wU m c n) (wS m c n) (wZ m c n) (y 0)).symm

/-! ## The results at the end of the run -/

/-- A result of the first two calls is kept by the others. -/
theorem kept (b : Ref sig .tc) (h7 : b ∉ hostOps5_W) (h6 : ∀ w : Fin cfg4.W, Pipeline.arrRef spec4 w = b → (cfg4.win w).isOut = false)
    (h5 : ∀ w : Fin cfg3.W, Pipeline.arrRef spec3 w = b → (cfg3.win w).isOut = false)
    (h4 : ∀ w : Fin cfg2.W, Pipeline.arrRef spec2 w = b → (cfg2.win w).isOut = false) :
    W7 m ρ c (Proc.devRef .tc b) = W3 m ρ c (Proc.devRef .tc b) :=
  (((W7_of m ρ c b h7).trans (W6_of m ρ c b h6)).trans (W5_of m ρ c b h5)).trans (W4_of m ρ c b h4)

theorem unit_end : (W7 m ρ c main_v3_1 : FVec Ideal S8192x2048 .f32) = (fun y => zA (wX m c) (wG m c) (wW m c) (y 0) (unitCol (y 1)) : S8192x2048.Idx → EReal) :=
  ((kept m ρ c main_v3_1 (by decide) (by decide) (by decide) (by decide)).trans (W3_of m ρ c main_v3_1 (by decide))).trans (unit_2 m ρ c)
theorem state_end : (W7 m ρ c main_v3_2 : FVec Ideal S8192x512 .f32) = (fun y => zA (wX m c) (wG m c) (wW m c) (y 0) (stateCol (y 1)) : S8192x512.Idx → EReal) :=
  ((kept m ρ c main_v3_2 (by decide) (by decide) (by decide) (by decide)).trans (W3_of m ρ c main_v3_2 (by decide))).trans (state_2 m ρ c)
theorem gate_end : (W7 m ρ c main_v3_3 : FVec Ideal S8192x2048 .f32) = (fun y => zA (wX m c) (wG m c) (wW m c) (y 0) (gateCol (y 1)) : S8192x2048.Idx → EReal) :=
  ((kept m ρ c main_v3_3 (by decide) (by decide) (by decide) (by decide)).trans (W3_of m ρ c main_v3_3 (by decide))).trans (gate_2 m ρ c)
theorem dx_end : (W7 m ρ c main_v4_0 : FVec Ideal S8192x1024 .f32)
    = (fun y => dInA (wX m c) (wG m c) (wW m c) (wU m c) (wS m c) (wZ m c) (wD m c) (y 0) (y 1) : S8192x1024.Idx → EReal) :=
  (kept m ρ c main_v4_0 (by decide) (by decide) (by decide) (by decide)).trans (dx_3 m ρ c)
theorem dg_end : (W7 m ρ c main_v4_1 : FVec Ideal S1x1024 .f32)
    = (fun y => dgA (wX m c) (wW m c) (wU m c) (wS m c) (wZ m c) (y 1) : S1x1024.Idx → EReal) :=
  (kept m ρ c main_v4_1 (by decide) (by decide) (by decide) (by decide)).trans (dg_3 m ρ c)

theorem dwUnit_6 : (W6 m ρ c main_v5 : FVec Ideal S2048x1024 .f32) = (fun y => dwRow m c (unitCol (y 0)) (y 1) : S2048x1024.Idx → EReal) :=
  ((W6_of m ρ c main_v5 (by decide)).trans (W5_of m ρ c main_v5 (by decide))).trans (dwUnit_4 m ρ c)
theorem dwState_6 : (W6 m ρ c main_v6 : FVec Ideal S512x1024 .f32) = (fun y => dwRow m c (stateCol (y 0)) (y 1) : S512x1024.Idx → EReal) :=
  (W6_of m ρ c main_v6 (by decide)).trans (dwState_5 m ρ c)

theorem dw_end (y : S1024x4608.Idx) : (W7 m ρ c main_v9 : FVec Ideal S1024x4608 .f32) y = dwRow m c (y 1) (y 0) := by
  have h : (W7 m ρ c main_v9 : FVec Ideal S1024x4608 .f32)
      = transpose S1024x4608 [1, 0] (concatenate S4608x1024 0 [⟨S2048x1024, (W6 m ρ c main_v5 : FVec Ideal S2048x1024 .f32)⟩,
          ⟨S512x1024, (W6 m ρ c main_v6 : FVec Ideal S512x1024 .f32)⟩, ⟨S2048x1024, (W6 m ρ c main_v7 : FVec Ideal S2048x1024 .f32)⟩]
          concatenates_S2048x1024_S512x1024_S2048x1024_S4608x1024_d0) transposes_S4608x1024_S1024x4608_1_0 := by
    show StableHlo.after hostOps5 (W6 m ρ c) (Proc.devRef .tc main_v9) = _
    entry_read
    rfl
  rw [h, dwUnit_6, dwState_6, show (W6 m ρ c main_v7 : FVec Ideal S2048x1024 .f32) = _ from dwGate_6 m ρ c]
  obtain ⟨j, b, rfl⟩ : ∃ (j : Fin 1024) (b : Fin 4608), y = ix2 j b := ⟨y 0, y 1, eq_ix2 y⟩
  show _ = dwRow m c b j
  generalize dwRow m c = f
  obtain ⟨e, rfl⟩ | ⟨e, rfl⟩ | ⟨e, rfl⟩ := col_cases b
  · simp only [unitCol]
    pointwise []
  · simp only [stateCol]
    pointwise []
  · simp only [gateCol]
    pointwise []
    rw [dif_neg (by omega), dif_neg (by omega)]
    exact congrArg (f · j) (Fin.ext (show 2560 + (2560 + e.val - 2048 - 512) = 2560 + e.val by omega))

end Cert.MixInIdeal.MixerIn

end
-- ==== Proof.InReference.lean ====
/- The input projection's reference, read at an index: its results as the projection's mathematics. -/
module

public import proofs.«01_k».proof.Proof.Gen.MixInRefIdeal.Read
public import proofs.«01_k».proof.Proof.InMath

@[expose] public section

set_option maxRecDepth 16384

noncomputable section

namespace Cert.MixInRefIdeal.MixerIn

open Cert.MixInRefIdeal Cert.MixInRefIdeal.Gen Cert.MixInRefIdeal.Read Idealize.ShloMosaic Idealize.ShloMosaic.TcCoe Idealize.SL.Sem
open Cert.RowGradients Cert.FeedForward Cert.MixerIn

variable (x0 : FVec Ideal S8192x1024 .f32) (x1 : FVec Ideal S1x1024 .f32) (x2 : FVec Ideal S1024x4608 .f32)
  (x3 : FVec Ideal S8192x2048 .f32) (x4 : FVec Ideal S8192x512 .f32) (x5 : FVec Ideal S8192x2048 .f32) (x6 : FVec Ideal S8192x1024 .f32)

/-- An array of rows or a weight, and a gain, as functions of their coordinates. -/
abbrev mat {a b : ℕ} (x : FVec Ideal ⟨2, ![a, b]⟩ .f32) (n : Fin a) (l : Fin b) : EReal := x (ix2 n l)
abbrev gain (x : FVec Ideal S1x1024 .f32) (l : Fin 1024) : EReal := x (ix2 0 l)

/-! ## The forward pass -/

theorem xhat_apply (n : Fin 8192) (j : Fin 1024) : val_main_v12 (F := Ideal) x0 (ix2 n j) = normed (mat x0 n) j := by
  simp only [normed, invRms, meanSq]
  pointwise [val_main_v12, val_main_v11, val_main_v7, val_main_v6, val_main_v5, val_main_v4, val_main_v3, val_main_v2, val_main_v1,
    val_main_v0, val_main_cst, val_main_cst_0, val_main_cst_1]

theorem h_apply (n : Fin 8192) (j : Fin 1024) : val_main_v14 (F := Ideal) x0 x1 (ix2 n j) = hA (mat x0) (gain x1) n j := by
  simp only [hA, gained, ← xhat_apply]
  pointwise [val_main_v14, val_main_v13]

theorem z_apply (n : Fin 8192) (b : Fin 4608) :
    val_main_v15 (F := Ideal) x0 x1 x2 (ix2 n b) = zA (mat x0) (gain x1) (mat x2) n b := by
  simp only [zA, times, ← h_apply]
  pointwise [val_main_v15]

theorem unit_apply (n : Fin 8192) (e : Fin 2048) :
    val_main_v16 (F := Ideal) x0 x1 x2 (ix2 n e) = zA (mat x0) (gain x1) (mat x2) n (unitCol e) := by
  rw [← z_apply]
  simp only [unitCol]
  pointwise [val_main_v16]

theorem state_apply (n : Fin 8192) (e : Fin 512) :
    val_main_v17 (F := Ideal) x0 x1 x2 (ix2 n e) = zA (mat x0) (gain x1) (mat x2) n (stateCol e) := by
  rw [← z_apply]
  simp only [stateCol]
  pointwise [val_main_v17]

theorem gate_apply (n : Fin 8192) (e : Fin 2048) :
    val_main_v18 (F := Ideal) x0 x1 x2 (ix2 n e) = zA (mat x0) (gain x1) (mat x2) n (gateCol e) := by
  rw [← z_apply]
  simp only [gateCol]
  pointwise [val_main_v18]

/-! ## The backward pass -/

theorem dz_apply (n : Fin 8192) (b : Fin 4608) :
    val_main_v19 (F := Ideal) x3 x4 x5 (ix2 n b) = joined (mat x3 n) (mat x4 n) (mat x5 n) b := by
  obtain ⟨e, rfl⟩ | ⟨e, rfl⟩ | ⟨e, rfl⟩ := col_cases b
  · rw [joined_unit]
    simp only [unitCol]
    pointwise [val_main_v19]
  · rw [joined_state]
    simp only [stateCol]
    pointwise [val_main_v19]
  · rw [joined_gate]
    simp only [gateCol]
    pointwise [val_main_v19]
    rw [dif_neg (by omega), dif_neg (by omega)]
    exact congrArg (mat x5 n) (Fin.ext (show 2560 + e.val - 2048 - 512 = e.val by omega))

theorem dw_apply (j : Fin 1024) (b : Fin 4608) : val_main_v21 (F := Ideal) x0 x1 x3 x4 x5 (ix2 j b)
    = dwA (mat x0) (gain x1) (mat x3) (mat x4) (mat x5) j b := by
  simp only [dwA, ← h_apply, ← dz_apply]
  pointwise [val_main_v21, val_main_v20]

theorem dh_apply (n : Fin 8192) (j : Fin 1024) : val_main_v22 (F := Ideal) x2 x3 x4 x5 (ix2 n j)
    = dhA (mat x2) (mat x3) (mat x4) (mat x5) n j := by
  simp only [dhA, timesTr, ← dz_apply]
  pointwise [val_main_v22]

theorem dg_apply (j : Fin 1024) : val_main_v25 (F := Ideal) x0 x2 x3 x4 x5 (ix2 0 j)
    = dgA (mat x0) (mat x2) (mat x3) (mat x4) (mat x5) j := by
  simp only [dgA, ← xhat_apply, ← dh_apply]
  simp only [mul_comm (val_main_v22 (F := Ideal) x2 x3 x4 x5 _)]
  pointwise [val_main_v25, val_main_v24, val_main_v23, val_main_cst_3]

theorem dx_apply (n : Fin 8192) (j : Fin 1024) : val_main_v42 (F := Ideal) x0 x1 x2 x3 x4 x5 x6 (ix2 n j)
    = dInA (mat x0) (gain x1) (mat x2) (mat x3) (mat x4) (mat x5) (mat x6) n j := by
  rw [dInA, normGrad_eq_ref]
  simp only [normGradRef, throughMean, invRms, meanSq, ← dh_apply]
  rw [← add_assoc, ← add_assoc]
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_v26,
    val_main_v10, val_main_v9, val_main_v8, val_main_v7, val_main_v6, val_main_v5, val_main_v4, val_main_v3, val_main_v2, val_main_v1,
    val_main_v0, val_main_cst, val_main_cst_0, val_main_cst_1, val_main_cst_2, val_main_cst_4, val_main_cst_5, val_main_cst_6]
  simp only [Finset.univ_unique, Finset.sum_singleton]

end Cert.MixInRefIdeal.MixerIn

end
-- ==== Proof.InClaims.lean ====
/- The claims about the mixer's input projection: the frames, and that the run of the five kernels ends at the reference's
   columns and gradients. -/
module

public import proofs.«01_k».proof.Defs
public import proofs.«01_k».proof.Proof.InChain
public import proofs.«01_k».proof.Proof.InReference
public import proofs.«01_k».proof.Proof.Gen.MixIn.Frame
public import proofs.«01_k».proof.Proof.Gen.MixInRefIdeal.Run

@[expose] public section

set_option maxRecDepth 16384

noncomputable section

namespace Cert.Proof.MixerIn

open Idealize.ShloMosaic Idealize.ShloMosaic.TcCoe Idealize.SL.Sem Cert.RowGradients Cert.FeedForward Cert.MixerIn Cert.Blocks
open Cert.MixInIdeal.MixerIn (p0 p1 p2 p3 p4 p5 p6)
open Cert.MixInRefIdeal.MixerIn (mat gain)

/-- The reference leaves its arguments as they were; it has no semaphore. -/
theorem frame_ref : Cert.quiescent_MixInRefIdeal := fun m ρ _ =>
  (θ_run Cert.MixInRefIdeal.defs _ _).mono (fun r h => ⟨fun c => (h c).2.2.2.2.2.2,
      Idealize.ShloMosaic.sem_eq_zero_of_no_sems (by decide) r.2⟩)
    (Cert.MixInRefIdeal.Value.run (F := Ideal) m ρ)

section

open Cert.MixInRefIdeal Cert.MixInRefIdeal.Read Cert.MixInRefIdeal.MixerIn

/-! ## The reference's run -/

variable (m : (ℓ : Loc nD τ sig) → Buf (Elt Ideal) ℓ) (c : Dev nD)

abbrev q0 : FVec Ideal S8192x1024 .f32 := m ((c.tc : Thread nD τ).loc main_arg0)
abbrev q1 : FVec Ideal S1x1024 .f32 := m ((c.tc : Thread nD τ).loc main_arg1)
abbrev q2 : FVec Ideal S1024x4608 .f32 := m ((c.tc : Thread nD τ).loc main_arg2)
abbrev q3 : FVec Ideal S8192x2048 .f32 := m ((c.tc : Thread nD τ).loc main_arg3)
abbrev q4 : FVec Ideal S8192x512 .f32 := m ((c.tc : Thread nD τ).loc main_arg4)
abbrev q5 : FVec Ideal S8192x2048 .f32 := m ((c.tc : Thread nD τ).loc main_arg5)
abbrev q6 : FVec Ideal S8192x1024 .f32 := m ((c.tc : Thread nD τ).loc main_arg6)

theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = val_main_v16 (F := Ideal) (q0 m c) (q1 m c) (q2 m c)
      ∧ r.2.mem ((c.tc : Thread nD τ).loc main_v17) = val_main_v17 (F := Ideal) (q0 m c) (q1 m c) (q2 m c)
      ∧ r.2.mem ((c.tc : Thread nD τ).loc main_v18) = val_main_v18 (F := Ideal) (q0 m c) (q1 m c) (q2 m c)
      ∧ r.2.mem ((c.tc : Thread nD τ).loc main_v42) = val_main_v42 (F := Ideal) (q0 m c) (q1 m c) (q2 m c) (q3 m c) (q4 m c) (q5 m c) (q6 m c)
      ∧ r.2.mem ((c.tc : Thread nD τ).loc main_v25) = val_main_v25 (F := Ideal) (q0 m c) (q2 m c) (q3 m c) (q4 m c) (q5 m c)
      ∧ r.2.mem ((c.tc : Thread nD τ).loc main_v21) = val_main_v21 (F := Ideal) (q0 m c) (q1 m c) (q3 m c) (q4 m c) (q5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.MixInRefIdeal.Value.run (F := Ideal) m ρ)
  have hc := h c
  rw [val_main_v42_eq, val_main_v16_eq, val_main_v17_eq, val_main_v18_eq, val_main_v25_eq, val_main_v21_eq] at hc
  exact hc

end

/-! ## The claim -/

open Cert.MixInIdeal.MixerIn in
theorem algebraic : Cert.algebraic_MixInIdeal_MixInRefIdeal := by
  intro m ρ m' ρ' _ hag
  refine ⟨fun c => Cert.MixInRefIdeal.Read.val_main_v16 (F := Ideal) (p0 m c) (p1 m c) (p2 m c),
    fun c => Cert.MixInRefIdeal.Read.val_main_v17 (F := Ideal) (p0 m c) (p1 m c) (p2 m c),
    fun c => Cert.MixInRefIdeal.Read.val_main_v18 (F := Ideal) (p0 m c) (p1 m c) (p2 m c),
    fun c => Cert.MixInRefIdeal.Read.val_main_v42 (F := Ideal) (p0 m c) (p1 m c) (p2 m c) (p3 m c) (p4 m c) (p5 m c) (p6 m c),
    fun c => Cert.MixInRefIdeal.Read.val_main_v25 (F := Ideal) (p0 m c) (p2 m c) (p3 m c) (p4 m c) (p5 m c),
    fun c => Cert.MixInRefIdeal.Read.val_main_v21 (F := Ideal) (p0 m c) (p1 m c) (p3 m c) (p4 m c) (p5 m c),
    ?_, ?_⟩
  · refine (θ_run Cert.MixInIdeal.defs _ _).mono (fun r h c => ?_) (run_contents m ρ)
    have at_ := fun b hb => h c (Proc.devRef .tc b) (Cert.MixInIdeal.Gen.mem_uc b hb)
    refine ⟨(at_ Cert.MixInIdeal.main_v3_1 (by decide)).trans ((unit_end m ρ c).trans (funext fun y => ((congrArg (Cert.MixInRefIdeal.Read.val_main_v16 (F := Ideal) (p0 m c) (p1 m c) (p2 m c)) (eta y)).trans
        (Cert.MixInRefIdeal.MixerIn.unit_apply (p0 m c) (p1 m c) (p2 m c) (y 0) (y 1))).symm)),
      (at_ Cert.MixInIdeal.main_v3_2 (by decide)).trans ((state_end m ρ c).trans (funext fun y => ((congrArg (Cert.MixInRefIdeal.Read.val_main_v17 (F := Ideal) (p0 m c) (p1 m c) (p2 m c)) (eta y)).trans
        (Cert.MixInRefIdeal.MixerIn.state_apply (p0 m c) (p1 m c) (p2 m c) (y 0) (y 1))).symm)),
      (at_ Cert.MixInIdeal.main_v3_3 (by decide)).trans ((gate_end m ρ c).trans (funext fun y => ((congrArg (Cert.MixInRefIdeal.Read.val_main_v18 (F := Ideal) (p0 m c) (p1 m c) (p2 m c)) (eta y)).trans
        (Cert.MixInRefIdeal.MixerIn.gate_apply (p0 m c) (p1 m c) (p2 m c) (y 0) (y 1))).symm)),
      (at_ Cert.MixInIdeal.main_v4_0 (by decide)).trans ((dx_end m ρ c).trans (funext fun y => ((congrArg (Cert.MixInRefIdeal.Read.val_main_v42 (F := Ideal) (p0 m c) (p1 m c) (p2 m c) (p3 m c) (p4 m c) (p5 m c) (p6 m c)) (eta y)).trans
        (Cert.MixInRefIdeal.MixerIn.dx_apply (p0 m c) (p1 m c) (p2 m c) (p3 m c) (p4 m c) (p5 m c) (p6 m c) (y 0) (y 1))).symm)),
      (at_ Cert.MixInIdeal.main_v4_1 (by decide)).trans ((dg_end m ρ c).trans (funext fun y => ((congrArg (Cert.MixInRefIdeal.Read.val_main_v25 (F := Ideal) (p0 m c) (p2 m c) (p3 m c) (p4 m c) (p5 m c)) (eta_zero y)).trans
        (Cert.MixInRefIdeal.MixerIn.dg_apply (p0 m c) (p2 m c) (p3 m c) (p4 m c) (p5 m c) (y 1))).symm)),
      (at_ Cert.MixInIdeal.main_v9 (by decide)).trans (funext fun y => (dw_end m ρ c y).trans ((congrArg (Cert.MixInRefIdeal.Read.val_main_v21 (F := Ideal) (p0 m c) (p1 m c) (p3 m c) (p4 m c) (p5 m c)) (eta y)).trans
        (Cert.MixInRefIdeal.MixerIn.dw_apply (p0 m c) (p1 m c) (p3 m c) (p4 m c) (p5 m c) (y 0) (y 1))).symm),
      (at_ Cert.MixInIdeal.main_arg0 (by decide)).trans (Cert.MixInIdeal.Gen.W7_main_arg0 m ρ c),
      (at_ Cert.MixInIdeal.main_arg1 (by decide)).trans (Cert.MixInIdeal.Gen.W7_main_arg1 m ρ c),
      (at_ Cert.MixInIdeal.main_arg2 (by decide)).trans (Cert.MixInIdeal.Gen.W7_main_arg2 m ρ c),
      (at_ Cert.MixInIdeal.main_arg3 (by decide)).trans (Cert.MixInIdeal.Gen.W7_main_arg3 m ρ c),
      (at_ Cert.MixInIdeal.main_arg4 (by decide)).trans (Cert.MixInIdeal.Gen.W7_main_arg4 m ρ c),
      (at_ Cert.MixInIdeal.main_arg5 (by decide)).trans (Cert.MixInIdeal.Gen.W7_main_arg5 m ρ c),
      (at_ Cert.MixInIdeal.main_arg6 (by decide)).trans (Cert.MixInIdeal.Gen.W7_main_arg6 m ρ c)⟩
  · refine (θ_run Cert.MixInRefIdeal.defs _ _).mono (fun r h c => ?_) (run_ref m' ρ')
    obtain ⟨g0, g1, g2, g3, g4, g5, g6⟩ := hag c
    have e := h c
    rw [show q0 m' c = p0 m c from g0, show q1 m' c = p1 m c from g1, show q2 m' c = p2 m c from g2, show q3 m' c = p3 m c from g3, show q4 m' c = p4 m c from g4, show q5 m' c = p5 m c from g5, show q6 m' c = p6 m c from g6] at e
    exact e

end Cert.Proof.MixerIn

end
-- ==== Proof.OutMath.lean ====
/- The mathematics of the mixer's output, row by row, over the extended reals.

   The recurrence's output goes through `gelu` and its own gate; it and the gating unit's output are multiplied by their
   branches' weights; the two branches, each scaled by the logistic function of its side of the gate's row, are added up,
   multiplied by the output weights, normalised and added to the row that the mixer read. -/
module

public import proofs.«01_k».proof.Proof.Blocks

@[expose] public section

noncomputable section

namespace Cert.MixerOut

open Idealize.ShloMosaic Cert.RowGradients Cert.FeedForward

/-! ## The two sides of the gate's row -/

/-- The gating unit's column `e`, and the state space's. -/
def leftCol (e : Fin 1024) : Fin 2048 := ⟨e.val, by omega⟩
def rightCol (e : Fin 1024) : Fin 2048 := ⟨1024 + e.val, by omega⟩

/-- A row of 2048 from its two sides. -/
def sides {α : Type*} (a b : Fin 1024 → α) (j : Fin 2048) : α :=
  if h : j.val < 1024 then a ⟨j.val, h⟩ else b ⟨j.val - 1024, by omega⟩

theorem sides_left {α : Type*} (a b : Fin 1024 → α) (e : Fin 1024) : sides a b (leftCol e) = a e := by simp [sides, leftCol]
theorem sides_right {α : Type*} (a b : Fin 1024 → α) (e : Fin 1024) : sides a b (rightCol e) = b e := by simp [sides, rightCol]
theorem left_or_right (j : Fin 2048) : (∃ e, j = leftCol e) ∨ ∃ e, j = rightCol e := by
  by_cases h : j.val < 1024
  · exact .inl ⟨⟨j.val, h⟩, rfl⟩
  · exact .inr ⟨⟨j.val - 1024, by omega⟩, Fin.ext (by simp only [rightCol]; omega)⟩

/-! ## One row -/

/-- A half, the coefficient of the cube and the root of two over pi, as both programs round them. -/
abbrev halfC : EReal := Ideal.ofBits .f32 0x3F000000#32
abbrev cubicC : EReal := Ideal.ofBits .f32 0x3D372713#32
abbrev rootC : EReal := Ideal.ofBits .f32 0x3F4C422A#32

/-- The activation of the recurrence's output. -/
def gelu (y : EReal) : EReal := halfC * y * (one + Ideal.tanh (rootC * (y + cubicC * y * y * y)))

/-- The activation with its factors in another order. -/
theorem gelu_eq (y : EReal) : y * (halfC * (one + Ideal.tanh (rootC * (y + cubicC * (y * y * y))))) = gelu y := by
  unfold gelu
  rw [show cubicC * (y * y * y) = cubicC * y * y * y by ac_rfl]
  ac_rfl

/-- The recurrence's activated row times its gate. -/
def recur (y : Fin 512 → EReal) (w : Fin 512 → Fin 512 → EReal) (e : Fin 512) : EReal :=
  gelu (y e) * sigm (times (fun l => gelu (y l)) w e)

/-- The gradient of the gate, from the gradient `ds` of `recur`. -/
def recurGateGrad (ds y : Fin 512 → EReal) (w : Fin 512 → Fin 512 → EReal) (e : Fin 512) : EReal :=
  ds e * gelu (y e) * sigm (times (fun l => gelu (y l)) w e) * (1 - sigm (times (fun l => gelu (y l)) w e))

/-- The two branches, scaled and added up. -/
def merge (z : Fin 2048 → EReal) (a b : Fin 1024 → EReal) (j : Fin 1024) : EReal :=
  sigm (z (leftCol j)) * a j + sigm (z (rightCol j)) * b j

/-- The gradient of one side of the gate's row. -/
def sideGrad (dm z a : EReal) : EReal := dm * a * (sigm z * (1 - sigm z))

/-- The gradient of the gate's row, from the gradient `dm` of the merged row. -/
def mergeGrad (dm : Fin 1024 → EReal) (z : Fin 2048 → EReal) (a b : Fin 1024 → EReal) : Fin 2048 → EReal :=
  sides (fun j => sideGrad (dm j) (z (leftCol j)) (a j)) (fun j => sideGrad (dm j) (z (rightCol j)) (b j))

/-! ## All the rows -/

/-- What the sublayer's output is made from: the gating unit's and the recurrence's outputs, the gate's row and the mixer's
    input, then the weights and the gain. -/
structure Inputs where
  unit : Fin 8192 → Fin 1024 → EReal
  state : Fin 8192 → Fin 512 → EReal
  gate : Fin 8192 → Fin 2048 → EReal
  x : Fin 8192 → Fin 1024 → EReal
  wGate : Fin 512 → Fin 512 → EReal
  wUnit : Fin 1024 → Fin 1024 → EReal
  wState : Fin 512 → Fin 1024 → EReal
  wOut : Fin 1024 → Fin 1024 → EReal
  gain : Fin 1024 → EReal

section Whole

variable (p : Inputs) (d : Fin 8192 → Fin 1024 → EReal)

def geluA (n : Fin 8192) (e : Fin 512) : EReal := gelu (p.state n e)
def recurA (n : Fin 8192) : Fin 512 → EReal := recur (p.state n) p.wGate
def unitA (n : Fin 8192) : Fin 1024 → EReal := times (p.unit n) p.wUnit
def stateA (n : Fin 8192) : Fin 1024 → EReal := times (recurA p n) p.wState
def mergedA (n : Fin 8192) : Fin 1024 → EReal := merge (p.gate n) (unitA p n) (stateA p n)
def outA (n : Fin 8192) : Fin 1024 → EReal := times (mergedA p n) p.wOut
def resA (n : Fin 8192) (j : Fin 1024) : EReal := p.x n j + gained (outA p n) p.gain j

/-- The gradients, from the gradient `d` of the rows that the sublayer leaves. -/
def dOutA (n : Fin 8192) : Fin 1024 → EReal := normGrad (outA p n) p.gain (d n)
def dMergedA (n : Fin 8192) : Fin 1024 → EReal := timesTr (dOutA p d n) p.wOut
def dUnitA (n : Fin 8192) (j : Fin 1024) : EReal := dMergedA p d n j * sigm (p.gate n (leftCol j))
def dStateA (n : Fin 8192) (j : Fin 1024) : EReal := dMergedA p d n j * sigm (p.gate n (rightCol j))
def dGateA (n : Fin 8192) : Fin 2048 → EReal := mergeGrad (dMergedA p d n) (p.gate n) (unitA p n) (stateA p n)
def dUnitInA (n : Fin 8192) : Fin 1024 → EReal := timesTr (dUnitA p d n) p.wUnit
def dRecurA (n : Fin 8192) : Fin 512 → EReal := timesTr (dStateA p d n) p.wState
def dRecurGateA (n : Fin 8192) : Fin 512 → EReal := recurGateGrad (dRecurA p d n) (p.state n) p.wGate
def dGainA (j : Fin 1024) : EReal := ∑ n : Fin 8192, d n j * normed (outA p n) j
def dwOutA (i j : Fin 1024) : EReal := ∑ n : Fin 8192, mergedA p n i * dOutA p d n j
def dwUnitA (i j : Fin 1024) : EReal := ∑ n : Fin 8192, p.unit n i * dUnitA p d n j
def dwStateA (i : Fin 512) (j : Fin 1024) : EReal := ∑ n : Fin 8192, dStateA p d n j * recurA p n i
def dwGateA (i j : Fin 512) : EReal := ∑ n : Fin 8192, geluA p n i * dRecurGateA p d n j

end Whole

end Cert.MixerOut

end
-- ==== Proof.OutRun.lean ====
/- The run of the six kernels and the host operations around them: what every buffer that outlives the calls holds at the
   end, which is the contents that the segments' records give one after another. -/
module

public import proofs.«01_k».proof.Proof.Gen.MixOutIdeal.Frame
public import proofs.«01_k».proof.Proof.OutMath

@[expose] public section

set_option maxRecDepth 16384

noncomputable section

namespace Cert.MixOutIdeal.MixerOut

open Cert.MixOutIdeal Cert.MixOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer outside the calls ends at the last boundary's contents. -/
theorem run_contents : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.MixOutIdeal.MixerOut

end
-- ==== Proof.OutRows.lean ====
/- What one grid point of each of the output's kernels computes, read at an index, in terms of the row functions of `OutMath`. -/
module

public import proofs.«01_k».proof.Proof.Gen.MixOutIdeal.Skeleton
public import proofs.«01_k».proof.Proof.OutMath

@[expose] public section

set_option maxRecDepth 16384

noncomputable section

namespace Cert.MixOutIdeal.MixerOut

open Cert.MixOutIdeal Cert.MixOutIdeal.Gen Idealize.ShloMosaic Cert.RowGradients Cert.FeedForward Cert.MixerOut

/-! ## The branches, their merging and the output -/

section Forward

variable (y : FVec Ideal S512x512 .f32) (w : FVec Ideal S512x512 .bf16) (u : FVec Ideal S512x1024 .bf16)
  (wu : FVec Ideal S1024x1024 .bf16) (s : FVec Ideal S512x512 .bf16) (ws : FVec Ideal S512x1024 .bf16)
  (a : FVec Ideal S512x1024 .f32) (z : FVec Ideal S512x2048 .f32) (wo : FVec Ideal S1024x1024 .bf16)
  (mo x : FVec Ideal S512x1024 .f32) (g : FVec Ideal S1x1024 .f32)

theorem gelu_apply (r e : Fin 512) : k0_pay2 (F := Ideal) y (ix2 r e) = gelu (y (ix2 r e)) := by
  simp only [gelu]
  pointwise [k0_pay2]

theorem geluStore_apply (r e : Fin 512) : k0_pay3 (F := Ideal) y (ix2 r e) = gelu (y (ix2 r e)) := gelu_apply y r e

theorem recur_apply (r e : Fin 512) :
    k0_pay4 (F := Ideal) y w (ix2 r e) = recur (fun l => y (ix2 r l)) (fun l e => w (ix2 l e)) e := by
  simp only [recur, times, sigm, ← gelu_apply y, ← one_eq, ← zero_eq]
  unfold k0_pay4 k0_pay3
  generalize k0_pay2 (F := Ideal) y = h
  pointwise

theorem unit_apply (r : Fin 512) (j : Fin 1024) :
    k0_pay5 (F := Ideal) u wu (ix2 r j) = times (fun l => u (ix2 r l)) (fun l j => wu (ix2 l j)) j := by
  simp only [times]
  pointwise [k0_pay5]

theorem state_apply (r : Fin 512) (j : Fin 1024) :
    k0_pay6 (F := Ideal) s ws (ix2 r j) = times (fun l => s (ix2 r l)) (fun l j => ws (ix2 l j)) j := by
  simp only [times]
  pointwise [k0_pay6]

theorem merge_apply (r : Fin 512) (j : Fin 1024) : k0_pay9 (F := Ideal) s a ws z (ix2 r j)
    = merge (fun l => z (ix2 r l)) (fun l => a (ix2 r l)) (times (fun l => s (ix2 r l)) (fun l j => ws (ix2 l j))) j := by
  simp only [merge, sigm, leftCol, rightCol, ← state_apply s ws, ← one_eq, ← zero_eq]
  unfold k0_pay9
  generalize k0_pay6 (F := Ideal) s ws = h
  pointwise

theorem out_apply (r : Fin 512) (j : Fin 1024) : k0_pay10 (F := Ideal) s a ws z wo (ix2 r j)
    = times (fun l => k0_pay9 (F := Ideal) s a ws z (ix2 r l)) (fun l j => wo (ix2 l j)) j := by
  simp only [times]
  unfold k0_pay10
  generalize k0_pay9 (F := Ideal) s a ws z = h
  pointwise

theorem res_apply (r : Fin 512) (j : Fin 1024) :
    k0_pay1 (F := Ideal) mo x g (ix2 r j) = x (ix2 r j) + gained (fun l => mo (ix2 r l)) (fun l => g (ix2 0 l)) j := by
  simp only [gained, normed, invRms, meanSq]
  pointwise [k0_pay1]

end Forward

/-! ## The gradients -/

section Back

variable (mo d : FVec Ideal S512x1024 .f32) (g y : FVec Ideal S1x1024 .f32) (dm a b : FVec Ideal S512x1024 .bf16)
  (wo wu : FVec Ideal S1024x1024 .bf16) (ws : FVec Ideal S512x1024 .bf16) (z : FVec Ideal S512x2048 .f32)
  (s : FVec Ideal S512x512 .f32) (w : FVec Ideal S512x512 .bf16) (ds : FVec Ideal S512x512 .f32)

theorem outGrad_apply (r : Fin 512) (j : Fin 1024) : k1_pay7 (F := Ideal) mo g d (ix2 r j)
    = normGrad (fun l => mo (ix2 r l)) (fun l => g (ix2 0 l)) (fun l => d (ix2 r l)) j := by
  simp only [normGrad, normed, invRms, meanSq]
  pointwise [k1_pay7, k1_pay5, k1_pay4, k1_pay3]

theorem gainTerm_apply (j : Fin 1024) : k1_pay6 (F := Ideal) mo d y (ix2 0 j)
    = y (ix2 0 j) + ∑ r : Fin 512, d (ix2 r j) * normed (fun l => mo (ix2 r l)) j := by
  simp only [normed, invRms, meanSq]
  pointwise [k1_pay6, k1_pay5, k1_pay4, k1_pay3]

theorem gainZero (j : Fin 1024) : k1_pay2 (F := Ideal) (ix2 0 j) = 0 := by pointwise [k1_pay2]

theorem mergedGrad_apply (r : Fin 512) (j : Fin 1024) :
    k1_pay8 (F := Ideal) dm wo (ix2 r j) = timesTr (fun l => dm (ix2 r l)) (fun j l => wo (ix2 j l)) j := by
  simp only [timesTr]
  pointwise [k1_pay8]

theorem left_apply (r : Fin 512) (j : Fin 1024) : k1_pay10 (F := Ideal) z (ix2 r j) = sigm (z (ix2 r (leftCol j))) := by
  simp only [sigm, leftCol, ← shortOne_eq, ← shortZero_eq]
  pointwise [k1_pay10, k1_pay9]

theorem right_apply (r : Fin 512) (j : Fin 1024) : k1_pay11 (F := Ideal) z (ix2 r j) = sigm (z (ix2 r (rightCol j))) := by
  simp only [sigm, rightCol, ← shortOne_eq, ← shortZero_eq]
  pointwise [k1_pay11, k1_pay9]

theorem unitGrad_apply (r : Fin 512) (j : Fin 1024) : k1_pay12 (F := Ideal) dm wo z (ix2 r j)
    = timesTr (fun l => dm (ix2 r l)) (fun j l => wo (ix2 j l)) j * sigm (z (ix2 r (leftCol j))) := by
  rw [← mergedGrad_apply, ← left_apply]
  rfl

theorem stateGrad_apply (r : Fin 512) (j : Fin 1024) : k1_pay13 (F := Ideal) dm wo z (ix2 r j)
    = timesTr (fun l => dm (ix2 r l)) (fun j l => wo (ix2 j l)) j * sigm (z (ix2 r (rightCol j))) := by
  rw [← mergedGrad_apply, ← right_apply]
  rfl

theorem leftGrad_apply (r : Fin 512) (j : Fin 1024) : k1_pay14 (F := Ideal) dm wo z a (ix2 r j)
    = sideGrad (timesTr (fun l => dm (ix2 r l)) (fun j l => wo (ix2 j l)) j) (z (ix2 r (leftCol j))) (a (ix2 r j)) := by
  rw [← mergedGrad_apply, sideGrad, ← left_apply, ← shortOne_eq]
  unfold k1_pay14
  generalize k1_pay8 (F := Ideal) dm wo = h
  generalize k1_pay10 (F := Ideal) z = q
  pointwise

theorem rightGrad_apply (r : Fin 512) (j : Fin 1024) :
    k1_pay15 (F := Ideal) (k1_pay8 dm wo) (k1_pay11 z) b (ix2 r j)
      = sideGrad (timesTr (fun l => dm (ix2 r l)) (fun j l => wo (ix2 j l)) j) (z (ix2 r (rightCol j))) (b (ix2 r j)) := by
  rw [← mergedGrad_apply, sideGrad, ← right_apply, ← shortOne_eq]
  generalize k1_pay8 (F := Ideal) dm wo = h
  generalize k1_pay11 (F := Ideal) z = q
  pointwise [k1_pay15]

theorem unitInGrad_apply (r : Fin 512) (j : Fin 1024) :
    k1_pay16 (F := Ideal) a wu (ix2 r j) = timesTr (fun l => a (ix2 r l)) (fun j l => wu (ix2 j l)) j := by
  simp only [timesTr]
  pointwise [k1_pay16]

theorem recurGrad_apply (r e : Fin 512) :
    k1_pay17 (F := Ideal) b ws (ix2 r e) = timesTr (fun l => b (ix2 r l)) (fun e l => ws (ix2 e l)) e := by
  simp only [timesTr]
  pointwise [k1_pay17]

theorem geluAgain_apply (r e : Fin 512) : k1_pay18 (F := Ideal) s (ix2 r e) = gelu (s (ix2 r e)) := by
  simp only [gelu]
  pointwise [k1_pay18]

theorem recurGateGrad_apply (r e : Fin 512) : k1_pay21 (F := Ideal) ds (k1_pay18 s) (k1_pay19 s w) (ix2 r e)
    = recurGateGrad (fun l => ds (ix2 r l)) (fun l => s (ix2 r l)) (fun l e => w (ix2 l e)) e := by
  simp only [recurGateGrad, times, sigm, ← geluAgain_apply s, ← one_eq, ← zero_eq]
  unfold k1_pay19
  generalize k1_pay18 (F := Ideal) s = h
  pointwise [k1_pay21, k1_pay20]

end Back

/-! ## The weights' gradients -/

section Weights

variable (a b : FVec Ideal S2048x1024 .bf16) (s t : FVec Ideal S2048x512 .bf16)

theorem product_apply (y : FVec Ideal S1024x1024 .f32) (i j : Fin 1024) :
    k2_pay2 (F := Ideal) y a b (ix2 i j) = y (ix2 i j) + ∑ r : Fin 2048, a (ix2 r i) * b (ix2 r j) := by
  pointwise [k2_pay2]
theorem product3_apply (y : FVec Ideal S1024x1024 .f32) (i j : Fin 1024) :
    k3_pay2 (F := Ideal) y a b (ix2 i j) = y (ix2 i j) + ∑ r : Fin 2048, a (ix2 r i) * b (ix2 r j) := product_apply a b y i j
theorem product4_apply (y : FVec Ideal S1024x512 .f32) (i : Fin 1024) (j : Fin 512) :
    k4_pay2 (F := Ideal) y a s (ix2 i j) = y (ix2 i j) + ∑ r : Fin 2048, a (ix2 r i) * s (ix2 r j) := by
  pointwise [k4_pay2]
theorem product5_apply (y : FVec Ideal S512x512 .f32) (i j : Fin 512) :
    k5_pay2 (F := Ideal) y s t (ix2 i j) = y (ix2 i j) + ∑ r : Fin 2048, s (ix2 r i) * t (ix2 r j) := by
  pointwise [k5_pay2]

theorem productZero (i j : Fin 1024) : k2_pay1 (F := Ideal) (ix2 i j) = 0 := by pointwise [k2_pay1]
theorem product3Zero (i j : Fin 1024) : k3_pay1 (F := Ideal) (ix2 i j) = 0 := productZero i j
theorem product4Zero (i : Fin 1024) (j : Fin 512) : k4_pay1 (F := Ideal) (ix2 i j) = 0 := by pointwise [k4_pay1]
theorem product5Zero (i j : Fin 512) : k5_pay1 (F := Ideal) (ix2 i j) = 0 := by pointwise [k5_pay1]

end Weights

end Cert.MixOutIdeal.MixerOut

end
-- ==== Proof.OutForward.lean ====
/- The kernel of the mixer's output: what it leaves in the arrays of the activated and gated recurrence, the two branches, the
   merged rows, the output and the rows with it added. -/
module

public import proofs.«01_k».proof.Proof.Gen.MixOutIdeal.Frame
public import proofs.«01_k».proof.Proof.OutRows

@[expose] public section

set_option maxRecDepth 16384

noncomputable section

namespace Cert.MixOutIdeal.MixerOut

open Cert.MixOutIdeal Cert.MixOutIdeal.Gen Idealize.ShloMosaic Idealize.ShloMosaic.TcCoe Idealize.SL.Sem Cert.RowGradients
open Cert.FeedForward Cert.MixerOut Cert.Blocks

variable (V : (c : Dev nD) → (b : Ref sig .tc) → Buf (Elt Ideal) ((c : Thread nD τ).loc b)) (c : Dev nD) (t : Fin cfg0.N)

/-! ## The arrays that the call reads -/

abbrev foUnit (n : Fin 8192) (l : Fin 1024) : EReal := (V c main_v0 : FVec Ideal S8192x1024 .bf16) (ix2 n l)
abbrev foState (n : Fin 8192) (l : Fin 512) : EReal := (V c main_arg1 : FVec Ideal S8192x512 .f32) (ix2 n l)
abbrev foGate (n : Fin 8192) (l : Fin 2048) : EReal := (V c main_arg2 : FVec Ideal S8192x2048 .f32) (ix2 n l)
abbrev foX (n : Fin 8192) (l : Fin 1024) : EReal := (V c main_arg3 : FVec Ideal S8192x1024 .f32) (ix2 n l)
abbrev foWGate (a : Fin 512) (b : Fin 512) : EReal := (V c main_v1 : FVec Ideal S512x512 .bf16) (ix2 a b)
abbrev foWUnit (a : Fin 1024) (b : Fin 1024) : EReal := (V c main_v2 : FVec Ideal S1024x1024 .bf16) (ix2 a b)
abbrev foWState (a : Fin 512) (b : Fin 1024) : EReal := (V c main_v3 : FVec Ideal S512x1024 .bf16) (ix2 a b)
abbrev foWOut (a : Fin 1024) (b : Fin 1024) : EReal := (V c main_v4 : FVec Ideal S1024x1024 .bf16) (ix2 a b)
abbrev foG (l : Fin 1024) : EReal := (V c main_arg8 : FVec Ideal S1x1024 .f32) (ix2 0 l)

abbrev foIn : Inputs := ⟨foUnit V c, foState V c, foGate V c, foX V c, foWGate V c, foWUnit V c, foWState V c, foWOut V c, foG V c⟩

theorem foLt (t : Fin cfg0.N) : t.val < 16 := lt_of_lt_of_eq t.isLt N_0

theorem foIdx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0] :=
  (by decide +kernel : ∀ t : Fin grid0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0])

/-- The array's row that row `r` of point `t`'s block is. -/
abbrev foRow (r : Fin 512) : Fin 8192 := rowAt t.val (foLt t) r

theorem foUnit_blk (r : Fin 512) : (fun l => (iblk0 V c 0 t : FVec Ideal S512x1024 .bf16) (ix2 r l)) = foUnit V c (foRow t r) := by
  funext l
  show (iblk0 V c 0 t : FVec Ideal S512x1024 .bf16) (ix2 r l) = (V c main_v0 : FVec Ideal S8192x1024 .bf16) (ix2 (foRow t r) l)
  blk_point [iblk0, foIdx t, rowAt]
theorem foState_blk (r : Fin 512) : (fun l => (iblk0 V c 1 t : FVec Ideal S512x512 .f32) (ix2 r l)) = foState V c (foRow t r) := by
  funext l
  show (iblk0 V c 1 t : FVec Ideal S512x512 .f32) (ix2 r l) = (V c main_arg1 : FVec Ideal S8192x512 .f32) (ix2 (foRow t r) l)
  blk_point [iblk0, foIdx t, rowAt]
theorem foGate_blk (r : Fin 512) : (fun l => (iblk0 V c 2 t : FVec Ideal S512x2048 .f32) (ix2 r l)) = foGate V c (foRow t r) := by
  funext l
  show (iblk0 V c 2 t : FVec Ideal S512x2048 .f32) (ix2 r l) = (V c main_arg2 : FVec Ideal S8192x2048 .f32) (ix2 (foRow t r) l)
  blk_point [iblk0, foIdx t, rowAt]
theorem foX_blk (r : Fin 512) : (fun l => (iblk0 V c 3 t : FVec Ideal S512x1024 .f32) (ix2 r l)) = foX V c (foRow t r) := by
  funext l
  show (iblk0 V c 3 t : FVec Ideal S512x1024 .f32) (ix2 r l) = (V c main_arg3 : FVec Ideal S8192x1024 .f32) (ix2 (foRow t r) l)
  blk_point [iblk0, foIdx t, rowAt]
theorem foWGate_blk : (fun a b => (iblk0 V c 4 t : FVec Ideal S512x512 .bf16) (ix2 a b)) = foWGate V c := by
  funext a b
  show (iblk0 V c 4 t : FVec Ideal S512x512 .bf16) (ix2 a b) = (V c main_v1 : FVec Ideal S512x512 .bf16) (ix2 a b)
  blk_point [iblk0, foIdx t]
theorem foWUnit_blk : (fun a b => (iblk0 V c 5 t : FVec Ideal S1024x1024 .bf16) (ix2 a b)) = foWUnit V c := by
  funext a b
  show (iblk0 V c 5 t : FVec Ideal S1024x1024 .bf16) (ix2 a b) = (V c main_v2 : FVec Ideal S1024x1024 .bf16) (ix2 a b)
  blk_point [iblk0, foIdx t]
theorem foWState_blk : (fun a b => (iblk0 V c 6 t : FVec Ideal S512x1024 .bf16) (ix2 a b)) = foWState V c := by
  funext a b
  show (iblk0 V c 6 t : FVec Ideal S512x1024 .bf16) (ix2 a b) = (V c main_v3 : FVec Ideal S512x1024 .bf16) (ix2 a b)
  blk_point [iblk0, foIdx t]
theorem foWOut_blk : (fun a b => (iblk0 V c 7 t : FVec Ideal S1024x1024 .bf16) (ix2 a b)) = foWOut V c := by
  funext a b
  show (iblk0 V c 7 t : FVec Ideal S1024x1024 .bf16) (ix2 a b) = (V c main_v4 : FVec Ideal S1024x1024 .bf16) (ix2 a b)
  blk_point [iblk0, foIdx t]
theorem foG_blk : (fun l => (iblk0 V c 8 t : FVec Ideal S1x1024 .f32) (ix2 0 l)) = foG V c := by
  funext l
  show (iblk0 V c 8 t : FVec Ideal S1x1024 .f32) (ix2 0 l) = (V c main_arg8 : FVec Ideal S1x1024 .f32) (ix2 0 l)
  blk_point [iblk0, foIdx t]

/-! ## What a point leaves -/

/-- The blocks of the gated recurrence, of the gating unit's branch, of the merged rows and of the output. -/
abbrev recurBlk : FVec Ideal S512x512 .bf16 := k0_pay4 (F := Ideal) (iblk0 V c 1 t) (iblk0 V c 4 t)
abbrev unitBlk : FVec Ideal S512x1024 .f32 := k0_pay5 (F := Ideal) (iblk0 V c 0 t) (iblk0 V c 5 t)
abbrev stateBlk : FVec Ideal S512x1024 .f32 := k0_pay6 (F := Ideal) (recurBlk V c t) (iblk0 V c 6 t)
abbrev mergedBlk : FVec Ideal S512x1024 .bf16 :=
  k0_pay9 (F := Ideal) (recurBlk V c t) (unitBlk V c t) (iblk0 V c 6 t) (iblk0 V c 2 t)
abbrev outBlk : FVec Ideal S512x1024 .f32 :=
  k0_pay10 (F := Ideal) (recurBlk V c t) (unitBlk V c t) (iblk0 V c 6 t) (iblk0 V c 2 t) (iblk0 V c 7 t)

theorem gelu_blk (r e : Fin 512) : k0_pay2 (F := Ideal) (iblk0 V c 1 t) (ix2 r e) = geluA (foIn V c) (foRow t r) e :=
  (gelu_apply (iblk0 V c 1 t) r e).trans (congrArg gelu (congrFun (foState_blk V c t r) e))

theorem recur_blk (r e : Fin 512) : recurBlk V c t (ix2 r e) = recurA (foIn V c) (foRow t r) e := by
  refine (recur_apply (iblk0 V c 1 t) (iblk0 V c 4 t) r e).trans ?_
  rw [foState_blk, foWGate_blk]
  rfl

theorem unit_blk (r : Fin 512) (j : Fin 1024) : unitBlk V c t (ix2 r j) = unitA (foIn V c) (foRow t r) j := by
  refine (unit_apply (iblk0 V c 0 t) (iblk0 V c 5 t) r j).trans ?_
  rw [foUnit_blk, foWUnit_blk]
  rfl

theorem state_blk (r : Fin 512) (j : Fin 1024) : stateBlk V c t (ix2 r j) = stateA (foIn V c) (foRow t r) j := by
  refine (state_apply (recurBlk V c t) (iblk0 V c 6 t) r j).trans ?_
  rw [funext fun l => recur_blk V c t r l, foWState_blk]
  rfl

theorem merged_blk (r : Fin 512) (j : Fin 1024) : mergedBlk V c t (ix2 r j) = mergedA (foIn V c) (foRow t r) j := by
  refine (merge_apply (recurBlk V c t) (iblk0 V c 6 t) (unitBlk V c t) (iblk0 V c 2 t) r j).trans ?_
  rw [foGate_blk, funext fun l => unit_blk V c t r l, funext fun l => recur_blk V c t r l, foWState_blk]
  rfl

theorem out_blk (r : Fin 512) (j : Fin 1024) : outBlk V c t (ix2 r j) = outA (foIn V c) (foRow t r) j := by
  refine (out_apply (recurBlk V c t) (iblk0 V c 6 t) (unitBlk V c t) (iblk0 V c 2 t) (iblk0 V c 7 t) r j).trans ?_
  rw [funext fun l => merged_blk V c t r l, foWOut_blk]
  rfl

theorem res_blk (r : Fin 512) (j : Fin 1024) :
    k0_pay1 (F := Ideal) (outBlk V c t) (iblk0 V c 3 t) (iblk0 V c 8 t) (ix2 r j) = resA (foIn V c) (foRow t r) j := by
  refine (res_apply (outBlk V c t) (iblk0 V c 3 t) (iblk0 V c 8 t) r j).trans ?_
  rw [funext fun l => out_blk V c t r l, foG_blk]
  exact congrArg (· + gained (outA (foIn V c) (foRow t r)) (foG V c) j) (congrFun (foX_blk V c t r) j)

theorem left0_9 (r : Fin 512) (j : Fin 512) : out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = geluA (foIn V c) (foRow t r) j := by
  refine Eq.trans ?_ (gelu_blk V c t r j)
  unfold out0_9
  frame_out
  rfl

theorem left0_10 (r : Fin 512) (j : Fin 512) : out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = recurA (foIn V c) (foRow t r) j := by
  refine Eq.trans ?_ (recur_blk V c t r j)
  unfold out0_10
  frame_out

theorem left0_11 (r : Fin 512) (j : Fin 1024) : out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = unitA (foIn V c) (foRow t r) j := by
  refine Eq.trans ?_ (unit_blk V c t r j)
  unfold out0_11 k0_pay12
  frame_out
  rfl

theorem left0_12 (r : Fin 512) (j : Fin 1024) : out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = stateA (foIn V c) (foRow t r) j := by
  refine Eq.trans ?_ (state_blk V c t r j)
  unfold out0_12 k0_pay11
  frame_out
  rfl

theorem left0_13 (r : Fin 512) (j : Fin 1024) : out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = mergedA (foIn V c) (foRow t r) j := by
  refine Eq.trans ?_ (merged_blk V c t r j)
  unfold out0_13 k0_pay12 k0_pay11
  frame_out

theorem left0_14 (r : Fin 512) (j : Fin 1024) : out0_14 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = outA (foIn V c) (foRow t r) j := by
  refine Eq.trans ?_ (out_blk V c t r j)
  unfold out0_14 k0_pay12 k0_pay11
  frame_out

theorem left0_15 (r : Fin 512) (j : Fin 1024) : out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = resA (foIn V c) (foRow t r) j := by
  refine Eq.trans ?_ (res_blk V c t r j)
  unfold out0_15 k0_pay12 k0_pay11
  frame_out

/-! ## The arrays after the whole grid -/

theorem fo9 : (dat0 V c).arrAt 9 cfg0.N = (fun y => geluA (foIn V c) (y 0) (y 1) : FVec Ideal S8192x512 .bf16) := by
  refine (dat0 V c).arrAt_eq_of_covers 9 _ (by decide +kernel) fun t hf y => ?_
  blk_simp
  rw [after0_9]
  obtain ⟨r, j, rfl⟩ : ∃ (r : Fin 512) (j : Fin 512), y = ix2 r j := ⟨y 0, y 1, eq_ix2 y⟩
  refine (left0_9 V c t r j).trans ?_
  refine congrArg₂ (geluA (foIn V c)) (Fin.ext ?_) (Fin.ext ?_)
  · blk_simp [foIdx t, rowAt]
  · blk_simp [foIdx t]

theorem fo10 : (dat0 V c).arrAt 10 cfg0.N = (fun y => recurA (foIn V c) (y 0) (y 1) : FVec Ideal S8192x512 .bf16) := by
  refine (dat0 V c).arrAt_eq_of_covers 10 _ (by decide +kernel) fun t hf y => ?_
  blk_simp
  rw [after0_10]
  obtain ⟨r, j, rfl⟩ : ∃ (r : Fin 512) (j : Fin 512), y = ix2 r j := ⟨y 0, y 1, eq_ix2 y⟩
  refine (left0_10 V c t r j).trans ?_
  refine congrArg₂ (recurA (foIn V c)) (Fin.ext ?_) (Fin.ext ?_)
  · blk_simp [foIdx t, rowAt]
  · blk_simp [foIdx t]

theorem fo11 : (dat0 V c).arrAt 11 cfg0.N = (fun y => unitA (foIn V c) (y 0) (y 1) : FVec Ideal S8192x1024 .bf16) := by
  refine (dat0 V c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  refine (left0_11 V c t r j).trans ?_
  refine congrArg₂ (unitA (foIn V c)) (Fin.ext ?_) (Fin.ext ?_)
  · blk_simp [foIdx t, rowAt]
  · blk_simp [foIdx t]

theorem fo12 : (dat0 V c).arrAt 12 cfg0.N = (fun y => stateA (foIn V c) (y 0) (y 1) : FVec Ideal S8192x1024 .bf16) := by
  refine (dat0 V c).arrAt_eq_of_covers 12 _ (by decide +kernel) fun t hf y => ?_
  blk_simp
  rw [after0_12]
  obtain ⟨r, j, rfl⟩ : ∃ (r : Fin 512) (j : Fin 1024), y = ix2 r j := ⟨y 0, y 1, eq_ix2 y⟩
  refine (left0_12 V c t r j).trans ?_
  refine congrArg₂ (stateA (foIn V c)) (Fin.ext ?_) (Fin.ext ?_)
  · blk_simp [foIdx t, rowAt]
  · blk_simp [foIdx t]

theorem fo13 : (dat0 V c).arrAt 13 cfg0.N = (fun y => mergedA (foIn V c) (y 0) (y 1) : FVec Ideal S8192x1024 .bf16) := by
  refine (dat0 V c).arrAt_eq_of_covers 13 _ (by decide +kernel) fun t hf y => ?_
  blk_simp
  rw [after0_13]
  obtain ⟨r, j, rfl⟩ : ∃ (r : Fin 512) (j : Fin 1024), y = ix2 r j := ⟨y 0, y 1, eq_ix2 y⟩
  refine (left0_13 V c t r j).trans ?_
  refine congrArg₂ (mergedA (foIn V c)) (Fin.ext ?_) (Fin.ext ?_)
  · blk_simp [foIdx t, rowAt]
  · blk_simp [foIdx t]

theorem fo14 : (dat0 V c).arrAt 14 cfg0.N = (fun y => outA (foIn V c) (y 0) (y 1) : FVec Ideal S8192x1024 .f32) := by
  refine (dat0 V c).arrAt_eq_of_covers 14 _ (by decide +kernel) fun t hf y => ?_
  blk_simp
  rw [after0_14]
  obtain ⟨r, j, rfl⟩ : ∃ (r : Fin 512) (j : Fin 1024), y = ix2 r j := ⟨y 0, y 1, eq_ix2 y⟩
  refine (left0_14 V c t r j).trans ?_
  refine congrArg₂ (outA (foIn V c)) (Fin.ext ?_) (Fin.ext ?_)
  · blk_simp [foIdx t, rowAt]
  · blk_simp [foIdx t]

theorem fo15 : (dat0 V c).arrAt 15 cfg0.N = (fun y => resA (foIn V c) (y 0) (y 1) : FVec Ideal S8192x1024 .f32) := by
  refine (dat0 V c).arrAt_eq_of_covers 15 _ (by decide +kernel) fun t hf y => ?_
  blk_simp
  rw [after0_15]
  obtain ⟨r, j, rfl⟩ : ∃ (r : Fin 512) (j : Fin 1024), y = ix2 r j := ⟨y 0, y 1, eq_ix2 y⟩
  refine (left0_15 V c t r j).trans ?_
  refine congrArg₂ (resA (foIn V c)) (Fin.ext ?_) (Fin.ext ?_)
  · blk_simp [foIdx t, rowAt]
  · blk_simp [foIdx t]

end Cert.MixOutIdeal.MixerOut

end
-- ==== Proof.Sides.lean ====
/- A row of features made of two sides of equal width, and what two stores, one per side, leave in a block. -/
module

public import Idealize.ShloMosaic.Lib.Pointwise
public import Idealize.ShloMosaic.Lib.Pipeline.ReadBack
public import Idealize.ShloMosaic.Lib.Pipeline.ValueKit

@[expose] public section

noncomputable section

namespace Cert.Sides

open Idealize.ShloMosaic

variable {a k w : ℕ} {Val : EltTy → Type} {el : EltTy}

theorem emb_cols (o : ℕ) (inb) (r : Fin a) (e : Fin k) (j : Fin w) (hj : j.val = o + e.val) :
    (Rect.unit (s := ⟨2, ![a, w]⟩) ![0, o] ![a, k] inb).emb (ix2 r e) = ix2 r j := by
  funext b
  match b with
  | 0 => exact Fin.ext ((Rect.emb_apply _ _ 0).trans ((congrArg (0 + ·) (Nat.one_mul r.val)).trans (Nat.zero_add _)))
  | 1 => exact Fin.ext (((Rect.emb_apply _ _ 1).trans (congrArg (o + ·) (Nat.one_mul e.val))).trans hj.symm)

/-- Two stores, one per side of the columns: what they leave. -/
theorem canon_sides [∀ e, Nonempty (Val e)] (hw : w = k + k) (G : Fin a → Fin w → Val el) (i0 i1)
    (p0 p1 : (⟨2, ![a, k]⟩ : Shape).Idx → Val el)
    (h0 : ∀ (r : Fin a) (e : Fin k), p0 (ix2 r e) = G r ⟨e.val, by omega⟩)
    (h1 : ∀ (r : Fin a) (e : Fin k), p1 (ix2 r e) = G r ⟨k + e.val, by omega⟩) (r : Fin a) (j : Fin w) :
    View.canon [(⟨Rect.unit (s := ⟨2, ![a, w]⟩) ![0, k] ![a, k] i1, p1⟩ : View.Piece Val ⟨2, ![a, w]⟩ el),
      ⟨Rect.unit (s := ⟨2, ![a, w]⟩) ![0, 0] ![a, k] i0, p0⟩] (ix2 r j) = G r j := by
  let G' : (⟨2, ![a, w]⟩ : Shape).Idx → Val el := fun y => G (y 0) (y 1)
  have e0 : ∀ (r : Fin a) (e : Fin k), (Rect.unit (s := ⟨2, ![a, w]⟩) ![0, 0] ![a, k] i0).emb (ix2 r e) = ix2 r ⟨e.val, by omega⟩ :=
    fun r e => emb_cols 0 i0 r e _ (Nat.zero_add _).symm
  have e1 : ∀ (r : Fin a) (e : Fin k), (Rect.unit (s := ⟨2, ![a, w]⟩) ![0, k] ![a, k] i1).emb (ix2 r e) = ix2 r ⟨k + e.val, by omega⟩ :=
    fun r e => emb_cols k i1 r e _ rfl
  have k0 : ∀ x : (⟨2, ![a, k]⟩ : Shape).Idx, p0 x = G' ((Rect.unit (s := ⟨2, ![a, w]⟩) ![0, 0] ![a, k] i0).emb x) := by
    intro x
    obtain ⟨r, e, rfl⟩ : ∃ (r : Fin a) (e : Fin k), x = ix2 r e := ⟨x 0, x 1, eq_ix2 x⟩
    exact (h0 r e).trans (congrArg G' (e0 r e)).symm
  have k1 : ∀ x : (⟨2, ![a, k]⟩ : Shape).Idx, p1 x = G' ((Rect.unit (s := ⟨2, ![a, w]⟩) ![0, k] ![a, k] i1).emb x) := by
    intro x
    obtain ⟨r, e, rfl⟩ : ∃ (r : Fin a) (e : Fin k), x = ix2 r e := ⟨x 0, x 1, eq_ix2 x⟩
    exact (h1 r e).trans (congrArg G' (e1 r e)).symm
  refine View.canon_append_of_piecesOf G' []
    [(⟨Rect.unit (s := ⟨2, ![a, w]⟩) ![0, k] ![a, k] i1, p1⟩ : View.Piece Val ⟨2, ![a, w]⟩ el),
      ⟨Rect.unit (s := ⟨2, ![a, w]⟩) ![0, 0] ![a, k] i0, p0⟩] ⟨k1, k0, trivial⟩ (ix2 r j) ?_
  by_cases h : j.val < k
  · exact ⟨_, .tail _ (.head _), emb_cols 0 i0 r ⟨j.val, h⟩ j (Nat.zero_add _).symm
      ▸ (Rect.unit (s := ⟨2, ![a, w]⟩) ![0, 0] ![a, k] i0).idx_mem (ix2 r ⟨j.val, h⟩)⟩
  · have hk : j.val - k < k := by omega
    exact ⟨_, .head _, emb_cols k i1 r ⟨j.val - k, hk⟩ j (show j.val = k + (j.val - k) by omega)
      ▸ (Rect.unit (s := ⟨2, ![a, w]⟩) ![0, k] ![a, k] i1).idx_mem (ix2 r ⟨j.val - k, hk⟩)⟩

end Cert.Sides

end
-- ==== Proof.OutBack.lean ====
/- The kernel of the gradient through the mixer's output: what it leaves in the arrays of the output's, the branches', the gate's
   and the recurrence gate's gradients, and in the gradient of the gain. -/
module

public import proofs.«01_k».proof.Proof.Gen.MixOutIdeal.Frame
public import proofs.«01_k».proof.Proof.OutRows
public import proofs.«01_k».proof.Proof.Sides

@[expose] public section

set_option maxRecDepth 16384

noncomputable section

namespace Cert.MixOutIdeal.MixerOut

open Cert.MixOutIdeal Cert.MixOutIdeal.Gen Idealize.ShloMosaic Idealize.ShloMosaic.TcCoe Idealize.SL.Sem Cert.RowGradients
open Cert.FeedForward Cert.MixerOut Cert.Blocks

variable (V : (c : Dev nD) → (b : Ref sig .tc) → Buf (Elt Ideal) ((c : Thread nD τ).loc b)) (c : Dev nD) (t : Fin cfg1.N)

/-! ## The arrays that the call reads -/

abbrev boD (n : Fin 8192) (l : Fin 1024) : EReal := (V c main_arg9 : FVec Ideal S8192x1024 .f32) (ix2 n l)
abbrev boMo (n : Fin 8192) (l : Fin 1024) : EReal := (V c main_v5_5 : FVec Ideal S8192x1024 .f32) (ix2 n l)
abbrev boA (n : Fin 8192) (l : Fin 1024) : EReal := (V c main_v5_2 : FVec Ideal S8192x1024 .bf16) (ix2 n l)
abbrev boB (n : Fin 8192) (l : Fin 1024) : EReal := (V c main_v5_3 : FVec Ideal S8192x1024 .bf16) (ix2 n l)
abbrev boZ (n : Fin 8192) (l : Fin 2048) : EReal := (V c main_arg2 : FVec Ideal S8192x2048 .f32) (ix2 n l)
abbrev boY (n : Fin 8192) (l : Fin 512) : EReal := (V c main_arg1 : FVec Ideal S8192x512 .f32) (ix2 n l)
abbrev boG (l : Fin 1024) : EReal := (V c main_arg8 : FVec Ideal S1x1024 .f32) (ix2 0 l)
abbrev boWOut (a : Fin 1024) (b : Fin 1024) : EReal := (V c main_v4 : FVec Ideal S1024x1024 .bf16) (ix2 a b)
abbrev boWUnit (a : Fin 1024) (b : Fin 1024) : EReal := (V c main_v2 : FVec Ideal S1024x1024 .bf16) (ix2 a b)
abbrev boWState (a : Fin 512) (b : Fin 1024) : EReal := (V c main_v3 : FVec Ideal S512x1024 .bf16) (ix2 a b)
abbrev boWGate (a : Fin 512) (b : Fin 512) : EReal := (V c main_v1 : FVec Ideal S512x512 .bf16) (ix2 a b)

theorem boLt (t : Fin cfg1.N) : t.val < 16 := lt_of_lt_of_eq t.isLt N_1

theorem boIdx : ∀ t : Fin cfg1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![t.val, 0]
    ∧ win1_6.index t = ![0, 0]
    ∧ win1_7.index t = ![0, 0]
    ∧ win1_8.index t = ![0, 0]
    ∧ win1_9.index t = ![0, 0]
    ∧ win1_10.index t = ![0, 0]
    ∧ win1_11.index t = ![t.val, 0]
    ∧ win1_12.index t = ![t.val, 0]
    ∧ win1_13.index t = ![t.val, 0]
    ∧ win1_14.index t = ![t.val, 0]
    ∧ win1_15.index t = ![t.val, 0]
    ∧ win1_16.index t = ![t.val, 0]
    ∧ win1_17.index t = ![t.val, 0]
    ∧ win1_18.index t = ![0, 0] :=
  (by decide +kernel : ∀ t : Fin grid1.N, win1_0.index t = ![t.val, 0]
    ∧ win1_1.index t = ![t.val, 0]
    ∧ win1_2.index t = ![t.val, 0]
    ∧ win1_3.index t = ![t.val, 0]
    ∧ win1_4.index t = ![t.val, 0]
    ∧ win1_5.index t = ![t.val, 0]
    ∧ win1_6.index t = ![0, 0]
    ∧ win1_7.index t = ![0, 0]
    ∧ win1_8.index t = ![0, 0]
    ∧ win1_9.index t = ![0, 0]
    ∧ win1_10.index t = ![0, 0]
    ∧ win1_11.index t = ![t.val, 0]
    ∧ win1_12.index t = ![t.val, 0]
    ∧ win1_13.index t = ![t.val, 0]
    ∧ win1_14.index t = ![t.val, 0]
    ∧ win1_15.index t = ![t.val, 0]
    ∧ win1_16.index t = ![t.val, 0]
    ∧ win1_17.index t = ![t.val, 0]
    ∧ win1_18.index t = ![0, 0])

/-- The array's row that row `r` of point `t`'s block is. -/
abbrev boRow (r : Fin 512) : Fin 8192 := rowAt t.val (boLt t) r

theorem boD_blk (r : Fin 512) : (fun l => (iblk1 V c 0 t : FVec Ideal S512x1024 .f32) (ix2 r l)) = boD V c (boRow t r) := by
  funext l
  show (iblk1 V c 0 t : FVec Ideal S512x1024 .f32) (ix2 r l) = (V c main_arg9 : FVec Ideal S8192x1024 .f32) (ix2 (boRow t r) l)
  blk_point [iblk1, boIdx t, rowAt]
theorem boMo_blk (r : Fin 512) : (fun l => (iblk1 V c 1 t : FVec Ideal S512x1024 .f32) (ix2 r l)) = boMo V c (boRow t r) := by
  funext l
  show (iblk1 V c 1 t : FVec Ideal S512x1024 .f32) (ix2 r l) = (V c main_v5_5 : FVec Ideal S8192x1024 .f32) (ix2 (boRow t r) l)
  blk_point [iblk1, boIdx t, rowAt]
theorem boA_blk (r : Fin 512) : (fun l => (iblk1 V c 2 t : FVec Ideal S512x1024 .bf16) (ix2 r l)) = boA V c (boRow t r) := by
  funext l
  show (iblk1 V c 2 t : FVec Ideal S512x1024 .bf16) (ix2 r l) = (V c main_v5_2 : FVec Ideal S8192x1024 .bf16) (ix2 (boRow t r) l)
  blk_point [iblk1, boIdx t, rowAt]
theorem boB_blk (r : Fin 512) : (fun l => (iblk1 V c 3 t : FVec Ideal S512x1024 .bf16) (ix2 r l)) = boB V c (boRow t r) := by
  funext l
  show (iblk1 V c 3 t : FVec Ideal S512x1024 .bf16) (ix2 r l) = (V c main_v5_3 : FVec Ideal S8192x1024 .bf16) (ix2 (boRow t r) l)
  blk_point [iblk1, boIdx t, rowAt]
theorem boZ_blk (r : Fin 512) : (fun l => (iblk1 V c 4 t : FVec Ideal S512x2048 .f32) (ix2 r l)) = boZ V c (boRow t r) := by
  funext l
  show (iblk1 V c 4 t : FVec Ideal S512x2048 .f32) (ix2 r l) = (V c main_arg2 : FVec Ideal S8192x2048 .f32) (ix2 (boRow t r) l)
  blk_point [iblk1, boIdx t, rowAt]
theorem boY_blk (r : Fin 512) : (fun l => (iblk1 V c 5 t : FVec Ideal S512x512 .f32) (ix2 r l)) = boY V c (boRow t r) := by
  funext l
  show (iblk1 V c 5 t : FVec Ideal S512x512 .f32) (ix2 r l) = (V c main_arg1 : FVec Ideal S8192x512 .f32) (ix2 (boRow t r) l)
  blk_point [iblk1, boIdx t, rowAt]
theorem boG_blk : (fun l => (iblk1 V c 6 t : FVec Ideal S1x1024 .f32) (ix2 0 l)) = boG V c := by
  funext l
  show (iblk1 V c 6 t : FVec Ideal S1x1024 .f32) (ix2 0 l) = (V c main_arg8 : FVec Ideal S1x1024 .f32) (ix2 0 l)
  blk_point [iblk1, boIdx t]
theorem boWOut_blk : (fun a b => (iblk1 V c 7 t : FVec Ideal S1024x1024 .bf16) (ix2 a b)) = boWOut V c := by
  funext a b
  show (iblk1 V c 7 t : FVec Ideal S1024x1024 .bf16) (ix2 a b) = (V c main_v4 : FVec Ideal S1024x1024 .bf16) (ix2 a b)
  blk_point [iblk1, boIdx t]
theorem boWUnit_blk : (fun a b => (iblk1 V c 8 t : FVec Ideal S1024x1024 .bf16) (ix2 a b)) = boWUnit V c := by
  funext a b
  show (iblk1 V c 8 t : FVec Ideal S1024x1024 .bf16) (ix2 a b) = (V c main_v2 : FVec Ideal S1024x1024 .bf16) (ix2 a b)
  blk_point [iblk1, boIdx t]
theorem boWState_blk : (fun a b => (iblk1 V c 9 t : FVec Ideal S512x1024 .bf16) (ix2 a b)) = boWState V c := by
  funext a b
  show (iblk1 V c 9 t : FVec Ideal S512x1024 .bf16) (ix2 a b) = (V c main_v3 : FVec Ideal S512x1024 .bf16) (ix2 a b)
  blk_point [iblk1, boIdx t]
theorem boWGate_blk : (fun a b => (iblk1 V c 10 t : FVec Ideal S512x512 .bf16) (ix2 a b)) = boWGate V c := by
  funext a b
  show (iblk1 V c 10 t : FVec Ideal S512x512 .bf16) (ix2 a b) = (V c main_v1 : FVec Ideal S512x512 .bf16) (ix2 a b)
  blk_point [iblk1, boIdx t]

/-! ## What a point leaves -/

abbrev boDmo (n : Fin 8192) : Fin 1024 → EReal := normGrad (boMo V c n) (boG V c) (boD V c n)
abbrev boDm (n : Fin 8192) : Fin 1024 → EReal := timesTr (boDmo V c n) (boWOut V c)
abbrev boDa (n : Fin 8192) (j : Fin 1024) : EReal := boDm V c n j * sigm (boZ V c n (leftCol j))
abbrev boDb (n : Fin 8192) (j : Fin 1024) : EReal := boDm V c n j * sigm (boZ V c n (rightCol j))
abbrev boDz (n : Fin 8192) : Fin 2048 → EReal := mergeGrad (boDm V c n) (boZ V c n) (boA V c n) (boB V c n)
abbrev boDu (n : Fin 8192) : Fin 1024 → EReal := timesTr (boDa V c n) (boWUnit V c)
abbrev boDs (n : Fin 8192) : Fin 512 → EReal := timesTr (boDb V c n) (boWState V c)
abbrev boDgate (n : Fin 8192) : Fin 512 → EReal := recurGateGrad (boDs V c n) (boY V c n) (boWGate V c)
/-- What a point adds to the gradient of the gain. -/
abbrev boTerm (t : Fin cfg1.N) (j : Fin 1024) : EReal := ∑ r : Fin 512, boD V c (boRow t r) j * normed (boMo V c (boRow t r)) j

/-- The blocks of the gradients of the output, of the two branches and of the gated recurrence. -/
abbrev dmoBlk : FVec Ideal S512x1024 .bf16 := k1_pay7 (F := Ideal) (iblk1 V c 1 t) (iblk1 V c 6 t) (iblk1 V c 0 t)
abbrev daBlk : FVec Ideal S512x1024 .bf16 := k1_pay12 (F := Ideal) (dmoBlk V c t) (iblk1 V c 7 t) (iblk1 V c 4 t)
abbrev dbBlk : FVec Ideal S512x1024 .bf16 := k1_pay13 (F := Ideal) (dmoBlk V c t) (iblk1 V c 7 t) (iblk1 V c 4 t)
abbrev dsBlk : FVec Ideal S512x512 .f32 := k1_pay17 (F := Ideal) (dbBlk V c t) (iblk1 V c 9 t)

theorem dmo_blk (r : Fin 512) (j : Fin 1024) : dmoBlk V c t (ix2 r j) = boDmo V c (boRow t r) j := by
  refine (outGrad_apply (iblk1 V c 1 t) (iblk1 V c 0 t) (iblk1 V c 6 t) r j).trans ?_
  rw [boMo_blk, boG_blk, boD_blk]

theorem dm_blk (r : Fin 512) : timesTr (fun l => dmoBlk V c t (ix2 r l))
    (fun j l => (iblk1 V c 7 t : FVec Ideal S1024x1024 .bf16) (ix2 j l)) = boDm V c (boRow t r) := by
  rw [funext fun l => dmo_blk V c t r l, boWOut_blk]

theorem da_blk (r : Fin 512) (j : Fin 1024) : daBlk V c t (ix2 r j) = boDa V c (boRow t r) j := by
  refine (unitGrad_apply (dmoBlk V c t) (iblk1 V c 7 t) (iblk1 V c 4 t) r j).trans ?_
  rw [dm_blk]
  exact congrArg (fun z => boDm V c (boRow t r) j * sigm z) (congrFun (boZ_blk V c t r) (leftCol j))

theorem db_blk (r : Fin 512) (j : Fin 1024) : dbBlk V c t (ix2 r j) = boDb V c (boRow t r) j := by
  refine (stateGrad_apply (dmoBlk V c t) (iblk1 V c 7 t) (iblk1 V c 4 t) r j).trans ?_
  rw [dm_blk]
  exact congrArg (fun z => boDm V c (boRow t r) j * sigm z) (congrFun (boZ_blk V c t r) (rightCol j))

theorem du_blk (r : Fin 512) (j : Fin 1024) :
    k1_pay16 (F := Ideal) (daBlk V c t) (iblk1 V c 8 t) (ix2 r j) = boDu V c (boRow t r) j := by
  refine (unitInGrad_apply (daBlk V c t) (iblk1 V c 8 t) r j).trans ?_
  rw [funext fun l => da_blk V c t r l, boWUnit_blk]

theorem ds_blk (r e : Fin 512) : dsBlk V c t (ix2 r e) = boDs V c (boRow t r) e := by
  refine (recurGrad_apply (dbBlk V c t) (iblk1 V c 9 t) r e).trans ?_
  rw [funext fun l => db_blk V c t r l, boWState_blk]

theorem dgate_blk (r e : Fin 512) :
    k1_pay21 (F := Ideal) (dsBlk V c t) (k1_pay18 (iblk1 V c 5 t)) (k1_pay19 (iblk1 V c 5 t) (iblk1 V c 10 t)) (ix2 r e)
      = boDgate V c (boRow t r) e := by
  refine (recurGateGrad_apply (iblk1 V c 5 t) (iblk1 V c 10 t) (dsBlk V c t) r e).trans ?_
  rw [funext fun l => ds_blk V c t r l, boY_blk, boWGate_blk]

/-- The two stores of the gate's gradient. -/
abbrev dzStores : List (View.Piece (Elt Ideal) S512x2048 .bf16) :=
  [⟨Rect.unit (s := S512x2048) ![0, 1024] S512x1024.size inb_S512x2048_S512x1024_0_1024,
      k1_pay15 (F := Ideal) (k1_pay8 (dmoBlk V c t) (iblk1 V c 7 t)) (k1_pay11 (iblk1 V c 4 t)) (iblk1 V c 3 t)⟩,
    ⟨Rect.unit (s := S512x2048) ![0, 0] S512x1024.size inb_S512x2048_S512x1024_0_0,
      k1_pay14 (F := Ideal) (dmoBlk V c t) (iblk1 V c 7 t) (iblk1 V c 4 t) (iblk1 V c 2 t)⟩]

theorem dz_blk (r : Fin 512) (j : Fin 2048) : View.canon (dzStores V c t) (ix2 r j) = boDz V c (boRow t r) j := by
  refine Sides.canon_sides (Val := Elt Ideal) (el := .bf16) (k := 1024) (w := 2048) rfl (fun r => boDz V c (boRow t r)) _ _ _ _ ?_ ?_ r j
  · intro r e
    refine (leftGrad_apply (dmoBlk V c t) (iblk1 V c 2 t) (iblk1 V c 7 t) (iblk1 V c 4 t) r e).trans ?_
    rw [dm_blk]
    refine (congrArg₂ (sideGrad (boDm V c (boRow t r) e)) (congrFun (boZ_blk V c t r) (leftCol e)) (congrFun (boA_blk V c t r) e)).trans ?_
    exact (sides_left (fun j => sideGrad (boDm V c (boRow t r) j) (boZ V c (boRow t r) (leftCol j)) (boA V c (boRow t r) j))
      (fun j => sideGrad (boDm V c (boRow t r) j) (boZ V c (boRow t r) (rightCol j)) (boB V c (boRow t r) j)) e).symm
  · intro r e
    refine (rightGrad_apply (dmoBlk V c t) (iblk1 V c 3 t) (iblk1 V c 7 t) (iblk1 V c 4 t) r e).trans ?_
    rw [dm_blk]
    refine (congrArg₂ (sideGrad (boDm V c (boRow t r) e)) (congrFun (boZ_blk V c t r) (rightCol e)) (congrFun (boB_blk V c t r) e)).trans ?_
    exact (sides_right (fun j => sideGrad (boDm V c (boRow t r) j) (boZ V c (boRow t r) (leftCol j)) (boA V c (boRow t r) j))
      (fun j => sideGrad (boDm V c (boRow t r) j) (boZ V c (boRow t r) (rightCol j)) (boB V c (boRow t r) j)) e).symm

theorem left1_11 (r : Fin 512) (j : Fin 1024) : (outsAt1 V c t.val t.isLt).1 (ix2 r j) = boDmo V c (boRow t r) j := by
  refine Eq.trans ?_ (dmo_blk V c t r j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem left1_12 (r : Fin 512) (j : Fin 1024) : (outsAt1 V c t.val t.isLt).2.1 (ix2 r j) = boDa V c (boRow t r) j := by
  refine Eq.trans ?_ (da_blk V c t r j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem left1_13 (r : Fin 512) (j : Fin 1024) : (outsAt1 V c t.val t.isLt).2.2.1 (ix2 r j) = boDb V c (boRow t r) j := by
  refine Eq.trans ?_ (db_blk V c t r j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem left1_14 (r : Fin 512) (j : Fin 2048) : (outsAt1 V c t.val t.isLt).2.2.2.1 (ix2 r j) = boDz V c (boRow t r) j := by
  refine Eq.trans ?_ (dz_blk V c t r j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem left1_15 (r : Fin 512) (j : Fin 1024) : (outsAt1 V c t.val t.isLt).2.2.2.2.1 (ix2 r j) = boDu V c (boRow t r) j := by
  refine Eq.trans ?_ (du_blk V c t r j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem left1_16 (r : Fin 512) (j : Fin 512) : (outsAt1 V c t.val t.isLt).2.2.2.2.2.1 (ix2 r j) = boDgate V c (boRow t r) j := by
  refine Eq.trans ?_ (dgate_blk V c t r j)
  by_cases h : t.val % 16 = 0
  · rw [outsAt1_A V c t h]
    dsimp only
    frame_open
    simp (disch := decide) only [↓ View.readCov_skip, ↓ View.readCov_cons_toLoadRect, ↓ View.readCov_fill]
    frame_out
  · rw [outsAt1_B V c t h]
    dsimp only
    frame_open
    simp (disch := decide) only [↓ View.readCov_skip, ↓ View.readCov_cons_toLoadRect, ↓ View.readCov_fill]
    frame_out

theorem boTerm_blk (y : FVec Ideal S1x1024 .f32) (j : Fin 1024) :
    k1_pay6 (F := Ideal) (iblk1 V c 1 t) (iblk1 V c 0 t) y (ix2 0 j) = y (ix2 0 j) + boTerm V c t j := by
  refine (gainTerm_apply (iblk1 V c 1 t) (iblk1 V c 0 t) y j).trans ?_
  refine congrArg (y (ix2 0 j) + ·) (Finset.sum_congr rfl fun r _ => ?_)
  rw [boMo_blk]
  exact congrArg (· * normed (boMo V c (boRow t r)) j) (congrFun (boD_blk V c t r) j)

theorem first1_18 (h : t.val % 16 = 0) (j : Fin 1024) : (outsAt1 V c t.val t.isLt).2.2.2.2.2.2.2 (ix2 0 j) = 0 + boTerm V c t j := by
  refine Eq.trans ?_ ((boTerm_blk V c t (k1_pay2 (F := Ideal)) j).trans (congrArg (· + _) (gainZero j)))
  rw [outsAt1_A V c t h]
  dsimp only
  frame_open
  simp (disch := decide) only [↓ View.readCov_skip, ↓ View.readCov_cons_toLoadRect, ↓ View.readCov_fill]
  frame_out

theorem next1_18 (h : ¬t.val % 16 = 0) (j : Fin 1024) :
    (outsAt1 V c t.val t.isLt).2.2.2.2.2.2.2 (ix2 0 j)
      = (outsAt1 V c (t.val - 1) (Nat.lt_of_le_of_lt (Nat.sub_le _ _) t.isLt)).2.2.2.2.2.2.2 (ix2 0 j) + boTerm V c t j := by
  refine Eq.trans ?_ (boTerm_blk V c t (outsAt1 V c (t.val - 1) (Nat.lt_of_le_of_lt (Nat.sub_le _ _) t.isLt)).2.2.2.2.2.2.2 j)
  rw [outsAt1_B V c t h]
  dsimp only
  frame_open
  simp (disch := decide) only [↓ View.readCov_skip, ↓ View.readCov_cons_toLoadRect, ↓ View.readCov_fill]
  frame_out

/-! ## The arrays after the whole grid -/

theorem bo11 : (dat1 V c).arrAt 11 cfg1.N = (fun y => boDmo V c (y 0) (y 1) : FVec Ideal S8192x1024 .bf16) := by
  refine (dat1 V c).arrAt_eq_of_covers 11 _ (by decide +kernel) fun t hf y => ?_
  blk_simp
  rw [after1_11]
  obtain ⟨r, j, rfl⟩ : ∃ (r : Fin 512) (j : Fin 1024), y = ix2 r j := ⟨y 0, y 1, eq_ix2 y⟩
  refine (left1_11 V c t r j).trans ?_
  refine congrArg₂ (boDmo V c) (Fin.ext ?_) (Fin.ext ?_)
  · blk_simp [boIdx t, rowAt]
  · blk_simp [boIdx t]

theorem bo12 : (dat1 V c).arrAt 12 cfg1.N = (fun y => boDa V c (y 0) (y 1) : FVec Ideal S8192x1024 .bf16) := by
  refine (dat1 V c).arrAt_eq_of_covers 12 _ (by decide +kernel) fun t hf y => ?_
  blk_simp
  rw [after1_12]
  obtain ⟨r, j, rfl⟩ : ∃ (r : Fin 512) (j : Fin 1024), y = ix2 r j := ⟨y 0, y 1, eq_ix2 y⟩
  refine (left1_12 V c t r j).trans ?_
  refine congrArg₂ (boDa V c) (Fin.ext ?_) (Fin.ext ?_)
  · blk_simp [boIdx t, rowAt]
  · blk_simp [boIdx t]

theorem bo13 : (dat1 V c).arrAt 13 cfg1.N = (fun y => boDb V c (y 0) (y 1) : FVec Ideal S8192x1024 .bf16) := by
  refine (dat1 V c).arrAt_eq_of_covers 13 _ (by decide +kernel) fun t hf y => ?_
  blk_simp
  rw [after1_13]
  obtain ⟨r, j, rfl⟩ : ∃ (r : Fin 512) (j : Fin 1024), y = ix2 r j := ⟨y 0, y 1, eq_ix2 y⟩
  refine (left1_13 V c t r j).trans ?_
  refine congrArg₂ (boDb V c) (Fin.ext ?_) (Fin.ext ?_)
  · blk_simp [boIdx t, rowAt]
  · blk_simp [boIdx t]

theorem bo14 : (dat1 V c).arrAt 14 cfg1.N = (fun y => boDz V c (y 0) (y 1) : FVec Ideal S8192x2048 .bf16) := by
  refine (dat1 V c).arrAt_eq_of_covers 14 _ (by decide +kernel) fun t hf y => ?_
  blk_simp
  rw [after1_14]
  obtain ⟨r, j, rfl⟩ : ∃ (r : Fin 512) (j : Fin 2048), y = ix2 r j := ⟨y 0, y 1, eq_ix2 y⟩
  refine (left1_14 V c t r j).trans ?_
  refine congrArg₂ (boDz V c) (Fin.ext ?_) (Fin.ext ?_)
  · blk_simp [boIdx t, rowAt]
  · blk_simp [boIdx t]

theorem bo15 : (dat1 V c).arrAt 15 cfg1.N = (fun y => boDu V c (y 0) (y 1) : FVec Ideal S8192x1024 .f32) := by
  refine (dat1 V c).arrAt_eq_of_covers 15 _ (by decide +kernel) fun t hf y => ?_
  blk_simp
  rw [after1_15]
  obtain ⟨r, j, rfl⟩ : ∃ (r : Fin 512) (j : Fin 1024), y = ix2 r j := ⟨y 0, y 1, eq_ix2 y⟩
  refine (left1_15 V c t r j).trans ?_
  refine congrArg₂ (boDu V c) (Fin.ext ?_) (Fin.ext ?_)
  · blk_simp [boIdx t, rowAt]
  · blk_simp [boIdx t]

theorem bo16 : (dat1 V c).arrAt 16 cfg1.N = (fun y => boDgate V c (y 0) (y 1) : FVec Ideal S8192x512 .bf16) := by
  refine (dat1 V c).arrAt_eq_of_covers 16 _ (by decide +kernel) fun t hf y => ?_
  blk_simp
  rw [after1_16]
  obtain ⟨r, j, rfl⟩ : ∃ (r : Fin 512) (j : Fin 512), y = ix2 r j := ⟨y 0, y 1, eq_ix2 y⟩
  refine (left1_16 V c t r j).trans ?_
  refine congrArg₂ (boDgate V c) (Fin.ext ?_) (Fin.ext ?_)
  · blk_simp [boIdx t, rowAt]
  · blk_simp [boIdx t]

abbrev boGain (j : Fin 1024) : EReal := ∑ n : Fin 8192, boD V c n j * normed (boMo V c n) j

theorem bo_run (j : Fin 1024) : ∑ p : Fin cfg1.N, boTerm V c p j = boGain V c j :=
  Fin.sum_mul_add_congr (S := cfg1.N) (fun p r hl => rfl) (congrArg (· * 512) N_1.symm)

theorem bo18 : (dat1 V c).arrAt 18 cfg1.N = (fun y => boGain V c (y 1) : FVec Ideal S1x1024 .f32) := by
  refine (dat1 V c).arrAt_eq_of_covers 18 _ (by decide +kernel) fun t hf y => ?_
  blk_simp
  rw [after1_18]
  obtain ⟨i, j, rfl⟩ : ∃ (i : Fin 1) (j : Fin 1024), y = ix2 i j := ⟨y 0, y 1, eq_ix2 y⟩
  obtain rfl : i = 0 := Fin.eq_zero i
  have hl : t.val = 15 := by have := (flush1_18 t).mp hf; have := boLt t; omega
  have key := Pipeline.eq_sum_fin_of_reset_step_apply_last
    (fun n h (j : Fin 1024) => ((outsAt1 V c n h).2.2.2.2.2.2.2 (ix2 0 j) : EReal)) 16 (fun _ => 0)
    (fun p j => boTerm V c p j) (fun t h j => first1_18 V c t h j) (fun t h j => next1_18 V c t h j) (le_of_eq N_1) t (by rw [hl]; exact N_1.symm) j
  refine key.trans ((zero_add _).trans ((bo_run V c j).trans (congrArg (boGain V c) (Fin.ext ?_))))
  blk_simp [boIdx t]

end Cert.MixOutIdeal.MixerOut

end
-- ==== Proof.OutWeights.lean ====
/- The four products that give the gradients of the output's weights, of the two branches' and of the recurrence gate's: each
   result is summed up over four blocks of 2048 rows of its two operands. -/
module

public import proofs.«01_k».proof.Proof.Gen.MixOutIdeal.Frame
public import proofs.«01_k».proof.Proof.OutRows

@[expose] public section

set_option maxRecDepth 16384

noncomputable section

namespace Cert.MixOutIdeal.MixerOut

open Cert.MixOutIdeal Cert.MixOutIdeal.Gen Idealize.ShloMosaic Idealize.ShloMosaic.TcCoe Idealize.SL.Sem Cert.RowGradients
open Cert.FeedForward Cert.MixerOut Cert.Blocks

section

variable (V : (c : Dev nD) → (b : Ref sig .tc) → Buf (Elt Ideal) ((c : Thread nD τ).loc b)) (c : Dev nD) (t : Fin cfg2.N)

abbrev woA (n : Fin 8192) (i : Fin 1024) : EReal := (V c main_v5_4 : FVec Ideal S8192x1024 .bf16) (ix2 n i)
abbrev woB (n : Fin 8192) (j : Fin 1024) : EReal := (V c main_v6_0 : FVec Ideal S8192x1024 .bf16) (ix2 n j)

theorem woLt (t : Fin cfg2.N) : t.val < 4 := lt_of_lt_of_eq t.isLt N_2

theorem woIdx : ∀ t : Fin cfg2.N, win2_0.index t = ![t.val % 4, t.val / 4] ∧ win2_1.index t = ![t.val % 4, 0]
    ∧ win2_2.index t = ![t.val / 4, 0] :=
  (by decide +kernel : ∀ t : Fin grid2.N, win2_0.index t = ![t.val % 4, t.val / 4] ∧ win2_1.index t = ![t.val % 4, 0]
    ∧ win2_2.index t = ![t.val / 4, 0])

/-- The result's row that row `i` of point `t`'s block is. -/
def woCol (i : Fin 1024) : Fin 1024 := ⟨t.val / 4 * 1024 + i.val, by have := woLt t; omega⟩

theorem woA_blk (r : Fin 2048) (i : Fin 1024) :
    (iblk2 V c 0 t : FVec Ideal S2048x1024 .bf16) (ix2 r i) = woA V c (quarterRow t.val r) (woCol t i) := by
  show (iblk2 V c 0 t : FVec Ideal S2048x1024 .bf16) (ix2 r i) = (V c main_v5_4 : FVec Ideal S8192x1024 .bf16) (ix2 (quarterRow t.val r) (woCol t i))
  blk_point [iblk2, woIdx t, quarterRow, woCol]
theorem woB_blk (r : Fin 2048) (j : Fin 1024) :
    (iblk2 V c 1 t : FVec Ideal S2048x1024 .bf16) (ix2 r j) = woB V c (quarterRow t.val r) j := by
  show (iblk2 V c 1 t : FVec Ideal S2048x1024 .bf16) (ix2 r j) = (V c main_v6_0 : FVec Ideal S8192x1024 .bf16) (ix2 (quarterRow t.val r) j)
  blk_point [iblk2, woIdx t, quarterRow]

theorem woTerm_blk (y : FVec Ideal S1024x1024 .f32) (i : Fin 1024) (j : Fin 1024) :
    k2_pay2 (F := Ideal) y (iblk2 V c 0 t) (iblk2 V c 1 t) (ix2 i j)
      = y (ix2 i j) + ∑ r : Fin 2048, woA V c (quarterRow t.val r) (woCol t i) * woB V c (quarterRow t.val r) j := by
  refine (product_apply (iblk2 V c 0 t) (iblk2 V c 1 t) y i j).trans ?_
  refine congrArg (y (ix2 i j) + ·) (Finset.sum_congr rfl fun r _ => ?_)
  rw [woA_blk, woB_blk]

/-- The product over all the rows. -/
abbrev woProd (i : Fin 1024) (j : Fin 1024) : EReal := ∑ n : Fin 8192, woA V c n i * woB V c n j

theorem woLast (hf : t.val % 4 = 3) (i : Fin 1024) (j : Fin 1024) :
    outsAt2 V c t.val t.isLt (ix2 i j) = woProd V c (woCol t i) j := by
  refine product_of_runs (K := 4) (woA V c) (woB V c) (fun n h i j => outsAt2 V c n h (ix2 i j)) quarterRow woCol rfl
    (fun _ _ => rfl) (fun s t i h => Fin.ext (congrArg (· * 1024 + i.val) h)) (fun t h i j => ?_) (fun t h i j => ?_) t hf i j
  · refine Eq.trans ?_ ((woTerm_blk V c t (k2_pay1 (F := Ideal)) i j).trans (congrArg (· + _) (productZero i j)))
    rw [outsAt2_A V c t h]
    frame_open
    simp (disch := decide) only [↓ View.readCov_skip, ↓ View.readCov_cons_toLoadRect, ↓ View.readCov_fill]
    frame_out
  · refine Eq.trans ?_ (woTerm_blk V c t (outsAt2 V c (t.val - 1) (Nat.lt_of_le_of_lt (Nat.sub_le _ _) t.isLt)) i j)
    rw [outsAt2_B V c t h]
    frame_open
    simp (disch := decide) only [↓ View.readCov_skip, ↓ View.readCov_cons_toLoadRect, ↓ View.readCov_fill]
    frame_out

theorem wo2 : (dat2 V c).arrAt 2 cfg2.N = (fun y => woProd V c (y 0) (y 1) : FVec Ideal S1024x1024 .f32) := by
  refine (dat2 V c).arrAt_eq_of_covers 2 _ (by decide +kernel) fun t hf y => ?_
  blk_simp
  rw [after2_2]
  obtain ⟨i, j, rfl⟩ : ∃ (i : Fin 1024) (j : Fin 1024), y = ix2 i j := ⟨y 0, y 1, eq_ix2 y⟩
  refine (woLast V c t ((flush2_2 t).mp hf) i j).trans ?_
  refine congrArg₂ (woProd V c) (Fin.ext ?_) (Fin.ext ?_)
  · blk_simp [woIdx t, woCol]
  · blk_simp [woIdx t]

end

section

variable (V : (c : Dev nD) → (b : Ref sig .tc) → Buf (Elt Ideal) ((c : Thread nD τ).loc b)) (c : Dev nD) (t : Fin cfg3.N)

abbrev wmA (n : Fin 8192) (i : Fin 1024) : EReal := (V c main_v0 : FVec Ideal S8192x1024 .bf16) (ix2 n i)
abbrev wmB (n : Fin 8192) (j : Fin 1024) : EReal := (V c main_v6_1 : FVec Ideal S8192x1024 .bf16) (ix2 n j)

theorem wmLt (t : Fin cfg3.N) : t.val < 4 := lt_of_lt_of_eq t.isLt N_3

theorem wmIdx : ∀ t : Fin cfg3.N, win3_0.index t = ![t.val % 4, t.val / 4] ∧ win3_1.index t = ![t.val % 4, 0]
    ∧ win3_2.index t = ![t.val / 4, 0] :=
  (by decide +kernel : ∀ t : Fin grid3.N, win3_0.index t = ![t.val % 4, t.val / 4] ∧ win3_1.index t = ![t.val % 4, 0]
    ∧ win3_2.index t = ![t.val / 4, 0])

/-- The result's row that row `i` of point `t`'s block is. -/
def wmCol (i : Fin 1024) : Fin 1024 := ⟨t.val / 4 * 1024 + i.val, by have := wmLt t; omega⟩

theorem wmA_blk (r : Fin 2048) (i : Fin 1024) :
    (iblk3 V c 0 t : FVec Ideal S2048x1024 .bf16) (ix2 r i) = wmA V c (quarterRow t.val r) (wmCol t i) := by
  show (iblk3 V c 0 t : FVec Ideal S2048x1024 .bf16) (ix2 r i) = (V c main_v0 : FVec Ideal S8192x1024 .bf16) (ix2 (quarterRow t.val r) (wmCol t i))
  blk_point [iblk3, wmIdx t, quarterRow, wmCol]
theorem wmB_blk (r : Fin 2048) (j : Fin 1024) :
    (iblk3 V c 1 t : FVec Ideal S2048x1024 .bf16) (ix2 r j) = wmB V c (quarterRow t.val r) j := by
  show (iblk3 V c 1 t : FVec Ideal S2048x1024 .bf16) (ix2 r j) = (V c main_v6_1 : FVec Ideal S8192x1024 .bf16) (ix2 (quarterRow t.val r) j)
  blk_point [iblk3, wmIdx t, quarterRow]

theorem wmTerm_blk (y : FVec Ideal S1024x1024 .f32) (i : Fin 1024) (j : Fin 1024) :
    k3_pay2 (F := Ideal) y (iblk3 V c 0 t) (iblk3 V c 1 t) (ix2 i j)
      = y (ix2 i j) + ∑ r : Fin 2048, wmA V c (quarterRow t.val r) (wmCol t i) * wmB V c (quarterRow t.val r) j := by
  refine (product3_apply (iblk3 V c 0 t) (iblk3 V c 1 t) y i j).trans ?_
  refine congrArg (y (ix2 i j) + ·) (Finset.sum_congr rfl fun r _ => ?_)
  rw [wmA_blk, wmB_blk]

/-- The product over all the rows. -/
abbrev wmProd (i : Fin 1024) (j : Fin 1024) : EReal := ∑ n : Fin 8192, wmA V c n i * wmB V c n j

theorem wmLast (hf : t.val % 4 = 3) (i : Fin 1024) (j : Fin 1024) :
    outsAt3 V c t.val t.isLt (ix2 i j) = wmProd V c (wmCol t i) j := by
  refine product_of_runs (K := 4) (wmA V c) (wmB V c) (fun n h i j => outsAt3 V c n h (ix2 i j)) quarterRow wmCol rfl
    (fun _ _ => rfl) (fun s t i h => Fin.ext (congrArg (· * 1024 + i.val) h)) (fun t h i j => ?_) (fun t h i j => ?_) t hf i j
  · refine Eq.trans ?_ ((wmTerm_blk V c t (k3_pay1 (F := Ideal)) i j).trans (congrArg (· + _) (product3Zero i j)))
    rw [outsAt3_A V c t h]
    frame_open
    simp (disch := decide) only [↓ View.readCov_skip, ↓ View.readCov_cons_toLoadRect, ↓ View.readCov_fill]
    frame_out
  · refine Eq.trans ?_ (wmTerm_blk V c t (outsAt3 V c (t.val - 1) (Nat.lt_of_le_of_lt (Nat.sub_le _ _) t.isLt)) i j)
    rw [outsAt3_B V c t h]
    frame_open
    simp (disch := decide) only [↓ View.readCov_skip, ↓ View.readCov_cons_toLoadRect, ↓ View.readCov_fill]
    frame_out

theorem wm2 : (dat3 V c).arrAt 2 cfg3.N = (fun y => wmProd V c (y 0) (y 1) : FVec Ideal S1024x1024 .f32) := by
  refine (dat3 V c).arrAt_eq_of_covers 2 _ (by decide +kernel) fun t hf y => ?_
  blk_simp
  rw [after3_2]
  obtain ⟨i, j, rfl⟩ : ∃ (i : Fin 1024) (j : Fin 1024), y = ix2 i j := ⟨y 0, y 1, eq_ix2 y⟩
  refine (wmLast V c t ((flush3_2 t).mp hf) i j).trans ?_
  refine congrArg₂ (wmProd V c) (Fin.ext ?_) (Fin.ext ?_)
  · blk_simp [wmIdx t, wmCol]
  · blk_simp [wmIdx t]

end

section

variable (V : (c : Dev nD) → (b : Ref sig .tc) → Buf (Elt Ideal) ((c : Thread nD τ).loc b)) (c : Dev nD) (t : Fin cfg4.N)

abbrev wtA (n : Fin 8192) (i : Fin 1024) : EReal := (V c main_v6_2 : FVec Ideal S8192x1024 .bf16) (ix2 n i)
abbrev wtB (n : Fin 8192) (j : Fin 512) : EReal := (V c main_v5_1 : FVec Ideal S8192x512 .bf16) (ix2 n j)

theorem wtLt (t : Fin cfg4.N) : t.val < 4 := lt_of_lt_of_eq t.isLt N_4

theorem wtIdx : ∀ t : Fin cfg4.N, win4_0.index t = ![t.val % 4, t.val / 4] ∧ win4_1.index t = ![t.val % 4, 0]
    ∧ win4_2.index t = ![t.val / 4, 0] :=
  (by decide +kernel : ∀ t : Fin grid4.N, win4_0.index t = ![t.val % 4, t.val / 4] ∧ win4_1.index t = ![t.val % 4, 0]
    ∧ win4_2.index t = ![t.val / 4, 0])

/-- The result's row that row `i` of point `t`'s block is. -/
def wtCol (i : Fin 1024) : Fin 1024 := ⟨t.val / 4 * 1024 + i.val, by have := wtLt t; omega⟩

theorem wtA_blk (r : Fin 2048) (i : Fin 1024) :
    (iblk4 V c 0 t : FVec Ideal S2048x1024 .bf16) (ix2 r i) = wtA V c (quarterRow t.val r) (wtCol t i) := by
  show (iblk4 V c 0 t : FVec Ideal S2048x1024 .bf16) (ix2 r i) = (V c main_v6_2 : FVec Ideal S8192x1024 .bf16) (ix2 (quarterRow t.val r) (wtCol t i))
  blk_point [iblk4, wtIdx t, quarterRow, wtCol]
theorem wtB_blk (r : Fin 2048) (j : Fin 512) :
    (iblk4 V c 1 t : FVec Ideal S2048x512 .bf16) (ix2 r j) = wtB V c (quarterRow t.val r) j := by
  show (iblk4 V c 1 t : FVec Ideal S2048x512 .bf16) (ix2 r j) = (V c main_v5_1 : FVec Ideal S8192x512 .bf16) (ix2 (quarterRow t.val r) j)
  blk_point [iblk4, wtIdx t, quarterRow]

theorem wtTerm_blk (y : FVec Ideal S1024x512 .f32) (i : Fin 1024) (j : Fin 512) :
    k4_pay2 (F := Ideal) y (iblk4 V c 0 t) (iblk4 V c 1 t) (ix2 i j)
      = y (ix2 i j) + ∑ r : Fin 2048, wtA V c (quarterRow t.val r) (wtCol t i) * wtB V c (quarterRow t.val r) j := by
  refine (product4_apply (iblk4 V c 0 t) (iblk4 V c 1 t) y i j).trans ?_
  refine congrArg (y (ix2 i j) + ·) (Finset.sum_congr rfl fun r _ => ?_)
  rw [wtA_blk, wtB_blk]

/-- The product over all the rows. -/
abbrev wtProd (i : Fin 1024) (j : Fin 512) : EReal := ∑ n : Fin 8192, wtA V c n i * wtB V c n j

theorem wtLast (hf : t.val % 4 = 3) (i : Fin 1024) (j : Fin 512) :
    outsAt4 V c t.val t.isLt (ix2 i j) = wtProd V c (wtCol t i) j := by
  refine product_of_runs (K := 4) (wtA V c) (wtB V c) (fun n h i j => outsAt4 V c n h (ix2 i j)) quarterRow wtCol rfl
    (fun _ _ => rfl) (fun s t i h => Fin.ext (congrArg (· * 1024 + i.val) h)) (fun t h i j => ?_) (fun t h i j => ?_) t hf i j
  · refine Eq.trans ?_ ((wtTerm_blk V c t (k4_pay1 (F := Ideal)) i j).trans (congrArg (· + _) (product4Zero i j)))
    rw [outsAt4_A V c t h]
    frame_open
    simp (disch := decide) only [↓ View.readCov_skip, ↓ View.readCov_cons_toLoadRect, ↓ View.readCov_fill]
    frame_out
  · refine Eq.trans ?_ (wtTerm_blk V c t (outsAt4 V c (t.val - 1) (Nat.lt_of_le_of_lt (Nat.sub_le _ _) t.isLt)) i j)
    rw [outsAt4_B V c t h]
    frame_open
    simp (disch := decide) only [↓ View.readCov_skip, ↓ View.readCov_cons_toLoadRect, ↓ View.readCov_fill]
    frame_out

theorem wt2 : (dat4 V c).arrAt 2 cfg4.N = (fun y => wtProd V c (y 0) (y 1) : FVec Ideal S1024x512 .f32) := by
  refine (dat4 V c).arrAt_eq_of_covers 2 _ (by decide +kernel) fun t hf y => ?_
  blk_simp
  rw [after4_2]
  obtain ⟨i, j, rfl⟩ : ∃ (i : Fin 1024) (j : Fin 512), y = ix2 i j := ⟨y 0, y 1, eq_ix2 y⟩
  refine (wtLast V c t ((flush4_2 t).mp hf) i j).trans ?_
  refine congrArg₂ (wtProd V c) (Fin.ext ?_) (Fin.ext ?_)
  · blk_simp [wtIdx t, wtCol]
  · blk_simp [wtIdx t]

end

section

variable (V : (c : Dev nD) → (b : Ref sig .tc) → Buf (Elt Ideal) ((c : Thread nD τ).loc b)) (c : Dev nD) (t : Fin cfg5.N)

abbrev wgA (n : Fin 8192) (i : Fin 512) : EReal := (V c main_v5_0 : FVec Ideal S8192x512 .bf16) (ix2 n i)
abbrev wgB (n : Fin 8192) (j : Fin 512) : EReal := (V c main_v6_5 : FVec Ideal S8192x512 .bf16) (ix2 n j)

theorem wgLt (t : Fin cfg5.N) : t.val < 4 := lt_of_lt_of_eq t.isLt N_5

theorem wgIdx : ∀ t : Fin cfg5.N, win5_0.index t = ![t.val % 4, t.val / 4] ∧ win5_1.index t = ![t.val % 4, 0]
    ∧ win5_2.index t = ![t.val / 4, 0] :=
  (by decide +kernel : ∀ t : Fin grid5.N, win5_0.index t = ![t.val % 4, t.val / 4] ∧ win5_1.index t = ![t.val % 4, 0]
    ∧ win5_2.index t = ![t.val / 4, 0])

/-- The result's row that row `i` of point `t`'s block is. -/
def wgCol (i : Fin 512) : Fin 512 := ⟨t.val / 4 * 512 + i.val, by have := wgLt t; omega⟩

theorem wgA_blk (r : Fin 2048) (i : Fin 512) :
    (iblk5 V c 0 t : FVec Ideal S2048x512 .bf16) (ix2 r i) = wgA V c (quarterRow t.val r) (wgCol t i) := by
  show (iblk5 V c 0 t : FVec Ideal S2048x512 .bf16) (ix2 r i) = (V c main_v5_0 : FVec Ideal S8192x512 .bf16) (ix2 (quarterRow t.val r) (wgCol t i))
  blk_point [iblk5, wgIdx t, quarterRow, wgCol]
theorem wgB_blk (r : Fin 2048) (j : Fin 512) :
    (iblk5 V c 1 t : FVec Ideal S2048x512 .bf16) (ix2 r j) = wgB V c (quarterRow t.val r) j := by
  show (iblk5 V c 1 t : FVec Ideal S2048x512 .bf16) (ix2 r j) = (V c main_v6_5 : FVec Ideal S8192x512 .bf16) (ix2 (quarterRow t.val r) j)
  blk_point [iblk5, wgIdx t, quarterRow]

theorem wgTerm_blk (y : FVec Ideal S512x512 .f32) (i : Fin 512) (j : Fin 512) :
    k5_pay2 (F := Ideal) y (iblk5 V c 0 t) (iblk5 V c 1 t) (ix2 i j)
      = y (ix2 i j) + ∑ r : Fin 2048, wgA V c (quarterRow t.val r) (wgCol t i) * wgB V c (quarterRow t.val r) j := by
  refine (product5_apply (iblk5 V c 0 t) (iblk5 V c 1 t) y i j).trans ?_
  refine congrArg (y (ix2 i j) + ·) (Finset.sum_congr rfl fun r _ => ?_)
  rw [wgA_blk, wgB_blk]

/-- The product over all the rows. -/
abbrev wgProd (i : Fin 512) (j : Fin 512) : EReal := ∑ n : Fin 8192, wgA V c n i * wgB V c n j

theorem wgLast (hf : t.val % 4 = 3) (i : Fin 512) (j : Fin 512) :
    outsAt5 V c t.val t.isLt (ix2 i j) = wgProd V c (wgCol t i) j := by
  refine product_of_runs (K := 4) (wgA V c) (wgB V c) (fun n h i j => outsAt5 V c n h (ix2 i j)) quarterRow wgCol rfl
    (fun _ _ => rfl) (fun s t i h => Fin.ext (congrArg (· * 512 + i.val) h)) (fun t h i j => ?_) (fun t h i j => ?_) t hf i j
  · refine Eq.trans ?_ ((wgTerm_blk V c t (k5_pay1 (F := Ideal)) i j).trans (congrArg (· + _) (product5Zero i j)))
    rw [outsAt5_A V c t h]
    frame_open
    simp (disch := decide) only [↓ View.readCov_skip, ↓ View.readCov_cons_toLoadRect, ↓ View.readCov_fill]
    frame_out
  · refine Eq.trans ?_ (wgTerm_blk V c t (outsAt5 V c (t.val - 1) (Nat.lt_of_le_of_lt (Nat.sub_le _ _) t.isLt)) i j)
    rw [outsAt5_B V c t h]
    frame_open
    simp (disch := decide) only [↓ View.readCov_skip, ↓ View.readCov_cons_toLoadRect, ↓ View.readCov_fill]
    frame_out

theorem wg2 : (dat5 V c).arrAt 2 cfg5.N = (fun y => wgProd V c (y 0) (y 1) : FVec Ideal S512x512 .f32) := by
  refine (dat5 V c).arrAt_eq_of_covers 2 _ (by decide +kernel) fun t hf y => ?_
  blk_simp
  rw [after5_2]
  obtain ⟨i, j, rfl⟩ : ∃ (i : Fin 512) (j : Fin 512), y = ix2 i j := ⟨y 0, y 1, eq_ix2 y⟩
  refine (wgLast V c t ((flush5_2 t).mp hf) i j).trans ?_
  refine congrArg₂ (wgProd V c) (Fin.ext ?_) (Fin.ext ?_)
  · blk_simp [wgIdx t, wgCol]
  · blk_simp [wgIdx t]

end

end Cert.MixOutIdeal.MixerOut

end
-- ==== Proof.OutChain.lean ====
/- What the six calls of the mixer's output hand on to each other, and the results of the whole run. -/
module

public import proofs.«01_k».proof.Proof.OutRun
public import proofs.«01_k».proof.Proof.OutForward
public import proofs.«01_k».proof.Proof.OutBack
public import proofs.«01_k».proof.Proof.OutWeights
public import Idealize.ShloMosaic.Lib.Claim

@[expose] public section

set_option maxRecDepth 16384

noncomputable section

namespace Cert.MixOutIdeal.MixerOut

open Cert.MixOutIdeal Cert.MixOutIdeal.Gen Idealize.ShloMosaic Idealize.ShloMosaic.TcCoe Idealize.SL.Sem Cert.RowGradients
open Cert.FeedForward Cert.MixerOut Cert.Blocks

variable (m : (ℓ : Loc nD τ sig) → Buf (Elt Ideal) ℓ) (ρ : Dev nD → PrngReg) (c : Dev nD)

/-- The arguments, and as functions of their coordinates. -/
abbrev p0 : FVec Ideal S8192x1024 .f32 := m ((c : Thread nD τ).loc main_arg0)
abbrev p1 : FVec Ideal S8192x512 .f32 := m ((c : Thread nD τ).loc main_arg1)
abbrev p2 : FVec Ideal S8192x2048 .f32 := m ((c : Thread nD τ).loc main_arg2)
abbrev p3 : FVec Ideal S8192x1024 .f32 := m ((c : Thread nD τ).loc main_arg3)
abbrev p4 : FVec Ideal S512x512 .f32 := m ((c : Thread nD τ).loc main_arg4)
abbrev p5 : FVec Ideal S1024x1024 .f32 := m ((c : Thread nD τ).loc main_arg5)
abbrev p6 : FVec Ideal S512x1024 .f32 := m ((c : Thread nD τ).loc main_arg6)
abbrev p7 : FVec Ideal S1024x1024 .f32 := m ((c : Thread nD τ).loc main_arg7)
abbrev p8 : FVec Ideal S1x1024 .f32 := m ((c : Thread nD τ).loc main_arg8)
abbrev p9 : FVec Ideal S8192x1024 .f32 := m ((c : Thread nD τ).loc main_arg9)
abbrev inp : Inputs :=
  ⟨fun n l => p0 m c (ix2 n l), fun n l => p1 m c (ix2 n l), fun n l => p2 m c (ix2 n l), fun n l => p3 m c (ix2 n l),
    fun a b => p4 m c (ix2 a b), fun a b => p5 m c (ix2 a b), fun a b => p6 m c (ix2 a b), fun a b => p7 m c (ix2 a b),
    fun l => p8 m c (ix2 0 l)⟩
abbrev inD (n : Fin 8192) (l : Fin 1024) : EReal := p9 m c (ix2 n l)

/-! ## The contents of the arguments and of the cast arrays, where a call reads them -/

theorem arg_mem_1 : main_arg1 ∈ argRefs := by decide
theorem arg_mem_2 : main_arg2 ∈ argRefs := by decide
theorem arg_mem_3 : main_arg3 ∈ argRefs := by decide
theorem arg_mem_8 : main_arg8 ∈ argRefs := by decide
theorem arg_mem_9 : main_arg9 ∈ argRefs := by decide

theorem cast0_1 : (V1 m ρ c main_v0 : FVec Ideal S8192x1024 .bf16) = (p0 m c : S8192x1024.Idx → EReal) := by
  show StableHlo.after hostOps0 (W0 m ρ c) (Proc.devRef .tc main_v0) = _
  entry_read
  rfl
theorem cast0_2 : (V2 m ρ c main_v0 : FVec Ideal S8192x1024 .bf16) = (p0 m c : S8192x1024.Idx → EReal) :=
  (W2_of m ρ c main_v0 (by decide)).trans (cast0_1 m ρ c)
theorem cast1_1 : (V1 m ρ c main_v1 : FVec Ideal S512x512 .bf16) = (p4 m c : S512x512.Idx → EReal) := by
  show StableHlo.after hostOps0 (W0 m ρ c) (Proc.devRef .tc main_v1) = _
  entry_read
  rfl
theorem cast1_2 : (V2 m ρ c main_v1 : FVec Ideal S512x512 .bf16) = (p4 m c : S512x512.Idx → EReal) :=
  (W2_of m ρ c main_v1 (by decide)).trans (cast1_1 m ρ c)
theorem cast2_1 : (V1 m ρ c main_v2 : FVec Ideal S1024x1024 .bf16) = (p5 m c : S1024x1024.Idx → EReal) := by
  show StableHlo.after hostOps0 (W0 m ρ c) (Proc.devRef .tc main_v2) = _
  entry_read
  rfl
theorem cast2_2 : (V2 m ρ c main_v2 : FVec Ideal S1024x1024 .bf16) = (p5 m c : S1024x1024.Idx → EReal) :=
  (W2_of m ρ c main_v2 (by decide)).trans (cast2_1 m ρ c)
theorem cast3_1 : (V1 m ρ c main_v3 : FVec Ideal S512x1024 .bf16) = (p6 m c : S512x1024.Idx → EReal) := by
  show StableHlo.after hostOps0 (W0 m ρ c) (Proc.devRef .tc main_v3) = _
  entry_read
  rfl
theorem cast3_2 : (V2 m ρ c main_v3 : FVec Ideal S512x1024 .bf16) = (p6 m c : S512x1024.Idx → EReal) :=
  (W2_of m ρ c main_v3 (by decide)).trans (cast3_1 m ρ c)
theorem cast4_1 : (V1 m ρ c main_v4 : FVec Ideal S1024x1024 .bf16) = (p7 m c : S1024x1024.Idx → EReal) := by
  show StableHlo.after hostOps0 (W0 m ρ c) (Proc.devRef .tc main_v4) = _
  entry_read
  rfl
theorem cast4_2 : (V2 m ρ c main_v4 : FVec Ideal S1024x1024 .bf16) = (p7 m c : S1024x1024.Idx → EReal) :=
  (W2_of m ρ c main_v4 (by decide)).trans (cast4_1 m ρ c)

/-! ## The mixer's output -/

theorem foIn_eq : foIn (V1 m ρ) c = inp m c := by
  have foUnit_eq : foUnit (V1 m ρ) c = _ := funext fun n => funext fun l => congrFun (cast0_1 m ρ c) (ix2 n l)
  have foState_eq : foState (V1 m ρ) c = _ := funext fun n => funext fun l => congrFun (W1_args m ρ c main_arg1 arg_mem_1) (ix2 n l)
  have foGate_eq : foGate (V1 m ρ) c = _ := funext fun n => funext fun l => congrFun (W1_args m ρ c main_arg2 arg_mem_2) (ix2 n l)
  have foX_eq : foX (V1 m ρ) c = _ := funext fun n => funext fun l => congrFun (W1_args m ρ c main_arg3 arg_mem_3) (ix2 n l)
  have foWGate_eq : foWGate (V1 m ρ) c = _ := funext fun n => funext fun l => congrFun (cast1_1 m ρ c) (ix2 n l)
  have foWUnit_eq : foWUnit (V1 m ρ) c = _ := funext fun n => funext fun l => congrFun (cast2_1 m ρ c) (ix2 n l)
  have foWState_eq : foWState (V1 m ρ) c = _ := funext fun n => funext fun l => congrFun (cast3_1 m ρ c) (ix2 n l)
  have foWOut_eq : foWOut (V1 m ρ) c = _ := funext fun n => funext fun l => congrFun (cast4_1 m ρ c) (ix2 n l)
  have foG_eq : foG (V1 m ρ) c = _ := funext fun l => congrFun (W1_args m ρ c main_arg8 arg_mem_8) (ix2 0 l)
  show Inputs.mk _ _ _ _ _ _ _ _ _ = _
  rw [foUnit_eq, foState_eq, foGate_eq, foX_eq, foWGate_eq, foWUnit_eq, foWState_eq, foWOut_eq, foG_eq]

theorem gelu_2 : (V2 m ρ c main_v5_0 : FVec Ideal S8192x512 .bf16) = (fun y => geluA (inp m c) (y 0) (y 1) : S8192x512.Idx → EReal) := by
  refine (W2_arr m ρ c 9).trans ((fo9 (V1 m ρ) c).trans ?_)
  rw [foIn_eq]
theorem recur_2 : (V2 m ρ c main_v5_1 : FVec Ideal S8192x512 .bf16) = (fun y => recurA (inp m c) (y 0) (y 1) : S8192x512.Idx → EReal) := by
  refine (W2_arr m ρ c 10).trans ((fo10 (V1 m ρ) c).trans ?_)
  rw [foIn_eq]
theorem unit_2 : (V2 m ρ c main_v5_2 : FVec Ideal S8192x1024 .bf16) = (fun y => unitA (inp m c) (y 0) (y 1) : S8192x1024.Idx → EReal) := by
  refine (W2_arr m ρ c 11).trans ((fo11 (V1 m ρ) c).trans ?_)
  rw [foIn_eq]
theorem state_2 : (V2 m ρ c main_v5_3 : FVec Ideal S8192x1024 .bf16) = (fun y => stateA (inp m c) (y 0) (y 1) : S8192x1024.Idx → EReal) := by
  refine (W2_arr m ρ c 12).trans ((fo12 (V1 m ρ) c).trans ?_)
  rw [foIn_eq]
theorem merged_2 : (V2 m ρ c main_v5_4 : FVec Ideal S8192x1024 .bf16) = (fun y => mergedA (inp m c) (y 0) (y 1) : S8192x1024.Idx → EReal) := by
  refine (W2_arr m ρ c 13).trans ((fo13 (V1 m ρ) c).trans ?_)
  rw [foIn_eq]
theorem out_2 : (V2 m ρ c main_v5_5 : FVec Ideal S8192x1024 .f32) = (fun y => outA (inp m c) (y 0) (y 1) : S8192x1024.Idx → EReal) := by
  refine (W2_arr m ρ c 14).trans ((fo14 (V1 m ρ) c).trans ?_)
  rw [foIn_eq]
theorem res_2 : (V2 m ρ c main_v5_6 : FVec Ideal S8192x1024 .f32) = (fun y => resA (inp m c) (y 0) (y 1) : S8192x1024.Idx → EReal) := by
  refine (W2_arr m ρ c 15).trans ((fo15 (V1 m ρ) c).trans ?_)
  rw [foIn_eq]

/-! ## The gradient through it -/

theorem boD_eq : boD (V2 m ρ) c = inD m c := funext fun n => funext fun l => congrFun (W2_args m ρ c main_arg9 arg_mem_9) (ix2 n l)
theorem boMo_eq : boMo (V2 m ρ) c = outA (inp m c) := funext fun n => funext fun l => congrFun (out_2 m ρ c) (ix2 n l)
theorem boA_eq : boA (V2 m ρ) c = unitA (inp m c) := funext fun n => funext fun l => congrFun (unit_2 m ρ c) (ix2 n l)
theorem boB_eq : boB (V2 m ρ) c = stateA (inp m c) := funext fun n => funext fun l => congrFun (state_2 m ρ c) (ix2 n l)
theorem boZ_eq : boZ (V2 m ρ) c = (inp m c).gate := funext fun n => funext fun l => congrFun (W2_args m ρ c main_arg2 arg_mem_2) (ix2 n l)
theorem boY_eq : boY (V2 m ρ) c = (inp m c).state := funext fun n => funext fun l => congrFun (W2_args m ρ c main_arg1 arg_mem_1) (ix2 n l)
theorem boWOut_eq : boWOut (V2 m ρ) c = (inp m c).wOut := funext fun n => funext fun l => congrFun (cast4_2 m ρ c) (ix2 n l)
theorem boWUnit_eq : boWUnit (V2 m ρ) c = (inp m c).wUnit := funext fun n => funext fun l => congrFun (cast2_2 m ρ c) (ix2 n l)
theorem boWState_eq : boWState (V2 m ρ) c = (inp m c).wState := funext fun n => funext fun l => congrFun (cast3_2 m ρ c) (ix2 n l)
theorem boWGate_eq : boWGate (V2 m ρ) c = (inp m c).wGate := funext fun n => funext fun l => congrFun (cast1_2 m ρ c) (ix2 n l)
theorem boG_eq : boG (V2 m ρ) c = (inp m c).gain := funext fun l => congrFun (W2_args m ρ c main_arg8 arg_mem_8) (ix2 0 l)

theorem boDmo_eq : boDmo (V2 m ρ) c = dOutA (inp m c) (inD m c) := by
  funext n
  unfold boDmo
  rw [boMo_eq, boG_eq, boD_eq]
  rfl
theorem boDm_eq : boDm (V2 m ρ) c = dMergedA (inp m c) (inD m c) := by
  funext n
  unfold boDm
  rw [boDmo_eq, boWOut_eq]
  rfl
theorem boDa_eq : boDa (V2 m ρ) c = dUnitA (inp m c) (inD m c) := by
  funext n j
  unfold boDa
  rw [boDm_eq, boZ_eq]
  rfl
theorem boDb_eq : boDb (V2 m ρ) c = dStateA (inp m c) (inD m c) := by
  funext n j
  unfold boDb
  rw [boDm_eq, boZ_eq]
  rfl
theorem boDz_eq : boDz (V2 m ρ) c = dGateA (inp m c) (inD m c) := by
  funext n
  unfold boDz
  rw [boDm_eq, boZ_eq, boA_eq, boB_eq]
  rfl
theorem boDu_eq : boDu (V2 m ρ) c = dUnitInA (inp m c) (inD m c) := by
  funext n
  unfold boDu
  rw [boDa_eq, boWUnit_eq]
  rfl
theorem boDgate_eq : boDgate (V2 m ρ) c = dRecurGateA (inp m c) (inD m c) := by
  funext n
  unfold boDgate boDs
  rw [boDb_eq, boWState_eq, boY_eq, boWGate_eq]
  rfl
theorem boGain_eq : boGain (V2 m ρ) c = dGainA (inp m c) (inD m c) := by
  funext j
  unfold boGain
  rw [boD_eq, boMo_eq]
  rfl

theorem dOut_3 : (V3 m ρ c main_v6_0 : FVec Ideal S8192x1024 .bf16) = (fun y => dOutA (inp m c) (inD m c) (y 0) (y 1) : S8192x1024.Idx → EReal) :=
  (W3_arr m ρ c 11).trans ((bo11 (V2 m ρ) c).trans (funext fun y => congrFun (congrFun (boDmo_eq m ρ c) (y 0)) (y 1)))
theorem dUnit_3 : (V3 m ρ c main_v6_1 : FVec Ideal S8192x1024 .bf16) = (fun y => dUnitA (inp m c) (inD m c) (y 0) (y 1) : S8192x1024.Idx → EReal) :=
  (W3_arr m ρ c 12).trans ((bo12 (V2 m ρ) c).trans (funext fun y => congrFun (congrFun (boDa_eq m ρ c) (y 0)) (y 1)))
theorem dState_3 : (V3 m ρ c main_v6_2 : FVec Ideal S8192x1024 .bf16) = (fun y => dStateA (inp m c) (inD m c) (y 0) (y 1) : S8192x1024.Idx → EReal) :=
  (W3_arr m ρ c 13).trans ((bo13 (V2 m ρ) c).trans (funext fun y => congrFun (congrFun (boDb_eq m ρ c) (y 0)) (y 1)))
theorem dGate_3 : (V3 m ρ c main_v6_3 : FVec Ideal S8192x2048 .bf16) = (fun y => dGateA (inp m c) (inD m c) (y 0) (y 1) : S8192x2048.Idx → EReal) :=
  (W3_arr m ρ c 14).trans ((bo14 (V2 m ρ) c).trans (funext fun y => congrFun (congrFun (boDz_eq m ρ c) (y 0)) (y 1)))
theorem dUnitIn_3 : (V3 m ρ c main_v6_4 : FVec Ideal S8192x1024 .f32) = (fun y => dUnitInA (inp m c) (inD m c) (y 0) (y 1) : S8192x1024.Idx → EReal) :=
  (W3_arr m ρ c 15).trans ((bo15 (V2 m ρ) c).trans (funext fun y => congrFun (congrFun (boDu_eq m ρ c) (y 0)) (y 1)))
theorem dRecurGate_3 : (V3 m ρ c main_v6_5 : FVec Ideal S8192x512 .bf16) = (fun y => dRecurGateA (inp m c) (inD m c) (y 0) (y 1) : S8192x512.Idx → EReal) :=
  (W3_arr m ρ c 16).trans ((bo16 (V2 m ρ) c).trans (funext fun y => congrFun (congrFun (boDgate_eq m ρ c) (y 0)) (y 1)))
theorem dGain_3 : (V3 m ρ c main_v6_7 : FVec Ideal S1x1024 .f32) = (fun y => dGainA (inp m c) (inD m c) (y 1) : S1x1024.Idx → EReal) :=
  (W3_arr m ρ c 18).trans ((bo18 (V2 m ρ) c).trans (funext fun y => congrFun (boGain_eq m ρ c) (y 1)))

/-! ## The weights' gradients -/

theorem dwOut_4 : (V4 m ρ c main_v7 : FVec Ideal S1024x1024 .f32) = (fun y => dwOutA (inp m c) (inD m c) (y 0) (y 1) : S1024x1024.Idx → EReal) := by
  refine (W4_arr m ρ c 2).trans ((wo2 (V3 m ρ) c).trans ?_)
  funext y
  refine Finset.sum_congr rfl fun n _ => congrArg₂ (· * ·) ?_ ?_
  · exact congrFun ((W3_of m ρ c main_v5_4 (by decide)).trans (merged_2 m ρ c)) (ix2 n (y 0))
  · exact congrFun (dOut_3 m ρ c) (ix2 n (y 1))
theorem dwUnit_5 : (V5 m ρ c main_v8 : FVec Ideal S1024x1024 .f32) = (fun y => dwUnitA (inp m c) (inD m c) (y 0) (y 1) : S1024x1024.Idx → EReal) := by
  refine (W5_arr m ρ c 2).trans ((wm2 (V4 m ρ) c).trans ?_)
  funext y
  refine Finset.sum_congr rfl fun n _ => congrArg₂ (· * ·) ?_ ?_
  · exact congrFun (((W4_of m ρ c main_v0 (by decide)).trans (W3_of m ρ c main_v0 (by decide))).trans (cast0_2 m ρ c)) (ix2 n (y 0))
  · exact congrFun ((W4_of m ρ c main_v6_1 (by decide)).trans (dUnit_3 m ρ c)) (ix2 n (y 1))
theorem dwState_6 : (V6 m ρ c main_v9 : FVec Ideal S1024x512 .f32) = (fun y => dwStateA (inp m c) (inD m c) (y 1) (y 0) : S1024x512.Idx → EReal) := by
  refine (W6_arr m ρ c 2).trans ((wt2 (V5 m ρ) c).trans ?_)
  funext y
  refine Finset.sum_congr rfl fun n _ => congrArg₂ (· * ·) ?_ ?_
  · exact congrFun (((W5_of m ρ c main_v6_2 (by decide)).trans (W4_of m ρ c main_v6_2 (by decide))).trans (dState_3 m ρ c)) (ix2 n (y 0))
  · exact congrFun ((((W5_of m ρ c main_v5_1 (by decide)).trans (W4_of m ρ c main_v5_1 (by decide))).trans (W3_of m ρ c main_v5_1 (by decide))).trans (recur_2 m ρ c)) (ix2 n (y 1))
theorem dwGate_7 : (V7 m ρ c main_v10 : FVec Ideal S512x512 .f32) = (fun y => dwGateA (inp m c) (inD m c) (y 0) (y 1) : S512x512.Idx → EReal) := by
  refine (W7_arr m ρ c 2).trans ((wg2 (V6 m ρ) c).trans ?_)
  funext y
  refine Finset.sum_congr rfl fun n _ => congrArg₂ (· * ·) ?_ ?_
  · exact congrFun (((((W6_of m ρ c main_v5_0 (by decide)).trans (W5_of m ρ c main_v5_0 (by decide))).trans (W4_of m ρ c main_v5_0 (by decide))).trans (W3_of m ρ c main_v5_0 (by decide))).trans (gelu_2 m ρ c)) (ix2 n (y 0))
  · exact congrFun ((((W6_of m ρ c main_v6_5 (by decide)).trans (W5_of m ρ c main_v6_5 (by decide))).trans (W4_of m ρ c main_v6_5 (by decide))).trans (dRecurGate_3 m ρ c)) (ix2 n (y 1))

/-! ## The results at the end of the run -/

/-- A result of the first two calls is kept by the others. -/
theorem kept (b : Ref sig .tc) (h7 : ∀ w : Fin cfg5.W, Pipeline.arrRef spec5 w = b → (cfg5.win w).isOut = false)
    (h6 : ∀ w : Fin cfg4.W, Pipeline.arrRef spec4 w = b → (cfg4.win w).isOut = false)
    (h5 : ∀ w : Fin cfg3.W, Pipeline.arrRef spec3 w = b → (cfg3.win w).isOut = false)
    (h4 : ∀ w : Fin cfg2.W, Pipeline.arrRef spec2 w = b → (cfg2.win w).isOut = false) :
    W7 m ρ c (Proc.devRef .tc b) = W3 m ρ c (Proc.devRef .tc b) :=
  (((W7_of m ρ c b h7).trans (W6_of m ρ c b h6)).trans (W5_of m ρ c b h5)).trans (W4_of m ρ c b h4)

theorem res_end : (W8 m ρ c main_v5_6 : FVec Ideal S8192x1024 .f32) = (fun y => resA (inp m c) (y 0) (y 1) : S8192x1024.Idx → EReal) :=
  (W8_of m ρ c main_v5_6 (by decide)).trans (((kept m ρ c main_v5_6 (by decide) (by decide) (by decide) (by decide)).trans (W3_of m ρ c main_v5_6 (by decide))).trans (res_2 m ρ c))
theorem dUnitIn_end : (W8 m ρ c main_v6_4 : FVec Ideal S8192x1024 .f32) = (fun y => dUnitInA (inp m c) (inD m c) (y 0) (y 1) : S8192x1024.Idx → EReal) :=
  (W8_of m ρ c main_v6_4 (by decide)).trans ((kept m ρ c main_v6_4 (by decide) (by decide) (by decide) (by decide)).trans (dUnitIn_3 m ρ c))
theorem dGain_end : (W8 m ρ c main_v6_7 : FVec Ideal S1x1024 .f32) = (fun y => dGainA (inp m c) (inD m c) (y 1) : S1x1024.Idx → EReal) :=
  (W8_of m ρ c main_v6_7 (by decide)).trans ((kept m ρ c main_v6_7 (by decide) (by decide) (by decide) (by decide)).trans (dGain_3 m ρ c))
theorem dwOut_end : (W8 m ρ c main_v7 : FVec Ideal S1024x1024 .f32) = (fun y => dwOutA (inp m c) (inD m c) (y 0) (y 1) : S1024x1024.Idx → EReal) :=
  (W8_of m ρ c main_v7 (by decide)).trans ((((W7_of m ρ c main_v7 (by decide)).trans (W6_of m ρ c main_v7 (by decide))).trans (W5_of m ρ c main_v7 (by decide))).trans (dwOut_4 m ρ c))
theorem dwUnit_end : (W8 m ρ c main_v8 : FVec Ideal S1024x1024 .f32) = (fun y => dwUnitA (inp m c) (inD m c) (y 0) (y 1) : S1024x1024.Idx → EReal) :=
  (W8_of m ρ c main_v8 (by decide)).trans (((W7_of m ρ c main_v8 (by decide)).trans (W6_of m ρ c main_v8 (by decide))).trans (dwUnit_5 m ρ c))
theorem dwGate_end : (W8 m ρ c main_v10 : FVec Ideal S512x512 .f32) = (fun y => dwGateA (inp m c) (inD m c) (y 0) (y 1) : S512x512.Idx → EReal) :=
  (W8_of m ρ c main_v10 (by decide)).trans (dwGate_7 m ρ c)

theorem dGate_end : (W8 m ρ c main_v11 : FVec Ideal S8192x2048 .f32) = (fun y => dGateA (inp m c) (inD m c) (y 0) (y 1) : S8192x2048.Idx → EReal) := by
  refine Eq.trans ?_ ((kept m ρ c main_v6_3 (by decide) (by decide) (by decide) (by decide)).trans (dGate_3 m ρ c))
  show StableHlo.after hostOps6 (W7 m ρ c) (Proc.devRef .tc main_v11) = _
  entry_read
  rfl

theorem dwState_end : (W8 m ρ c main_v12 : FVec Ideal S512x1024 .f32) = (fun y => dwStateA (inp m c) (inD m c) (y 0) (y 1) : S512x1024.Idx → EReal) := by
  have h : (W8 m ρ c main_v12 : FVec Ideal S512x1024 .f32)
      = transpose S512x1024 [1, 0] (W7 m ρ c main_v9 : FVec Ideal S1024x512 .f32) transposes_S1024x512_S512x1024_1_0 := by
    show StableHlo.after hostOps6 (W7 m ρ c) (Proc.devRef .tc main_v12) = _
    entry_read
    rfl
  rw [h, show (W7 m ρ c main_v9 : FVec Ideal S1024x512 .f32) = _ from (W7_of m ρ c main_v9 (by decide)).trans (dwState_6 m ρ c)]
  funext y
  obtain ⟨i, j, rfl⟩ : ∃ (i : Fin 512) (j : Fin 1024), y = ix2 i j := ⟨y 0, y 1, eq_ix2 y⟩
  show _ = dwStateA (inp m c) (inD m c) i j
  generalize dwStateA (inp m c) (inD m c) = f
  pointwise []

end Cert.MixOutIdeal.MixerOut

end
-- ==== Proof.OutReference.lean ====
/- The reference of the mixer's output, read at an index: its results as the sublayer's mathematics. -/
module

public import proofs.«01_k».proof.Proof.Gen.MixOutRefIdeal.Read
public import proofs.«01_k».proof.Proof.OutMath

@[expose] public section

set_option maxRecDepth 16384

noncomputable section

namespace Cert.MixOutRefIdeal.MixerOut

open Cert.MixOutRefIdeal Cert.MixOutRefIdeal.Gen Cert.MixOutRefIdeal.Read Idealize.ShloMosaic Idealize.ShloMosaic.TcCoe Idealize.SL.Sem
open Cert.RowGradients Cert.FeedForward Cert.MixerOut

variable (x0 : FVec Ideal S8192x1024 .f32) (x1 : FVec Ideal S8192x512 .f32) (x2 : FVec Ideal S8192x2048 .f32) (x3 : FVec Ideal S8192x1024 .f32) (x4 : FVec Ideal S512x512 .f32) (x5 : FVec Ideal S1024x1024 .f32) (x6 : FVec Ideal S512x1024 .f32) (x7 : FVec Ideal S1024x1024 .f32) (x8 : FVec Ideal S1x1024 .f32) (x9 : FVec Ideal S8192x1024 .f32)

/-- An array of rows or a weight, and the arguments' arrays, as functions of their coordinates. -/
abbrev mat {a b : ℕ} (x : FVec Ideal ⟨2, ![a, b]⟩ .f32) (n : Fin a) (l : Fin b) : EReal := x (ix2 n l)
abbrev inputs : Inputs := ⟨mat x0, mat x1, mat x2, mat x3, mat x4, mat x5, mat x6, mat x7, fun l => x8 (ix2 0 l)⟩

/-! ## The forward pass -/

theorem left_apply (n : Fin 8192) (j : Fin 1024) : val_main_v0 (F := Ideal) x2 (ix2 n j) = mat x2 n (leftCol j) := by
  simp only [leftCol]
  pointwise [val_main_v0]

theorem right_apply (n : Fin 8192) (j : Fin 1024) : val_main_v1 (F := Ideal) x2 (ix2 n j) = mat x2 n (rightCol j) := by
  simp only [rightCol]
  pointwise [val_main_v1]

theorem gelu_apply (n : Fin 8192) (e : Fin 512) : val_main_v22 (F := Ideal) x1 (ix2 n e) = geluA (inputs x0 x1 x2 x3 x4 x5 x6 x7 x8) n e := by
  rw [geluA, ← gelu_eq]
  pointwise [val_main_v22, val_main_v21, val_main_v20, val_main_cst_5, val_main_v19, val_main_v18, val_main_cst_4, val_main_v12, val_main_v11, val_main_v10, val_main_cst_1, val_main_v9, val_main_v8, val_main_v7, val_main_cst_0, val_main_v3, val_main_v2]

theorem sigm_apply (n : Fin 8192) (e : Fin 512) : val_main_v29 (F := Ideal) x1 x4 (ix2 n e) = sigm (times (fun l => geluA (inputs x0 x1 x2 x3 x4 x5 x6 x7 x8) n l) (mat x4) e) := by
  simp only [sigm, times, zero_sub, ← one_eq, ← gelu_apply x0 x1 x2 x3 x4 x5 x6 x7 x8]
  pointwise [val_main_v29, val_main_v28, val_main_cst_7, val_main_v27, val_main_v26, val_main_cst_6, val_main_v25, val_main_v24, val_main_v23]

theorem recur_apply (n : Fin 8192) (e : Fin 512) : val_main_v33 (F := Ideal) x1 x4 (ix2 n e) = recurA (inputs x0 x1 x2 x3 x4 x5 x6 x7 x8) n e := by
  show _ = geluA (inputs x0 x1 x2 x3 x4 x5 x6 x7 x8) n e * sigm (times (fun l => geluA (inputs x0 x1 x2 x3 x4 x5 x6 x7 x8) n l) (mat x4) e)
  rw [← sigm_apply, ← gelu_apply]
  pointwise [val_main_v33]

theorem leftSigm_apply (n : Fin 8192) (j : Fin 1024) : val_main_v39 (F := Ideal) x2 (ix2 n j) = sigm (mat x2 n (leftCol j)) := by
  rw [← left_apply]
  simp only [sigm, zero_sub, ← one_eq]
  pointwise [val_main_v39, val_main_v38, val_main_cst_10, val_main_v37, val_main_v36, val_main_cst_9, val_main_v35, val_main_v34]

theorem rightSigm_apply (n : Fin 8192) (j : Fin 1024) : val_main_v50 (F := Ideal) x2 (ix2 n j) = sigm (mat x2 n (rightCol j)) := by
  rw [← right_apply]
  simp only [sigm, zero_sub, ← one_eq]
  pointwise [val_main_v50, val_main_v49, val_main_cst_13, val_main_v48, val_main_v47, val_main_cst_12, val_main_v46, val_main_v45]

theorem unit_apply (n : Fin 8192) (j : Fin 1024) : val_main_v43 (F := Ideal) x0 x5 (ix2 n j) = unitA (inputs x0 x1 x2 x3 x4 x5 x6 x7 x8) n j := by
  simp only [unitA, times]
  pointwise [val_main_v43]

theorem state_apply (n : Fin 8192) (j : Fin 1024) : val_main_v54 (F := Ideal) x1 x4 x6 (ix2 n j) = stateA (inputs x0 x1 x2 x3 x4 x5 x6 x7 x8) n j := by
  simp only [stateA, times, ← recur_apply]
  pointwise [val_main_v54]

theorem merged_apply (n : Fin 8192) (j : Fin 1024) : val_main_v56 (F := Ideal) x0 x1 x2 x4 x5 x6 (ix2 n j) = mergedA (inputs x0 x1 x2 x3 x4 x5 x6 x7 x8) n j := by
  simp only [mergedA, merge]
  rw [← leftSigm_apply, ← rightSigm_apply, ← unit_apply, ← state_apply]
  pointwise [val_main_v56, val_main_v55, val_main_v44]

theorem out_apply (n : Fin 8192) (j : Fin 1024) : val_main_v57 (F := Ideal) x0 x1 x2 x4 x5 x6 x7 (ix2 n j) = outA (inputs x0 x1 x2 x3 x4 x5 x6 x7 x8) n j := by
  simp only [outA, times, ← merged_apply]
  pointwise [val_main_v57]

theorem normed_apply (n : Fin 8192) (j : Fin 1024) : val_main_v70 (F := Ideal) x0 x1 x2 x4 x5 x6 x7 (ix2 n j) = normed (outA (inputs x0 x1 x2 x3 x4 x5 x6 x7 x8) n) j := by
  simp only [normed, invRms, meanSq, ← out_apply]
  pointwise [val_main_v70, val_main_v69, val_main_v65, val_main_v64, val_main_v63, val_main_cst_17, val_main_v62, val_main_v61, val_main_cst_16, val_main_v60, val_main_v59, val_main_cst_15, val_main_v58]

theorem res_apply (n : Fin 8192) (j : Fin 1024) : val_main_v73 (F := Ideal) x0 x1 x2 x3 x4 x5 x6 x7 x8 (ix2 n j) = resA (inputs x0 x1 x2 x3 x4 x5 x6 x7 x8) n j := by
  simp only [resA, gained, ← normed_apply]
  pointwise [val_main_v73, val_main_v72, val_main_v71]

/-! ## The backward pass -/

theorem dGain_apply (j : Fin 1024) : val_main_v77 (F := Ideal) x0 x1 x2 x4 x5 x6 x7 x9 (ix2 0 j) = dGainA (inputs x0 x1 x2 x3 x4 x5 x6 x7 x8) (mat x9) j := by
  simp only [dGainA, ← normed_apply]
  simp only [mul_comm (mat x9 _ _)]
  pointwise [val_main_v77, val_main_v76, val_main_cst_19, val_main_v75, val_main_v74]

theorem dOut_apply (n : Fin 8192) (j : Fin 1024) : val_main_v93 (F := Ideal) x0 x1 x2 x4 x5 x6 x7 x8 x9 (ix2 n j) = dOutA (inputs x0 x1 x2 x3 x4 x5 x6 x7 x8) (mat x9) n j := by
  rw [dOutA, normGrad_eq_ref]
  simp only [normGradRef, throughMean, invRms, meanSq, ← out_apply]
  pointwise [val_main_v93, val_main_v92, val_main_v91, val_main_v90, val_main_v89, val_main_v88, val_main_v87, val_main_v86, val_main_v85, val_main_v84, val_main_v83, val_main_v82, val_main_v81, val_main_v80, val_main_v79, val_main_v78, val_main_cst_20, val_main_cst_21, val_main_cst_22, val_main_v74, val_main_v68, val_main_v67, val_main_cst_18, val_main_v66, val_main_v65, val_main_v64, val_main_v63, val_main_cst_17, val_main_v62, val_main_v61, val_main_cst_16, val_main_v60, val_main_v59, val_main_cst_15, val_main_v58]
  simp only [Finset.univ_unique, Finset.sum_singleton]

theorem dwOut_apply (i j : Fin 1024) : val_main_v95 (F := Ideal) x0 x1 x2 x4 x5 x6 x7 x8 x9 (ix2 i j) = dwOutA (inputs x0 x1 x2 x3 x4 x5 x6 x7 x8) (mat x9) i j := by
  simp only [dwOutA, ← dOut_apply, ← merged_apply]
  simp only [mul_comm (val_main_v56 (F := Ideal) x0 x1 x2 x4 x5 x6 _)]
  pointwise [val_main_v95, val_main_v94]

theorem dMerged_apply (n : Fin 8192) (j : Fin 1024) : val_main_v96 (F := Ideal) x0 x1 x2 x4 x5 x6 x7 x8 x9 (ix2 n j) = dMergedA (inputs x0 x1 x2 x3 x4 x5 x6 x7 x8) (mat x9) n j := by
  simp only [dMergedA, timesTr, ← dOut_apply]
  pointwise [val_main_v96]

theorem dState_apply (n : Fin 8192) (j : Fin 1024) : val_main_v97 (F := Ideal) x0 x1 x2 x4 x5 x6 x7 x8 x9 (ix2 n j) = dStateA (inputs x0 x1 x2 x3 x4 x5 x6 x7 x8) (mat x9) n j := by
  rw [dStateA, ← dMerged_apply, mul_comm]
  show _ = sigm (mat x2 n (rightCol j)) * _
  rw [← rightSigm_apply]
  pointwise [val_main_v97]

theorem dwState_apply (i : Fin 512) (j : Fin 1024) : val_main_v100 (F := Ideal) x0 x1 x2 x4 x5 x6 x7 x8 x9 (ix2 i j) = dwStateA (inputs x0 x1 x2 x3 x4 x5 x6 x7 x8) (mat x9) i j := by
  simp only [dwStateA, ← dState_apply, ← recur_apply]
  pointwise [val_main_v100, val_main_v99]

theorem dRecur_apply (n : Fin 8192) (e : Fin 512) : val_main_v101 (F := Ideal) x0 x1 x2 x4 x5 x6 x7 x8 x9 (ix2 n e) = dRecurA (inputs x0 x1 x2 x3 x4 x5 x6 x7 x8) (mat x9) n e := by
  simp only [dRecurA, timesTr, ← dState_apply]
  pointwise [val_main_v101]

theorem dUnit_apply (n : Fin 8192) (j : Fin 1024) : val_main_v103 (F := Ideal) x0 x1 x2 x4 x5 x6 x7 x8 x9 (ix2 n j) = dUnitA (inputs x0 x1 x2 x3 x4 x5 x6 x7 x8) (mat x9) n j := by
  rw [dUnitA, ← dMerged_apply, mul_comm]
  show _ = sigm (mat x2 n (leftCol j)) * _
  rw [← leftSigm_apply]
  pointwise [val_main_v103]

theorem dwUnit_apply (i j : Fin 1024) : val_main_v106 (F := Ideal) x0 x1 x2 x4 x5 x6 x7 x8 x9 (ix2 i j) = dwUnitA (inputs x0 x1 x2 x3 x4 x5 x6 x7 x8) (mat x9) i j := by
  show _ = ∑ n : Fin 8192, mat x0 n i * dUnitA (inputs x0 x1 x2 x3 x4 x5 x6 x7 x8) (mat x9) n j
  simp only [← dUnit_apply]
  simp only [mul_comm (mat x0 _ _)]
  pointwise [val_main_v106, val_main_v105]

theorem dUnitIn_apply (n : Fin 8192) (j : Fin 1024) : val_main_v107 (F := Ideal) x0 x1 x2 x4 x5 x6 x7 x8 x9 (ix2 n j) = dUnitInA (inputs x0 x1 x2 x3 x4 x5 x6 x7 x8) (mat x9) n j := by
  simp only [dUnitInA, timesTr, ← dUnit_apply]
  pointwise [val_main_v107]

theorem dLeft_apply (n : Fin 8192) (j : Fin 1024) : val_main_v108 (F := Ideal) x0 x1 x2 x4 x5 x6 x7 x8 x9 (ix2 n j) = sideGrad (dMergedA (inputs x0 x1 x2 x3 x4 x5 x6 x7 x8) (mat x9) n j) (mat x2 n (leftCol j)) (unitA (inputs x0 x1 x2 x3 x4 x5 x6 x7 x8) n j) := by
  rw [sideGrad, ← dMerged_apply, ← leftSigm_apply, ← unit_apply, ← one_eq]
  pointwise [val_main_v108, val_main_v104, val_main_v42, val_main_v41, val_main_v40, val_main_cst_11]

theorem dRight_apply (n : Fin 8192) (j : Fin 1024) : val_main_v102 (F := Ideal) x0 x1 x2 x4 x5 x6 x7 x8 x9 (ix2 n j) = sideGrad (dMergedA (inputs x0 x1 x2 x3 x4 x5 x6 x7 x8) (mat x9) n j) (mat x2 n (rightCol j)) (stateA (inputs x0 x1 x2 x3 x4 x5 x6 x7 x8) n j) := by
  rw [sideGrad, ← dMerged_apply, ← rightSigm_apply, ← state_apply, ← one_eq]
  pointwise [val_main_v102, val_main_v98, val_main_v53, val_main_v52, val_main_v51, val_main_cst_14]

theorem dGate_apply (n : Fin 8192) (j : Fin 2048) : val_main_v128 (F := Ideal) x0 x1 x2 x4 x5 x6 x7 x8 x9 (ix2 n j) = dGateA (inputs x0 x1 x2 x3 x4 x5 x6 x7 x8) (mat x9) n j := by
  obtain ⟨e, rfl⟩ | ⟨e, rfl⟩ := left_or_right j
  · rw [dGateA, mergeGrad, sides_left]
    refine Eq.trans ?_ (dLeft_apply x0 x1 x2 x3 x4 x5 x6 x7 x8 x9 n e)
    simp only [leftCol]
    pointwise [val_main_v128]
  · rw [dGateA, mergeGrad, sides_right]
    refine Eq.trans ?_ (dRight_apply x0 x1 x2 x3 x4 x5 x6 x7 x8 x9 n e)
    simp only [rightCol]
    pointwise [val_main_v128]

theorem dRecurGate_apply (n : Fin 8192) (e : Fin 512) : val_main_v111 (F := Ideal) x0 x1 x2 x4 x5 x6 x7 x8 x9 (ix2 n e) = dRecurGateA (inputs x0 x1 x2 x3 x4 x5 x6 x7 x8) (mat x9) n e := by
  have h : val_main_v111 (F := Ideal) x0 x1 x2 x4 x5 x6 x7 x8 x9 (ix2 n e) = val_main_v22 (F := Ideal) x1 (ix2 n e) * val_main_v101 (F := Ideal) x0 x1 x2 x4 x5 x6 x7 x8 x9 (ix2 n e) * (val_main_v29 (F := Ideal) x1 x4 (ix2 n e) * (one - val_main_v29 (F := Ideal) x1 x4 (ix2 n e))) := by
    pointwise [val_main_v111, val_main_v109, val_main_v32, val_main_v31, val_main_v30, val_main_cst_8]
  rw [h, gelu_apply x0 x1 x2 x3 x4 x5 x6 x7 x8, dRecur_apply, sigm_apply x0 x1 x2 x3 x4 x5 x6 x7 x8, one_eq, ← mul_assoc,
    mul_comm (geluA _ n e)]
  rfl

theorem dwGate_apply (i j : Fin 512) : val_main_v113 (F := Ideal) x0 x1 x2 x4 x5 x6 x7 x8 x9 (ix2 i j) = dwGateA (inputs x0 x1 x2 x3 x4 x5 x6 x7 x8) (mat x9) i j := by
  simp only [dwGateA, ← dRecurGate_apply, ← gelu_apply]
  simp only [mul_comm (val_main_v22 (F := Ideal) x1 _)]
  pointwise [val_main_v113, val_main_v112]

end Cert.MixOutRefIdeal.MixerOut

end
-- ==== Proof.OutClaims.lean ====
/- The claims about the mixer's output: the frames, and that the run of the six kernels ends at the reference's rows and gradients. -/
module

public import proofs.«01_k».proof.Defs
public import proofs.«01_k».proof.Proof.OutChain
public import proofs.«01_k».proof.Proof.OutReference
public import proofs.«01_k».proof.Proof.Gen.MixOut.Frame
public import proofs.«01_k».proof.Proof.Gen.MixOutRefIdeal.Run

@[expose] public section

set_option maxRecDepth 16384

noncomputable section

namespace Cert.Proof.MixerOut

open Idealize.ShloMosaic Idealize.ShloMosaic.TcCoe Idealize.SL.Sem Cert.RowGradients Cert.FeedForward Cert.MixerOut Cert.Blocks
open Cert.MixOutIdeal.MixerOut (p0 p1 p2 p3 p4 p5 p6 p7 p8 p9)
open Cert.MixOutRefIdeal.MixerOut (mat inputs)

/-- The reference leaves its arguments as they were; it has no semaphore. -/
theorem frame_ref : Cert.quiescent_MixOutRefIdeal := fun m ρ _ =>
  (θ_run Cert.MixOutRefIdeal.defs _ _).mono (fun r h => ⟨fun c => (h c).2.2.2.2.2.2.2.2,
      Idealize.ShloMosaic.sem_eq_zero_of_no_sems (by decide) r.2⟩)
    (Cert.MixOutRefIdeal.Value.run (F := Ideal) m ρ)

section

open Cert.MixOutRefIdeal Cert.MixOutRefIdeal.Read Cert.MixOutRefIdeal.MixerOut

/-! ## The reference's run -/

variable (m : (ℓ : Loc nD τ sig) → Buf (Elt Ideal) ℓ) (c : Dev nD)

abbrev q0 : FVec Ideal S8192x1024 .f32 := m ((c.tc : Thread nD τ).loc main_arg0)
abbrev q1 : FVec Ideal S8192x512 .f32 := m ((c.tc : Thread nD τ).loc main_arg1)
abbrev q2 : FVec Ideal S8192x2048 .f32 := m ((c.tc : Thread nD τ).loc main_arg2)
abbrev q3 : FVec Ideal S8192x1024 .f32 := m ((c.tc : Thread nD τ).loc main_arg3)
abbrev q4 : FVec Ideal S512x512 .f32 := m ((c.tc : Thread nD τ).loc main_arg4)
abbrev q5 : FVec Ideal S1024x1024 .f32 := m ((c.tc : Thread nD τ).loc main_arg5)
abbrev q6 : FVec Ideal S512x1024 .f32 := m ((c.tc : Thread nD τ).loc main_arg6)
abbrev q7 : FVec Ideal S1024x1024 .f32 := m ((c.tc : Thread nD τ).loc main_arg7)
abbrev q8 : FVec Ideal S1x1024 .f32 := m ((c.tc : Thread nD τ).loc main_arg8)
abbrev q9 : FVec Ideal S8192x1024 .f32 := m ((c.tc : Thread nD τ).loc main_arg9)

theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v73) = val_main_v73 (F := Ideal) (q0 m c) (q1 m c) (q2 m c) (q3 m c) (q4 m c) (q5 m c) (q6 m c) (q7 m c) (q8 m c)
      ∧ r.2.mem ((c.tc : Thread nD τ).loc main_v107) = val_main_v107 (F := Ideal) (q0 m c) (q1 m c) (q2 m c) (q4 m c) (q5 m c) (q6 m c) (q7 m c) (q8 m c) (q9 m c)
      ∧ r.2.mem ((c.tc : Thread nD τ).loc main_v128) = val_main_v128 (F := Ideal) (q0 m c) (q1 m c) (q2 m c) (q4 m c) (q5 m c) (q6 m c) (q7 m c) (q8 m c) (q9 m c)
      ∧ r.2.mem ((c.tc : Thread nD τ).loc main_v113) = val_main_v113 (F := Ideal) (q0 m c) (q1 m c) (q2 m c) (q4 m c) (q5 m c) (q6 m c) (q7 m c) (q8 m c) (q9 m c)
      ∧ r.2.mem ((c.tc : Thread nD τ).loc main_v106) = val_main_v106 (F := Ideal) (q0 m c) (q1 m c) (q2 m c) (q4 m c) (q5 m c) (q6 m c) (q7 m c) (q8 m c) (q9 m c)
      ∧ r.2.mem ((c.tc : Thread nD τ).loc main_v100) = val_main_v100 (F := Ideal) (q0 m c) (q1 m c) (q2 m c) (q4 m c) (q5 m c) (q6 m c) (q7 m c) (q8 m c) (q9 m c)
      ∧ r.2.mem ((c.tc : Thread nD τ).loc main_v95) = val_main_v95 (F := Ideal) (q0 m c) (q1 m c) (q2 m c) (q4 m c) (q5 m c) (q6 m c) (q7 m c) (q8 m c) (q9 m c)
      ∧ r.2.mem ((c.tc : Thread nD τ).loc main_v77) = val_main_v77 (F := Ideal) (q0 m c) (q1 m c) (q2 m c) (q4 m c) (q5 m c) (q6 m c) (q7 m c) (q9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.MixOutRefIdeal.Value.run (F := Ideal) m ρ)
  exact ⟨(h c).1.trans (val_main_v73_eq (StableHlo.launchContents m c)),
    (h c).2.1.trans (val_main_v107_eq (StableHlo.launchContents m c)),
    (h c).2.2.1.trans (val_main_v128_eq (StableHlo.launchContents m c)),
    (h c).2.2.2.1.trans (val_main_v113_eq (StableHlo.launchContents m c)),
    (h c).2.2.2.2.1.trans (val_main_v106_eq (StableHlo.launchContents m c)),
    (h c).2.2.2.2.2.1.trans (val_main_v100_eq (StableHlo.launchContents m c)),
    (h c).2.2.2.2.2.2.1.trans (val_main_v95_eq (StableHlo.launchContents m c)),
    (h c).2.2.2.2.2.2.2.1.trans (val_main_v77_eq (StableHlo.launchContents m c)),
    (h c).2.2.2.2.2.2.2.2⟩

/-! ## The results, as the reference's stages -/

variable (x0 : FVec Ideal S8192x1024 .f32) (x1 : FVec Ideal S8192x512 .f32) (x2 : FVec Ideal S8192x2048 .f32) (x3 : FVec Ideal S8192x1024 .f32) (x4 : FVec Ideal S512x512 .f32) (x5 : FVec Ideal S1024x1024 .f32) (x6 : FVec Ideal S512x1024 .f32) (x7 : FVec Ideal S1024x1024 .f32) (x8 : FVec Ideal S1x1024 .f32) (x9 : FVec Ideal S8192x1024 .f32)

theorem res_eq : (fun y => resA (inputs x0 x1 x2 x3 x4 x5 x6 x7 x8) (y 0) (y 1) : S8192x1024.Idx → EReal) = val_main_v73 (F := Ideal) x0 x1 x2 x3 x4 x5 x6 x7 x8 := by
  funext y
  rw [eta y]
  exact (res_apply x0 x1 x2 x3 x4 x5 x6 x7 x8 _ _).symm

theorem dUnitIn_eq : (fun y => dUnitInA (inputs x0 x1 x2 x3 x4 x5 x6 x7 x8) (mat x9) (y 0) (y 1) : S8192x1024.Idx → EReal) = val_main_v107 (F := Ideal) x0 x1 x2 x4 x5 x6 x7 x8 x9 := by
  funext y
  rw [eta y]
  exact (dUnitIn_apply x0 x1 x2 x3 x4 x5 x6 x7 x8 x9 _ _).symm

theorem dGate_eq : (fun y => dGateA (inputs x0 x1 x2 x3 x4 x5 x6 x7 x8) (mat x9) (y 0) (y 1) : S8192x2048.Idx → EReal) = val_main_v128 (F := Ideal) x0 x1 x2 x4 x5 x6 x7 x8 x9 := by
  funext y
  rw [eta y]
  exact (dGate_apply x0 x1 x2 x3 x4 x5 x6 x7 x8 x9 _ _).symm

theorem dwGate_eq : (fun y => dwGateA (inputs x0 x1 x2 x3 x4 x5 x6 x7 x8) (mat x9) (y 0) (y 1) : S512x512.Idx → EReal) = val_main_v113 (F := Ideal) x0 x1 x2 x4 x5 x6 x7 x8 x9 := by
  funext y
  rw [eta y]
  exact (dwGate_apply x0 x1 x2 x3 x4 x5 x6 x7 x8 x9 _ _).symm

theorem dwUnit_eq : (fun y => dwUnitA (inputs x0 x1 x2 x3 x4 x5 x6 x7 x8) (mat x9) (y 0) (y 1) : S1024x1024.Idx → EReal) = val_main_v106 (F := Ideal) x0 x1 x2 x4 x5 x6 x7 x8 x9 := by
  funext y
  rw [eta y]
  exact (dwUnit_apply x0 x1 x2 x3 x4 x5 x6 x7 x8 x9 _ _).symm

theorem dwState_eq : (fun y => dwStateA (inputs x0 x1 x2 x3 x4 x5 x6 x7 x8) (mat x9) (y 0) (y 1) : S512x1024.Idx → EReal) = val_main_v100 (F := Ideal) x0 x1 x2 x4 x5 x6 x7 x8 x9 := by
  funext y
  rw [eta y]
  exact (dwState_apply x0 x1 x2 x3 x4 x5 x6 x7 x8 x9 _ _).symm

theorem dwOut_eq : (fun y => dwOutA (inputs x0 x1 x2 x3 x4 x5 x6 x7 x8) (mat x9) (y 0) (y 1) : S1024x1024.Idx → EReal) = val_main_v95 (F := Ideal) x0 x1 x2 x4 x5 x6 x7 x8 x9 := by
  funext y
  rw [eta y]
  exact (dwOut_apply x0 x1 x2 x3 x4 x5 x6 x7 x8 x9 _ _).symm

theorem dGain_eq : (fun y => dGainA (inputs x0 x1 x2 x3 x4 x5 x6 x7 x8) (mat x9) (y 1) : S1x1024.Idx → EReal) = val_main_v77 (F := Ideal) x0 x1 x2 x4 x5 x6 x7 x9 := by
  funext y
  rw [eta_zero y]
  exact (dGain_apply x0 x1 x2 x3 x4 x5 x6 x7 x8 x9 _).symm

end

/-! ## The claim -/

open Cert.MixOutIdeal.MixerOut in
theorem algebraic : Cert.algebraic_MixOutIdeal_MixOutRefIdeal := by
  intro m ρ m' ρ' _ hag
  refine ⟨fun c => Cert.MixOutRefIdeal.Read.val_main_v73 (F := Ideal) (p0 m c) (p1 m c) (p2 m c) (p3 m c) (p4 m c) (p5 m c) (p6 m c) (p7 m c) (p8 m c),
    fun c => Cert.MixOutRefIdeal.Read.val_main_v107 (F := Ideal) (p0 m c) (p1 m c) (p2 m c) (p4 m c) (p5 m c) (p6 m c) (p7 m c) (p8 m c) (p9 m c),
    fun c => Cert.MixOutRefIdeal.Read.val_main_v128 (F := Ideal) (p0 m c) (p1 m c) (p2 m c) (p4 m c) (p5 m c) (p6 m c) (p7 m c) (p8 m c) (p9 m c),
    fun c => Cert.MixOutRefIdeal.Read.val_main_v113 (F := Ideal) (p0 m c) (p1 m c) (p2 m c) (p4 m c) (p5 m c) (p6 m c) (p7 m c) (p8 m c) (p9 m c),
    fun c => Cert.MixOutRefIdeal.Read.val_main_v106 (F := Ideal) (p0 m c) (p1 m c) (p2 m c) (p4 m c) (p5 m c) (p6 m c) (p7 m c) (p8 m c) (p9 m c),
    fun c => Cert.MixOutRefIdeal.Read.val_main_v100 (F := Ideal) (p0 m c) (p1 m c) (p2 m c) (p4 m c) (p5 m c) (p6 m c) (p7 m c) (p8 m c) (p9 m c),
    fun c => Cert.MixOutRefIdeal.Read.val_main_v95 (F := Ideal) (p0 m c) (p1 m c) (p2 m c) (p4 m c) (p5 m c) (p6 m c) (p7 m c) (p8 m c) (p9 m c),
    fun c => Cert.MixOutRefIdeal.Read.val_main_v77 (F := Ideal) (p0 m c) (p1 m c) (p2 m c) (p4 m c) (p5 m c) (p6 m c) (p7 m c) (p9 m c),
    ?_, ?_⟩
  · refine (θ_run Cert.MixOutIdeal.defs _ _).mono (fun r h c => ?_) (run_contents m ρ)
    have at_ := fun b hb => h c (Proc.devRef .tc b) (Cert.MixOutIdeal.Gen.mem_uc b hb)
    exact ⟨(at_ Cert.MixOutIdeal.main_v5_6 (by decide)).trans ((res_end m ρ c).trans (res_eq (p0 m c) (p1 m c) (p2 m c) (p3 m c) (p4 m c) (p5 m c) (p6 m c) (p7 m c) (p8 m c))),
      (at_ Cert.MixOutIdeal.main_v6_4 (by decide)).trans ((dUnitIn_end m ρ c).trans (dUnitIn_eq (p0 m c) (p1 m c) (p2 m c) (p3 m c) (p4 m c) (p5 m c) (p6 m c) (p7 m c) (p8 m c) (p9 m c))),
      (at_ Cert.MixOutIdeal.main_v11 (by decide)).trans ((dGate_end m ρ c).trans (dGate_eq (p0 m c) (p1 m c) (p2 m c) (p3 m c) (p4 m c) (p5 m c) (p6 m c) (p7 m c) (p8 m c) (p9 m c))),
      (at_ Cert.MixOutIdeal.main_v10 (by decide)).trans ((dwGate_end m ρ c).trans (dwGate_eq (p0 m c) (p1 m c) (p2 m c) (p3 m c) (p4 m c) (p5 m c) (p6 m c) (p7 m c) (p8 m c) (p9 m c))),
      (at_ Cert.MixOutIdeal.main_v8 (by decide)).trans ((dwUnit_end m ρ c).trans (dwUnit_eq (p0 m c) (p1 m c) (p2 m c) (p3 m c) (p4 m c) (p5 m c) (p6 m c) (p7 m c) (p8 m c) (p9 m c))),
      (at_ Cert.MixOutIdeal.main_v12 (by decide)).trans ((dwState_end m ρ c).trans (dwState_eq (p0 m c) (p1 m c) (p2 m c) (p3 m c) (p4 m c) (p5 m c) (p6 m c) (p7 m c) (p8 m c) (p9 m c))),
      (at_ Cert.MixOutIdeal.main_v7 (by decide)).trans ((dwOut_end m ρ c).trans (dwOut_eq (p0 m c) (p1 m c) (p2 m c) (p3 m c) (p4 m c) (p5 m c) (p6 m c) (p7 m c) (p8 m c) (p9 m c))),
      (at_ Cert.MixOutIdeal.main_v6_7 (by decide)).trans ((dGain_end m ρ c).trans (dGain_eq (p0 m c) (p1 m c) (p2 m c) (p3 m c) (p4 m c) (p5 m c) (p6 m c) (p7 m c) (p8 m c) (p9 m c))),
      (at_ Cert.MixOutIdeal.main_arg0 (by decide)).trans (Cert.MixOutIdeal.Gen.W8_main_arg0 m ρ c),
      (at_ Cert.MixOutIdeal.main_arg1 (by decide)).trans (Cert.MixOutIdeal.Gen.W8_main_arg1 m ρ c),
      (at_ Cert.MixOutIdeal.main_arg2 (by decide)).trans (Cert.MixOutIdeal.Gen.W8_main_arg2 m ρ c),
      (at_ Cert.MixOutIdeal.main_arg3 (by decide)).trans (Cert.MixOutIdeal.Gen.W8_main_arg3 m ρ c),
      (at_ Cert.MixOutIdeal.main_arg4 (by decide)).trans (Cert.MixOutIdeal.Gen.W8_main_arg4 m ρ c),
      (at_ Cert.MixOutIdeal.main_arg5 (by decide)).trans (Cert.MixOutIdeal.Gen.W8_main_arg5 m ρ c),
      (at_ Cert.MixOutIdeal.main_arg6 (by decide)).trans (Cert.MixOutIdeal.Gen.W8_main_arg6 m ρ c),
      (at_ Cert.MixOutIdeal.main_arg7 (by decide)).trans (Cert.MixOutIdeal.Gen.W8_main_arg7 m ρ c),
      (at_ Cert.MixOutIdeal.main_arg8 (by decide)).trans (Cert.MixOutIdeal.Gen.W8_main_arg8 m ρ c),
      (at_ Cert.MixOutIdeal.main_arg9 (by decide)).trans (Cert.MixOutIdeal.Gen.W8_main_arg9 m ρ c)⟩
  · refine (θ_run Cert.MixOutRefIdeal.defs _ _).mono (fun r h c => ?_) (run_ref m' ρ')
    obtain ⟨g0, g1, g2, g3, g4, g5, g6, g7, g8, g9⟩ := hag c
    have e := h c
    rw [show q0 m' c = p0 m c from g0, show q1 m' c = p1 m c from g1, show q2 m' c = p2 m c from g2, show q3 m' c = p3 m c from g3, show q4 m' c = p4 m c from g4, show q5 m' c = p5 m c from g5, show q6 m' c = p6 m c from g6, show q7 m' c = p7 m c from g7, show q8 m' c = p8 m c from g8, show q9 m' c = p9 m c from g9] at e
    exact e

end Cert.Proof.MixerOut

end
-- ==== Proof.lean ====
/- `Cert.Claim` (proof/Defs.lean), put together from the claims of each program (proof/Proof/…Claims.lean). -/
module

public import proofs.«01_k».proof.Proof.Claims
public import proofs.«01_k».proof.Proof.FfnClaims
public import proofs.«01_k».proof.Proof.InClaims
public import proofs.«01_k».proof.Proof.OutClaims

@[expose] public section

noncomputable section

namespace Cert.Proof

open Idealize.ShloMosaic Idealize.SL.Sem

theorem claim : Cert.Claim :=
  ⟨Cert.BAttn.Gen.facts, Cert.BAttnIdeal.Gen.facts, Cert.BAttnRefIdeal.Gen.facts,
    Cert.Ffn.Gen.facts, Cert.FfnIdeal.Gen.facts, Cert.FfnRefIdeal.Gen.facts,
    Cert.MixIn.Gen.facts, Cert.MixInIdeal.Gen.facts, Cert.MixInRefIdeal.Gen.facts,
    Cert.MixOut.Gen.facts, Cert.MixOutIdeal.Gen.facts, Cert.MixOutRefIdeal.Gen.facts,
    Cert.Pre_scores_finite.facts, Cert.Pre_ffn_finite.facts,
    fun m ρ _ => Cert.BAttn.Gen.frame m ρ,
    fun m ρ _ => Cert.BAttnIdeal.Gen.frame m ρ,
    fun m ρ _ => Cert.BAttnIdeal.Gen.frame m ρ,
    Attn.frame_ref, fun m ρ _ => Attn.frame_ref m ρ trivial,
    fun m ρ _ => Cert.Ffn.Gen.frame m ρ,
    fun m ρ _ => Cert.FfnIdeal.Gen.frame m ρ,
    fun m ρ _ => Cert.FfnIdeal.Gen.frame m ρ,
    Ffn.frame_ref, fun m ρ _ => Ffn.frame_ref m ρ trivial,
    fun m ρ _ => Cert.MixIn.Gen.frame m ρ,
    fun m ρ _ => Cert.MixInIdeal.Gen.frame m ρ,
    MixerIn.frame_ref,
    fun m ρ _ => Cert.MixOut.Gen.frame m ρ,
    fun m ρ _ => Cert.MixOutIdeal.Gen.frame m ρ,
    MixerOut.frame_ref,
    trivial, Attn.algebraic, trivial, Ffn.algebraic, trivial, MixerIn.algebraic, trivial, MixerOut.algebraic⟩

end Cert.Proof

end
